-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 32, 128]⟩ ⟨4, ![1, 4096, 32, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x32x128 : S_.BroadcastsInDim S1x1024x32x128 (![] : Fin 0 → Fin S1x1024x32x128.rank)
  reducesTo_S1x1024x32x128_S_d0_1_2_3 : S1x1024x32x128.ReducesTo [0, 1, 2, 3] S_

variable [Facts]

def fn {F : FTy → Type} [FloatOps F] (main_arg0 : FVec F S1x1024x1024 .f32) (main_arg1 : FVec F S1024x1024 .f32) (main_arg2 : FVec F S1x1024x32x128 .f32) (main_arg3 : FVec F S1x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x32x128 .f32 := Host.absf main_arg2
  let main_cst_2 : FVec F S_ .f32 := constant S_ .f32 0x7F800000#32
  let main_v10 : FVec F S1x1024x32x128 .f32 := broadcastInDim S1x1024x32x128 ![] bcast_S_S1x1024x32x128 main_cst_2
  let main_v11 : IVec S1x1024x32x128 1 := cmpf .olt main_v9 main_v10
  let main_c_3 : IVec S_ 1 := constantI S_ 1 1#1
  let main_v12 : IVec S_ 1 := (fun x v => Host.reduce IntOp.andi x v reducesTo_S1x1024x32x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1x4096x32x128 : S_.BroadcastsInDim S1x4096x32x128 (![] : Fin 0 → Fin S1x4096x32x128.rank)
  reducesTo_S1x4096x32x128_S_d0_1_2_3 : S1x4096x32x128.ReducesTo [0, 1, 2, 3] S_

variable [Facts]

def fn {F : FTy → Type} [FloatOps F] (main_arg0 : FVec F S1x1024x1024 .f32) (main_arg1 : FVec F S1024x4096 .f32) (main_arg2 : FVec F S1x4096x32x128 .f32) (main_arg3 : FVec F S1x4096x32x128 .f32) (main_arg4 : FVec F S4096x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1x4096x32x128 .f32 := Host.absf main_arg2
  let main_cst_2 : FVec F S_ .f32 := constant S_ .f32 0x7F800000#32
  let main_v10 : FVec F S1x4096x32x128 .f32 := broadcastInDim S1x4096x32x128 ![] bcast_S_S1x4096x32x128 main_cst_2
  let main_v11 : IVec S1x4096x32x128 1 := cmpf .olt main_v9 main_v10
  let main_c_3 : IVec S_ 1 := constantI S_ 1 1#1
  let main_v12 : IVec S_ 1 := (fun x v => Host.reduce IntOp.andi x v reducesTo_S1x4096x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x32x128 : Shape := ⟨4, ![1, 1024, 32, 128]⟩
abbrev S2x4x256x32x128 : Shape := ⟨5, ![2, 4, 256, 32, 128]⟩
abbrev S2x4x256x8x128 : Shape := ⟨5, ![2, 4, 256, 8, 128]⟩
abbrev S4x1024x8x128 : Shape := ⟨4, ![4, 1024, 8, 128]⟩
abbrev S2x64x32x128 : Shape := ⟨4, ![2, 64, 32, 128]⟩
abbrev S1x256x1024 : Shape := ⟨3, ![1, 256, 1024]⟩
abbrev S3x256x1024 : Shape := ⟨3, ![3, 256, 1024]⟩
abbrev S256x1024 : Shape := ⟨2, ![256, 1024]⟩
abbrev S2 : Shape := ⟨1, ![2]⟩
abbrev S1 : Shape := ⟨1, ![1]⟩
abbrev S2x4 : Shape := ⟨2, ![2, 4]⟩
abbrev S3x4 : Shape := ⟨2, ![3, 4]⟩
abbrev S3x2 : Shape := ⟨2, ![3, 2]⟩
abbrev S_ : Shape := ⟨0, ![]⟩
abbrev S1x64x32x128 : Shape := ⟨4, ![1, 64, 32, 128]⟩
abbrev S64x32x128 : Shape := ⟨3, ![64, 32, 128]⟩
abbrev S1x1x64x32x128 : Shape := ⟨5, ![1, 1, 64, 32, 128]⟩
abbrev S1x1 : Shape := ⟨2, ![1, 1]⟩
abbrev S1x256x8x128 : Shape := ⟨4, ![1, 256, 8, 128]⟩
abbrev S256x8x128 : Shape := ⟨3, ![256, 8, 128]⟩
abbrev S1x1x256x8x128 : Shape := ⟨5, ![1, 1, 256, 8, 128]⟩
abbrev S64x128 : Shape := ⟨2, ![64, 128]⟩
abbrev S256x128 : Shape := ⟨2, ![256, 128]⟩
abbrev S1x1024x1x128 : Shape := ⟨4, ![1, 1024, 1, 128]⟩
abbrev S1024x128 : Shape := ⟨2, ![1024, 128]⟩
abbrev S256 : Shape := ⟨1, ![256]⟩
abbrev S256x1 : Shape := ⟨2, ![256, 1]⟩
abbrev S1x256x512 : Shape := ⟨3, ![1, 256, 512]⟩
abbrev S256x512 : Shape := ⟨2, ![256, 512]⟩

abbrev nBuf : Space → Nat
  | .hbm => 6
  | .vmem => 17
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x32x128, .f32⟩
  | .hbm, ⟨3, _⟩ => ⟨S1x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S2x4x256x32x128, .bf16⟩
  | .local _ .vmem, ⟨2, _⟩ => ⟨S2x4x256x8x128, .fp8e4m3⟩
  | .local _ .vmem, ⟨3, _⟩ => ⟨S4x1024x8x128, .bf16⟩
  | .local _ .vmem, ⟨4, _⟩ => ⟨S4x1024x8x128, .bf16⟩
  | .local _ .vmem, ⟨5, _⟩ => ⟨S2x4x256x8x128, .fp8e4m3⟩
  | .local _ .vmem, ⟨6, _⟩ => ⟨S2x64x32x128, .f32⟩
  | .local _ .vmem, ⟨7, _⟩ => ⟨S1x256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S3x256x1024, .bf16⟩
  | .local _ .vmem, ⟨15, _⟩ => ⟨S256x1024, .bf16⟩
  | .local _ .vmem, ⟨16, _⟩ => ⟨S3x256x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  (ofTc nBuf bufTy 1 84 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 5 → Nat :=
  let c0_i32_230 : BitVec 32 := 0#32
  let c0_i32_231 : BitVec 32 := 0#32
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v166 : BitVec 32 := Scalar.muli v2 c8_i32
  let c0_i32_239 : BitVec 32 := 0#32
  ![0, 0, 0, v166.toNat, 0]
def k0_off2 (d0 : Dev nD) : Fin 5 → Nat :=
  let c1_i32_240 : BitVec 32 := 1#32
  let c0_i32_241 : BitVec 32 := 0#32
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_229 : BitVec 32 := 8#32
  let v167 : BitVec 32 := Scalar.muli v2 c8_i32_229
  let c0_i32_249 : BitVec 32 := 0#32
  ![1, 0, 0, v167.toNat, 0]
def k0_off3 (d0 : Dev nD) : Fin 5 → Nat :=
  let c0_253 : Index := 0#32
  let c0_254 : Index := 0#32
  let c0_255 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_250 : BitVec 32 := 2#32
  let v180 : BitVec 32 := Scalar.addi v2 c2_i32_250
  let c4_i32_251 : BitVec 32 := 4#32
  let v181 : BitVec 32 := Scalar.remsi v180 c4_i32_251
  let c8_i32_252 : BitVec 32 := 8#32
  let v182 : BitVec 32 := Scalar.muli v181 c8_i32_252
  let v183 : Index := Scalar.indexCast v182
  let c0_256 : Index := 0#32
  ![0, 0, 0, v183.toNat, 0]
def k0_off4 (d0 : Dev nD) : Fin 5 → Nat :=
  let c1_263 : Index := 1#32
  let c0_264 : Index := 0#32
  let c0_265 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_250 : BitVec 32 := 2#32
  let v180 : BitVec 32 := Scalar.addi v2 c2_i32_250
  let c4_i32_251 : BitVec 32 := 4#32
  let v181 : BitVec 32 := Scalar.remsi v180 c4_i32_251
  let c8_i32_262 : BitVec 32 := 8#32
  let v190 : BitVec 32 := Scalar.muli v181 c8_i32_262
  let v191 : Index := Scalar.indexCast v190
  let c0_266 : Index := 0#32
  ![1, 0, 0, v191.toNat, 0]
def k0_off5 (d0 : Dev nD) (c1_i32_272 : BitVec 32) : Fin 5 → Nat :=
  let c0_i32_275 : BitVec 32 := 0#32
  let c0_i32_276 : BitVec 32 := 0#32
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v198 : BitVec 32 := Scalar.addi v2 c1_i32_272
  let c4_i32_273 : BitVec 32 := 4#32
  let v199 : BitVec 32 := Scalar.remsi v198 c4_i32_273
  let c8_i32_274 : BitVec 32 := 8#32
  let v200 : BitVec 32 := Scalar.muli v199 c8_i32_274
  let c0_i32_288 : BitVec 32 := 0#32
  ![0, 0, 0, v200.toNat, 0]
def k0_dev4 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_272 : BitVec 32 := 1#32
  let v198 : BitVec 32 := Scalar.addi v2 c1_i32_272
  let c4_i32_273 : BitVec 32 := 4#32
  let v199 : BitVec 32 := Scalar.remsi v198 c4_i32_273
  let c1_i32_282 : BitVec 32 := 1#32
  let v201 : BitVec 32 := Scalar.muli v199 c1_i32_282
  let v202 : BitVec 32 := Scalar.addi c0_i32_283 v201
  v202.toNat
def k0_off6 (d0 : Dev nD) (c1_i32_272 : BitVec 32) : Fin 5 → Nat :=
  let c1_i32_290 : BitVec 32 := 1#32
  let c0_i32_291 : BitVec 32 := 0#32
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v198 : BitVec 32 := Scalar.addi v2 c1_i32_272
  let c4_i32_273 : BitVec 32 := 4#32
  let v199 : BitVec 32 := Scalar.remsi v198 c4_i32_273
  let c8_i32_289 : BitVec 32 := 8#32
  let v211 : BitVec 32 := Scalar.muli v199 c8_i32_289
  let c0_i32_303 : BitVec 32 := 0#32
  ![1, 0, 0, v211.toNat, 0]
def k0_dev5 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_272 : BitVec 32 := 1#32
  let v198 : BitVec 32 := Scalar.addi v2 c1_i32_272
  let c4_i32_273 : BitVec 32 := 4#32
  let v199 : BitVec 32 := Scalar.remsi v198 c4_i32_273
  let c1_i32_297 : BitVec 32 := 1#32
  let v212 : BitVec 32 := Scalar.muli v199 c1_i32_297
  let v213 : BitVec 32 := Scalar.addi c0_i32_298 v212
  v213.toNat
def k0_dev6 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_304 : BitVec 32 := 2#32
  let v222 : BitVec 32 := Scalar.addi v2 c2_i32_304
  let c4_i32_305 : BitVec 32 := 4#32
  let v223 : BitVec 32 := Scalar.remsi v222 c4_i32_305
  let c1_i32_314 : BitVec 32 := 1#32
  let v224 : BitVec 32 := Scalar.muli v223 c1_i32_314
  let v225 : BitVec 32 := Scalar.addi c0_i32_315 v224
  v225.toNat
def k0_dev7 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_304 : BitVec 32 := 2#32
  let v222 : BitVec 32 := Scalar.addi v2 c2_i32_304
  let c4_i32_305 : BitVec 32 := 4#32
  let v223 : BitVec 32 := Scalar.remsi v222 c4_i32_305
  let c1_i32_330 : BitVec 32 := 1#32
  let v234 : BitVec 32 := Scalar.muli v223 c1_i32_330
  let v235 : BitVec 32 := Scalar.addi c0_i32_331 v234
  v235.toNat
def k0_dev8 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_338 : BitVec 32 := 3#32
  let v244 : BitVec 32 := Scalar.addi v2 c3_i32_338
  let c4_i32_339 : BitVec 32 := 4#32
  let v245 : BitVec 32 := Scalar.remsi v244 c4_i32_339
  let c1_i32_348 : BitVec 32 := 1#32
  let v247 : BitVec 32 := Scalar.muli v245 c1_i32_348
  let v248 : BitVec 32 := Scalar.addi c0_i32_349 v247
  v248.toNat
def k0_dev9 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_338 : BitVec 32 := 3#32
  let v244 : BitVec 32 := Scalar.addi v2 c3_i32_338
  let c4_i32_339 : BitVec 32 := 4#32
  let v245 : BitVec 32 := Scalar.remsi v244 c4_i32_339
  let c1_i32_363 : BitVec 32 := 1#32
  let v258 : BitVec 32 := Scalar.muli v245 c1_i32_363
  let v259 : BitVec 32 := Scalar.addi c0_i32_364 v258
  v259.toNat
def k0_off7 (d0 : Dev nD) : Fin 5 → Nat :=
  let c0_i32_584 : BitVec 32 := 0#32
  let c1_i32_585 : BitVec 32 := 1#32
  let c0_i32_592 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_582 : BitVec 32 := 8#32
  let v412 : BitVec 32 := Scalar.muli v2 c8_i32_582
  let c0_i32_593 : BitVec 32 := 0#32
  ![0, 1, 0, v412.toNat, 0]
def k0_off8 (d0 : Dev nD) : Fin 5 → Nat :=
  let c1_i32_594 : BitVec 32 := 1#32
  let c1_i32_595 : BitVec 32 := 1#32
  let c0_i32_602 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_583 : BitVec 32 := 8#32
  let v413 : BitVec 32 := Scalar.muli v2 c8_i32_583
  let c0_i32_603 : BitVec 32 := 0#32
  ![1, 1, 0, v413.toNat, 0]
def k0_off9 (d0 : Dev nD) : Fin 5 → Nat :=
  let c0_607 : Index := 0#32
  let c1_608 : Index := 1#32
  let c0_609 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_604 : BitVec 32 := 2#32
  let v426 : BitVec 32 := Scalar.addi v2 c2_i32_604
  let c4_i32_605 : BitVec 32 := 4#32
  let v427 : BitVec 32 := Scalar.remsi v426 c4_i32_605
  let c8_i32_606 : BitVec 32 := 8#32
  let v428 : BitVec 32 := Scalar.muli v427 c8_i32_606
  let v429 : Index := Scalar.indexCast v428
  let c0_610 : Index := 0#32
  ![0, 1, 0, v429.toNat, 0]
def k0_off10 (d0 : Dev nD) : Fin 5 → Nat :=
  let c1_617 : Index := 1#32
  let c1_618 : Index := 1#32
  let c0_619 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_604 : BitVec 32 := 2#32
  let v426 : BitVec 32 := Scalar.addi v2 c2_i32_604
  let c4_i32_605 : BitVec 32 := 4#32
  let v427 : BitVec 32 := Scalar.remsi v426 c4_i32_605
  let c8_i32_616 : BitVec 32 := 8#32
  let v436 : BitVec 32 := Scalar.muli v427 c8_i32_616
  let v437 : Index := Scalar.indexCast v436
  let c0_620 : Index := 0#32
  ![1, 1, 0, v437.toNat, 0]
def k0_off11 (d0 : Dev nD) (c1_i32_626 : BitVec 32) : Fin 5 → Nat :=
  let c0_i32_629 : BitVec 32 := 0#32
  let c1_i32_630 : BitVec 32 := 1#32
  let c0_i32_641 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v444 : BitVec 32 := Scalar.addi v2 c1_i32_626
  let c4_i32_627 : BitVec 32 := 4#32
  let v445 : BitVec 32 := Scalar.remsi v444 c4_i32_627
  let c8_i32_628 : BitVec 32 := 8#32
  let v446 : BitVec 32 := Scalar.muli v445 c8_i32_628
  let c0_i32_642 : BitVec 32 := 0#32
  ![0, 1, 0, v446.toNat, 0]
def k0_dev10 (d0 : Dev nD) : Nat :=
  let c0_i32_637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_626 : BitVec 32 := 1#32
  let v444 : BitVec 32 := Scalar.addi v2 c1_i32_626
  let c4_i32_627 : BitVec 32 := 4#32
  let v445 : BitVec 32 := Scalar.remsi v444 c4_i32_627
  let c1_i32_636 : BitVec 32 := 1#32
  let v447 : BitVec 32 := Scalar.muli v445 c1_i32_636
  let v448 : BitVec 32 := Scalar.addi c0_i32_637 v447
  v448.toNat
def k0_off12 (d0 : Dev nD) (c1_i32_626 : BitVec 32) : Fin 5 → Nat :=
  let c1_i32_644 : BitVec 32 := 1#32
  let c1_i32_645 : BitVec 32 := 1#32
  let c0_i32_656 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v444 : BitVec 32 := Scalar.addi v2 c1_i32_626
  let c4_i32_627 : BitVec 32 := 4#32
  let v445 : BitVec 32 := Scalar.remsi v444 c4_i32_627
  let c8_i32_643 : BitVec 32 := 8#32
  let v457 : BitVec 32 := Scalar.muli v445 c8_i32_643
  let c0_i32_657 : BitVec 32 := 0#32
  ![1, 1, 0, v457.toNat, 0]
def k0_dev11 (d0 : Dev nD) : Nat :=
  let c0_i32_652 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_626 : BitVec 32 := 1#32
  let v444 : BitVec 32 := Scalar.addi v2 c1_i32_626
  let c4_i32_627 : BitVec 32 := 4#32
  let v445 : BitVec 32 := Scalar.remsi v444 c4_i32_627
  let c1_i32_651 : BitVec 32 := 1#32
  let v458 : BitVec 32 := Scalar.muli v445 c1_i32_651
  let v459 : BitVec 32 := Scalar.addi c0_i32_652 v458
  v459.toNat
def k0_dev12 (d0 : Dev nD) : Nat :=
  let c0_i32_669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_658 : BitVec 32 := 2#32
  let v468 : BitVec 32 := Scalar.addi v2 c2_i32_658
  let c4_i32_659 : BitVec 32 := 4#32
  let v469 : BitVec 32 := Scalar.remsi v468 c4_i32_659
  let c1_i32_668 : BitVec 32 := 1#32
  let v470 : BitVec 32 := Scalar.muli v469 c1_i32_668
  let v471 : BitVec 32 := Scalar.addi c0_i32_669 v470
  v471.toNat
def k0_dev13 (d0 : Dev nD) : Nat :=
  let c0_i32_685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_658 : BitVec 32 := 2#32
  let v468 : BitVec 32 := Scalar.addi v2 c2_i32_658
  let c4_i32_659 : BitVec 32 := 4#32
  let v469 : BitVec 32 := Scalar.remsi v468 c4_i32_659
  let c1_i32_684 : BitVec 32 := 1#32
  let v480 : BitVec 32 := Scalar.muli v469 c1_i32_684
  let v481 : BitVec 32 := Scalar.addi c0_i32_685 v480
  v481.toNat
def k0_dev14 (d0 : Dev nD) : Nat :=
  let c0_i32_703 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_692 : BitVec 32 := 3#32
  let v490 : BitVec 32 := Scalar.addi v2 c3_i32_692
  let c4_i32_693 : BitVec 32 := 4#32
  let v491 : BitVec 32 := Scalar.remsi v490 c4_i32_693
  let c1_i32_702 : BitVec 32 := 1#32
  let v493 : BitVec 32 := Scalar.muli v491 c1_i32_702
  let v494 : BitVec 32 := Scalar.addi c0_i32_703 v493
  v494.toNat
def k0_dev15 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_692 : BitVec 32 := 3#32
  let v490 : BitVec 32 := Scalar.addi v2 c3_i32_692
  let c4_i32_693 : BitVec 32 := 4#32
  let v491 : BitVec 32 := Scalar.remsi v490 c4_i32_693
  let c1_i32_717 : BitVec 32 := 1#32
  let v504 : BitVec 32 := Scalar.muli v491 c1_i32_717
  let v505 : BitVec 32 := Scalar.addi c0_i32_718 v504
  v505.toNat
def k0_off13 (d0 : Dev nD) : Fin 5 → Nat :=
  let c0_i32_937 : BitVec 32 := 0#32
  let c2_i32_938 : BitVec 32 := 2#32
  let c0_i32_945 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_935 : BitVec 32 := 8#32
  let v658 : BitVec 32 := Scalar.muli v2 c8_i32_935
  let c0_i32_946 : BitVec 32 := 0#32
  ![0, 2, 0, v658.toNat, 0]
def k0_off14 (d0 : Dev nD) : Fin 5 → Nat :=
  let c1_i32_947 : BitVec 32 := 1#32
  let c2_i32_948 : BitVec 32 := 2#32
  let c0_i32_955 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_936 : BitVec 32 := 8#32
  let v659 : BitVec 32 := Scalar.muli v2 c8_i32_936
  let c0_i32_956 : BitVec 32 := 0#32
  ![1, 2, 0, v659.toNat, 0]
def k0_off15 (d0 : Dev nD) : Fin 5 → Nat :=
  let c0_960 : Index := 0#32
  let c2_961 : Index := 2#32
  let c0_962 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_957 : BitVec 32 := 2#32
  let v672 : BitVec 32 := Scalar.addi v2 c2_i32_957
  let c4_i32_958 : BitVec 32 := 4#32
  let v673 : BitVec 32 := Scalar.remsi v672 c4_i32_958
  let c8_i32_959 : BitVec 32 := 8#32
  let v674 : BitVec 32 := Scalar.muli v673 c8_i32_959
  let v675 : Index := Scalar.indexCast v674
  let c0_963 : Index := 0#32
  ![0, 2, 0, v675.toNat, 0]
def k0_off16 (d0 : Dev nD) : Fin 5 → Nat :=
  let c1_970 : Index := 1#32
  let c2_971 : Index := 2#32
  let c0_972 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_957 : BitVec 32 := 2#32
  let v672 : BitVec 32 := Scalar.addi v2 c2_i32_957
  let c4_i32_958 : BitVec 32 := 4#32
  let v673 : BitVec 32 := Scalar.remsi v672 c4_i32_958
  let c8_i32_969 : BitVec 32 := 8#32
  let v682 : BitVec 32 := Scalar.muli v673 c8_i32_969
  let v683 : Index := Scalar.indexCast v682
  let c0_973 : Index := 0#32
  ![1, 2, 0, v683.toNat, 0]
def k0_off17 (d0 : Dev nD) (c1_i32_979 : BitVec 32) : Fin 5 → Nat :=
  let c0_i32_982 : BitVec 32 := 0#32
  let c2_i32_983 : BitVec 32 := 2#32
  let c0_i32_994 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v690 : BitVec 32 := Scalar.addi v2 c1_i32_979
  let c4_i32_980 : BitVec 32 := 4#32
  let v691 : BitVec 32 := Scalar.remsi v690 c4_i32_980
  let c8_i32_981 : BitVec 32 := 8#32
  let v692 : BitVec 32 := Scalar.muli v691 c8_i32_981
  let c0_i32_995 : BitVec 32 := 0#32
  ![0, 2, 0, v692.toNat, 0]
def k0_dev16 (d0 : Dev nD) : Nat :=
  let c0_i32_990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_979 : BitVec 32 := 1#32
  let v690 : BitVec 32 := Scalar.addi v2 c1_i32_979
  let c4_i32_980 : BitVec 32 := 4#32
  let v691 : BitVec 32 := Scalar.remsi v690 c4_i32_980
  let c1_i32_989 : BitVec 32 := 1#32
  let v693 : BitVec 32 := Scalar.muli v691 c1_i32_989
  let v694 : BitVec 32 := Scalar.addi c0_i32_990 v693
  v694.toNat
def k0_off18 (d0 : Dev nD) (c1_i32_979 : BitVec 32) : Fin 5 → Nat :=
  let c1_i32_997 : BitVec 32 := 1#32
  let c2_i32_998 : BitVec 32 := 2#32
  let c0_i32_1009 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v690 : BitVec 32 := Scalar.addi v2 c1_i32_979
  let c4_i32_980 : BitVec 32 := 4#32
  let v691 : BitVec 32 := Scalar.remsi v690 c4_i32_980
  let c8_i32_996 : BitVec 32 := 8#32
  let v703 : BitVec 32 := Scalar.muli v691 c8_i32_996
  let c0_i32_1010 : BitVec 32 := 0#32
  ![1, 2, 0, v703.toNat, 0]
def k0_dev17 (d0 : Dev nD) : Nat :=
  let c0_i32_1005 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_979 : BitVec 32 := 1#32
  let v690 : BitVec 32 := Scalar.addi v2 c1_i32_979
  let c4_i32_980 : BitVec 32 := 4#32
  let v691 : BitVec 32 := Scalar.remsi v690 c4_i32_980
  let c1_i32_1004 : BitVec 32 := 1#32
  let v704 : BitVec 32 := Scalar.muli v691 c1_i32_1004
  let v705 : BitVec 32 := Scalar.addi c0_i32_1005 v704
  v705.toNat
def k0_dev18 (d0 : Dev nD) : Nat :=
  let c0_i32_1022 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1011 : BitVec 32 := 2#32
  let v714 : BitVec 32 := Scalar.addi v2 c2_i32_1011
  let c4_i32_1012 : BitVec 32 := 4#32
  let v715 : BitVec 32 := Scalar.remsi v714 c4_i32_1012
  let c1_i32_1021 : BitVec 32 := 1#32
  let v716 : BitVec 32 := Scalar.muli v715 c1_i32_1021
  let v717 : BitVec 32 := Scalar.addi c0_i32_1022 v716
  v717.toNat
def k0_dev19 (d0 : Dev nD) : Nat :=
  let c0_i32_1038 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1011 : BitVec 32 := 2#32
  let v714 : BitVec 32 := Scalar.addi v2 c2_i32_1011
  let c4_i32_1012 : BitVec 32 := 4#32
  let v715 : BitVec 32 := Scalar.remsi v714 c4_i32_1012
  let c1_i32_1037 : BitVec 32 := 1#32
  let v726 : BitVec 32 := Scalar.muli v715 c1_i32_1037
  let v727 : BitVec 32 := Scalar.addi c0_i32_1038 v726
  v727.toNat
def k0_dev20 (d0 : Dev nD) : Nat :=
  let c0_i32_1056 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1045 : BitVec 32 := 3#32
  let v736 : BitVec 32 := Scalar.addi v2 c3_i32_1045
  let c4_i32_1046 : BitVec 32 := 4#32
  let v737 : BitVec 32 := Scalar.remsi v736 c4_i32_1046
  let c1_i32_1055 : BitVec 32 := 1#32
  let v739 : BitVec 32 := Scalar.muli v737 c1_i32_1055
  let v740 : BitVec 32 := Scalar.addi c0_i32_1056 v739
  v740.toNat
def k0_dev21 (d0 : Dev nD) : Nat :=
  let c0_i32_1071 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1045 : BitVec 32 := 3#32
  let v736 : BitVec 32 := Scalar.addi v2 c3_i32_1045
  let c4_i32_1046 : BitVec 32 := 4#32
  let v737 : BitVec 32 := Scalar.remsi v736 c4_i32_1046
  let c1_i32_1070 : BitVec 32 := 1#32
  let v750 : BitVec 32 := Scalar.muli v737 c1_i32_1070
  let v751 : BitVec 32 := Scalar.addi c0_i32_1071 v750
  v751.toNat
def k0_off19 (d0 : Dev nD) : Fin 5 → Nat :=
  let c0_i32_1282 : BitVec 32 := 0#32
  let c3_i32_1283 : BitVec 32 := 3#32
  let c0_i32_1290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1280 : BitVec 32 := 8#32
  let v898 : BitVec 32 := Scalar.muli v2 c8_i32_1280
  let c0_i32_1291 : BitVec 32 := 0#32
  ![0, 3, 0, v898.toNat, 0]
def k0_off20 (d0 : Dev nD) : Fin 5 → Nat :=
  let c1_i32_1292 : BitVec 32 := 1#32
  let c3_i32_1293 : BitVec 32 := 3#32
  let c0_i32_1300 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32_1281 : BitVec 32 := 8#32
  let v899 : BitVec 32 := Scalar.muli v2 c8_i32_1281
  let c0_i32_1301 : BitVec 32 := 0#32
  ![1, 3, 0, v899.toNat, 0]
def k0_off21 (d0 : Dev nD) : Fin 5 → Nat :=
  let c0_1305 : Index := 0#32
  let c3_1306 : Index := 3#32
  let c0_1307 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1302 : BitVec 32 := 2#32
  let v912 : BitVec 32 := Scalar.addi v2 c2_i32_1302
  let c4_i32_1303 : BitVec 32 := 4#32
  let v913 : BitVec 32 := Scalar.remsi v912 c4_i32_1303
  let c8_i32_1304 : BitVec 32 := 8#32
  let v914 : BitVec 32 := Scalar.muli v913 c8_i32_1304
  let v915 : Index := Scalar.indexCast v914
  let c0_1308 : Index := 0#32
  ![0, 3, 0, v915.toNat, 0]
def k0_off22 (d0 : Dev nD) : Fin 5 → Nat :=
  let c1_1315 : Index := 1#32
  let c3_1316 : Index := 3#32
  let c0_1317 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1302 : BitVec 32 := 2#32
  let v912 : BitVec 32 := Scalar.addi v2 c2_i32_1302
  let c4_i32_1303 : BitVec 32 := 4#32
  let v913 : BitVec 32 := Scalar.remsi v912 c4_i32_1303
  let c8_i32_1314 : BitVec 32 := 8#32
  let v922 : BitVec 32 := Scalar.muli v913 c8_i32_1314
  let v923 : Index := Scalar.indexCast v922
  let c0_1318 : Index := 0#32
  ![1, 3, 0, v923.toNat, 0]
def k0_off23 (d0 : Dev nD) (c1_i32_1324 : BitVec 32) : Fin 5 → Nat :=
  let c0_i32_1327 : BitVec 32 := 0#32
  let c3_i32_1328 : BitVec 32 := 3#32
  let c0_i32_1339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v930 : BitVec 32 := Scalar.addi v2 c1_i32_1324
  let c4_i32_1325 : BitVec 32 := 4#32
  let v931 : BitVec 32 := Scalar.remsi v930 c4_i32_1325
  let c8_i32_1326 : BitVec 32 := 8#32
  let v932 : BitVec 32 := Scalar.muli v931 c8_i32_1326
  let c0_i32_1340 : BitVec 32 := 0#32
  ![0, 3, 0, v932.toNat, 0]
def k0_dev22 (d0 : Dev nD) : Nat :=
  let c0_i32_1335 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1324 : BitVec 32 := 1#32
  let v930 : BitVec 32 := Scalar.addi v2 c1_i32_1324
  let c4_i32_1325 : BitVec 32 := 4#32
  let v931 : BitVec 32 := Scalar.remsi v930 c4_i32_1325
  let c1_i32_1334 : BitVec 32 := 1#32
  let v933 : BitVec 32 := Scalar.muli v931 c1_i32_1334
  let v934 : BitVec 32 := Scalar.addi c0_i32_1335 v933
  v934.toNat
def k0_off24 (d0 : Dev nD) (c1_i32_1324 : BitVec 32) : Fin 5 → Nat :=
  let c1_i32_1342 : BitVec 32 := 1#32
  let c3_i32_1343 : BitVec 32 := 3#32
  let c0_i32_1354 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v930 : BitVec 32 := Scalar.addi v2 c1_i32_1324
  let c4_i32_1325 : BitVec 32 := 4#32
  let v931 : BitVec 32 := Scalar.remsi v930 c4_i32_1325
  let c8_i32_1341 : BitVec 32 := 8#32
  let v943 : BitVec 32 := Scalar.muli v931 c8_i32_1341
  let c0_i32_1355 : BitVec 32 := 0#32
  ![1, 3, 0, v943.toNat, 0]
def k0_dev23 (d0 : Dev nD) : Nat :=
  let c0_i32_1350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1324 : BitVec 32 := 1#32
  let v930 : BitVec 32 := Scalar.addi v2 c1_i32_1324
  let c4_i32_1325 : BitVec 32 := 4#32
  let v931 : BitVec 32 := Scalar.remsi v930 c4_i32_1325
  let c1_i32_1349 : BitVec 32 := 1#32
  let v944 : BitVec 32 := Scalar.muli v931 c1_i32_1349
  let v945 : BitVec 32 := Scalar.addi c0_i32_1350 v944
  v945.toNat
def k0_dev24 (d0 : Dev nD) : Nat :=
  let c0_i32_1367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1356 : BitVec 32 := 2#32
  let v954 : BitVec 32 := Scalar.addi v2 c2_i32_1356
  let c4_i32_1357 : BitVec 32 := 4#32
  let v955 : BitVec 32 := Scalar.remsi v954 c4_i32_1357
  let c1_i32_1366 : BitVec 32 := 1#32
  let v956 : BitVec 32 := Scalar.muli v955 c1_i32_1366
  let v957 : BitVec 32 := Scalar.addi c0_i32_1367 v956
  v957.toNat
def k0_dev25 (d0 : Dev nD) : Nat :=
  let c0_i32_1383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1356 : BitVec 32 := 2#32
  let v954 : BitVec 32 := Scalar.addi v2 c2_i32_1356
  let c4_i32_1357 : BitVec 32 := 4#32
  let v955 : BitVec 32 := Scalar.remsi v954 c4_i32_1357
  let c1_i32_1382 : BitVec 32 := 1#32
  let v966 : BitVec 32 := Scalar.muli v955 c1_i32_1382
  let v967 : BitVec 32 := Scalar.addi c0_i32_1383 v966
  v967.toNat
def k0_dev26 (d0 : Dev nD) : Nat :=
  let c0_i32_1401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1390 : BitVec 32 := 3#32
  let v976 : BitVec 32 := Scalar.addi v2 c3_i32_1390
  let c4_i32_1391 : BitVec 32 := 4#32
  let v977 : BitVec 32 := Scalar.remsi v976 c4_i32_1391
  let c1_i32_1400 : BitVec 32 := 1#32
  let v979 : BitVec 32 := Scalar.muli v977 c1_i32_1400
  let v980 : BitVec 32 := Scalar.addi c0_i32_1401 v979
  v980.toNat
def k0_dev27 (d0 : Dev nD) : Nat :=
  let c0_i32_1416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1390 : BitVec 32 := 3#32
  let v976 : BitVec 32 := Scalar.addi v2 c3_i32_1390
  let c4_i32_1391 : BitVec 32 := 4#32
  let v977 : BitVec 32 := Scalar.remsi v976 c4_i32_1391
  let c1_i32_1415 : BitVec 32 := 1#32
  let v990 : BitVec 32 := Scalar.muli v977 c1_i32_1415
  let v991 : BitVec 32 := Scalar.addi c0_i32_1416 v990
  v991.toNat
def k0_off25 (d0 : Dev nD) (c1_i32_3129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2828 : BitVec 32 := Scalar.addi v2 c1_i32_3129
  let c4_i32_3130 : BitVec 32 := 4#32
  let v2829 : BitVec 32 := Scalar.remsi v2828 c4_i32_3130
  let c256_i32_3131 : BitVec 32 := 256#32
  let v2830 : BitVec 32 := Scalar.muli v2829 c256_i32_3131
  let v2831 : Index := Scalar.indexCast v2830
  let c0_3132 : Index := 0#32
  ![v2831.toNat, 0]
def k0_off26 (d0 : Dev nD) (c1_i32_3129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2828 : BitVec 32 := Scalar.addi v2 c1_i32_3129
  let c4_i32_3130 : BitVec 32 := 4#32
  let v2829 : BitVec 32 := Scalar.remsi v2828 c4_i32_3130
  let c256_i32_3138 : BitVec 32 := 256#32
  let v2841 : BitVec 32 := Scalar.muli v2829 c256_i32_3138
  let c0_i32_3148 : BitVec 32 := 0#32
  ![v2841.toNat, 0]
def k0_dev28 (d0 : Dev nD) : Nat :=
  let c0_i32_3145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3129 : BitVec 32 := 1#32
  let v2828 : BitVec 32 := Scalar.addi v2 c1_i32_3129
  let c4_i32_3130 : BitVec 32 := 4#32
  let v2829 : BitVec 32 := Scalar.remsi v2828 c4_i32_3130
  let c1_i32_3144 : BitVec 32 := 1#32
  let v2842 : BitVec 32 := Scalar.muli v2829 c1_i32_3144
  let v2843 : BitVec 32 := Scalar.addi c0_i32_3145 v2842
  v2843.toNat
def k0_off27 (d0 : Dev nD) (c1_i32_3129 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v2828 : BitVec 32 := Scalar.addi v2 c1_i32_3129
  let c4_i32_3130 : BitVec 32 := 4#32
  let v2829 : BitVec 32 := Scalar.remsi v2828 c4_i32_3130
  let c256_i32_3149 : BitVec 32 := 256#32
  let v2851 : BitVec 32 := Scalar.muli v2829 c256_i32_3149
  let c512_i32_3159 : BitVec 32 := 512#32
  ![v2851.toNat, 512]
def k0_dev29 (d0 : Dev nD) : Nat :=
  let c0_i32_3156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3129 : BitVec 32 := 1#32
  let v2828 : BitVec 32 := Scalar.addi v2 c1_i32_3129
  let c4_i32_3130 : BitVec 32 := 4#32
  let v2829 : BitVec 32 := Scalar.remsi v2828 c4_i32_3130
  let c1_i32_3155 : BitVec 32 := 1#32
  let v2852 : BitVec 32 := Scalar.muli v2829 c1_i32_3155
  let v2853 : BitVec 32 := Scalar.addi c0_i32_3156 v2852
  v2853.toNat
def k0_dev30 (d0 : Dev nD) : Nat :=
  let c0_i32_3176 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3160 : BitVec 32 := 2#32
  let v2861 : BitVec 32 := Scalar.addi v2 c2_i32_3160
  let c4_i32_3161 : BitVec 32 := 4#32
  let v2862 : BitVec 32 := Scalar.remsi v2861 c4_i32_3161
  let c1_i32_3175 : BitVec 32 := 1#32
  let v2875 : BitVec 32 := Scalar.muli v2862 c1_i32_3175
  let v2876 : BitVec 32 := Scalar.addi c0_i32_3176 v2875
  v2876.toNat
def k0_dev31 (d0 : Dev nD) : Nat :=
  let c0_i32_3187 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3160 : BitVec 32 := 2#32
  let v2861 : BitVec 32 := Scalar.addi v2 c2_i32_3160
  let c4_i32_3161 : BitVec 32 := 4#32
  let v2862 : BitVec 32 := Scalar.remsi v2861 c4_i32_3161
  let c1_i32_3186 : BitVec 32 := 1#32
  let v2885 : BitVec 32 := Scalar.muli v2862 c1_i32_3186
  let v2886 : BitVec 32 := Scalar.addi c0_i32_3187 v2885
  v2886.toNat
def k0_dev32 (d0 : Dev nD) : Nat :=
  let c0_i32_3207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3191 : BitVec 32 := 3#32
  let v2894 : BitVec 32 := Scalar.addi v2 c3_i32_3191
  let c4_i32_3192 : BitVec 32 := 4#32
  let v2895 : BitVec 32 := Scalar.remsi v2894 c4_i32_3192
  let c1_i32_3206 : BitVec 32 := 1#32
  let v2908 : BitVec 32 := Scalar.muli v2895 c1_i32_3206
  let v2909 : BitVec 32 := Scalar.addi c0_i32_3207 v2908
  v2909.toNat
def k0_dev33 (d0 : Dev nD) : Nat :=
  let c0_i32_3218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3191 : BitVec 32 := 3#32
  let v2894 : BitVec 32 := Scalar.addi v2 c3_i32_3191
  let c4_i32_3192 : BitVec 32 := 4#32
  let v2895 : BitVec 32 := Scalar.remsi v2894 c4_i32_3192
  let c1_i32_3217 : BitVec 32 := 1#32
  let v2918 : BitVec 32 := Scalar.muli v2895 c1_i32_3217
  let v2919 : BitVec 32 := Scalar.addi c0_i32_3218 v2918
  v2919.toNat
def k0_off28 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_3222 : BitVec 32 := 256#32
  let v2927 : BitVec 32 := Scalar.muli v2 c256_i32_3222
  let v2928 : Index := Scalar.indexCast v2927
  let c0_3223 : Index := 0#32
  ![v2928.toNat, 0]
def k0_dev34 (d0 : Dev nD) : Nat :=
  let c0_i32_3276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3268 : BitVec 32 := 1#32
  let v2970 : BitVec 32 := Scalar.addi v2 c1_i32_3268
  let c4_i32_3269 : BitVec 32 := 4#32
  let v2971 : BitVec 32 := Scalar.remsi v2970 c4_i32_3269
  let c1_i32_3275 : BitVec 32 := 1#32
  let v2972 : BitVec 32 := Scalar.muli v2971 c1_i32_3275
  let v2973 : BitVec 32 := Scalar.addi c0_i32_3276 v2972
  v2973.toNat
def k0_dev35 (d0 : Dev nD) : Nat :=
  let c0_i32_3289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3281 : BitVec 32 := 2#32
  let v2981 : BitVec 32 := Scalar.addi v2 c2_i32_3281
  let c4_i32_3282 : BitVec 32 := 4#32
  let v2982 : BitVec 32 := Scalar.remsi v2981 c4_i32_3282
  let c1_i32_3288 : BitVec 32 := 1#32
  let v2983 : BitVec 32 := Scalar.muli v2982 c1_i32_3288
  let v2984 : BitVec 32 := Scalar.addi c0_i32_3289 v2983
  v2984.toNat
def k0_dev36 (d0 : Dev nD) : Nat :=
  let c0_i32_3302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3294 : BitVec 32 := 3#32
  let v2992 : BitVec 32 := Scalar.addi v2 c3_i32_3294
  let c4_i32_3295 : BitVec 32 := 4#32
  let v2993 : BitVec 32 := Scalar.remsi v2992 c4_i32_3295
  let c1_i32_3301 : BitVec 32 := 1#32
  let v2994 : BitVec 32 := Scalar.muli v2993 c1_i32_3301
  let v2995 : BitVec 32 := Scalar.addi c0_i32_3302 v2994
  v2995.toNat
def k0_dev37 (d0 : Dev nD) : Nat :=
  let c0_i32_3356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3348 : BitVec 32 := 1#32
  let v3041 : BitVec 32 := Scalar.addi v2 c1_i32_3348
  let c4_i32_3349 : BitVec 32 := 4#32
  let v3042 : BitVec 32 := Scalar.remsi v3041 c4_i32_3349
  let c1_i32_3355 : BitVec 32 := 1#32
  let v3043 : BitVec 32 := Scalar.muli v3042 c1_i32_3355
  let v3044 : BitVec 32 := Scalar.addi c0_i32_3356 v3043
  v3044.toNat
def k0_dev38 (d0 : Dev nD) : Nat :=
  let c0_i32_3369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_3361 : BitVec 32 := 2#32
  let v3052 : BitVec 32 := Scalar.addi v2 c2_i32_3361
  let c4_i32_3362 : BitVec 32 := 4#32
  let v3053 : BitVec 32 := Scalar.remsi v3052 c4_i32_3362
  let c1_i32_3368 : BitVec 32 := 1#32
  let v3054 : BitVec 32 := Scalar.muli v3053 c1_i32_3368
  let v3055 : BitVec 32 := Scalar.addi c0_i32_3369 v3054
  v3055.toNat
def k0_dev39 (d0 : Dev nD) : Nat :=
  let c0_i32_3382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_3374 : BitVec 32 := 3#32
  let v3063 : BitVec 32 := Scalar.addi v2 c3_i32_3374
  let c4_i32_3375 : BitVec 32 := 4#32
  let v3064 : BitVec 32 := Scalar.remsi v3063 c4_i32_3375
  let c1_i32_3381 : BitVec 32 := 1#32
  let v3065 : BitVec 32 := Scalar.muli v3064 c1_i32_3381
  let v3066 : BitVec 32 := Scalar.addi c0_i32_3382 v3065
  v3066.toNat
def k0_off29 (d0 : Dev nD) : Fin 3 → Nat :=
  let c0_3388 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_3387 : BitVec 32 := 256#32
  let v3075 : BitVec 32 := Scalar.muli v2 c256_i32_3387
  let v3076 : Index := Scalar.indexCast v3075
  let c0_3389 : Index := 0#32
  ![0, v3076.toNat, 0]
def k0_off30 (d0 : Dev nD) (c3_i32_3456 : BitVec 32) : Fin 3 → Nat :=
  let c0_3462 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3122 : BitVec 32 := Scalar.addi v2 c3_i32_3456
  let c4_i32_3457 : BitVec 32 := 4#32
  let v3123 : BitVec 32 := Scalar.remsi v3122 c4_i32_3457
  let c256_i32_3461 : BitVec 32 := 256#32
  let v3127 : BitVec 32 := Scalar.muli v3123 c256_i32_3461
  let v3128 : Index := Scalar.indexCast v3127
  let c0_3463 : Index := 0#32
  ![0, v3128.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x1024x1024 : Shape := ⟨3, ![1, 1024, 1024]⟩
abbrev S1024x4096 : Shape := ⟨2, ![1024, 4096]⟩
abbrev S1x4096x32x128 : Shape := ⟨4, ![1, 4096, 32, 128]⟩
abbrev S4096x1024 : Shape := ⟨2, ![4096, 1024]⟩
abbrev S1x1024x4096 : Shape := ⟨3, ![1, 1024, 4096]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S4096 : Shape := ⟨1, ![4096]⟩
abbrev S1x4096 : Shape := ⟨2, ![1, 4096]⟩
abbrev S1x32x1024x4096 : Shape := ⟨4, ![1, 32, 1024, 4096]⟩
abbrev S1x1x1024x4096 : Shape := ⟨4, ![1, 1, 1024, 4096]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 137
  | .vmem => 0
  | .smem => 0
  | _ => 0

abbrev hbmTy0_0 (i : Nat) : BufTy := match i % 128 with
  | 0 => ⟨S1x1024x1024, .f32⟩
  | 1 => ⟨S1024x4096, .f32⟩
  | 2 => ⟨S1x4096x32x128, .f32⟩
  | 3 => ⟨S1x4096x32x128, .f32⟩
  | 4 => ⟨S4096x1024, .f32⟩
  | 5 => ⟨S1x1024x4096, .f32⟩
  | 6 => ⟨S1x1024x32x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S1024x4096, .i32⟩
  | 48 => ⟨S1024x4096, .i32⟩
  | 49 => ⟨S1024x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x4096, .i32⟩
  | 95 => ⟨S1024x4096, .i32⟩
  | 96 => ⟨S1024x4096, .i1⟩
  | 97 => ⟨S1024x4096, .i1⟩
  | 98 => ⟨S1x32x1024x4096, .f32⟩
  | 99 => ⟨S_, .f32⟩
  | 100 => ⟨S1x32x1024x4096, .f32⟩
  | 101 => ⟨S1x32x1024x4096, .f32⟩
  | 102 => ⟨S1x1x1024x4096, .i1⟩
  | 103 => ⟨S_, .f32⟩
  | 104 => ⟨S_, .f32⟩
  | 105 => ⟨S1x32x1024x4096, .i1⟩
  | 106 => ⟨S1x32x1024x4096, .f32⟩
  | 107 => ⟨S1x32x1024x4096, .f32⟩
  | 108 => ⟨S_, .f32⟩
  | 109 => ⟨S1x32x1024, .f32⟩
  | 110 => ⟨S1x32x1024x1, .f32⟩
  | 111 => ⟨S1x32x1024x4096, .f32⟩
  | 112 => ⟨S1x32x1024x4096, .f32⟩
  | 113 => ⟨S1x32x1024x4096, .f32⟩
  | 114 => ⟨S_, .i1⟩
  | 115 => ⟨S1024, .i1⟩
  | 116 => ⟨S1x1x1024x1, .i1⟩
  | 117 => ⟨S_, .f32⟩
  | 118 => ⟨S1x32x1024, .f32⟩
  | 119 => ⟨S1x32x1024x1, .f32⟩
  | 120 => ⟨S_, .f32⟩
  | 121 => ⟨S_, .f32⟩
  | 122 => ⟨S1x32x1024x1, .i1⟩
  | 123 => ⟨S1x32x1024x1, .f32⟩
  | 124 => ⟨S1x32x1024x1, .f32⟩
  | 125 => ⟨S1x32x1024x4096, .f32⟩
  | 126 => ⟨S1x32x1024x4096, .f32⟩
  | 127 => ⟨S1x1x1024x1, .i1⟩
  | _ => ⟨S1x1024x1024, .f32⟩

abbrev hbmTy0_1 (i : Nat) : BufTy := match i % 128 with
  | 0 => ⟨S_, .f32⟩
  | 1 => ⟨S_, .f32⟩
  | 2 => ⟨S1x32x1024x4096, .i1⟩
  | 3 => ⟨S1x32x1024x4096, .f32⟩
  | 4 => ⟨S1x32x1024x4096, .f32⟩
  | 5 => ⟨S1x32x128x1024, .f32⟩
  | 6 => ⟨S1x1024x32x128, .f32⟩
  | 7 => ⟨S1x1024x4096, .f32⟩
  | 8 => ⟨S1x1024x1024, .f32⟩
  | _ => ⟨S1x1024x1024, .f32⟩

abbrev hbmTy (i : Nat) : BufTy := match i / 128 with
  | 0 => hbmTy0_0 i
  | 1 => hbmTy0_1 i
  | _ => ⟨S1x1024x1024, .f32⟩

abbrev bufTy : (tb : Table) → Fin (tcTables nBuf tb) → BufTy
  | .hbm, ⟨i, _⟩ => hbmTy i
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Struct.lean ====
/- The kernel's body written once more with its loops: each statement of the kernel that is repeated over blocks,
   steps, heads or peers is one definition taking the indices, in continuation-passing form, and `body` runs them in
   the kernel's order. `Proof/StructEq.lean` proves the printed body equal to it. -/
module

public import proofs.«01_k».proof.Proof.Gen.KernelIdeal.Points

@[expose] public section

noncomputable section

namespace Cert.KernelIdeal.Attn

open Idealize.ShloMosaic Idealize.ShloMosaic.TcCoe
open Idealize.SL Idealize.SL.Sem
open Cert.KernelIdeal Cert.KernelIdeal.Gen

variable {F : FTy → Type} [FloatOps F]

/-- The kernel's programs. -/
abbrev K (F : FTy → Type) : Type 1 := Prog (TpuEff nD τ sig (Elt F) Λ₀ .tc) PUnit

/-! ## The memory each statement names -/

section Views

/-- The loop indices in range: the slices of each buffer lie inside it. -/
theorem inb_stage (s : Fin 2) : ∀ a, (![s.val, 0, 0, 0] : Fin 4 → Nat) a + S1x64x32x128.size a ≤ S2x64x32x128.size a := by
  revert s; decide +kernel
/-- The bounds of a block of keys or values in an argument. -/
theorem inb_hbm (b : Fin 16) : ∀ a, (![0, 64 * b.val, 0, 0] : Fin 4 → Nat) a + S1x64x32x128.size a ≤ S1x1024x32x128.size a := by
  revert b; decide +kernel
/-- The bounds of a semaphore of a pair. -/
theorem inb_sem1 (s : Fin 2) : ∀ a, (![s.val] : Fin 1 → Nat) a + S1.size a ≤ S2.size a := by revert s; decide +kernel
/-- The bounds of a semaphore of a two by four array. -/
theorem inb_sem24 (t : Fin 2) (r : Fin 4) : ∀ a, (![t.val, r.val] : Fin 2 → Nat) a + S1x1.size a ≤ S2x4.size a := by
  revert t r; decide +kernel
/-- The bounds of a semaphore of a three by four array. -/
theorem inb_sem34 (j : Fin 3) (r : Fin 4) : ∀ a, (![j.val, r.val] : Fin 2 → Nat) a + S1x1.size a ≤ S3x4.size a := by
  revert j r; decide +kernel
/-- The bounds of a semaphore of a three by two array. -/
theorem inb_sem32 (j : Fin 3) (h : Fin 2) : ∀ a, (![j.val, h.val] : Fin 2 → Nat) a + S1x1.size a ≤ S3x2.size a := by
  revert j h; decide +kernel
/-- The bounds of one block of a class. -/
theorem inb_kvRow (t : Fin 2) (r n : Fin 4) :
    ∀ a, (![t.val, r.val, 64 * n.val, 0, 0] : Fin 5 → Nat) a + S1x1x64x32x128.size a ≤ S2x4x256x32x128.size a := by
  revert t r n; decide +kernel
/-- The bounds of the keys or values of one device's heads in one class. -/
theorem inb_kvHead (t : Fin 2) (r p : Fin 4) :
    ∀ a, (![t.val, r.val, 0, 8 * p.val, 0] : Fin 5 → Nat) a + S1x1x256x8x128.size a ≤ S2x4x256x32x128.size a := by
  revert t r p; decide +kernel
/-- The bounds of an 8-bit part. -/
theorem inb_kv8 (t : Fin 2) (r : Fin 4) :
    ∀ a, (![t.val, r.val, 0, 0, 0] : Fin 5 → Nat) a + S1x1x256x8x128.size a ≤ S2x4x256x8x128.size a := by
  revert t r; decide +kernel
/-- The bounds of a quarter of the gathered keys or values. -/
theorem inb_full (r g : Fin 4) :
    ∀ a, (![r.val, 256 * g.val, 0, 0] : Fin 4 → Nat) a + S1x256x8x128.size a ≤ S4x1024x8x128.size a := by
  revert r g; decide +kernel
/-- The bounds of one head of one class. -/
theorem inb_fullHead (r : Fin 4) (h : Fin 8) :
    ∀ a, (![r.val, 0, h.val, 0] : Fin 4 → Nat) a + S1x1024x1x128.size a ≤ S4x1024x8x128.size a := by
  revert r h; decide +kernel
/-- The bounds of a quarter of rows. -/
theorem inb_rows (c : Fin 4) : ∀ a, (![256 * c.val, 0] : Fin 2 → Nat) a + S256x1024.size a ≤ S1024x1024.size a := by
  revert c; decide +kernel
/-- The bounds of one head's block of rows. -/
theorem inb_blk (b : Fin 16) (h : Fin 8) :
    ∀ a, (![64 * b.val, 128 * h.val] : Fin 2 → Nat) a + S64x128.size a ≤ S1024x1024.size a := by
  revert b h; decide +kernel
/-- The bounds of a half of a quarter of rows. -/
theorem inb_half (p : Fin 4) (f : Fin 2) :
    ∀ a, (![256 * p.val, 512 * f.val] : Fin 2 → Nat) a + S256x512.size a ≤ S1024x1024.size a := by
  revert p f; decide +kernel
/-- The bounds of a half slab. -/
theorem inb_half3 (j : Fin 3) (f : Fin 2) :
    ∀ a, (![j.val, 0, 512 * f.val] : Fin 3 → Nat) a + S1x256x512.size a ≤ S3x256x1024.size a := by
  revert j f; decide +kernel
/-- The bounds of a half of the reduced rows. -/
theorem inb_own (f : Fin 2) : ∀ a, (![0, 512 * f.val] : Fin 2 → Nat) a + S256x512.size a ≤ S256x1024.size a := by
  revert f; decide +kernel
/-- The bounds of a slab. -/
theorem inb_slab (j : Fin 3) : ∀ a, (![j.val, 0, 0] : Fin 3 → Nat) a + S1x256x1024.size a ≤ S3x256x1024.size a := by
  revert j; decide +kernel
/-- The bounds of a quarter of the result. -/
theorem inb_out (p : Fin 4) : ∀ a, (![0, 256 * p.val, 0] : Fin 3 → Nat) a + S1x256x1024.size a ≤ S1x1024x1024.size a := by
  revert p; decide +kernel

end Views

/-! ## The device's own offsets and peers

A transfer's offsets and its peer depend on the device; the printed program names each by a function of the device, and
the tables below pick the one a loop index stands for. -/

/-- Device `d`'s peer `j` places on, and its offset, for `j` in 1, 2, 3 written 0, 1, 2. -/
def peer (d : Dev nD) (j : Fin 3) : Dev nD := ⟨(d.val + j.val + 1) % 4, Nat.mod_lt _ (by decide)⟩

/-- The device a send of group `r` goes to. -/
def kvDev (t : Fin 2) (r : Fin 4) (j : Fin 3) (d : Dev nD) : Dev nD :=
  match r, j, t with
  | 0, 0, 0 => ⟨k0_dev4 d, k0_dev4_lt d⟩ | 0, 0, 1 => ⟨k0_dev5 d, k0_dev5_lt d⟩
  | 0, 1, 0 => ⟨k0_dev6 d, k0_dev6_lt d⟩ | 0, 1, 1 => ⟨k0_dev7 d, k0_dev7_lt d⟩
  | 0, 2, 0 => ⟨k0_dev8 d, k0_dev8_lt d⟩ | 0, 2, 1 => ⟨k0_dev9 d, k0_dev9_lt d⟩
  | 1, 0, 0 => ⟨k0_dev10 d, k0_dev10_lt d⟩ | 1, 0, 1 => ⟨k0_dev11 d, k0_dev11_lt d⟩
  | 1, 1, 0 => ⟨k0_dev12 d, k0_dev12_lt d⟩ | 1, 1, 1 => ⟨k0_dev13 d, k0_dev13_lt d⟩
  | 1, 2, 0 => ⟨k0_dev14 d, k0_dev14_lt d⟩ | 1, 2, 1 => ⟨k0_dev15 d, k0_dev15_lt d⟩
  | 2, 0, 0 => ⟨k0_dev16 d, k0_dev16_lt d⟩ | 2, 0, 1 => ⟨k0_dev17 d, k0_dev17_lt d⟩
  | 2, 1, 0 => ⟨k0_dev18 d, k0_dev18_lt d⟩ | 2, 1, 1 => ⟨k0_dev19 d, k0_dev19_lt d⟩
  | 2, 2, 0 => ⟨k0_dev20 d, k0_dev20_lt d⟩ | 2, 2, 1 => ⟨k0_dev21 d, k0_dev21_lt d⟩
  | 3, 0, 0 => ⟨k0_dev22 d, k0_dev22_lt d⟩ | 3, 0, 1 => ⟨k0_dev23 d, k0_dev23_lt d⟩
  | 3, 1, 0 => ⟨k0_dev24 d, k0_dev24_lt d⟩ | 3, 1, 1 => ⟨k0_dev25 d, k0_dev25_lt d⟩
  | 3, 2, 0 => ⟨k0_dev26 d, k0_dev26_lt d⟩ | 3, 2, 1 => ⟨k0_dev27 d, k0_dev27_lt d⟩

/-- The device a partial result is sent to. -/
def rsDev (j : Fin 3) (f : Fin 2) (d : Dev nD) : Dev nD :=
  match j, f with
  | 0, 0 => ⟨k0_dev28 d, k0_dev28_lt d⟩ | 0, 1 => ⟨k0_dev29 d, k0_dev29_lt d⟩
  | 1, 0 => ⟨k0_dev30 d, k0_dev30_lt d⟩ | 1, 1 => ⟨k0_dev31 d, k0_dev31_lt d⟩
  | 2, 0 => ⟨k0_dev32 d, k0_dev32_lt d⟩ | 2, 1 => ⟨k0_dev33 d, k0_dev33_lt d⟩

/-- The device a finished half is sent to. -/
def agDev (f : Fin 2) (j : Fin 3) (d : Dev nD) : Dev nD :=
  match f, j with
  | 0, 0 => ⟨k0_dev34 d, k0_dev34_lt d⟩ | 0, 1 => ⟨k0_dev35 d, k0_dev35_lt d⟩
  | 0, 2 => ⟨k0_dev36 d, k0_dev36_lt d⟩ | 1, 0 => ⟨k0_dev37 d, k0_dev37_lt d⟩
  | 1, 1 => ⟨k0_dev38 d, k0_dev38_lt d⟩ | 1, 2 => ⟨k0_dev39 d, k0_dev39_lt d⟩

/-- The heads of group `r` the device keeps. -/
def ownOff (t : Fin 2) (r : Fin 4) (d : Dev nD) : Fin 5 → Nat :=
  match r, t with
  | 0, 0 => k0_off1 d | 0, 1 => k0_off2 d | 1, 0 => k0_off7 d | 1, 1 => k0_off8 d
  | 2, 0 => k0_off13 d | 2, 1 => k0_off14 d | 3, 0 => k0_off19 d | 3, 1 => k0_off20 d

/-- The heads of group `r` it rounds to eight bits. -/
def midOff (t : Fin 2) (r : Fin 4) (d : Dev nD) : Fin 5 → Nat :=
  match r, t with
  | 0, 0 => k0_off3 d | 0, 1 => k0_off4 d | 1, 0 => k0_off9 d | 1, 1 => k0_off10 d
  | 2, 0 => k0_off15 d | 2, 1 => k0_off16 d | 3, 0 => k0_off21 d | 3, 1 => k0_off22 d

/-- The heads of group `r` it sends as they are: to the next device (`j = 0`) and to the one before (`j = 2`). -/
def sendOff (t : Fin 2) (r : Fin 4) (j : Fin 3) (d : Dev nD) : Fin 5 → Nat :=
  match r, t with
  | 0, 0 => k0_off5 d (BitVec.ofNat 32 (1 + j.val)) | 0, 1 => k0_off6 d (BitVec.ofNat 32 (1 + j.val))
  | 1, 0 => k0_off11 d (BitVec.ofNat 32 (1 + j.val)) | 1, 1 => k0_off12 d (BitVec.ofNat 32 (1 + j.val))
  | 2, 0 => k0_off17 d (BitVec.ofNat 32 (1 + j.val)) | 2, 1 => k0_off18 d (BitVec.ofNat 32 (1 + j.val))
  | 3, 0 => k0_off23 d (BitVec.ofNat 32 (1 + j.val)) | 3, 1 => k0_off24 d (BitVec.ofNat 32 (1 + j.val))

/-- A peer is one of the four devices. -/
theorem peer_lt (d : Dev nD) (j : Fin 3) : (peer d j).val < 4 := (peer d j).isLt

/-- A send of keys or values goes to the peer. -/
theorem kvDev_eq (t : Fin 2) (r : Fin 4) (j : Fin 3) (d : Dev nD) : kvDev t r j d = peer d j := by
  revert t r j d; decide +kernel
/-- A send of the reduction goes to the peer. -/
theorem rsDev_eq (j : Fin 3) (f : Fin 2) (d : Dev nD) : rsDev j f d = peer d j := by
  revert j f d; decide +kernel
/-- A send of the gathering goes to the peer. -/
theorem agDev_eq (f : Fin 2) (j : Fin 3) (d : Dev nD) : agDev f j d = peer d j := by
  revert j f d; decide +kernel
/-- The offset of the device's own heads, in numbers. -/
theorem ownOff_eq (t : Fin 2) (r : Fin 4) (d : Dev nD) : ownOff t r d = ![t.val, r.val, 0, 8 * d.val, 0] := by
  revert t r d; decide +kernel
/-- The offset of the heads sent in 8 bits, in numbers. -/
theorem midOff_eq (t : Fin 2) (r : Fin 4) (d : Dev nD) : midOff t r d = ![t.val, r.val, 0, 8 * (peer d 1).val, 0] := by
  revert t r d; decide +kernel
/-- The offset of the heads of a send, in numbers. -/
theorem sendOff_eq (t : Fin 2) (r : Fin 4) (j : Fin 3) (d : Dev nD) :
    sendOff t r j d = ![t.val, r.val, 0, 8 * (peer d j).val, 0] := by
  revert t r j d; decide +kernel

/-- The rows of the peer's part of the result, in the attention result and in what is sent. -/
def rowOff (j : Fin 3) (d : Dev nD) : Fin 2 → Nat := k0_off25 d (BitVec.ofNat 32 (1 + j.val))
def halfOff (j : Fin 3) (f : Fin 2) (d : Dev nD) : Fin 2 → Nat :=
  match f with
  | 0 => k0_off26 d (BitVec.ofNat 32 (1 + j.val))
  | 1 => k0_off27 d (BitVec.ofNat 32 (1 + j.val))
def outOff (j : Fin 3) (d : Dev nD) : Fin 3 → Nat := k0_off30 d (BitVec.ofNat 32 (1 + j.val))

/-- The offset of a peer's rows, in numbers. -/
theorem rowOff_eq (j : Fin 3) (d : Dev nD) : rowOff j d = ![256 * (peer d j).val, 0] := by revert j d; decide +kernel
/-- The offset of a half of a peer's rows, in numbers. -/
theorem halfOff_eq (j : Fin 3) (f : Fin 2) (d : Dev nD) : halfOff j f d = ![256 * (peer d j).val, 512 * f.val] := by
  revert j f d; decide +kernel
/-- The offset of a peer's rows in the result, in numbers. -/
theorem outOff_eq (j : Fin 3) (d : Dev nD) : outOff j d = ![0, 256 * (peer d j).val, 0] := by revert j d; decide +kernel
/-- The offset of the device's own rows, in numbers. -/
theorem myRows_eq (d : Dev nD) : k0_off28 d = ![256 * d.val, 0] := by revert d; decide +kernel
/-- The offset of the device's own rows in the result, in numbers. -/
theorem myOut_eq (d : Dev nD) : k0_off29 d = ![0, 256 * d.val, 0] := by revert d; decide +kernel

/-- The offset of the device's own heads is in bounds. -/
theorem ownOff_inb (t : Fin 2) (r : Fin 4) (d : Dev nD) (a : Fin 5) : ownOff t r d a + S1x1x256x8x128.size a ≤ S2x4x256x32x128.size a := by
  rw [ownOff_eq]; exact inb_kvHead t r d a
/-- The offset of the heads sent in 8 bits is in bounds. -/
theorem midOff_inb (t : Fin 2) (r : Fin 4) (d : Dev nD) (a : Fin 5) : midOff t r d a + S1x1x256x8x128.size a ≤ S2x4x256x32x128.size a := by
  rw [midOff_eq]; exact inb_kvHead t r _ a
/-- The offset of the heads of a send is in bounds. -/
theorem sendOff_inb (t : Fin 2) (r : Fin 4) (j : Fin 3) (d : Dev nD) (a : Fin 5) :
    sendOff t r j d a + S1x1x256x8x128.size a ≤ S2x4x256x32x128.size a := by
  rw [sendOff_eq]; exact inb_kvHead t r _ a
/-- The offset of a peer's rows is in bounds. -/
theorem rowOff_inb (j : Fin 3) (d : Dev nD) (a : Fin 2) : rowOff j d a + S256x1024.size a ≤ S1024x1024.size a := by
  rw [rowOff_eq]; exact inb_rows _ a
/-- The offset of a half of a peer's rows is in bounds. -/
theorem halfOff_inb (j : Fin 3) (f : Fin 2) (d : Dev nD) (a : Fin 2) : halfOff j f d a + S256x512.size a ≤ S1024x1024.size a := by
  rw [halfOff_eq]; exact inb_half _ f a
/-- The offset of a peer's rows in the result is in bounds. -/
theorem outOff_inb (j : Fin 3) (d : Dev nD) (a : Fin 3) : outOff j d a + S1x256x1024.size a ≤ S1x1024x1024.size a := by
  rw [outOff_eq]; exact inb_out _ a
/-- The offset of the device's own rows is in bounds. -/
theorem myRows_inb (d : Dev nD) (a : Fin 2) : k0_off28 d a + S256x1024.size a ≤ S1024x1024.size a := by
  rw [myRows_eq]; exact inb_rows d a
/-- The offset of the device's own rows in the result is in bounds. -/
theorem myOut_inb (d : Dev nD) (a : Fin 3) : k0_off29 d a + S1x256x1024.size a ≤ S1x1024x1024.size a := by
  rw [myOut_eq]; exact inb_out d a

/-! ## Views -/

/-- K or V in main memory, and the whole buffers the kernel keeps them in. -/
def kvHbm (t : Fin 2) : Memref sig .tc .hbm S1x1024x32x128 .f32 :=
  match t with | 0 => Memref.whole main_arg2 | 1 => Memref.whole main_arg3
def full (t : Fin 2) : Memref sig .tc .vmem S4x1024x8x128 .bf16 :=
  match t with | 0 => Memref.whole cc0_scratch2 | 1 => Memref.whole cc0_scratch3
/-- The three matrices: `x`, `Wq`, `Wo`, rounded. -/
def matB (mi : Fin 3) : Memref sig .tc .vmem S1024x1024 .bf16 :=
  match mi with | 0 => Memref.whole cc0_scratch7 | 1 => Memref.whole cc0_scratch8 | 2 => Memref.whole cc0_scratch9
def matH (mi : Fin 3) : Memref sig .tc .hbm S1024x1024 .f32 :=
  match mi with
  | 0 => ((Memref.whole main_arg0).slice (Rect.unit (s := S1x1024x1024) ![0, 0, 0] S1x1024x1024.size inb_S1x1024x1024_S1x1024x1024_0_0_0) (fun _ => rfl)).squeeze S1024x1024 squeezes_S1x1024x1024_S1024x1024
  | 1 => (Memref.whole main_arg1).slice (Rect.unit (s := S1024x1024) ![0, 0] S1024x1024.size inb_S1024x1024_S1024x1024_0_0) (fun _ => rfl)
  | 2 => (Memref.whole main_arg4).slice (Rect.unit (s := S1024x1024) ![0, 0] S1024x1024.size inb_S1024x1024_S1024x1024_0_0) (fun _ => rfl)

/-- The buffers of gathered keys and values are taken whole. -/
theorem full_whole (t : Fin 2) : (full t).IsWhole := by fin_cases t <;> exact Memref.isWhole_whole _
/-- The buffers of narrowed matrices are taken whole. -/
theorem matB_whole (t : Fin 3) : (matB t).IsWhole := by fin_cases t <;> exact Memref.isWhole_whole _
/-- The arguments of keys and values are taken whole. -/
theorem kvHbm_whole (t : Fin 2) : (kvHbm t).IsWhole := by fin_cases t <;> exact Memref.isWhole_whole _

def kvS : Memref sig .tc .vmem S2x4x256x32x128 .bf16 := Memref.whole cc0_scratch0
def kv8S : Memref sig .tc .vmem S2x4x256x8x128 .fp8e4m3 := Memref.whole cc0_scratch1
def kv8R : Memref sig .tc .vmem S2x4x256x8x128 .fp8e4m3 := Memref.whole cc0_scratch4
def stage : Memref sig .tc .vmem S2x64x32x128 .f32 := Memref.whole cc0_scratch5
def wst : Memref sig .tc .vmem S1x256x1024 .f32 := Memref.whole cc0_scratch6
def qB : Memref sig .tc .vmem S1024x1024 .bf16 := Memref.whole cc0_scratch10
def ctxB : Memref sig .tc .vmem S1024x1024 .bf16 := Memref.whole cc0_scratch11
def pS : Memref sig .tc .vmem S1024x1024 .bf16 := Memref.whole cc0_scratch12
def rsR : Memref sig .tc .vmem S3x256x1024 .bf16 := Memref.whole cc0_scratch13
def agO : Memref sig .tc .vmem S256x1024 .bf16 := Memref.whole cc0_scratch14
def agR : Memref sig .tc .vmem S3x256x1024 .bf16 := Memref.whole cc0_scratch15

/-- The rectangles of the loads and stores. -/
def rStage (s : Fin 2) : Rect S2x64x32x128 := Rect.unit (s := S2x64x32x128) ![s.val, 0, 0, 0] S1x64x32x128.size (inb_stage s)
def rKvRow (t : Fin 2) (r n : Fin 4) : Rect S2x4x256x32x128 :=
  Rect.unit (s := S2x4x256x32x128) ![t.val, r.val, 64 * n.val, 0, 0] S1x1x64x32x128.size (inb_kvRow t r n)
def rKv8 (t : Fin 2) (r : Fin 4) : Rect S2x4x256x8x128 :=
  Rect.unit (s := S2x4x256x8x128) ![t.val, r.val, 0, 0, 0] S1x1x256x8x128.size (inb_kv8 t r)
def rFull (r g : Fin 4) : Rect S4x1024x8x128 :=
  Rect.unit (s := S4x1024x8x128) ![r.val, 256 * g.val, 0, 0] S1x256x8x128.size (inb_full r g)
def rFullHead (r : Fin 4) (h : Fin 8) : Rect S4x1024x8x128 :=
  Rect.unit (s := S4x1024x8x128) ![r.val, 0, h.val, 0] S1x1024x1x128.size (inb_fullHead r h)
def rRows (c : Fin 4) : Rect S1024x1024 := Rect.unit (s := S1024x1024) ![256 * c.val, 0] S256x1024.size (inb_rows c)
def rBlk (b : Fin 16) (h : Fin 8) : Rect S1024x1024 :=
  Rect.unit (s := S1024x1024) ![64 * b.val, 128 * h.val] S64x128.size (inb_blk b h)
def rAll : Rect S1024x1024 := Rect.unit (s := S1024x1024) ![0, 0] S1024x1024.size inb_S1024x1024_S1024x1024_0_0
def rHalf3 (j : Fin 3) (f : Fin 2) : Rect S3x256x1024 :=
  Rect.unit (s := S3x256x1024) ![j.val, 0, 512 * f.val] S1x256x512.size (inb_half3 j f)
def rOwn (f : Fin 2) : Rect S256x1024 := Rect.unit (s := S256x1024) ![0, 512 * f.val] S256x512.size (inb_own f)
def rSlab (j : Fin 3) : Rect S3x256x1024 := Rect.unit (s := S3x256x1024) ![j.val, 0, 0] S1x256x1024.size (inb_slab j)
def rW : Rect S1x256x1024 := Rect.unit (s := S1x256x1024) ![0, 0, 0] S1x256x1024.size inb_S1x256x1024_S1x256x1024_0_0_0

/-- The views the transfers name. -/
def stgV (s : Fin 2) : Memref sig .tc .vmem S64x32x128 .f32 :=
  (stage.slice (rStage s) (fun _ => rfl)).squeeze S64x32x128 squeezes_S1x64x32x128_S64x32x128
def hbmV (t : Fin 2) (b : Fin 16) : Memref sig .tc .hbm S64x32x128 .f32 :=
  ((kvHbm t).slice (Rect.unit (s := S1x1024x32x128) ![0, 64 * b.val, 0, 0] S1x64x32x128.size (inb_hbm b)) (fun _ => rfl)).squeeze S64x32x128 squeezes_S1x64x32x128_S64x32x128
def headV (off : Fin 5 → Nat) (h : ∀ a, off a + S1x1x256x8x128.size a ≤ S2x4x256x32x128.size a) : Memref sig .tc .vmem S256x8x128 .bf16 :=
  (kvS.slice (Rect.unit (s := S2x4x256x32x128) off S1x1x256x8x128.size h) (fun _ => rfl)).squeeze S256x8x128 squeezes_S1x1x256x8x128_S256x8x128
def kv8SV (t : Fin 2) (r : Fin 4) : Memref sig .tc .vmem S256x8x128 .fp8e4m3 :=
  (kv8S.slice (rKv8 t r) (fun _ => rfl)).squeeze S256x8x128 squeezes_S1x1x256x8x128_S256x8x128
def kv8RV (t : Fin 2) (r : Fin 4) : Memref sig .tc .vmem S256x8x128 .fp8e4m3 :=
  (kv8R.slice (rKv8 t r) (fun _ => rfl)).squeeze S256x8x128 squeezes_S1x1x256x8x128_S256x8x128
def fullV (t : Fin 2) (r g : Fin 4) : Memref sig .tc .vmem S256x8x128 .bf16 :=
  ((full t).slice (rFull r g) (fun _ => rfl)).squeeze S256x8x128 squeezes_S1x256x8x128_S256x8x128
def wstV : Memref sig .tc .vmem S256x1024 .f32 := (wst.slice rW (fun _ => rfl)).squeeze S256x1024 squeezes_S1x256x1024_S256x1024
def matV (mi : Fin 3) (c : Fin 4) : Memref sig .tc .hbm S256x1024 .f32 := (matH mi).slice (rRows c) (fun _ => rfl)
def halfV (off : Fin 2 → Nat) (h : ∀ a, off a + S256x512.size a ≤ S1024x1024.size a) : Memref sig .tc .vmem S256x512 .bf16 :=
  pS.slice (Rect.unit (s := S1024x1024) off S256x512.size h) (fun _ => rfl)
def rsV (j : Fin 3) (f : Fin 2) : Memref sig .tc .vmem S256x512 .bf16 :=
  (rsR.slice (rHalf3 j f) (fun _ => rfl)).squeeze S256x512 squeezes_S1x256x512_S256x512
def agOV (f : Fin 2) : Memref sig .tc .vmem S256x512 .bf16 := agO.slice (rOwn f) (fun _ => rfl)
def agV (j : Fin 3) (f : Fin 2) : Memref sig .tc .vmem S256x512 .bf16 :=
  (agR.slice (rHalf3 j f) (fun _ => rfl)).squeeze S256x512 squeezes_S1x256x512_S256x512

/-- The semaphores. -/
def semStage (s : Fin 2) : DmaSem sig := ((cc0_scratch16.slice (Rect.unit (s := S2) ![s.val] S1.size (inb_sem1 s))).squeeze S_ squeezes_S1_S_).sem
def semW : DmaSem sig := ((cc0_scratch17.slice (Rect.unit (s := S1) ![0] S1.size inb_S1_S1_0)).squeeze S_ squeezes_S1_S_).sem
def semOwn (t : Fin 2) (r : Fin 4) : DmaSem sig := ((cc0_scratch18.slice (Rect.unit (s := S2x4) ![t.val, r.val] S1x1.size (inb_sem24 t r))).squeeze S_ squeezes_S1x1_S_).sem
def sem34 (a : DmaSems sig S3x4) (j : Fin 3) (r : Fin 4) : DmaSem sig := ((a.slice (Rect.unit (s := S3x4) ![j.val, r.val] S1x1.size (inb_sem34 j r))).squeeze S_ squeezes_S1x1_S_).sem
def sem32 (a : DmaSems sig S3x2) (j : Fin 3) (f : Fin 2) : DmaSem sig := ((a.slice (Rect.unit (s := S3x2) ![j.val, f.val] S1x1.size (inb_sem32 j f))).squeeze S_ squeezes_S1x1_S_).sem
def kvSendSem (t : Fin 2) (r : Fin 4) (j : Fin 3) : DmaSem sig :=
  match t with | 0 => sem34 cc0_scratch19 j r | 1 => sem34 cc0_scratch21 j r
def kvRecvSem (t : Fin 2) (r : Fin 4) (j : Fin 3) : DmaSem sig :=
  match t with | 0 => sem34 cc0_scratch20 j r | 1 => sem34 cc0_scratch22 j r
def rsSendSem (j : Fin 3) (f : Fin 2) : DmaSem sig := sem32 cc0_scratch23 j f
def rsRecvSem (j : Fin 3) (f : Fin 2) : DmaSem sig := sem32 cc0_scratch24 j f
def agSendSem (j : Fin 3) (f : Fin 2) : DmaSem sig := sem32 cc0_scratch25 j f
def agRecvSem (j : Fin 3) (f : Fin 2) : DmaSem sig := sem32 cc0_scratch26 j f

/-! ## The words each transfer moves -/

/-- The keys or values of one device's heads are made of whole words. -/
theorem head_words (t : Fin 2) (r p : Fin 4) :
    (Rect.unit (s := S2x4x256x32x128) ![t.val, r.val, 0, 8 * p.val, 0] S1x1x256x8x128.size (inb_kvHead t r p)).WholeWords (EltTy.packing .bf16) := by
  revert t r p; decide +kernel
/-- The keys or values of a device's heads can be copied word by word. -/
theorem headV_exact (off : Fin 5 → Nat) (h) (t : Fin 2) (r p : Fin 4) (hoff : off = ![t.val, r.val, 0, 8 * p.val, 0]) :
    (headV off h).view.WordExact := by
  subst hoff
  exact ((Memref.isWhole_whole cc0_scratch0).wordExact_slice rfl _ (head_words t r p)).reshape _ _
/-- An 8-bit part is made of whole words. -/
theorem kv8_words (t : Fin 2) (r : Fin 4) : (rKv8 t r).WholeWords (EltTy.packing .fp8e4m3) := by
  revert t r; decide +kernel
/-- The 8-bit part to send can be copied word by word. -/
theorem kv8SV_exact (t : Fin 2) (r : Fin 4) : (kv8SV t r).view.WordExact :=
  ((Memref.isWhole_whole cc0_scratch1).wordExact_slice rfl _ (kv8_words t r)).reshape _ _
/-- The 8-bit part received can be copied word by word. -/
theorem kv8RV_exact (t : Fin 2) (r : Fin 4) : (kv8RV t r).view.WordExact :=
  ((Memref.isWhole_whole cc0_scratch4).wordExact_slice rfl _ (kv8_words t r)).reshape _ _
/-- A quarter of the gathered keys or values is made of whole words. -/
theorem full_words (r g : Fin 4) : (rFull r g).WholeWords (EltTy.packing .bf16) := by
  revert r g; decide +kernel
/-- A quarter of the gathered keys or values can be copied word by word. -/
theorem fullV_exact (t : Fin 2) (r g : Fin 4) : (fullV t r g).view.WordExact :=
  ((full_whole t).wordExact_slice rfl _ (full_words r g)).reshape _ _
/-- A half of a quarter of rows is made of whole words. -/
theorem half_words (p : Fin 4) (f : Fin 2) :
    (Rect.unit (s := S1024x1024) ![256 * p.val, 512 * f.val] S256x512.size (inb_half p f)).WholeWords (EltTy.packing .bf16) := by
  revert p f; decide +kernel
/-- A half of a quarter of rows can be copied word by word. -/
theorem halfV_exact (off : Fin 2 → Nat) (h) (p : Fin 4) (f : Fin 2) (hoff : off = ![256 * p.val, 512 * f.val]) :
    (halfV off h).view.WordExact := by
  subst hoff
  exact (Memref.isWhole_whole cc0_scratch12).wordExact_slice rfl _ (half_words p f)
/-- A half slab is made of whole words. -/
theorem half3_words (j : Fin 3) (f : Fin 2) : (rHalf3 j f).WholeWords (EltTy.packing .bf16) := by
  revert j f; decide +kernel
/-- A half slab received in the reduction can be copied word by word. -/
theorem rsV_exact (j : Fin 3) (f : Fin 2) : (rsV j f).view.WordExact :=
  ((Memref.isWhole_whole cc0_scratch13).wordExact_slice rfl _ (half3_words j f)).reshape _ _
/-- A half slab received in the gathering can be copied word by word. -/
theorem agV_exact (j : Fin 3) (f : Fin 2) : (agV j f).view.WordExact :=
  ((Memref.isWhole_whole cc0_scratch15).wordExact_slice rfl _ (half3_words j f)).reshape _ _
/-- A half of the reduced rows is made of whole words. -/
theorem own_words (f : Fin 2) : (rOwn f).WholeWords (EltTy.packing .bf16) := by
  revert f; decide +kernel
/-- A half of the reduced rows can be copied word by word. -/
theorem agOV_exact (f : Fin 2) : (agOV f).view.WordExact :=
  (Memref.isWhole_whole cc0_scratch14).wordExact_slice rfl _ (own_words f)

/-- One block of a class can be stored row by row, in whole words. -/
theorem kvRow_packed (t : Fin 2) (r n : Fin 4) : (rKvRow t r n).PackedRows (EltTy.packing .bf16) := by
  revert t r n; decide +kernel
/-- An 8-bit part can be stored row by row, in whole words. -/
theorem kv8_packed (t : Fin 2) (r : Fin 4) : (rKv8 t r).PackedRows (EltTy.packing .fp8e4m3) := by
  revert t r; decide +kernel
/-- A quarter of the gathered keys or values can be stored row by row, in whole words. -/
theorem full_packed (r g : Fin 4) : (rFull r g).PackedRows (EltTy.packing .bf16) := by
  revert r g; decide +kernel
/-- A quarter of rows can be stored row by row, in whole words. -/
theorem rows_packed (c : Fin 4) : (rRows c).PackedRows (EltTy.packing .bf16) := by
  revert c; decide +kernel
/-- One head's block of rows can be stored row by row, in whole words. -/
theorem blk_packed (b : Fin 16) (h : Fin 8) : (rBlk b h).PackedRows (EltTy.packing .bf16) := by
  revert b h; decide +kernel
/-- A half of the reduced rows can be stored row by row, in whole words. -/
theorem own_packed (f : Fin 2) : (rOwn f).PackedRows (EltTy.packing .bf16) := by
  revert f; decide +kernel

end Cert.KernelIdeal.Attn

end
-- ==== Proof.Body.lean ====
/- The kernel's statements at loop indices, and its body as the loops run them. -/
module

public import proofs.«01_k».proof.Proof.Struct

@[expose] public section

noncomputable section

namespace Cert.KernelIdeal.Attn

open Idealize.ShloMosaic Idealize.ShloMosaic.TcCoe
open Idealize.SL Idealize.SL.Sem
open Cert.KernelIdeal Cert.KernelIdeal.Gen

variable {F : FTy → Type} [FloatOps F]

/-! ## Transfers -/

/-- A copy inside the device. -/
def copy {s : Shape} {e : EltTy} {sp sp' : Space} (src : Memref sig .tc sp s e) (dst : Memref sig .tc sp' s e) (sm : DmaSem sig)
    (h1 : src.view.WordExact) (h2 : dst.view.WordExact) (h3 : DmaTarget.HostLowered (nD := nD) (τ := τ) (p := .tc) sp (.dma sm) (.here dst)) (k : PUnit → K F) : K F :=
  .op (.enqueueDma src (.here dst) (.dma sm) h1 h2 ⟨Or.inl rfl, h3⟩) k

/-- A copy to device `p`. -/
def send {s : Shape} {e : EltTy} (src dst : Memref sig .tc .vmem s e) (ss rs : DmaSem sig) (p : Dev nD)
    (h1 : src.view.WordExact) (h2 : dst.view.WordExact) (k : PUnit → K F) : K F :=
  .op (.enqueueDma src (.remote (Dev.tc p) dst (.dma ss)) (.dma rs) h1 h2 ⟨⟨rfl, Or.inl rfl⟩, trivial⟩) k

/-- The wait for a transfer of `dst`'s bytes. -/
def await {s : Shape} {e : EltTy} {sp sp' : Space} (src : Memref sig .tc sp s e) (dst : Memref sig .tc sp' s e) (sm : DmaSem sig)
    (h1 : src.view.WordExact) (h2 : dst.view.WordExact) (k : PUnit → K F) : K F :=
  .op (.waitDma2 sm src dst h1 h2) k

/-! ## The pure steps -/

def castRow (v : Vec F S1x64x32x128 .f32) : FVec F S1x1x64x32x128 .bf16 :=
  shapeCast S1x1x64x32x128 (truncf .bf16 (shapeCast S64x32x128 v shapeCasts_S1x64x32x128_S64x32x128) bitsLt_bf16_f32) shapeCasts_S64x32x128_S1x1x64x32x128
def cast8 (v : Vec F S1x1x256x8x128 .bf16) : FVec F S1x1x256x8x128 .fp8e4m3 :=
  shapeCast S1x1x256x8x128 (truncf .fp8e4m3 (shapeCast S256x8x128 v shapeCasts_S1x1x256x8x128_S256x8x128) bitsLt_fp8e4m3_bf16) shapeCasts_S256x8x128_S1x1x256x8x128
def uncast8 (v : Vec F S1x1x256x8x128 .fp8e4m3) : FVec F S1x256x8x128 .bf16 :=
  shapeCast S1x256x8x128 (extf .bf16 (shapeCast S256x8x128 v shapeCasts_S1x1x256x8x128_S256x8x128) bitsLt_fp8e4m3_bf16) shapeCasts_S256x8x128_S1x256x8x128
def castW (v : Vec F S1x256x1024 .f32) : FVec F S256x1024 .bf16 :=
  shapeCast S256x1024 (truncf .bf16 (shapeCast S256x1024 v shapeCasts_S1x256x1024_S256x1024) bitsLt_bf16_f32) shapeCasts_S256x1024_S256x1024
/-- A block of rows times a whole matrix. -/
def dotRows (a : Vec F S256x1024 .bf16) (b : Vec F S1024x1024 .bf16) : FVec F S256x1024 .f32 :=
  matmul dot_S256x1024_S1024x1024_S256x1024_1_0_0_1_n_n none a b (constant S256x1024 .f32 0x00000000#32)
def qRows (a : Vec F S256x1024 .bf16) (b : Vec F S1024x1024 .bf16) : FVec F S256x1024 .bf16 :=
  shapeCast S256x1024 (truncf .bf16 (mulf (dotRows a b) (broadcast S256x1024 (Scalar.ofBits .f32 0x3DB504F3#32 : F .f32))) bitsLt_bf16_f32) shapeCasts_S256x1024_S256x1024
def pRows (a : Vec F S256x1024 .bf16) (b : Vec F S1024x1024 .bf16) : FVec F S256x1024 .bf16 :=
  shapeCast S256x1024 (truncf .bf16 (dotRows a b) bitsLt_bf16_f32) shapeCasts_S256x1024_S256x1024
/-- The attention of one class of 256 queries to one class of 1024 keys, one head. -/
def scores (q0 q1 q2 q3 : Vec F S64x128 .bf16) (kk : Vec F S1x1024x1x128 .bf16) : FVec F S256x1024 .f32 :=
  matmul dot_S256x128_S1024x128_S256x1024_1_1_0_0_n_n none
    (concatenate S256x128 0 [⟨S64x128, q0⟩, ⟨S64x128, q1⟩, ⟨S64x128, q2⟩, ⟨S64x128, q3⟩] concatenates_S64x128_S64x128_S64x128_S64x128_S256x128_d0 : FVec F S256x128 .bf16)
    (shapeCast S1024x128 kk shapeCasts_S1x1024x1x128_S1024x128) (constant S256x1024 .f32 0x00000000#32)
def weights (s : FVec F S256x1024 .f32) : FVec F S256x1024 .f32 :=
  exp (subf s (broadcastTo S256x1024 (shapeCast S256x1 (multiReduction .maximumf [1] S256 s 0xFF800000#32 reduces_S256x1024_S256 (.inl rfl) rfl : FVec F S256 .f32) shapeCasts_S256_S256x1) broadcasts_S256x1_S256x1024))
def probs (w : FVec F S256x1024 .f32) : FVec F S256x1024 .bf16 :=
  truncf .bf16 (mulf w (broadcastTo S256x1024 (divf (broadcast S256x1 (Scalar.ofBits .f32 0x3F800000#32 : F .f32))
    (shapeCast S256x1 (multiReduction .add [1] S256 w 0x00000000#32 reduces_S256x1024_S256 (.inl rfl) rfl : FVec F S256 .f32) shapeCasts_S256_S256x1)) broadcasts_S256x1_S256x1024)) bitsLt_bf16_f32
def attend (w : FVec F S256x1024 .f32) (vv : Vec F S1x1024x1x128 .bf16) : FVec F S256x128 .bf16 :=
  truncf .bf16 (matmul dot_S256x1024_S1024x128_S256x128_1_0_0_1_n_n none (probs w)
    (shapeCast S1024x128 vv shapeCasts_S1x1024x1x128_S1024x128) (constant S256x128 .f32 0x00000000#32)) bitsLt_bf16_f32
/-- The blocks of a head's output are in bounds. -/
theorem slices_blk (m : Fin 4) : S256x128.Slices ![64 * m.val, 0] S64x128 := by
  fin_cases m <;> first | exact slices_S256x128_o0_0_S64x128 | exact slices_S256x128_o64_0_S64x128 | exact slices_S256x128_o128_0_S64x128 | exact slices_S256x128_o192_0_S64x128
def blkOf (c : FVec F S256x128 .bf16) (m : Fin 4) : FVec F S64x128 .bf16 :=
  shapeCast S64x128 (extractStridedSlice S64x128 ![64 * m.val, 0] c (slices_blk m)) shapeCasts_S64x128_S64x128
/-- The halves of rows are in bounds. -/
theorem slices_half (f : Fin 2) : S256x1024.Slices ![0, 512 * f.val] S256x512 := by
  fin_cases f <;> first | exact slices_S256x1024_o0_0_S256x512 | exact slices_S256x1024_o0_512_S256x512
def addHalf (acc : FVec F S256x512 .f32) (v : Vec F S1x256x512 .bf16) : FVec F S256x512 .f32 :=
  addf acc (extf .f32 (shapeCast S256x512 v shapeCasts_S1x256x512_S256x512) bitsLt_bf16_f32)
def accHalf (acc : FVec F S256x1024 .f32) (f : Fin 2) (v0 v1 v2 : Vec F S1x256x512 .bf16) : FVec F S256x512 .f32 :=
  addHalf (addHalf (addHalf (extractStridedSlice S256x512 ![0, 512 * f.val] acc (slices_half f)) v0) v1) v2
def castHalf (v : FVec F S256x512 .f32) : FVec F S256x512 .bf16 :=
  shapeCast S256x512 (truncf .bf16 v bitsLt_bf16_f32) shapeCasts_S256x512_S256x512
def ownRows (a b : FVec F S256x512 .f32) : FVec F S1x256x1024 .f32 :=
  shapeCast S1x256x1024 (concatenate S256x1024 1 [⟨S256x512, a⟩, ⟨S256x512, b⟩] concatenates_S256x512_S256x512_S256x1024_d1 : FVec F S256x1024 .f32) shapeCasts_S256x1024_S1x256x1024
def otherRows (v : Vec F S1x256x1024 .bf16) : FVec F S1x256x1024 .f32 :=
  shapeCast S1x256x1024 (extf .f32 (shapeCast S256x1024 v shapeCasts_S1x256x1024_S256x1024) bitsLt_bf16_f32) shapeCasts_S256x1024_S1x256x1024

/-! ## Loads and stores -/

def ld {s : Shape} {e : EltTy} (m : Memref sig .tc .vmem s e) (r : Rect s) (h : m.view.LoadsAt r.toLoadRect) (k : Vec F r.shape e → K F) : K F :=
  .op (.load m r.toLoadRect h) k
def st {s : Shape} {e : EltTy} (m : Memref sig .tc .vmem s e) (r : Rect s) (w : Vec F r.shape e) (h : (m.access r).Stores Finset.univ) (k : PUnit → K F) : K F :=
  .op (.store m r w Finset.univ h (.inl rfl)) k

/-! ## The phases -/

/-- Item `i` of the staging loop: tensor, class and block. -/
def itT (i : Fin 32) : Fin 2 := ⟨i.val / 4 % 2, Nat.mod_lt _ (by decide)⟩
def itR (i : Fin 32) : Fin 4 := ⟨i.val / 8, by have := i.isLt; omega⟩
def itN (i : Fin 32) : Fin 4 := ⟨i.val % 4, Nat.mod_lt _ (by decide)⟩
def itB (i : Fin 32) : Fin 16 := ⟨4 * (i.val % 4) + i.val / 8, by have := i.isLt; omega⟩
def itS (i : Fin 32) : Fin 2 := ⟨i.val % 2, Nat.mod_lt _ (by decide)⟩

/-- A block of keys or values in an argument can be copied word by word. -/
theorem hbmV_exact (t : Fin 2) (b : Fin 16) : (hbmV t b).view.WordExact := View.wordExact_bits rfl
/-- A staging slot can be copied word by word. -/
theorem stgV_exact (s : Fin 2) : (stgV s).view.WordExact := View.wordExact_bits rfl
/-- The staged rows can be copied word by word. -/
theorem wstV_exact : (wstV).view.WordExact := View.wordExact_bits rfl
def itemStart (i : Fin 32) (k : PUnit → K F) : K F :=
  copy (hbmV (itT i) (itB i)) (stgV (itS i)) (semStage (itS i)) (hbmV_exact _ _) (stgV_exact _) trivial k
def itemWait (i : Fin 32) (k : PUnit → K F) : K F :=
  await (hbmV (itT i) (itB i)) (stgV (itS i)) (semStage (itS i)) (hbmV_exact _ _) (stgV_exact _) k
def itemStore (i : Fin 32) (k : PUnit → K F) : K F :=
  ld stage (rStage (itS i)) (View.loadsAt_vmem h_S1x64x32x128) fun v =>
  ld kvS (rKvRow (itT i) (itR i) (itN i)) (View.loadsAt_vmem h_S1x1x64x32x128) fun _ =>
  st kvS (rKvRow (itT i) (itR i) (itN i)) (castRow v) (View.stores_vmem h_S1x1x64x32x128 ((Memref.isWhole_whole cc0_scratch0).storeExact_slice rfl _ (kvRow_packed _ _ _)) (fun _ => rfl)) k

/-- The next item's copy, if there is one. -/
def nextStart (i : Fin 32) (k : PUnit → K F) : K F :=
  match i with
  | ⟨31, _⟩ => k ⟨⟩
  | ⟨n, _⟩ => if h : n + 1 < 32 then itemStart ⟨n + 1, h⟩ k else k ⟨⟩
def item (i : Fin 32) (k : PUnit → K F) : K F :=
  nextStart i fun _ => itemWait i fun _ => itemStore i k

def ownStart (t : Fin 2) (r : Fin 4) (d : Dev nD) (k : PUnit → K F) : K F :=
  copy (headV (ownOff t r d) (ownOff_inb t r d)) (fullV t r 3) (semOwn t r) (headV_exact _ _ t r d (ownOff_eq t r d)) (fullV_exact t r 3) trivial k
def ownWait (t : Fin 2) (r : Fin 4) (d : Dev nD) (k : PUnit → K F) : K F :=
  await (headV (ownOff t r d) (ownOff_inb t r d)) (fullV t r 3) (semOwn t r) (headV_exact _ _ t r d (ownOff_eq t r d)) (fullV_exact t r 3) k
def round8 (t : Fin 2) (r : Fin 4) (d : Dev nD) (k : PUnit → K F) : K F :=
  ld kvS (Rect.unit (s := S2x4x256x32x128) (midOff t r d) S1x1x256x8x128.size (midOff_inb t r d)) (View.loadsAt_vmem h_S1x1x256x8x128) fun v =>
  ld kv8S (rKv8 t r) (View.loadsAt_vmem h_S1x1x256x8x128) fun _ =>
  st kv8S (rKv8 t r) (cast8 v) (View.stores_vmem h_S1x1x256x8x128 ((Memref.isWhole_whole cc0_scratch1).storeExact_slice rfl _ (kv8_packed _ _)) (fun _ => rfl)) k

/-- Where the part from the device `j + 1` places before lands. -/
def slot (j : Fin 3) : Fin 4 := ⟨j.val, by omega⟩
def kvSend (t : Fin 2) (r : Fin 4) (j : Fin 3) (d : Dev nD) (k : PUnit → K F) : K F :=
  match j with
  | 1 => send (kv8SV t r) (kv8RV t r) (kvSendSem t r 1) (kvRecvSem t r 1) (kvDev t r 1 d) (kv8SV_exact t r) (kv8RV_exact t r) k
  | j => send (headV (sendOff t r j d) (sendOff_inb t r j d)) (fullV t r (slot j)) (kvSendSem t r j) (kvRecvSem t r j) (kvDev t r j d)
      (headV_exact _ _ t r (peer d j) (sendOff_eq t r j d)) (fullV_exact t r _) k
def kvRecv (t : Fin 2) (r : Fin 4) (j : Fin 3) (d : Dev nD) (k : PUnit → K F) : K F :=
  match j with
  | 1 => await (kv8SV t r) (kv8RV t r) (kvRecvSem t r 1) (kv8SV_exact t r) (kv8RV_exact t r) k
  | j => await (headV (sendOff t r j d) (sendOff_inb t r j d)) (fullV t r (slot j)) (kvRecvSem t r j)
      (headV_exact _ _ t r (peer d j) (sendOff_eq t r j d)) (fullV_exact t r _) k
def kvDone (t : Fin 2) (r : Fin 4) (j : Fin 3) (d : Dev nD) (k : PUnit → K F) : K F :=
  match j with
  | 1 => await (kv8RV t r) (kv8SV t r) (kvSendSem t r 1) (kv8RV_exact t r) (kv8SV_exact t r) k
  | j => await (fullV t r (slot j)) (headV (sendOff t r j d) (sendOff_inb t r j d)) (kvSendSem t r j)
      (fullV_exact t r _) (headV_exact _ _ t r (peer d j) (sendOff_eq t r j d)) k

def six (f : Fin 2 → Fin 3 → (PUnit → K F) → K F) (k : PUnit → K F) : K F :=
  f 0 0 fun _ => f 1 0 fun _ => f 0 1 fun _ => f 1 1 fun _ => f 0 2 fun _ => f 1 2 k

def group (r : Fin 4) (d : Dev nD) (k : PUnit → K F) : K F :=
  ownStart 0 r d fun _ => ownStart 1 r d fun _ => round8 0 r d fun _ => round8 1 r d fun _ =>
  six (fun t j => kvSend t r j d) k

/-- Eight items of class `r`, then its sends. -/
def it (r : Fin 4) (j : Fin 8) : Fin 32 := ⟨8 * r.val + j.val, by have := r.isLt; have := j.isLt; omega⟩
def eight (f : Fin 8 → (PUnit → K F) → K F) (k : PUnit → K F) : K F :=
  f 0 fun _ => f 1 fun _ => f 2 fun _ => f 3 fun _ => f 4 fun _ => f 5 fun _ => f 6 fun _ => f 7 k
def four (f : Fin 4 → (PUnit → K F) → K F) (k : PUnit → K F) : K F :=
  f 0 fun _ => f 1 fun _ => f 2 fun _ => f 3 k
def three (f : Fin 3 → (PUnit → K F) → K F) (k : PUnit → K F) : K F :=
  f 0 fun _ => f 1 fun _ => f 2 k
def two (f : Fin 2 → (PUnit → K F) → K F) (k : PUnit → K F) : K F :=
  f 0 fun _ => f 1 k
def class1 (d : Dev nD) (r : Fin 4) (k : PUnit → K F) : K F :=
  eight (fun j => item (it r j)) fun _ => group r d k

/-- A quarter of one of the three matrices: copied in, rounded and kept. -/
theorem matV_exact (mi : Fin 3) (c : Fin 4) : (matV mi c).view.WordExact := View.wordExact_bits rfl
def chunk (mi : Fin 3) (c : Fin 4) (k : PUnit → K F) : K F :=
  copy (matV mi c) wstV semW (matV_exact mi c) wstV_exact trivial fun _ =>
  await (matV mi c) wstV semW (matV_exact mi c) wstV_exact fun _ =>
  ld wst rW (View.loadsAt_vmem h_S1x256x1024) fun v =>
  ld (matB mi) (rRows c) (View.loadsAt_vmem h_S256x1024) fun _ =>
  st (matB mi) (rRows c) (castW v) (View.stores_vmem h_S256x1024 ((matB_whole mi).storeExact_slice rfl _ (rows_packed c)) (fun _ => rfl)) k

/-- A quarter of the queries. -/
def qChunk (c : Fin 4) (k : PUnit → K F) : K F :=
  ld (matB 0) (rRows c) (View.loadsAt_vmem h_S256x1024) fun a =>
  ld (matB 1) rAll (View.loadsAt_vmem h_S1024x1024) fun b =>
  ld qB (rRows c) (View.loadsAt_vmem h_S256x1024) fun _ =>
  st qB (rRows c) (qRows a b) (View.stores_vmem h_S256x1024 ((Memref.isWhole_whole cc0_scratch10).storeExact_slice rfl _ (rows_packed c)) (fun _ => rfl)) k

/-- The part that came in eight bits, widened into its place. -/
def widen (t : Fin 2) (r : Fin 4) (k : PUnit → K F) : K F :=
  ld kv8R (rKv8 t r) (View.loadsAt_vmem h_S1x1x256x8x128) fun v =>
  ld (full t) (rFull r 1) (View.loadsAt_vmem h_S1x256x8x128) fun _ =>
  st (full t) (rFull r 1) (uncast8 v) (View.stores_vmem h_S1x256x8x128 ((full_whole t).storeExact_slice rfl _ (full_packed r 1)) (fun _ => rfl)) k

/-- Block `m` of class `r`. -/
def blk (m r : Fin 4) : Fin 16 := ⟨4 * m.val + r.val, by have := m.isLt; have := r.isLt; omega⟩
def putBlk (r : Fin 4) (h : Fin 8) (c : FVec F S256x128 .bf16) (m : Fin 4) (k : PUnit → K F) : K F :=
  ld ctxB (rBlk (blk m r) h) (View.loadsAt_vmem h_S64x128) fun _ =>
  st ctxB (rBlk (blk m r) h) (blkOf c m) (View.stores_vmem h_S64x128 ((Memref.isWhole_whole cc0_scratch11).storeExact_slice rfl _ (blk_packed _ _)) (fun _ => rfl)) k
def head (r : Fin 4) (h : Fin 8) (k : PUnit → K F) : K F :=
  ld qB (rBlk (blk 0 r) h) (View.loadsAt_vmem h_S64x128) fun q0 =>
  ld qB (rBlk (blk 1 r) h) (View.loadsAt_vmem h_S64x128) fun q1 =>
  ld qB (rBlk (blk 2 r) h) (View.loadsAt_vmem h_S64x128) fun q2 =>
  ld qB (rBlk (blk 3 r) h) (View.loadsAt_vmem h_S64x128) fun q3 =>
  ld (full 0) (rFullHead r h) (View.loadsAt_vmem h_S1x1024x1x128) fun kk =>
  ld (full 1) (rFullHead r h) (View.loadsAt_vmem h_S1x1024x1x128) fun vv =>
  four (putBlk r h (attend (weights (scores q0 q1 q2 q3 kk)) vv)) k
def class2 (d : Dev nD) (r : Fin 4) (k : PUnit → K F) : K F :=
  two (fun t => ownWait t r d) fun _ => six (fun t j => kvRecv t r j d) fun _ =>
  two (fun t => widen t r) fun _ => eight (head r) k

/-- The partial result of the peer's rows, and its two halves on their way. -/
def rsStep (d : Dev nD) (j : Fin 3) (k : PUnit → K F) : K F :=
  ld ctxB (Rect.unit (s := S1024x1024) (rowOff j d) S256x1024.size (rowOff_inb j d)) (View.loadsAt_vmem h_S256x1024) fun a =>
  ld (matB 2) rAll (View.loadsAt_vmem h_S1024x1024) fun b =>
  ld pS (Rect.unit (s := S1024x1024) (rowOff j d) S256x1024.size (rowOff_inb j d)) (View.loadsAt_vmem h_S256x1024) fun _ =>
  st pS (Rect.unit (s := S1024x1024) (rowOff j d) S256x1024.size (rowOff_inb j d)) (pRows a b) (View.stores_vmem h_S256x1024 ((Memref.isWhole_whole cc0_scratch12).storeExact_slice rfl _ (by
    have h := rows_packed (peer d j); unfold rRows at h; simp only [rowOff_eq]; exact h)) (fun _ => rfl)) fun _ =>
  two (fun f => send (halfV (halfOff j f d) (halfOff_inb j f d)) (rsV j f) (rsSendSem j f) (rsRecvSem j f) (rsDev j f d)
    (halfV_exact _ _ (peer d j) f (halfOff_eq j f d)) (rsV_exact j f)) k
def rsRecv (d : Dev nD) (f : Fin 2) (j : Fin 3) (k : PUnit → K F) : K F :=
  await (halfV (halfOff j f d) (halfOff_inb j f d)) (rsV j f) (rsRecvSem j f) (halfV_exact _ _ (peer d j) f (halfOff_eq j f d)) (rsV_exact j f) k
def rsDone (d : Dev nD) (j : Fin 3) (f : Fin 2) (k : PUnit → K F) : K F :=
  await (rsV j f) (halfV (halfOff j f d) (halfOff_inb j f d)) (rsSendSem j f) (rsV_exact j f) (halfV_exact _ _ (peer d j) f (halfOff_eq j f d)) k

/-- The device's own part of the result, half `f`: the sum with what the others sent, sent on to each. -/
def agSend (d : Dev nD) (f : Fin 2) (j : Fin 3) (k : PUnit → K F) : K F :=
  send (agOV f) (agV j f) (agSendSem j f) (agRecvSem j f) (agDev f j d) (agOV_exact f) (agV_exact j f) k
def agRecv (f : Fin 2) (j : Fin 3) (k : PUnit → K F) : K F :=
  await (agOV f) (agV j f) (agRecvSem j f) (agOV_exact f) (agV_exact j f) k
def agDone (f : Fin 2) (j : Fin 3) (k : PUnit → K F) : K F :=
  await (agV j f) (agOV f) (agSendSem j f) (agV_exact j f) (agOV_exact f) k
def half (d : Dev nD) (acc : FVec F S256x1024 .f32) (f : Fin 2) (k : FVec F S256x512 .f32 → K F) : K F :=
  three (rsRecv d f) fun _ =>
  ld rsR (rHalf3 0 f) (View.loadsAt_vmem h_S1x256x512) fun v0 =>
  ld rsR (rHalf3 1 f) (View.loadsAt_vmem h_S1x256x512) fun v1 =>
  ld rsR (rHalf3 2 f) (View.loadsAt_vmem h_S1x256x512) fun v2 =>
  ld agO (rOwn f) (View.loadsAt_vmem h_S256x512) fun _ =>
  st agO (rOwn f) (castHalf (accHalf acc f v0 v1 v2)) (View.stores_vmem h_S256x512 ((Memref.isWhole_whole cc0_scratch14).storeExact_slice rfl _ (own_packed f)) (fun _ => rfl)) fun _ =>
  three (agSend d f) fun _ => k (accHalf acc f v0 v1 v2)

/-- The result's rows. -/
def putOwn (o : Memref sig .tc .vmem S1x1024x1024 .f32) (d : Dev nD) (w : FVec F S1x256x1024 .f32) (k : PUnit → K F) : K F :=
  ld o (Rect.unit (s := S1x1024x1024) (k0_off29 d) S1x256x1024.size (myOut_inb d)) (View.loadsAt_vmem h_S1x256x1024) fun _ =>
  st o (Rect.unit (s := S1x1024x1024) (k0_off29 d) S1x256x1024.size (myOut_inb d)) w (View.stores_vmem_bits_univ h_S1x256x1024 rfl) k
def putOther (o : Memref sig .tc .vmem S1x1024x1024 .f32) (d : Dev nD) (j : Fin 3) (j' : Fin 3) (k : PUnit → K F) : K F :=
  ld agR (rSlab j) (View.loadsAt_vmem h_S1x256x1024) fun v =>
  ld o (Rect.unit (s := S1x1024x1024) (outOff j' d) S1x256x1024.size (outOff_inb j' d)) (View.loadsAt_vmem h_S1x256x1024) fun _ =>
  st o (Rect.unit (s := S1x1024x1024) (outOff j' d) S1x256x1024.size (outOff_inb j' d)) (otherRows v) (View.stores_vmem_bits_univ h_S1x256x1024 rfl) k

/-- The handshake: a signal to each peer, and the wait for each of theirs. -/
def hello (d : Dev nD) (k : PUnit → K F) : K F :=
  .op (.semSignal (((⟨k0_dev1 d, k0_dev1_lt d⟩ : Dev nD)), Proc.tc) ((SemArray.scalar (sig.barrier 0 rfl) : Sems sig S_).sem) (1#32).toInt) fun _ =>
  .op (.semSignal (((⟨k0_dev2 d, k0_dev2_lt d⟩ : Dev nD)), Proc.tc) ((SemArray.scalar (sig.barrier 0 rfl) : Sems sig S_).sem) (1#32).toInt) fun _ =>
  .op (.semSignal (((⟨k0_dev3 d, k0_dev3_lt d⟩ : Dev nD)), Proc.tc) ((SemArray.scalar (sig.barrier 0 rfl) : Sems sig S_).sem) (1#32).toInt) fun _ =>
  .op (.semWait ((SemArray.scalar (sig.barrier 0 rfl) : Sems sig S_).sem) (3#32).toInt) k

/-- The end: every send has left. -/
def finish (d : Dev nD) (k : PUnit → K F) : K F :=
  four (fun r => six (fun t j => kvDone t r j d)) fun _ =>
  two (fun f => three (agDone f)) fun _ => three (fun j => two (rsDone d j)) k

def phase1 (d : Dev nD) (k : PUnit → K F) : K F :=
  hello d fun _ => itemStart 0 fun _ => four (class1 d) k
def phase2 (d : Dev nD) (k : PUnit → K F) : K F :=
  three (fun mi => four (chunk mi)) fun _ => four qChunk fun _ => four (class2 d) k
def phase3 (o : Memref sig .tc .vmem S1x1024x1024 .f32) (d : Dev nD) (k : PUnit → K F) : K F :=
  three (rsStep d) fun _ =>
  ld ctxB (Rect.unit (s := S1024x1024) (k0_off28 d) S256x1024.size (myRows_inb d)) (View.loadsAt_vmem h_S256x1024) fun a =>
  ld (matB 2) rAll (View.loadsAt_vmem h_S1024x1024) fun b =>
  half d (dotRows a b) 0 fun a0 => half d (dotRows a b) 1 fun a1 =>
  putOwn o d (ownRows a0 a1) fun _ =>
  two (fun f => three (agRecv f)) fun _ =>
  putOther o d 0 2 fun _ => putOther o d 1 1 fun _ => putOther o d 2 0 fun _ => finish d k

/-- The body. -/
def body (o : Memref sig .tc .vmem S1x1024x1024 .f32) : K F :=
  .op .deviceId fun d => phase1 d fun _ => phase2 d fun _ => phase3 o d .ret

end Cert.KernelIdeal.Attn

end
-- ==== Proof.Base.lean ====
/- What a device holds of a buffer, in the coordinates of the memref that names it, and the rule of each load, store and
   local copy over it. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Gen

variable {F : FTy → Type} [FloatOps F]

/-! ## The resource algebra: the pipeline's copy, the mesh's cells (duties named by `Fin 3`), the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The mesh's copy of the rounds library. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local transfers' counters. -/
abbrev EC : UEmb Counters (MT nD τ sig Unit (Elt F) ℕ UU ℕ) := countersEmb

abbrev 𝒱₀ : Variants := Variants.none

/-- A program's weakest precondition on device `c`'s core. -/
abbrev WP (c : Dev nD) (k : K F) (Q : PUnit → sProp (MT nD τ sig Unit (Elt F) ℕ UU ℕ)) : sProp (MT nD τ sig Unit (Elt F) ℕ UU ℕ) :=
  wp frame (wpE (defs₀ (F := F)) 𝒱₀ (c : Thread nD τ) none) Set.univ k Q

/-! ## What a device holds -/

section Held
variable {s : Shape} {e : EltTy} {sp : Space}

/-- Device `c` holds share `q` of `m`'s elements `S`; those of `T` hold `f`. -/
def Hd (c : Dev nD) (m : Memref sig .tc sp s e) (q : PosShare TreeShare) (S T : Finset s.Idx) (f : s.Idx → Elt F e) : sProp 𝕄 :=
  iprop(∃ g : Buf (Elt F) (m.view.loc (c : Thread nD τ)), ⌜∀ i ∈ T, m.view.read (Elt F) g i = f i⌝ ∗ (m.view.loc (c : Thread nD τ) ↦[m.view.setOn S]{q} g))

/-- The elements `S` at `f`. -/
abbrev At (c : Dev nD) (m : Memref sig .tc sp s e) (q : PosShare TreeShare) (S : Finset s.Idx) (f : s.Idx → Elt F e) : sProp 𝕄 := Hd c m q S S f
/-- The elements `S` at anything. -/
def Jk (c : Dev nD) (m : Memref sig .tc sp s e) (S : Finset s.Idx) : sProp (MT nD τ sig Unit (Elt F) ℕ UU ℕ) :=
  iprop(∃ g : Buf (Elt F) (m.view.loc (c : Thread nD τ)), (m.view.loc (c : Thread nD τ) ↦[m.view.setOn S]{fullShare} g))

instance Hd_storable (c : Dev nD) (m : Memref sig .tc sp s e) (q : PosShare TreeShare) (S T : Finset s.Idx) (f : s.Idx → Elt F e) :
    BI.Storable (upEmb : UEmb _ 𝕄) (Hd c m q S T f) := by unfold Hd; infer_instance
instance Jk_storable (c : Dev nD) (m : Memref sig .tc sp s e) (S : Finset s.Idx) :
    BI.Storable (upEmb : UEmb _ 𝕄) (Jk (F := F) c m S) := by unfold Jk; infer_instance

variable {c : Dev nD} {m : Memref sig .tc sp s e} {q : PosShare TreeShare} {S T : Finset s.Idx} {f : s.Idx → Elt F e}

/-- Less need be known. -/
theorem Hd_weaken {T' : Finset s.Idx} {f' : s.Idx → Elt F e} (h : ∀ i ∈ T', i ∈ T ∧ f i = f' i) : Hd c m q S T f ⊢ Hd c m q S T' f' := by
  unfold Hd
  iintro ⟨%g, %hg, H⟩
  iexists g
  isplitr
  · ipureintro; exact fun i hi => (hg i (h i hi).1).trans (h i hi).2
  iexact H

/-- A buffer of partly known contents is one of unknown contents. -/
theorem Hd_junk : Hd c m fullShare S T f ⊢ Jk c m S := by
  unfold Hd Jk
  iintro ⟨%g, %hg, H⟩
  iexists g; iexact H

/-- A buffer of unknown contents is one of which nothing is known. -/
theorem Jk_Hd : Jk c m S ⊢ Hd c m fullShare S ∅ f := by
  unfold Hd Jk
  iintro ⟨%g, H⟩
  iexists g
  isplitr
  · ipureintro; exact fun i hi => absurd hi (Finset.notMem_empty i)
  iexact H

/-- A buffer whose contents read as given on a part is one of partly known contents. -/
theorem Hd_intro (g : Buf (Elt F) (m.view.loc (c : Thread nD τ))) (h : ∀ i ∈ T, m.view.read (Elt F) g i = f i) :
    (m.view.loc (c : Thread nD τ) ↦[m.view.setOn S]{q} g : sProp 𝕄) ⊢ Hd c m q S T f := by
  unfold Hd
  iintro H
  iexists g
  isplitr
  · ipureintro; exact h
  iexact H

/-- A buffer held is one of unknown contents. -/
theorem Jk_intro (g : Buf (Elt F) (m.view.loc (c : Thread nD τ))) :
    (m.view.loc (c : Thread nD τ) ↦[m.view.setOn S]{fullShare} g : sProp 𝕄) ⊢ Jk c m S := by
  unfold Jk
  iintro H
  iexists g; iexact H

/-- The parts of the elements by a key are disjoint and cover them. -/
theorem setOn_fiber {α : Type} [Fintype α] [DecidableEq α] (m : Memref sig .tc sp s e) (S : Finset s.Idx) (κ : s.Idx → α) :
    m.view.setOn S = Finset.univ.biUnion fun a => m.view.setOn (S.filter (κ · = a)) := by
  ext i; simp only [View.setOn, Finset.mem_map, Finset.mem_biUnion, Finset.mem_univ, true_and, Finset.mem_filter]
  constructor
  · rintro ⟨x, hx, rfl⟩; exact ⟨κ x, x, ⟨hx, rfl⟩, rfl⟩
  · rintro ⟨a, x, ⟨hx, -⟩, rfl⟩; exact ⟨x, hx, rfl⟩
/-- The fibres of a map are disjoint. -/
theorem disjoint_fiber {α : Type} [Fintype α] [DecidableEq α] (m : Memref sig .tc sp s e) (S : Finset s.Idx) (κ : s.Idx → α) :
    ∀ a ∈ (Finset.univ : Finset α), ∀ b ∈ (Finset.univ : Finset α), a ≠ b →
      Disjoint (m.view.setOn (S.filter (κ · = a))) (m.view.setOn (S.filter (κ · = b))) := by
  intro a _ b _ hab
  rw [View.setOn, View.setOn, Finset.disjoint_map]
  exact Finset.disjoint_left.mpr fun x hx hy => hab ((Finset.mem_filter.mp hx).2.symm.trans (Finset.mem_filter.mp hy).2)

/-- The parts of the elements by a key, contents known. -/
theorem At_fiber {α : Type} [Fintype α] [DecidableEq α] (κ : s.Idx → α) :
    At c m q S f ⊢ bigSep Finset.univ fun a => At c m q (S.filter (κ · = a)) f := by
  have h : ∀ g : Buf (Elt F) (m.view.loc (c : Thread nD τ)), (∀ i ∈ S, m.view.read (Elt F) g i = f i) →
      ((m.view.loc (c : Thread nD τ) ↦[m.view.setOn S]{q} g : sProp 𝕄) ⊢ bigSep Finset.univ fun a => At c m q (S.filter (κ · = a)) f) := by
    intro g hg
    rw [setOn_fiber m S κ, pointsTo_biUnion _ _ (disjoint_fiber m S κ)]
    exact bigSep_mono fun a _ => Hd_intro g fun i hi => hg i (Finset.mem_filter.mp hi).1
  unfold At at *
  conv_lhs => unfold Hd
  iintro ⟨%g, %hg, H⟩
  iapply (h g hg); iexact H

/-- Unknown contents split over the fibres of a map. -/
theorem Jk_fiber {α : Type} [Fintype α] [DecidableEq α] (κ : s.Idx → α) :
    (Jk c m S : sProp 𝕄) ⊢ bigSep Finset.univ fun a => Jk c m (S.filter (κ · = a)) := by
  have h : ∀ g : Buf (Elt F) (m.view.loc (c : Thread nD τ)),
      ((m.view.loc (c : Thread nD τ) ↦[m.view.setOn S]{fullShare} g : sProp 𝕄) ⊢ bigSep Finset.univ fun a => Jk c m (S.filter (κ · = a))) := by
    intro g
    rw [setOn_fiber m S κ, pointsTo_biUnion _ _ (disjoint_fiber m S κ)]
    exact bigSep_mono fun a _ => Jk_intro g
  conv_lhs => unfold Jk
  iintro ⟨%g, H⟩
  iapply (h g); iexact H

/-- and together again. -/
theorem At_join {α : Type} [Fintype α] [DecidableEq α] (κ : s.Idx → α) :
    (bigSep Finset.univ fun a => At c m q (S.filter (κ · = a)) f) ⊢ At c m q S f := by
  have h1 : (bigSep Finset.univ fun a => At c m q (S.filter (κ · = a)) f)
      ⊢ iprop(∃ fs : α → Buf (Elt F) (m.view.loc (c : Thread nD τ)), bigSep Finset.univ fun a =>
        iprop(⌜∀ i ∈ S.filter (κ · = a), m.view.read (Elt F) (fs a) i = f i⌝ ∗ (m.view.loc (c : Thread nD τ) ↦[m.view.setOn (S.filter (κ · = a))]{q} fs a))) := by
    unfold At Hd
    exact BI.bigSep_exists_pi Finset.univ _
  have h2 : ∀ fs : α → Buf (Elt F) (m.view.loc (c : Thread nD τ)), (∀ a ∈ (Finset.univ : Finset α), ∀ i ∈ S.filter (κ · = a), m.view.read (Elt F) (fs a) i = f i) →
      ((bigSep Finset.univ fun a => (m.view.loc (c : Thread nD τ) ↦[m.view.setOn (S.filter (κ · = a))]{q} fs a : sProp 𝕄)) ⊢ At c m q S f) := by
    intro fs hfs
    refine (pointsTo_biUnion_join _ _ fs (fun i => Classical.choice inferInstance) (disjoint_fiber m S κ)).trans ?_
    rw [← setOn_fiber m S κ]
    iintro ⟨%g, %hg, H⟩
    have hr : ∀ i ∈ S, m.view.read (Elt F) g i = f i := by
      intro i hi
      have := hg (κ i) (Finset.mem_univ _) (m.view.emb i) (m.view.mem_setOn.mpr (Finset.mem_filter.mpr ⟨hi, rfl⟩))
      rw [View.read_apply, this, ← View.read_apply]
      exact hfs (κ i) (Finset.mem_univ _) i (Finset.mem_filter.mpr ⟨hi, rfl⟩)
    iapply (Hd_intro g hr); iexact H
  refine h1.trans ?_
  iintro ⟨%fs, H⟩
  ihave H2 := (BI.bigSep_pure_sep Finset.univ _ _) $$ H
  icases H2 with ⟨%hfs, H2⟩
  iapply (h2 fs hfs); iexact H2

/-- Unknown contents over the fibres of a map are put together again. -/
theorem Jk_join {α : Type} [Fintype α] [DecidableEq α] (κ : s.Idx → α) :
    (bigSep Finset.univ fun a => Jk c m (S.filter (κ · = a))) ⊢ (Jk c m S : sProp 𝕄) := by
  have h1 : (bigSep Finset.univ fun a => (Jk c m (S.filter (κ · = a)) : sProp 𝕄))
      ⊢ iprop(∃ fs : α → Buf (Elt F) (m.view.loc (c : Thread nD τ)), bigSep Finset.univ fun a =>
        iprop((m.view.loc (c : Thread nD τ) ↦[m.view.setOn (S.filter (κ · = a))]{fullShare} fs a))) := by
    unfold Jk
    exact BI.bigSep_exists_pi Finset.univ _
  have h2 : ∀ fs : α → Buf (Elt F) (m.view.loc (c : Thread nD τ)),
      ((bigSep Finset.univ fun a => (m.view.loc (c : Thread nD τ) ↦[m.view.setOn (S.filter (κ · = a))]{fullShare} fs a : sProp 𝕄)) ⊢ Jk c m S) := by
    intro fs
    refine (pointsTo_biUnion_join _ _ fs (fun i => Classical.choice inferInstance) (disjoint_fiber m S κ)).trans ?_
    rw [← setOn_fiber m S κ]
    iintro ⟨%g, %hg, H⟩
    iapply (Jk_intro g); iexact H
  refine h1.trans ?_
  iintro ⟨%fs, H⟩
  iapply (h2 fs); iexact H

/-! ## Loads, stores -/

variable {sv : Shape} {ev : EltTy} {mv : Memref sig .tc .vmem sv ev} {Sv Tv : Finset sv.Idx} {fv : sv.Idx → Elt F ev} {Q : PUnit → sProp (MT nD τ sig Unit (Elt F) ℕ UU ℕ)}

/-- A load of elements whose contents are known. -/
theorem wp_ld (r : Rect sv) {h : mv.view.LoadsAt r.toLoadRect} {k : Vec F r.shape ev → K F} (hS : r.set ⊆ Sv) (hT : r.set ⊆ Tv) :
    Hd c mv q Sv Tv fv ⊢ iprop((Hd c mv q Sv Tv fv -∗ WP c (k fun j => fv (r.emb j)) Q) -∗ WP c (ld mv r h k) Q) := by
  unfold ld
  conv_lhs => unfold Hd
  iintro ⟨%g, %hg, H⟩ Hk
  iapply (wp_load 𝒱₀ (c : Thread nD τ) none Set.univ (m := mv) (r := r.toLoadRect) (hl := h) (S := mv.view.setOn Sv) (q := q) (f := g)
    (Finset.map_subset_map.mpr hS)) $$ H
  iintro H
  have e : mv.view.readAt (Elt F) r.toLoadRect g = fun j => fv (r.emb j) := funext fun j => hg _ (hT (r.toLoadRect.idx_mem j))
  rw [e]
  iapply Hk
  iapply (Hd_intro g hg); iexact H

/-- A load of anything. -/
theorem wp_ldj (r : Rect sv) {h : mv.view.LoadsAt r.toLoadRect} {k : Vec F r.shape ev → K F} (hS : r.set ⊆ Sv) :
    Hd c mv q Sv Tv fv ⊢ iprop((∀ v, Hd c mv q Sv Tv fv -∗ WP c (k v) Q) -∗ WP c (ld mv r h k) Q) := by
  unfold ld
  conv_lhs => unfold Hd
  iintro ⟨%g, %hg, H⟩ Hk
  iapply (wp_load 𝒱₀ (c : Thread nD τ) none Set.univ (m := mv) (r := r.toLoadRect) (hl := h) (S := mv.view.setOn Sv) (q := q) (f := g)
    (Finset.map_subset_map.mpr hS)) $$ H
  iintro H
  iapply Hk
  iapply (Hd_intro g hg); iexact H

/-- A store: the rectangle's elements are now known too. -/
theorem wp_st (r : Rect sv) {w : Vec F r.shape ev} {h : (mv.access r).Stores Finset.univ} {k : PUnit → K F} {Tv' : Finset sv.Idx}
    (hS : r.set ⊆ Sv) (hw : ∀ j, w j = fv (r.emb j)) (hT : ∀ i ∈ Tv', i ∈ r.set ∨ i ∈ Tv) :
    Hd c mv fullShare Sv Tv fv ⊢ iprop((Hd c mv fullShare Sv Tv' fv -∗ WP c (k ⟨⟩) Q) -∗ WP c (st mv r w h k) Q) := by
  unfold st
  conv_lhs => unfold Hd
  iintro ⟨%g, %hg, H⟩ Hk
  iapply (wp_store 𝒱₀ (c : Thread nD τ) none Set.univ (m := mv) (r := r) (w := w) (Mk := Finset.univ) (S := mv.view.setOn Sv) (f := g)
    (by rw [View.setOn_univ]; exact (View.set_slice mv.view r).trans_subset (Finset.map_subset_map.mpr hS))) $$ H
  iintro H
  iapply Hk
  have hi : ∀ i ∈ Tv', mv.view.read (Elt F) ((mv.access r).write (Elt F) g w Finset.univ) i = fv i := by
    intro i hi
    by_cases hr : i ∈ Finset.univ.map r.emb
    · obtain ⟨j, -, rfl⟩ := Finset.mem_map.mp hr
      exact (View.read_slice_write_emb (v := mv.view) r g w (Finset.mem_univ j)).trans (hw j)
    · exact (View.read_slice_write_of_not_mem (v := mv.view) r g w Finset.univ hr).trans (hg i ((hT i hi).resolve_left fun h' => hr (by rw [Rect.map_emb_univ]; exact h')))
  iapply (Hd_intro (m := mv) (S := Sv) _ hi); iexact H

/-! ## Views -/

/-- A rectangle of `m` as a memref of its own; -/
theorem At_slice (r : Rect s) (hr : ∀ a, r.stride a = 1) (f : s.Idx → Elt F e) :
    At c m q r.set f = At c (m.slice r hr) q Finset.univ (fun j => f (r.emb j)) := by
  unfold At Hd
  refine congrArg _ (funext fun g => ?_)
  refine congrArg₂ _ (congrArg _ (propext ⟨fun h j _ => h _ (r.toLoadRect.idx_mem j), fun h i hi => ?_⟩)) ?_
  · obtain ⟨j, -, rfl⟩ := Finset.mem_map.mp ((Rect.map_emb_univ r).symm ▸ hi)
    exact h j (Finset.mem_univ _)
  · rw [View.setOn_univ]; rw [show (m.slice r hr).view.set = m.view.setOn r.set from View.set_slice m.view r]
/-- Unknown contents of a rectangle are those of its slice. -/
theorem Jk_slice (r : Rect s) (hr : ∀ a, r.stride a = 1) : (Jk c m r.set : sProp 𝕄) = Jk c (m.slice r hr) Finset.univ := by
  unfold Jk
  refine congrArg _ (funext fun g => ?_)
  rw [View.setOn_univ]; rw [show (m.slice r hr).view.set = m.view.setOn r.set from View.set_slice m.view r]

/-- and with axes of size one dropped. -/
theorem At_squeeze (s' : Shape) (hq : s.Squeezes s') (f : s.Idx → Elt F e) :
    At c m q Finset.univ f = At c (m.squeeze s' hq) q Finset.univ (fun j => f (Shape.reshapeEquiv hq.numel_eq j)) := by
  unfold At Hd
  refine congrArg _ (funext fun g => ?_)
  refine congrArg₂ _ (congrArg _ (propext ⟨fun h j _ => h _ (Finset.mem_univ _), fun h i _ => ?_⟩)) ?_
  · have := h ((Shape.reshapeEquiv hq.numel_eq).symm i) (Finset.mem_univ _)
    have e1 : (m.squeeze s' hq).view.read (Elt F) g ((Shape.reshapeEquiv hq.numel_eq).symm i)
      = m.view.read (Elt F) g (Shape.reshapeEquiv hq.numel_eq ((Shape.reshapeEquiv hq.numel_eq).symm i)) := rfl
    have e2 := e1.symm.trans this
    dsimp only at e2
    rwa [Equiv.apply_symm_apply] at e2
  · rw [View.setOn_univ, View.setOn_univ]; rw [show (m.squeeze s' hq).view.set = m.view.set from View.set_reshape m.view hq.numel_eq]
/-- Unknown contents do not change when axes of one are dropped. -/
theorem Jk_squeeze (s' : Shape) (hq : s.Squeezes s') : (Jk c m Finset.univ : sProp 𝕄) = Jk c (m.squeeze s' hq) Finset.univ := by
  unfold Jk
  refine congrArg _ (funext fun g => ?_)
  rw [View.setOn_univ, View.setOn_univ]; rw [show (m.squeeze s' hq).view.set = m.view.set from View.set_reshape m.view hq.numel_eq]

/-! ## Local copies -/

variable {spd : Space} {src : Memref sig .tc sp s e} {dst : Memref sig .tc spd s e} {sm : DmaSem sig}

/-- A copy of `f` under way: at its end the destination holds `f`, and the source is back. -/
def Fl (c : Dev nD) (src : Memref sig .tc sp s e) (dst : Memref sig .tc spd s e) (sm : DmaSem sig) (f : s.Idx → Elt F e) : sProp 𝕄 :=
  iprop(∃ D : sProp 𝕄, ⌜D ⊢ iprop(At c dst fullShare Finset.univ f ∗ At c src fullShare Finset.univ f)⌝
    ∗ Flight EC (c : Thread nD τ) (.dma sm) () dst.view.dmaCredit D)

/-- The start of a local copy. -/
theorem wp_copy {h1 : src.view.WordExact} {h2 : dst.view.WordExact} {h3 : DmaTarget.HostLowered (nD := nD) (τ := τ) (p := .tc) sp (.dma sm) (.here dst)}
    {k : PUnit → K F} (f : s.Idx → Elt F e) (h0 : 0 < s.numel) :
    iprop(At c src fullShare Finset.univ f ∗ Jk c dst Finset.univ ∗ semVal ((c : Thread nD τ), .dma sm) 0)
      ⊢ iprop((Fl c src dst sm f -∗ WP c (k ⟨⟩) Q) -∗ WP c (copy src dst sm h1 h2 h3 k) Q) := by
  conv_lhs => unfold At Hd Jk
  iintro ⟨⟨%g, %hg, Hs⟩, ⟨%gd, Hd⟩, Hv⟩ Hk
  unfold copy
  iapply (wp_dmaLocal EC 𝒱₀ (c : Thread nD τ) none (src := src) (dst := dst) (q := fullShare) (fs := g) (fd := gd) (Sd := dst.view.set) () dst.view.dmaCredit rfl
    (View.dmaCredit_pos _ h0) (Finset.Subset.refl _)) $$ [Hs Hd Hv]
  · isplitl [Hs]; · iexact Hs
    isplitl [Hd]; · iexact Hd
    iexact Hv
  iintro H
  iapply Hk
  unfold Fl
  iexists _
  isplitr [H]
  rotate_left
  · iexact H
  · ipureintro
    refine BIClass.sep_mono (Hd_intro (m := dst) (S := Finset.univ) _ fun i _ => ?_) (Hd_intro (m := src) (S := Finset.univ) g hg)
    exact (congrFun (View.read_write_univ (v := dst.view) gd _) i).trans (hg i (Finset.mem_univ i))

/-- The wait for a local copy. -/
theorem wp_await {src' : Memref sig .tc sp s e} {h1 : src'.view.WordExact} {h2 : dst.view.WordExact} {k : PUnit → K F} {f : s.Idx → Elt F e}
    {O : CellTallies nD τ sig Unit} {W : Waits sig Unit} :
    iprop(Fl c src dst sm f ∗ owes (c : Thread nD τ) O W ∗ MayWait (c : Thread nD τ) (.dma sm) () O)
      ⊢ iprop(((At c dst fullShare Finset.univ f ∗ At c src fullShare Finset.univ f ∗ semVal ((c : Thread nD τ), .dma sm) 0 ∗ owes (c : Thread nD τ) O (insert (SemLoc.dma sm, ()) W))
          -∗ WP c (k ⟨⟩) Q) -∗ WP c (await src' dst sm h1 h2 k) Q) := by
  conv_lhs => unfold Fl
  iintro ⟨⟨%D, %hD, HF⟩, HO, HM⟩ Hk
  unfold await
  iapply (wp_waitLocalO EC 𝒱₀ (c : Thread nD τ) none () rfl) $$ [HF HO HM]
  · isplitl [HF]; · iexact HF
    isplitl [HO] <;> iassumption
  iintro ⟨HD, Hv, HO⟩
  iapply Hk
  ihave HD2 := hD $$ HD
  icases HD2 with ⟨H1, H2⟩
  isplitl [H1]; · iexact H1
  isplitl [H2]; · iexact H2
  isplitl [Hv] <;> iassumption

end Held

end Cert.KernelIdeal.Attn

end
-- ==== Proof.Val.lean ====
/- What each buffer of the kernel comes to hold, as a function of the memory at the start. -/
module

public import proofs.«01_k».proof.Proof.Base

@[expose] public section

noncomputable section

namespace Cert.KernelIdeal.Attn

open Idealize.ShloMosaic Idealize.ShloMosaic.TcCoe
open Idealize.SL Idealize.SL.Sem
open Cert.KernelIdeal Cert.KernelIdeal.Gen

variable {F : FTy → Type} [FloatOps F]

/-! ## Indices from numbers -/

/-- The index with the given coordinates, each taken into its axis. -/
def nx (s : Shape) (hs : ∀ a, 0 < s.size a) (v : Fin s.rank → Nat) : s.Idx := fun a => ⟨v a % s.size a, Nat.mod_lt _ (hs a)⟩

/-- A coordinate of the index that numbers name is the number, modulo the size. -/
theorem nx_val (s : Shape) (hs : ∀ a, 0 < s.size a) (v : Fin s.rank → Nat) (a : Fin s.rank) : (nx s hs v a).val = v a % s.size a := rfl

/-- An index is the one with its coordinates. -/
theorem eq_nx (s : Shape) (hs : ∀ a, 0 < s.size a) (v : Fin s.rank → Nat) (i : s.Idx) (h : ∀ a, (i a).val = v a) : i = nx s hs v :=
  funext fun a => Fin.ext (by rw [nx_val, ← h a, Nat.mod_eq_of_lt (i a).isLt])

/-- Device whose part lands in slot `g` of device `c`. -/
def srcDev (c : Dev nD) (g : Fin 4) : Dev nD := ⟨(c.val + 3 - g.val) % 4, Nat.mod_lt _ (by decide)⟩

/-- The device that the `j`-th peer receives from in slot `j` is the sender. -/
theorem srcDev_peer (c : Dev nD) (j : Fin 3) : srcDev (peer c j) (slot j) = c := by revert c j; decide +kernel
/-- The device received from in slot `j` has the receiver as its `j`-th peer. -/
theorem peer_srcDev (c : Dev nD) (j : Fin 3) : peer (srcDev c (slot j)) j = c := by revert c j; decide +kernel
/-- The last quarter of a device's keys is its own. -/
theorem srcDev_three (c : Dev nD) : srcDev c 3 = c := by revert c; decide +kernel

variable (m : (ℓ : Loc nD τ sig) → Buf (Elt F) ℓ)

/-! ## The arguments -/

/-- K or V on device `c`. -/
def KVA (c : Dev nD) (t : Fin 2) : S1x1024x32x128.Idx → Elt F .f32 := (kvHbm t).view.read (Elt F) (m ((kvHbm t).view.loc (c : Thread nD τ)))
/-- `x`, `Wq`, `Wo`. -/
def MATA (c : Dev nD) (mi : Fin 3) : S1024x1024.Idx → Elt F .f32 := (matH mi).view.read (Elt F) (m ((matH mi).view.loc (c : Thread nD τ)))

/-! ## The first phase -/

/-- The staging buffer with item `i` in its slot. -/
def STG (c : Dev nD) (i : Fin 32) : S2x64x32x128.Idx → Elt F .f32 := fun x =>
  KVA m c (itT i) (nx S1x1024x32x128 (by decide) ![0, 64 * (itB i).val + (x 1).val, (x 2).val, (x 3).val])
/-- K and V rounded, by class: row `64 n + a` of class `r` is row `a` of block `4 n + r`. -/
def KVS (c : Dev nD) : S2x4x256x32x128.Idx → Elt F .bf16 := fun x =>
  FloatOps.truncf (F := F) (φ := .f32) .bf16 bitsLt_bf16_f32
    (KVA m c (x 0) (nx S1x1024x32x128 (by decide) ![0, 64 * (4 * ((x 2).val / 64) + (x 1).val) + (x 2).val % 64, (x 3).val, (x 4).val]))
/-- Device `s`'s part for device `p`. -/
def kvPart (s p : Dev nD) (t : Fin 2) (r : Fin 4) : S256x8x128.Idx → Elt F .bf16 := fun x =>
  KVS m s (nx S2x4x256x32x128 (by decide) ![t.val, r.val, (x 0).val, 8 * p.val + (x 1).val, (x 2).val])
/-- The part for the device opposite, in eight bits. -/
def KV8 (c : Dev nD) : S2x4x256x8x128.Idx → Elt F .fp8e4m3 := fun x =>
  FloatOps.truncf (F := F) (φ := .bf16) .fp8e4m3 bitsLt_fp8e4m3_bf16
    (KVS m c (nx S2x4x256x32x128 (by decide) ![(x 0).val, (x 1).val, (x 2).val, 8 * (peer c 1).val + (x 3).val, (x 4).val]))
def k8Part (c : Dev nD) (t : Fin 2) (r : Fin 4) : S256x8x128.Idx → Elt F .fp8e4m3 := fun x =>
  KV8 m c (nx S2x4x256x8x128 (by decide) ![t.val, r.val, (x 0).val, (x 1).val, (x 2).val])
/-- The rounded matrices. -/
def MAT (c : Dev nD) (mi : Fin 3) : S1024x1024.Idx → Elt F .bf16 := fun x =>
  FloatOps.truncf (F := F) (φ := .f32) .bf16 bitsLt_bf16_f32 (MATA m c mi x)
/-- The buffer a quarter of a matrix is copied through. -/
def WST (c : Dev nD) (mi : Fin 3) (k : Fin 4) : S1x256x1024.Idx → Elt F .f32 := fun x =>
  MATA m c mi (nx S1024x1024 (by decide) ![256 * k.val + (x 1).val, (x 2).val])

/-! ## The second phase -/

/-- The quarter of a row index, and the row inside it. -/
def quarter (n : Nat) : Fin 4 := ⟨n / 256 % 4, Nat.mod_lt _ (by decide)⟩
def QB (c : Dev nD) : S1024x1024.Idx → Elt F .bf16 := fun x =>
  qRows (fun j => MAT m c 0 ((rRows (quarter (x 0).val)).emb j)) (fun j => MAT m c 1 (rAll.emb j))
    (nx S256x1024 (by decide) ![(x 0).val % 256, (x 1).val])
/-- Keys or values of device `c`'s heads, by class: the four devices' parts in the order they come in. -/
def FUL (c : Dev nD) (t : Fin 2) : S4x1024x8x128.Idx → Elt F .bf16 := fun x =>
  let g := quarter (x 1).val
  let v := kvPart m (srcDev c g) c t (x 0) (nx S256x8x128 (by decide) ![(x 1).val % 256, (x 2).val, (x 3).val])
  if g = 1 then FloatOps.extf (F := F) (φ := .fp8e4m3) .bf16 bitsLt_fp8e4m3_bf16 (FloatOps.truncf (F := F) (φ := .bf16) .fp8e4m3 bitsLt_fp8e4m3_bf16 v)
  else v
/-- One head's attention on one class. -/
def HEAD (c : Dev nD) (r : Fin 4) (h : Fin 8) : FVec F S256x128 .bf16 :=
  attend (weights (scores (fun j => QB m c ((rBlk (blk 0 r) h).emb j)) (fun j => QB m c ((rBlk (blk 1 r) h).emb j))
    (fun j => QB m c ((rBlk (blk 2 r) h).emb j)) (fun j => QB m c ((rBlk (blk 3 r) h).emb j)) (fun j => FUL m c 0 ((rFullHead r h).emb j))))
    (fun j => FUL m c 1 ((rFullHead r h).emb j))
def CTX (c : Dev nD) : S1024x1024.Idx → Elt F .bf16 := fun x =>
  HEAD m c ⟨(x 0).val / 64 % 4, Nat.mod_lt _ (by decide)⟩ ⟨(x 1).val / 128 % 8, Nat.mod_lt _ (by decide)⟩
    (nx S256x128 (by decide) ![64 * ((x 0).val / 256) + (x 0).val % 64, (x 1).val % 128])

/-! ## The third phase -/

/-- The partial results of every row, by quarters. -/
def PS (c : Dev nD) : S1024x1024.Idx → Elt F .bf16 := fun x =>
  pRows (fun j => CTX m c ((rRows (quarter (x 0).val)).emb j)) (fun j => MAT m c 2 (rAll.emb j))
    (nx S256x1024 (by decide) ![(x 0).val % 256, (x 1).val])
def psPart (s p : Dev nD) (f : Fin 2) : S256x512.Idx → Elt F .bf16 := fun x =>
  PS m s (nx S1024x1024 (by decide) ![256 * p.val + (x 0).val, 512 * f.val + (x 1).val])
def RSR (c : Dev nD) : S3x256x1024.Idx → Elt F .bf16 := fun x =>
  PS m (srcDev c (slot (x 0))) (nx S1024x1024 (by decide) ![256 * c.val + (x 1).val, (x 2).val])
/-- The finished half of the device's rows. -/
def ACC (c : Dev nD) (f : Fin 2) : FVec F S256x512 .f32 :=
  accHalf (dotRows (fun j => CTX m c ((rRows c).emb j)) (fun j => MAT m c 2 (rAll.emb j))) f
    (fun j => RSR m c ((rHalf3 0 f).emb j)) (fun j => RSR m c ((rHalf3 1 f).emb j)) (fun j => RSR m c ((rHalf3 2 f).emb j))
def AGO (c : Dev nD) : S256x1024.Idx → Elt F .bf16 := fun x =>
  castHalf (ACC m c ⟨(x 1).val / 512 % 2, Nat.mod_lt _ (by decide)⟩) (nx S256x512 (by decide) ![(x 0).val, (x 1).val % 512])
def agPart (s : Dev nD) (f : Fin 2) : S256x512.Idx → Elt F .bf16 := fun x =>
  AGO m s (nx S256x1024 (by decide) ![(x 0).val, 512 * f.val + (x 1).val])
def AGR (c : Dev nD) : S3x256x1024.Idx → Elt F .bf16 := fun x =>
  AGO m (srcDev c (slot (x 0))) (nx S256x1024 (by decide) ![(x 1).val, (x 2).val])
/-- The result: the device's own rows as it summed them, the others as they came in. -/
def OUT (c : Dev nD) : S1x1024x1024.Idx → Elt F .f32 := fun x =>
  if (x 1).val / 256 = c.val then ownRows (ACC m c 0) (ACC m c 1) (nx S1x256x1024 (by decide) ![0, (x 1).val % 256, (x 2).val])
  else otherRows (fun j => AGR m c ((rSlab ⟨(c.val + 3 - (x 1).val / 256) % 4 % 3, Nat.mod_lt _ (by decide)⟩).emb j))
    (nx S1x256x1024 (by decide) ![0, (x 1).val % 256, (x 2).val])

end Cert.KernelIdeal.Attn

end
-- ==== Proof.Sched.lean ====
/- The mesh's cells and their one round: who pays which cell, with what, and in which order. -/
module

public import proofs.«01_k».proof.Proof.Val
public import Idealize.ShloMosaic.Lib.Ring.Trips

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

/-! ## The channels -/

/-- What moves between two devices at one offset: a class's keys or values, half of a partial result, half of a result. -/
abbrev Base : Type := (Fin 2 × Fin 4) ⊕ (Fin 2 ⊕ Fin 2)
/-- A channel: to the peer `j` places on, its base. -/
abbrev Chan : Type := Fin 3 × Base
abbrev kvCh (t : Fin 2) (r : Fin 4) (j : Fin 3) : Chan := (j, .inl (t, r))
abbrev rsCh (j : Fin 3) (f : Fin 2) : Chan := (j, .inr (.inl f))
abbrev agCh (j : Fin 3) (f : Fin 2) : Chan := (j, .inr (.inr f))
/-- The cells of a device: the barrier, and each channel's send (`false`) and receive (`true`) cells. -/
abbrev CellIx : Type := Option (Bool × Chan)
instance : DecidableEq (Bool × Chan) := instDecidableEqProd
instance : DecidableEq CellIx := fun a b => match a, b with
  | none, none => .isTrue rfl
  | none, some _ => .isFalse nofun
  | some _, none => .isFalse nofun
  | some a, some b => decidable_of_iff (a = b) ⟨congrArg some, Option.some.inj⟩

abbrev barS : Sem sig := (SemArray.scalar (sig.barrier 0 rfl) : Sems sig S_).sem
def csem : CellIx → SemLoc sig
  | none => .reg barS
  | some (false, (j, .inl (t, r))) => .dma (kvSendSem t r j)
  | some (true, (j, .inl (t, r))) => .dma (kvRecvSem t r j)
  | some (false, (j, .inr (.inl f))) => .dma (rsSendSem j f)
  | some (true, (j, .inr (.inl f))) => .dma (rsRecvSem j f)
  | some (false, (j, .inr (.inr f))) => .dma (agSendSem j f)
  | some (true, (j, .inr (.inr f))) => .dma (agRecvSem j f)

set_option maxRecDepth 100000 in
/-- Each cell has its own semaphore. -/
theorem csem_inj : ∀ a b, csem a = csem b → a = b := by decide +kernel

open Classical in
/-- The cell a semaphore is. -/
def decode (sm : SemLoc sig) : Option CellIx := if h : ∃ x, csem x = sm then some h.choose else none
/-- The cell of a semaphore is found again. -/
theorem decode_csem (x : CellIx) : decode (csem x) = some x := by
  unfold decode
  have h : ∃ y, csem y = csem x := ⟨x, rfl⟩
  rw [dif_pos h]
  exact congrArg some (csem_inj _ _ h.choose_spec)
/-- A semaphore of no cell decodes to none. -/
theorem decode_none {sm : SemLoc sig} (h : ∀ x, csem x ≠ sm) : decode sm = none := by
  unfold decode; exact dif_neg fun ⟨x, hx⟩ => h x hx

abbrev cell (c : Dev nD) (x : CellIx) : GSem nD τ sig := ((c : Thread nD τ), csem x)
abbrev barCell (c : Dev nD) : GSem nD τ sig := cell c none
abbrev sendCell (c : Dev nD) (ch : Chan) : GSem nD τ sig := cell c (some (false, ch))
abbrev recvCell (c : Dev nD) (ch : Chan) : GSem nD τ sig := cell c (some (true, ch))

/-- What one transfer of a channel credits. -/
def NB : Chan → ℕ
  | (1, .inl (t, r)) => (kv8RV t r).view.dmaCredit
  | (j, .inl (t, r)) => (fullV t r (slot j)).view.dmaCredit
  | (j, .inr (.inl f)) => (rsV j f).view.dmaCredit
  | (j, .inr (.inr f)) => (agV j f).view.dmaCredit
/-- Every channel carries something. -/
theorem NB_pos (ch : Chan) : 0 < NB ch := by
  unfold NB; split <;> exact View.dmaCredit_pos _ (by decide)

/-! ## The payloads -/

/-- Device `c`'s landing region of a channel, at anything; -/
def dstJk (c : Dev nD) : Chan → sProp 𝕄
  | (1, .inl (t, r)) => Jk c (kv8RV t r) Finset.univ
  | (j, .inl (t, r)) => Jk c (fullV t r (slot j)) Finset.univ
  | (j, .inr (.inl f)) => Jk c (rsV j f) Finset.univ
  | (j, .inr (.inr f)) => Jk c (agV j f) Finset.univ
instance dstJk_storable (c : Dev nD) (ch : Chan) : BI.Storable (upEmb : UEmb _ 𝕄) (dstJk (F := F) c ch) := by
  unfold dstJk; split <;> infer_instance

variable (m : (ℓ : Loc nD τ sig) → Buf (Elt F) ℓ)

/-- holding what its sender sent; -/
def dstAt (c : Dev nD) : Chan → sProp 𝕄
  | (1, .inl (t, r)) => At c (kv8RV t r) fullShare Finset.univ (k8Part m (srcDev c 1) t r)
  | (j, .inl (t, r)) => At c (fullV t r (slot j)) fullShare Finset.univ (kvPart m (srcDev c (slot j)) c t r)
  | (j, .inr (.inl f)) => At c (rsV j f) fullShare Finset.univ (psPart m (srcDev c (slot j)) c f)
  | (j, .inr (.inr f)) => At c (agV j f) fullShare Finset.univ (agPart m (srcDev c (slot j)) f)
/-- and device `c`'s source of a channel. -/
def srcAt (c : Dev nD) : Chan → sProp 𝕄
  | (1, .inl (t, r)) => At c (kv8SV t r) fullShare Finset.univ (k8Part m c t r)
  | (j, .inl (t, r)) => At c (headV (sendOff t r j c) (sendOff_inb t r j c)) fullShare Finset.univ (kvPart m c (peer c j) t r)
  | (j, .inr (.inl f)) => At c (halfV (halfOff j f c) (halfOff_inb j f c)) fullShare Finset.univ (psPart m c (peer c j) f)
  | (j, .inr (.inr f)) => At c (agOV f) (shares3 fullShare j) Finset.univ (agPart m c f)
instance dstAt_storable (c : Dev nD) (ch : Chan) : BI.Storable (upEmb : UEmb _ 𝕄) (dstAt m c ch) := by
  unfold dstAt; split <;> infer_instance
instance srcAt_storable (c : Dev nD) (ch : Chan) : BI.Storable (upEmb : UEmb _ 𝕄) (srcAt m c ch) := by
  unfold srcAt; split <;> infer_instance

/-- What the peer `j` places on hands a device at the barrier: its landing regions for that device's channels to it. -/
def barPay (c : Dev nD) (j : Fin 3) : sProp 𝕄 := bigSep Finset.univ fun b : Base => dstJk (F := F) (peer c j) (j, b)
instance barPay_storable (c : Dev nD) (j : Fin 3) : BI.Storable (upEmb : UEmb _ 𝕄) (barPay (F := F) c j) := by
  unfold barPay; infer_instance

/-! ## The schedule -/

/-- One round: a barrier cell has a unit from each peer, each other cell its transfer. -/
def rd : Rounds.Schedule (GSem nD τ sig) (Fin 3) 𝕄 where
  duties g r := if r = 0 ∧ g.1.2 = .tc then
      (match decode g.2 with | some none => Finset.univ | some (some _) => {0} | none => ∅) else ∅
  unitless _ := False
  amount g _ _ := match decode g.2 with | some (some (_, ch)) => NB ch | _ => 1
  payload g _ d := match decode g.2 with
    | some none => barPay g.1.1 d
    | some (some (false, ch)) => srcAt m g.1.1 ch
    | some (some (true, ch)) => dstAt m g.1.1 ch
    | none => iprop(emp)
  amount_pos g _ _ _ := by split <;> first | exact NB_pos _ | exact Nat.one_pos

instance rd_payload_storable (g : GSem nD τ sig) (r : ℕ) (d : Fin 3) : BI.Storable (upEmb : UEmb _ 𝕄) ((rd (F := F) m).payload g r d) := by
  show BI.Storable upEmb (match decode g.2 with
    | some none => barPay g.1.1 d
    | some (some (false, ch)) => srcAt m g.1.1 ch
    | some (some (true, ch)) => dstAt m g.1.1 ch
    | none => iprop(emp))
  split <;> infer_instance

section Sched
variable (c : Dev nD) (ch : Chan) (b : Bool)

/-- The barrier is signalled once by each of the three peers. -/
theorem duties_bar : (rd (F := F) m).duties (barCell c) 0 = Finset.univ := by
  dsimp only [rd]; rw [if_pos ⟨rfl, rfl⟩, decode_csem]
/-- A channel's semaphore is signalled once. -/
theorem duties_ch : (rd (F := F) m).duties (cell c (some (b, ch))) 0 = {0} := by
  dsimp only [rd]; rw [if_pos ⟨rfl, rfl⟩, decode_csem]
/-- Nothing is signalled after the first round. -/
theorem duties_later (g : GSem nD τ sig) : ∀ r, 1 ≤ r → (rd (F := F) m).duties g r = ∅ :=
  fun r hr => if_neg fun h => by have := h.1; omega
/-- A signal to the barrier counts one. -/
theorem amount_bar (d : Fin 3) : (rd (F := F) m).amount (barCell c) 0 d = 1 := by
  show (match decode (csem none) with | some (some (_, ch)) => NB ch | _ => 1) = 1
  rw [decode_csem]
/-- A signal to a channel's semaphore counts the channel's credit. -/
theorem amount_ch (d : Fin 3) : (rd (F := F) m).amount (cell c (some (b, ch))) 0 d = NB ch := by
  show (match decode (csem (some (b, ch))) with | some (some (_, ch)) => NB ch | _ => 1) = NB ch
  rw [decode_csem]
/-- The barrier expects three. -/
theorem expect_bar : (rd (F := F) m).expect (barCell c) 0 = 3 := by
  unfold Schedule.expect Schedule.amountOf
  rw [duties_bar, Finset.sum_congr rfl fun d _ => amount_bar m c d]; rfl
/-- A channel's semaphore expects the channel's credit. -/
theorem expect_ch : (rd (F := F) m).expect (cell c (some (b, ch))) 0 = NB ch := by
  unfold Schedule.expect Schedule.amountOf; rw [duties_ch, Finset.sum_singleton, amount_ch]
/-- What a signal to the barrier brings. -/
theorem payload_bar (d : Fin 3) : (rd (F := F) m).payload (barCell c) 0 d = barPay c d := by
  dsimp only [rd]; rw [decode_csem]
/-- What a completed send brings back: its source. -/
theorem payload_send (d : Fin 3) : (rd (F := F) m).payload (sendCell c ch) 0 d = srcAt m c ch := by
  dsimp only [rd]; rw [decode_csem]
/-- What an arrival brings: the destination, filled. -/
theorem payload_recv (d : Fin 3) : (rd (F := F) m).payload (recvCell c ch) 0 d = dstAt m c ch := by
  dsimp only [rd]; rw [decode_csem]
/-- All that the barrier brings. -/
theorem rest_bar : bigSep ((rd (F := F) m).duties (barCell c) 0 \ ∅) (fun d => (rd (F := F) m).payload (barCell c) 0 d) = bigSep Finset.univ (fun j => barPay c j) := by
  rw [Finset.sdiff_empty, duties_bar]; exact congrArg _ (funext fun d => payload_bar m c d)
/-- All that a send semaphore brings. -/
theorem rest_send : bigSep ((rd (F := F) m).duties (sendCell c ch) 0 \ ∅) (fun d => (rd (F := F) m).payload (sendCell c ch) 0 d) = srcAt m c ch := by
  rw [Finset.sdiff_empty, duties_ch, bigSep_singleton, payload_send]
/-- All that a receive semaphore brings. -/
theorem rest_recv : bigSep ((rd (F := F) m).duties (recvCell c ch) 0 \ ∅) (fun d => (rd (F := F) m).payload (recvCell c ch) 0 d) = dstAt m c ch := by
  rw [Finset.sdiff_empty, duties_ch, bigSep_singleton, payload_recv]
end Sched

/-! ## What each device owes, and the levels -/

/-- The place of a channel's send among the device's sends. -/
def ord : Chan → ℕ
  | (j, .inl (t, r)) => 6 * r.val + 2 * j.val + t.val
  | (j, .inr (.inl f)) => 24 + 2 * j.val + f.val
  | (j, .inr (.inr f)) => 30 + 3 * f.val + j.val
/-- No two channels are sent at one place in the order. -/
theorem ord_inj : ∀ a b, ord a = ord b → a = b := by decide +kernel
/-- There are 36 sends. -/
theorem ord_lt : ∀ a, ord a < 36 := by decide +kernel

/-- What device `c` owes once its first `n` sends are out. -/
def owed (c : Dev nD) (n : ℕ) : CellTallies nD τ sig Unit :=
  ∑ ch ∈ Finset.univ.filter (fun ch => n ≤ ord ch), tallyAt (recvCell (peer c ch.1) ch) () (NB ch)
/-- What is owed before a send is what is owed after it and the send. -/
theorem owed_succ (c : Dev nD) (ch : Chan) : owed c (ord ch) = owed c (ord ch + 1) + tallyAt (recvCell (peer c ch.1) ch) () (NB ch) := by
  unfold owed
  have h : Finset.univ.filter (fun ch' => ord ch ≤ ord ch') = insert ch (Finset.univ.filter (fun ch' => ord ch + 1 ≤ ord ch')) := by
    ext x; simp only [Finset.mem_filter, Finset.mem_univ, true_and, Finset.mem_insert]
    constructor
    · intro h; rcases Nat.lt_or_eq_of_le h with h | h
      · exact .inr h
      · exact .inl (ord_inj _ _ h.symm)
    · rintro (rfl | h)
      · exact le_rfl
      · omega
  rw [h, Finset.sum_insert (by simp), add_comm]
/-- After all sends nothing is owed. -/
theorem owed_end (c : Dev nD) : owed c 36 = 0 := by
  unfold owed
  rw [Finset.filter_false_of_mem fun x _ => by have := ord_lt x; omega, Finset.sum_empty]

/-- At the start: the three barriers too. -/
def O₀ (c : Dev nD) : CellTallies nD τ sig Unit :=
  owed c 0 + tallyAt (barCell (peer c 2)) () 1 + tallyAt (barCell (peer c 1)) () 1 + tallyAt (barCell (peer c 0)) () 1

def L (g : GSem nD τ sig) : Finset Unit := if g.1.2 = .tc then {()} else ∅
/-- A thread other than the main one has no levels. -/
theorem L_of_ne (g : GSem nD τ sig) (h : g.1.2 ≠ .tc) : L g = ∅ := if_neg h
/-- The main thread's cells have one level each. -/
theorem L_tc (c : Dev nD) (sm : SemLoc sig) : L ((c : Thread nD τ), sm) = {()} := if_pos rfl

/-- The level of a channel's receive cell, and of every cell. -/
def chLv : Chan → ℕ
  | (_, .inl _) => 2
  | (_, .inr (.inl _)) => 3
  | (_, .inr (.inr _)) => 4
def lv (g : GSem nD τ sig) (_ : Unit) : ℕ := match decode g.2 with | some none => 1 | some (some (true, ch)) => chLv ch | _ => 0
/-- The level of a receive cell. -/
theorem lv_recv (c : Dev nD) (ch : Chan) (u : Unit) : lv (recvCell c ch) u = chLv ch := by
  show (match decode (csem (some (true, ch))) with | some none => 1 | some (some (true, ch)) => chLv ch | _ => 0) = _
  rw [decode_csem]
/-- The level of a send cell. -/
theorem lv_send (c : Dev nD) (ch : Chan) (u : Unit) : lv (sendCell c ch) u = 0 := by
  show (match decode (csem (some (false, ch))) with | some none => 1 | some (some (true, ch)) => chLv ch | _ => 0) = _
  rw [decode_csem]
/-- The level of the barrier. -/
theorem lv_bar (c : Dev nD) (u : Unit) : lv (barCell c) u = 1 := by
  show (match decode (csem none) with | some none => 1 | some (some (true, ch)) => chLv ch | _ => 0) = _
  rw [decode_csem]
/-- The level of a semaphore that is no cell. -/
theorem lv_other (c : Dev nD) {sm : SemLoc sig} (h : ∀ x, csem x ≠ sm) (u : Unit) : lv ((c : Thread nD τ), sm) u = 0 := by
  show (match decode sm with | some none => 1 | some (some (true, ch)) => chLv ch | _ => 0) = _
  rw [decode_none h]

/-- A cell on which a sum of tallies is positive is one of the summands'. -/
theorem sum_tally_pos {ι : Type} (s : Finset ι) (G : ι → GSem nD τ sig) (N : ι → ℕ) {g : GSem nD τ sig} {u : Unit}
    (h : 0 < (∑ i ∈ s, tallyAt (nD := nD) (τ := τ) (sig := sig) (G i) () (N i)) g u) : ∃ i ∈ s, g = G i := by
  classical
  induction s using Finset.induction_on with
  | empty => simp at h
  | insert a s ha ih =>
    rw [Finset.sum_insert ha, Pi.add_apply, Finsupp.add_apply, tallyAt_apply] at h
    by_cases hg : g = G a
    · exact ⟨a, Finset.mem_insert_self _ _, hg⟩
    · rw [if_neg (fun h' => hg h'.1), Nat.zero_add] at h
      obtain ⟨i, hi, e⟩ := ih h
      exact ⟨i, Finset.mem_insert_of_mem hi, e⟩
/-- What a device owes is owed to the receive cell of a channel not yet sent. -/
theorem owed_pos {c : Dev nD} {n : ℕ} {g : GSem nD τ sig} {u : Unit} (h : 0 < owed c n g u) : ∃ ch, n ≤ ord ch ∧ g = recvCell (peer c ch.1) ch := by
  obtain ⟨ch, hch, e⟩ := sum_tally_pos _ _ _ h
  exact ⟨ch, (Finset.mem_filter.mp hch).2, e⟩
/-- What a device owes at the start is owed to a receive cell or a barrier. -/
theorem O₀_pos {c : Dev nD} {g : GSem nD τ sig} {u : Unit} (h : 0 < O₀ c g u) : (∃ d ch, g = recvCell d ch) ∨ ∃ d, g = barCell d := by
  by_contra hn
  rw [not_or] at hn
  unfold O₀ at h
  simp only [Pi.add_apply, Finsupp.add_apply, tallyAt_apply] at h
  rw [if_neg (fun h' => hn.2 ⟨_, h'.1⟩), if_neg (fun h' => hn.2 ⟨_, h'.1⟩), if_neg (fun h' => hn.2 ⟨_, h'.1⟩)] at h
  obtain ⟨ch, -, e⟩ := owed_pos (by simpa using h)
  exact hn.1 ⟨_, _, e⟩

/-- A wait below everything still owed. -/
theorem mayWait (c : Dev nD) (sm : SemLoc sig) (n : ℕ) (h : ∀ ch, n ≤ ord ch → lv ((c : Thread nD τ), sm) () < chLv ch) :
    (levAts L lv : sProp 𝕄) ⊢ MayWait (c : Thread nD τ) sm () (owed c n) :=
  MayOwe.of_cut (L := L) (lev := lv) (lv ((c : Thread nD τ), sm) ()) (fun p hp => by rw [Finset.mem_singleton.mp hp, L_tc]; exact Finset.mem_singleton_self _)
    (fun g u hg => by obtain ⟨ch, -, rfl⟩ := owed_pos hg; exact Finset.mem_singleton_self _)
    (fun p hp => by rw [Finset.mem_singleton.mp hp])
    (fun g u hg => by obtain ⟨ch, hc, rfl⟩ := owed_pos hg; rw [lv_recv]; exact h ch hc)
/-- The staging cells' waits, which owe everything or nothing. -/
theorem mayWait_stage (c : Dev nD) {sm : SemLoc sig} (hsm : ∀ x, csem x ≠ sm) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, ch, rfl⟩ | ⟨d, rfl⟩ <;> exact Finset.mem_singleton_self _)
      (fun p hp => by rw [Finset.mem_singleton.mp hp, lv_other c hsm])
      (fun g u hg => by
        rcases O₀_pos hg with ⟨d, ch, rfl⟩ | ⟨d, rfl⟩
        · rw [lv_recv]; unfold chLv; split <;> decide
        · rw [lv_bar]; decide)
  · rw [MayWait_zero]; iintro -; iempintro

end Cert.KernelIdeal.Attn

end
-- ==== Proof.Steps.lean ====
/- Sequences and loops of steps, and the rules for the mesh's sends and waits. -/
module

public import proofs.«01_k».proof.Proof.Sched

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (Kn : Dev nD × CellIx → ℕ)

/-- What every step may use: the cells' invariants, that each has reached its round, and the levels. -/
def Ctx : sProp 𝕄 :=
  iprop((bigSep Finset.univ fun x : Dev nD × CellIx => iprop(cellInv ER (rd m) (Kn x) (cell x.1 x.2) ∗ reached ER (cell x.1 x.2) 0)) ∗ levAts L lv)
instance Ctx_persistent : BI.Persistent (Ctx m Kn) := by
  unfold Ctx; infer_instance
/-- What the first half of the context entails, the context does. -/
theorem Ctx_elim {A B C : sProp 𝕄} (h : A ⊢ C) : iprop(A ∗ B) ⊢ C := by
  iintro ⟨H, -⟩
  iapply h; iexact H
/-- Each cell's invariant is part of the context. -/
theorem Ctx_cell (x : Dev nD × CellIx) : Ctx m Kn ⊢ iprop(cellInv ER (rd m) (Kn x) (cell x.1 x.2) ∗ reached ER (cell x.1 x.2) 0) := by
  unfold Ctx
  exact Ctx_elim (bigSep_elim (Finset.mem_univ x))
/-- The levels are part of the context. -/
theorem Ctx_lev : Ctx m Kn ⊢ (levAts L lv : sProp 𝕄) := by
  unfold Ctx; iintro ⟨-, H⟩; iexact H

/-- What device `c` owes after `n` sends. -/
def Ow (c : Dev nD) (n : ℕ) : sProp 𝕄 := iprop(∃ W : Waits sig Unit, owes (c : Thread nD τ) (owed c n) W)

/-! ## Steps -/

/-- A conjunction over a few indices, written out. -/
theorem sep_fin2 (A : Fin 2 → sProp 𝕄) : bigSep Finset.univ A = iprop(A 0 ∗ A 1) := by
  rw [bigSep_univ_eq_bigSepL [0, 1] (by decide) (by decide) A]; rfl
/-- A separating product over three. -/
theorem sep_fin3 (A : Fin 3 → sProp 𝕄) : bigSep Finset.univ A = iprop(A 0 ∗ A 1 ∗ A 2) := by
  rw [bigSep_univ_eq_bigSepL [0, 1, 2] (by decide) (by decide) A]; rfl
/-- A separating product over four. -/
theorem sep_fin4 (A : Fin 4 → sProp 𝕄) : bigSep Finset.univ A = iprop(A 0 ∗ A 1 ∗ A 2 ∗ A 3) := by
  rw [bigSep_univ_eq_bigSepL [0, 1, 2, 3] (by decide) (by decide) A]; rfl
/-- A separating product over eight. -/
theorem sep_fin8 (A : Fin 8 → sProp 𝕄) : bigSep Finset.univ A = iprop(A 0 ∗ A 1 ∗ A 2 ∗ A 3 ∗ A 4 ∗ A 5 ∗ A 6 ∗ A 7) := by
  rw [bigSep_univ_eq_bigSepL [0, 1, 2, 3, 4, 5, 6, 7] (by decide) (by decide) A]; rfl

/-- From `P` the step `p` leads to `P'`. -/
def Tr (c : Dev nD) (P : sProp 𝕄) (p : (PUnit.{1} → K F) → K F) (P' : sProp 𝕄) : Prop :=
  ∀ (Q : PUnit → sProp 𝕄) (k : PUnit.{1} → K F), Ctx m Kn ⊢ iprop(P -∗ (P' -∗ WP c (k ⟨⟩) Q) -∗ WP c (p k) Q)

variable {m Kn} {c : Dev nD} {P P' P₁ P₂ P₃ R : sProp (MT nD τ sig Unit (Elt F) ℕ UU ℕ)} {a b : (PUnit.{1} → K F) → K F}

/-- Two steps one after the other. -/
theorem Tr.seq (ha : Tr m Kn c P a P₁) (hb : Tr m Kn c P₁ b P₂) : Tr m Kn c P (fun k => a fun _ => b k) P₂ := by
  intro Q k
  iintro #HC HP Hk
  iapply (ha Q fun _ => b k) $$ HC HP
  iintro HP
  iapply (hb Q k) $$ HC HP
  iexact Hk
/-- A step from a stronger start, to a weaker end. -/
theorem Tr.conseq (h1 : P ⊢ P₁) (ha : Tr m Kn c P₁ a P₂) (h2 : P₂ ⊢ P') : Tr m Kn c P a P' := by
  intro Q k
  iintro #HC HP Hk
  ihave HP := h1 $$ HP
  iapply (ha Q k) $$ HC HP
  iintro HP
  iapply Hk
  iapply h2; iexact HP
/-- A step from a stronger start. -/
theorem Tr.pre (h1 : P ⊢ P₁) (ha : Tr m Kn c P₁ a P₂) : Tr m Kn c P a P₂ := ha.conseq h1 (Entails.refl _)
/-- A step to a weaker end. -/
theorem Tr.post (ha : Tr m Kn c P a P₁) (h2 : P₁ ⊢ P₂) : Tr m Kn c P a P₂ := ha.conseq (Entails.refl _) h2
/-- A step leaves what it does not use. -/
theorem Tr.frame (ha : Tr m Kn c P a P₁) : Tr m Kn c iprop(P ∗ R) a iprop(P₁ ∗ R) := by
  intro Q k
  iintro #HC ⟨HP, HR⟩ Hk
  iapply (ha Q k) $$ HC HP
  iintro HP
  iapply Hk
  isplitl [HP] <;> iassumption

/-- A loop of two, by an invariant. -/
theorem Tr.two {f : Fin 2 → (PUnit.{1} → K F) → K F} (I : ℕ → sProp 𝕄) (A B : Fin 2 → sProp 𝕄)
    (h : ∀ i : Fin 2, Tr m Kn c iprop(I i.val ∗ A i) (f i) iprop(I (i.val + 1) ∗ B i)) :
    Tr m Kn c iprop(I 0 ∗ bigSep Finset.univ A) (two f) iprop(I 2 ∗ bigSep Finset.univ B) := by
  have h0 : Tr m Kn c iprop(I 0 ∗ A 0) (f 0) iprop(I 1 ∗ B 0) := h 0
  have h1 : Tr m Kn c iprop(I 1 ∗ A 1) (f 1) iprop(I 2 ∗ B 1) := h 1
  rw [sep_fin2 A, sep_fin2 B]
  intro Q k
  iintro #HC ⟨HI, H0, H1⟩ Hk
  unfold Attn.two
  iapply (h0 Q _) $$ HC [HI H0]
  · isplitl [HI] <;> iassumption
  iintro ⟨HI, H0⟩
  iapply (h1 Q _) $$ HC [HI H1]
  · isplitl [HI] <;> iassumption
  iintro ⟨HI, H1⟩
  iapply Hk
  isplitl [HI]; · iexact HI
  isplitl [H0] <;> iassumption
/-- A loop of three, by an invariant. -/
theorem Tr.three {f : Fin 3 → (PUnit.{1} → K F) → K F} (I : ℕ → sProp 𝕄) (A B : Fin 3 → sProp 𝕄)
    (h : ∀ i : Fin 3, Tr m Kn c iprop(I i.val ∗ A i) (f i) iprop(I (i.val + 1) ∗ B i)) :
    Tr m Kn c iprop(I 0 ∗ bigSep Finset.univ A) (three f) iprop(I 3 ∗ bigSep Finset.univ B) := by
  have h0 : Tr m Kn c iprop(I 0 ∗ A 0) (f 0) iprop(I 1 ∗ B 0) := h 0
  have h1 : Tr m Kn c iprop(I 1 ∗ A 1) (f 1) iprop(I 2 ∗ B 1) := h 1
  have h2 : Tr m Kn c iprop(I 2 ∗ A 2) (f 2) iprop(I 3 ∗ B 2) := h 2
  rw [sep_fin3 A, sep_fin3 B]
  intro Q k
  iintro #HC ⟨HI, H0, H1, H2⟩ Hk
  unfold Attn.three
  iapply (h0 Q _) $$ HC [HI H0]
  · isplitl [HI] <;> iassumption
  iintro ⟨HI, H0⟩
  iapply (h1 Q _) $$ HC [HI H1]
  · isplitl [HI] <;> iassumption
  iintro ⟨HI, H1⟩
  iapply (h2 Q _) $$ HC [HI H2]
  · isplitl [HI] <;> iassumption
  iintro ⟨HI, H2⟩
  iapply Hk
  isplitl [HI]; · iexact HI
  isplitl [H0]; · iexact H0
  isplitl [H1] <;> iassumption
/-- A loop of four, by an invariant. -/
theorem Tr.four {f : Fin 4 → (PUnit.{1} → K F) → K F} (I : ℕ → sProp 𝕄) (A B : Fin 4 → sProp 𝕄)
    (h : ∀ i : Fin 4, Tr m Kn c iprop(I i.val ∗ A i) (f i) iprop(I (i.val + 1) ∗ B i)) :
    Tr m Kn c iprop(I 0 ∗ bigSep Finset.univ A) (four f) iprop(I 4 ∗ bigSep Finset.univ B) := by
  have h0 : Tr m Kn c iprop(I 0 ∗ A 0) (f 0) iprop(I 1 ∗ B 0) := h 0
  have h1 : Tr m Kn c iprop(I 1 ∗ A 1) (f 1) iprop(I 2 ∗ B 1) := h 1
  have h2 : Tr m Kn c iprop(I 2 ∗ A 2) (f 2) iprop(I 3 ∗ B 2) := h 2
  have h3 : Tr m Kn c iprop(I 3 ∗ A 3) (f 3) iprop(I 4 ∗ B 3) := h 3
  rw [sep_fin4 A, sep_fin4 B]
  intro Q k
  iintro #HC ⟨HI, H0, H1, H2, H3⟩ Hk
  unfold Attn.four
  iapply (h0 Q _) $$ HC [HI H0]
  · isplitl [HI] <;> iassumption
  iintro ⟨HI, H0⟩
  iapply (h1 Q _) $$ HC [HI H1]
  · isplitl [HI] <;> iassumption
  iintro ⟨HI, H1⟩
  iapply (h2 Q _) $$ HC [HI H2]
  · isplitl [HI] <;> iassumption
  iintro ⟨HI, H2⟩
  iapply (h3 Q _) $$ HC [HI H3]
  · isplitl [HI] <;> iassumption
  iintro ⟨HI, H3⟩
  iapply Hk
  isplitl [HI]; · iexact HI
  isplitl [H0]; · iexact H0
  isplitl [H1]; · iexact H1
  isplitl [H2] <;> iassumption
/-- A loop of eight, by an invariant. -/
theorem Tr.eight {f : Fin 8 → (PUnit.{1} → K F) → K F} (I : ℕ → sProp 𝕄) (A B : Fin 8 → sProp 𝕄)
    (h : ∀ i : Fin 8, Tr m Kn c iprop(I i.val ∗ A i) (f i) iprop(I (i.val + 1) ∗ B i)) :
    Tr m Kn c iprop(I 0 ∗ bigSep Finset.univ A) (eight f) iprop(I 8 ∗ bigSep Finset.univ B) := by
  have h0 : Tr m Kn c iprop(I 0 ∗ A 0) (f 0) iprop(I 1 ∗ B 0) := h 0
  have h1 : Tr m Kn c iprop(I 1 ∗ A 1) (f 1) iprop(I 2 ∗ B 1) := h 1
  have h2 : Tr m Kn c iprop(I 2 ∗ A 2) (f 2) iprop(I 3 ∗ B 2) := h 2
  have h3 : Tr m Kn c iprop(I 3 ∗ A 3) (f 3) iprop(I 4 ∗ B 3) := h 3
  have h4 : Tr m Kn c iprop(I 4 ∗ A 4) (f 4) iprop(I 5 ∗ B 4) := h 4
  have h5 : Tr m Kn c iprop(I 5 ∗ A 5) (f 5) iprop(I 6 ∗ B 5) := h 5
  have h6 : Tr m Kn c iprop(I 6 ∗ A 6) (f 6) iprop(I 7 ∗ B 6) := h 6
  have h7 : Tr m Kn c iprop(I 7 ∗ A 7) (f 7) iprop(I 8 ∗ B 7) := h 7
  rw [sep_fin8 A, sep_fin8 B]
  intro Q k
  iintro #HC ⟨HI, H0, H1, H2, H3, H4, H5, H6, H7⟩ Hk
  unfold Attn.eight
  iapply (h0 Q _) $$ HC [HI H0]
  · isplitl [HI] <;> iassumption
  iintro ⟨HI, H0⟩
  iapply (h1 Q _) $$ HC [HI H1]
  · isplitl [HI] <;> iassumption
  iintro ⟨HI, H1⟩
  iapply (h2 Q _) $$ HC [HI H2]
  · isplitl [HI] <;> iassumption
  iintro ⟨HI, H2⟩
  iapply (h3 Q _) $$ HC [HI H3]
  · isplitl [HI] <;> iassumption
  iintro ⟨HI, H3⟩
  iapply (h4 Q _) $$ HC [HI H4]
  · isplitl [HI] <;> iassumption
  iintro ⟨HI, H4⟩
  iapply (h5 Q _) $$ HC [HI H5]
  · isplitl [HI] <;> iassumption
  iintro ⟨HI, H5⟩
  iapply (h6 Q _) $$ HC [HI H6]
  · isplitl [HI] <;> iassumption
  iintro ⟨HI, H6⟩
  iapply (h7 Q _) $$ HC [HI H7]
  · isplitl [HI] <;> iassumption
  iintro ⟨HI, H7⟩
  iapply Hk
  isplitl [HI]; · iexact HI
  isplitl [H0]; · iexact H0
  isplitl [H1]; · iexact H1
  isplitl [H2]; · iexact H2
  isplitl [H3]; · iexact H3
  isplitl [H4]; · iexact H4
  isplitl [H5]; · iexact H5
  isplitl [H6] <;> iassumption
/-- The six sends or waits of a class: by offset, keys then values. -/
theorem Tr.six {f : Fin 2 → Fin 3 → (PUnit.{1} → K F) → K F} (I : ℕ → sProp 𝕄) (A B : Fin 3 → Fin 2 → sProp 𝕄)
    (h : ∀ (t : Fin 2) (j : Fin 3), Tr m Kn c iprop(I (2 * j.val + t.val) ∗ A j t) (f t j) iprop(I (2 * j.val + t.val + 1) ∗ B j t)) :
    Tr m Kn c iprop(I 0 ∗ bigSep Finset.univ fun j => bigSep Finset.univ fun t => A j t) (six f)
      iprop(I 6 ∗ bigSep Finset.univ fun j => bigSep Finset.univ fun t => B j t) := by
  have h2 : ∀ j : Fin 3, Tr m Kn c iprop(I (2 * j.val) ∗ bigSep Finset.univ (A j)) (Attn.two fun t => f t j) iprop(I (2 * (j.val + 1)) ∗ bigSep Finset.univ (B j)) :=
    fun j => Tr.two (fun n => I (2 * j.val + n)) (A j) (B j) fun t => h t j
  exact Tr.three (fun n => I (2 * n)) (fun j => bigSep Finset.univ (A j)) (fun j => bigSep Finset.univ (B j)) h2

/-! ## Sends and waits -/

section Chan
variable {s : Shape} {e : EltTy} {sp : Space}

/-- What a device pays a channel's send with. -/
def toks (c : Dev nD) (ch : Chan) : sProp 𝕄 := iprop(dutyTok ER (sendCell c ch) 0 0 ∗ dutyTok ER (recvCell (peer c ch.1) ch) 0 0)
/-- A device's position at a channel's receive cell with the credit for its wait; -/
def rcvR (c : Dev nD) (ch : Chan) : sProp 𝕄 := iprop(cred (tallyAt (recvCell c ch) () (NB ch)) ∗ atPos ER (recvCell c ch) 0 ∅ 0)
/-- and at its send cell once the send is out. -/
def sndR (c : Dev nD) (ch : Chan) : sProp 𝕄 := iprop(cred (tallyAt (sendCell c ch) () (NB ch)) ∗ atPos ER (sendCell c ch) 0 ∅ 0)

/-- A send on a channel gives up the source and the peer's destination, and pays what is owed for it. -/
theorem wp_send_to (n : Dev nD) (ch : Chan) (hn : n = peer c ch.1) {src dst : Memref sig .tc .vmem s e} {ss rs : DmaSem sig}
    (hss : csem (some (false, ch)) = .dma ss) (hrs : csem (some (true, ch)) = .dma rs) (hN : dst.view.dmaCredit = NB ch) {q : PosShare TreeShare}
    {f : s.Idx → Elt F e} (hsrc : At c src q Finset.univ f ⊢ srcAt m c ch) (hdst : At n dst fullShare Finset.univ f ⊢ dstAt m n ch)
    {h1 : src.view.WordExact} {h2 : dst.view.WordExact} :
    Tr m Kn c iprop(Ow c (ord ch) ∗ At c src q Finset.univ f ∗ Jk n dst Finset.univ ∗ toks c ch)
      (send src dst ss rs n h1 h2) iprop(Ow c (ord ch + 1) ∗ cred (tallyAt (sendCell c ch) () (NB ch))) := by
  subst hn
  intro Q k
  iintro #HC HP Hk
  have i1 : Ctx m Kn ⊢ iprop(cellInv ER (rd m) (Kn (c, some (false, ch))) ((c : Thread nD τ), .dma ss) ∗ reached ER ((c : Thread nD τ), .dma ss) 0) := by
    rw [← hss]; exact Ctx_cell m Kn (c, some (false, ch))
  have i2 : Ctx m Kn ⊢ iprop(cellInv ER (rd m) (Kn (peer c ch.1, some (true, ch))) ((peer c ch.1 : Thread nD τ), .dma rs) ∗ reached ER ((peer c ch.1 : Thread nD τ), .dma rs) 0) := by
    rw [← hrs]; exact Ctx_cell m Kn (peer c ch.1, some (true, ch))
  ihave #H1 := i1 $$ HC
  ihave #H2 := i2 $$ HC
  icases H1 with ⟨#HI1, #HR1⟩
  icases H2 with ⟨#HI2, #HR2⟩
  unfold Ow At Hd Jk toks send
  icases HP with ⟨⟨%W, HO⟩, ⟨%g, %hg, Hs⟩, ⟨%gd, Hd⟩, Ht1, Ht2⟩
  have e1 : sendCell c ch = ((c : Thread nD τ), .dma ss) := congrArg (Prod.mk _) hss
  have e2 : recvCell (peer c ch.1) ch = ((peer c ch.1 : Thread nD τ), .dma rs) := congrArg (Prod.mk _) hrs
  have p1 : (src.view.loc (c : Thread nD τ) ↦[src.view.set]{q} g) ⊢ (rd m).payload ((c : Thread nD τ), .dma ss) 0 0 := by
    rw [← e1, payload_send]
    exact (Hd_intro (m := src) (S := Finset.univ) g hg).trans hsrc
  have p2 : (dst.view.loc (peer c ch.1 : Thread nD τ) ↦[dst.view.set]{fullShare} (dst.view.write (Elt F) gd (src.view.read (Elt F) g) Finset.univ))
      ⊢ (rd m).payload ((peer c ch.1 : Thread nD τ), .dma rs) 0 0 := by
    rw [← e2, payload_recv]
    exact (Hd_intro (m := dst) (S := Finset.univ) (T := Finset.univ) (f := f) _
      fun i _ => (congrFun (View.read_write_univ (v := dst.view) gd _) i).trans (hg i (Finset.mem_univ i))).trans hdst
  have d1 : (0 : Fin 3) ∈ (rd m).duties ((c : Thread nD τ), .dma ss) 0 := by rw [← e1, duties_ch]; exact Finset.mem_singleton_self _
  have d2 : (0 : Fin 3) ∈ (rd m).duties ((peer c ch.1 : Thread nD τ), .dma rs) 0 := by rw [← e2, duties_ch]; exact Finset.mem_singleton_self _
  have a1 : (rd m).amount ((c : Thread nD τ), .dma ss) 0 0 = NB ch := by rw [← e1]; exact amount_ch m c ch false 0
  have a2 : (rd m).amount ((peer c ch.1 : Thread nD τ), .dma rs) 0 0 = NB ch := by rw [← e2]; exact amount_ch m _ ch true 0
  have o1 : owed c (ord ch) = owed c (ord ch + 1) + tallyAt ((peer c ch.1 : Thread nD τ), .dma rs) () (NB ch) := by rw [← e2]; exact owed_succ c ch
  rw [e1, e2]
  iapply (Rounds.wp_send_pointsTo 𝒱₀ ER (rd m) (c : Thread nD τ) none (c' := ((peer c ch.1 : Dev nD) : Thread nD τ)) (κ₁ := Kn (c, some (false, ch))) (κ₂ := Kn (peer c ch.1, some (true, ch)))
    (r₁ := 0) (r₂ := 0) (d₁ := 0) (d₂ := 0) (src := src) (dst := dst) (q := q) (fs := g) (fd := gd) d1 d2 () () (NB ch) hN a1 a2 (owed c (ord ch + 1)) o1 (W := W) p1 p2)
    $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO]
  · iexists W; iexact HO
  iexact Hc

/-- The wait at a channel's cell, whichever side: its payload, and the cell closed. -/
theorem wp_wait_cell (bo : Bool) (ch : Chan) {src : Memref sig .tc .vmem s e} {dst : Memref sig .tc .vmem s e} {sm : DmaSem sig}
    (hsm : csem (some (bo, ch)) = .dma sm) (hN : dst.view.dmaCredit = NB ch) (n : ℕ) (hn : ∀ ch', n ≤ ord ch' → lv (cell c (some (bo, ch))) () < chLv ch')
    {h1 : src.view.WordExact} {h2 : dst.view.WordExact} :
    Tr m Kn c iprop(Ow c n ∗ cred (tallyAt (cell c (some (bo, ch))) () (NB ch)) ∗ atPos ER (cell c (some (bo, ch))) 0 ∅ 0)
      (await src dst sm h1 h2) iprop(Ow c n ∗ (if bo then dstAt m c ch else srcAt m c ch) ∗ semVal (cell c (some (bo, ch))) 0) := by
  intro Q k
  iintro #HC HP Hk
  ihave #H1 := (Ctx_cell m Kn (c, some (bo, ch))) $$ HC
  ihave #HL := (Ctx_lev m Kn) $$ HC
  icases H1 with ⟨#HI1, #HR1⟩
  unfold Ow await
  icases HP with ⟨⟨%W, HO⟩, Hc, Ha⟩
  have e1 : cell c (some (bo, ch)) = ((c : Thread nD τ), .dma sm) := congrArg (Prod.mk _) hsm
  have hM := mayWait (F := F) c (csem (some (bo, ch))) n hn
  have hexp : 0 + dst.view.dmaCredit = (rd m).expect ((c : Thread nD τ), .dma sm) 0 := by rw [← e1, expect_ch, Nat.zero_add, hN]
  have hrest : bigSep ((rd m).duties ((c : Thread nD τ), .dma sm) 0 \ ∅) (fun d => (rd m).payload ((c : Thread nD τ), .dma sm) 0 d)
      = (if bo then dstAt m c ch else srcAt m c ch) := by
    rw [← e1]; cases bo
    · exact rest_send m c ch
    · exact rest_recv m c ch
  rw [hsm] at hM
  simp only [e1] at *
  rw [← hN]
  iapply (Rounds.wp_wait_rest_token 𝒱₀ ER (rd m) (c : Thread nD τ) none (κ := Kn (c, some (bo, ch)))
      (wpE_waitDma2_eq 𝒱₀ (c : Thread nD τ) none Set.univ) (Set.mem_univ _) () (O := owed c n) (W := W) (R := 0) (m := 0) (T := ∅) hexp) $$ [Hc HO Ha]
  · isplitr; · iexact HI1
    isplitl [Hc]; · iexact Hc
    isplitl [HO]; · iexact HO
    isplitr; · iapply hM; iexact HL
    iexact Ha
  iintro ⟨HO, Ha, -, Hpay⟩
  ihave Hpay := (Entails.of_eq hrest) $$ Hpay
  imod (Rounds.cell_close ER (rd m) (Set.mem_univ (Kn (c, some (bo, ch)))) (fun h => h) (R := 0 + 1) (duties_later m ((c : Thread nD τ), .dma sm))) $$ [Ha] with Hz
  · isplitr; · iexact HI1
    iexact Ha
  iapply Hk
  isplitl [HO]
  · iexists _; iexact HO
  isplitl [Hpay] <;> iassumption

/-- The wait for a copy inside the device. -/
theorem Tr_await {sp' : Space} {src src' : Memref sig .tc sp s e} {dst : Memref sig .tc sp' s e} {sm : DmaSem sig} (hsm : ∀ x, csem x ≠ .dma sm) (n : ℕ)
    {h1 : src'.view.WordExact} {h2 : dst.view.WordExact} {f : s.Idx → Elt F e} :
    Tr m Kn c iprop(Ow c n ∗ Fl c src dst sm f) (await src' dst sm h1 h2)
      iprop(Ow c n ∗ At c dst fullShare Finset.univ f ∗ At c src fullShare Finset.univ f ∗ semVal ((c : Thread nD τ), .dma sm) 0) := by
  intro Q k
  iintro #HC HP Hk
  ihave #HL := (Ctx_lev m Kn) $$ HC
  unfold Ow
  icases HP with ⟨⟨%W, HO⟩, HF⟩
  have hM := mayWait (F := F) c (.dma sm) n (fun ch _ => by rw [lv_other c hsm]; unfold chLv; split <;> decide)
  iapply wp_await $$ [HO HF]
  · isplitl [HF]; · iexact HF
    isplitl [HO]; · iexact HO
    iapply hM; iexact HL
  iintro ⟨H1, H2, H3, HO⟩
  iapply Hk
  isplitl [HO]
  · iexists _; iexact HO
  isplitl [H1]; · iexact H1
  isplitl [H2] <;> iassumption

/-- The start of a local copy. -/
theorem Tr_copy {sp' : Space} {src : Memref sig .tc sp s e} {dst : Memref sig .tc sp' s e} {sm : DmaSem sig} (f : s.Idx → Elt F e) (h0 : 0 < s.numel)
    {h1 : src.view.WordExact} {h2 : dst.view.WordExact} {h3 : DmaTarget.HostLowered (nD := nD) (τ := τ) (p := .tc) sp (.dma sm) (.here dst)} :
    Tr m Kn c iprop(At c src fullShare Finset.univ f ∗ Jk c dst Finset.univ ∗ semVal ((c : Thread nD τ), .dma sm) 0)
      (copy src dst sm h1 h2 h3) (Fl c src dst sm f) := by
  intro Q k
  iintro #HC HP Hk
  iapply (wp_copy f h0) $$ HP
  iexact Hk

/-- A store over anything, with the load before it. -/
theorem Tr_put {sv : Shape} {ev : EltTy} {mv : Memref sig .tc .vmem sv ev} (r : Rect sv) {w : Vec F r.shape ev} {S : Finset sv.Idx} {fv : sv.Idx → Elt F ev}
    {h : mv.view.LoadsAt r.toLoadRect} {h' : (mv.access r).Stores Finset.univ} (hS : r.set = S) (hw : ∀ j, w j = fv (r.emb j)) :
    Tr m Kn c (Jk c mv S) (fun k => ld mv r h fun _ => st mv r w h' k) (At c mv fullShare S fv) := by
  subst hS
  intro Q k
  iintro #HC HP Hk
  ihave HP := (Jk_Hd (f := fv)) $$ HP
  iapply (wp_ldj r (Finset.Subset.refl _)) $$ HP
  iintro %v HP
  iapply (wp_st r (Finset.Subset.refl _) hw (Tv' := r.set) fun i hi => .inl hi) $$ HP
  iexact Hk

/-- The elements in parts named by sets. -/
theorem At_parts {α : Type} [Fintype α] [DecidableEq α] {mv : Memref sig .tc sp s e} {q : PosShare TreeShare} {S : Finset s.Idx} {f : s.Idx → Elt F e}
    (κ : s.Idx → α) (Rs : α → Finset s.Idx) (hR : ∀ a i, i ∈ Rs a ↔ i ∈ S ∧ κ i = a) :
    At c mv q S f ⊣⊢ bigSep Finset.univ fun a => At c mv q (Rs a) f := by
  have e : Rs = fun a => S.filter (κ · = a) := funext fun a => Finset.ext fun i => by rw [hR, Finset.mem_filter]
  rw [e]
  exact ⟨At_fiber κ, At_join κ⟩
/-- Unknown contents over a set are unknown contents over its parts. -/
theorem Jk_parts {α : Type} [Fintype α] [DecidableEq α] {mv : Memref sig .tc sp s e} {S : Finset s.Idx}
    (κ : s.Idx → α) (Rs : α → Finset s.Idx) (hR : ∀ a i, i ∈ Rs a ↔ i ∈ S ∧ κ i = a) :
    (Jk c mv S : sProp 𝕄) ⊣⊢ bigSep Finset.univ fun a => Jk c mv (Rs a) := by
  have e : Rs = fun a => S.filter (κ · = a) := funext fun a => Finset.ext fun i => by rw [hR, Finset.mem_filter]
  rw [e]
  exact ⟨Jk_fiber κ, Jk_join κ⟩

/-- A whole share in three. -/
theorem At_thirds {mv : Memref sig .tc sp s e} {S : Finset s.Idx} {f : s.Idx → Elt F e} :
    At c mv fullShare S f ⊣⊢ bigSep Finset.univ fun j : Fin 3 => At c mv (shares3 fullShare j) S f := by
  rw [sep_fin3]
  have key : ∀ g : Buf (Elt F) (mv.view.loc (c : Thread nD τ)), _ := fun g =>
    Ring.pointsTo_thirds (ℓ := mv.view.loc (c : Thread nD τ)) (I := mv.view.setOn S) fullShare g (Ix := Unit) (Name := ℕ) (U := UU) (Lvl := ℕ)
  constructor
  · conv_lhs => unfold At Hd
    iintro ⟨%g, %hg, H⟩
    ihave H := (key g).1 $$ H
    icases H with ⟨H0, H1, H2⟩
    isplitl [H0]; · iapply (Hd_intro g hg); iexact H0
    isplitl [H1]; · iapply (Hd_intro g hg); iexact H1
    iapply (Hd_intro g hg); iexact H2
  · conv_lhs => unfold At Hd
    iintro ⟨⟨%g0, %hg0, H0⟩, ⟨%g1, %hg1, H1⟩, ⟨%g2, %hg2, H2⟩⟩
    have cg : ∀ (g : Buf (Elt F) (mv.view.loc (c : Thread nD τ))), (∀ i ∈ S, mv.view.read (Elt F) g i = f i) → ∀ x ∈ mv.view.setOn S, g0 x = g x := by
      intro g hg x hx
      obtain ⟨i, hi, rfl⟩ := Finset.mem_map.mp hx
      have := (hg0 i hi).trans (hg i hi).symm
      rw [View.read_apply, View.read_apply] at this
      exact (cast_inj _).mp this
    iapply (Hd_intro g0 hg0)
    iapply (key g0).2
    have e : ∀ (q : PosShare TreeShare) (g : Buf (Elt F) (mv.view.loc (c : Thread nD τ))), (∀ x ∈ mv.view.setOn S, g0 x = g x) →
        ((mv.view.loc (c : Thread nD τ) ↦[mv.view.setOn S]{q} g : sProp 𝕄) ⊢ (mv.view.loc (c : Thread nD τ) ↦[mv.view.setOn S]{q} g0)) :=
      fun q g h => Entails.of_eq (pointsTo_congr fun i hi => (h i hi).symm)
    ihave H1 := (e _ g1 (cg g1 hg1)) $$ H1
    ihave H2 := (e _ g2 (cg g2 hg2)) $$ H2
    isplitl [H0]; · iexact H0
    isplitl [H1] <;> iassumption

end Chan

end Cert.KernelIdeal.Attn

end
-- ==== Proof.Index.lean ====
/- Where each view's elements lie, and that each store writes what its buffer is to hold. -/
module

public import proofs.«01_k».proof.Proof.Val
public import Idealize.ShloMosaic.Lib.Pipeline.Value

@[expose] public section

noncomputable section

namespace Cert.KernelIdeal.Attn

open Idealize.ShloMosaic Idealize.ShloMosaic.TcCoe
open Idealize.SL Idealize.SL.Sem
open Cert.KernelIdeal Cert.KernelIdeal.Gen

variable {F : FTy → Type} [FloatOps F]

/-- Numbers that agree modulo the sizes name one index. -/
theorem nx_congr {s : Shape} {hs hs' : ∀ a, 0 < s.size a} {v w : Fin s.rank → Nat} (h : ∀ a, v a % s.size a = w a % s.size a) : nx s hs v = nx s hs' w :=
  funext fun a => Fin.ext (h a)

/-! ## Axes of size one -/

/-- The array index that an index of a staged block without its axes of one stands for. -/
theorem sq_stage (h) (j : S64x32x128.Idx) : Shape.reshapeEquiv (s := S1x64x32x128) (s' := S64x32x128) h j = nx S1x64x32x128 (by decide) ![0, (j 0).val, (j 1).val, (j 2).val] := by
  refine Shape.reshapeEquiv_eq_of_rowMajor h ?_
  rw [Shape.rowMajor_val_four, Shape.rowMajor_val_three]
  have h0 : (j 0).val < 64 := (j 0).isLt
  have h1 : (j 1).val < 32 := (j 1).isLt
  have h2 : (j 2).val < 128 := (j 2).isLt
  show (((0 % 1) * 64 + (j 0).val % 64) * 32 + (j 1).val % 32) * 128 + (j 2).val % 128 = ((j 0).val * 32 + (j 1).val) * 128 + (j 2).val
  omega
/-- The array index that an index of the keys or values of one device's heads in one class without its axes of one stands for. -/
theorem sq_head (h) (j : S256x8x128.Idx) : Shape.reshapeEquiv (s := S1x1x256x8x128) (s' := S256x8x128) h j = nx S1x1x256x8x128 (by decide) ![0, 0, (j 0).val, (j 1).val, (j 2).val] := by
  refine Shape.reshapeEquiv_eq_of_rowMajor h ?_
  rw [Shape.rowMajor_val_five, Shape.rowMajor_val_three]
  have h0 : (j 0).val < 256 := (j 0).isLt
  have h1 : (j 1).val < 8 := (j 1).isLt
  have h2 : (j 2).val < 128 := (j 2).isLt
  show ((((0 % 1) * 1 + 0 % 1) * 256 + (j 0).val % 256) * 8 + (j 1).val % 8) * 128 + (j 2).val % 128 = ((j 0).val * 8 + (j 1).val) * 128 + (j 2).val
  omega
/-- The array index that an index of a quarter of the gathered keys or values without its axes of one stands for. -/
theorem sq_full (h) (j : S256x8x128.Idx) : Shape.reshapeEquiv (s := S1x256x8x128) (s' := S256x8x128) h j = nx S1x256x8x128 (by decide) ![0, (j 0).val, (j 1).val, (j 2).val] := by
  refine Shape.reshapeEquiv_eq_of_rowMajor h ?_
  rw [Shape.rowMajor_val_four, Shape.rowMajor_val_three]
  have h0 : (j 0).val < 256 := (j 0).isLt
  have h1 : (j 1).val < 8 := (j 1).isLt
  have h2 : (j 2).val < 128 := (j 2).isLt
  show (((0 % 1) * 256 + (j 0).val % 256) * 8 + (j 1).val % 8) * 128 + (j 2).val % 128 = ((j 0).val * 8 + (j 1).val) * 128 + (j 2).val
  omega
/-- The array index that an index of the staged rows without its axes of one stands for. -/
theorem sq_w (h) (j : S256x1024.Idx) : Shape.reshapeEquiv (s := S1x256x1024) (s' := S256x1024) h j = nx S1x256x1024 (by decide) ![0, (j 0).val, (j 1).val] := by
  refine Shape.reshapeEquiv_eq_of_rowMajor h ?_
  rw [Shape.rowMajor_val_three, Shape.rowMajor_val_two]
  have h0 : (j 0).val < 256 := (j 0).isLt
  have h1 : (j 1).val < 1024 := (j 1).isLt
  show ((0 % 1) * 256 + (j 0).val % 256) * 1024 + (j 1).val % 1024 = (j 0).val * 1024 + (j 1).val
  omega
/-- The array index that an index of a half of a quarter of rows without its axes of one stands for. -/
theorem sq_half (h) (j : S256x512.Idx) : Shape.reshapeEquiv (s := S1x256x512) (s' := S256x512) h j = nx S1x256x512 (by decide) ![0, (j 0).val, (j 1).val] := by
  refine Shape.reshapeEquiv_eq_of_rowMajor h ?_
  rw [Shape.rowMajor_val_three, Shape.rowMajor_val_two]
  have h0 : (j 0).val < 256 := (j 0).isLt
  have h1 : (j 1).val < 512 := (j 1).isLt
  show ((0 % 1) * 256 + (j 0).val % 256) * 512 + (j 1).val % 512 = (j 0).val * 512 + (j 1).val
  omega

/-! ## Rectangles -/

/-- Where an index of a rectangle of unit strides lies in the array. -/
theorem emb_unit {s : Shape} (hs : ∀ a, 0 < s.size a) {off sz : Fin s.rank → Nat} {h} (j : (Rect.unit (s := s) off sz h).shape.Idx) :
    (Rect.unit (s := s) off sz h).emb j = nx s hs fun a => off a + (j a).val :=
  eq_nx s hs _ _ fun a => by rw [Rect.emb_apply]; show off a + 1 * _ = _; rw [Nat.one_mul]

/-- Where an index of a staged block lies in the buffer. -/
theorem emb_stage (s : Fin 2) (h) (j : S64x32x128.Idx) : (rStage s).emb (Shape.reshapeEquiv (s' := S64x32x128) h j) = nx S2x64x32x128 (by decide) ![s.val, (j 0).val, (j 1).val, (j 2).val] := by
  refine (congrArg (rStage s).emb (sq_stage h j)).trans ?_
  unfold rStage
  rw [emb_unit (by decide)]
  have h0 : (j 0).val < 64 := (j 0).isLt
  have h1 : (j 1).val < 32 := (j 1).isLt
  have h2 : (j 2).val < 128 := (j 2).isLt
  refine nx_congr fun a => ?_
  fin_cases a <;> simp [nx] <;> omega
/-- Where an index of a block of keys or values in an argument lies in the buffer. -/
theorem emb_hbm (b : Fin 16) (h) (j : S64x32x128.Idx) : (Rect.unit (s := S1x1024x32x128) ![0, 64 * b.val, 0, 0] S1x64x32x128.size (inb_hbm b)).emb (Shape.reshapeEquiv (s' := S64x32x128) h j) = nx S1x1024x32x128 (by decide) ![0, 64 * b.val + (j 0).val, (j 1).val, (j 2).val] := by
  refine (congrArg (Rect.unit (s := S1x1024x32x128) ![0, 64 * b.val, 0, 0] S1x64x32x128.size (inb_hbm b)).emb (sq_stage h j)).trans ?_
  rw [emb_unit (by decide)]
  have h0 : (j 0).val < 64 := (j 0).isLt
  have h1 : (j 1).val < 32 := (j 1).isLt
  have h2 : (j 2).val < 128 := (j 2).isLt
  refine nx_congr fun a => ?_
  fin_cases a <;> simp [nx] <;> omega
/-- Where an index of the keys or values of one device's heads in one class lies in the buffer. -/
theorem emb_head (t : Fin 2) (r p : Fin 4) (h) (j : S256x8x128.Idx) : (Rect.unit (s := S2x4x256x32x128) ![t.val, r.val, 0, 8 * p.val, 0] S1x1x256x8x128.size (inb_kvHead t r p)).emb (Shape.reshapeEquiv (s' := S256x8x128) h j) = nx S2x4x256x32x128 (by decide) ![t.val, r.val, (j 0).val, 8 * p.val + (j 1).val, (j 2).val] := by
  refine (congrArg (Rect.unit (s := S2x4x256x32x128) ![t.val, r.val, 0, 8 * p.val, 0] S1x1x256x8x128.size (inb_kvHead t r p)).emb (sq_head h j)).trans ?_
  rw [emb_unit (by decide)]
  have h0 : (j 0).val < 256 := (j 0).isLt
  have h1 : (j 1).val < 8 := (j 1).isLt
  have h2 : (j 2).val < 128 := (j 2).isLt
  refine nx_congr fun a => ?_
  fin_cases a <;> simp [nx] <;> omega
/-- Where an index of an 8-bit part lies in the buffer. -/
theorem emb_kv8 (t : Fin 2) (r : Fin 4) (h) (j : S256x8x128.Idx) : (rKv8 t r).emb (Shape.reshapeEquiv (s' := S256x8x128) h j) = nx S2x4x256x8x128 (by decide) ![t.val, r.val, (j 0).val, (j 1).val, (j 2).val] := by
  refine (congrArg (rKv8 t r).emb (sq_head h j)).trans ?_
  unfold rKv8
  rw [emb_unit (by decide)]
  have h0 : (j 0).val < 256 := (j 0).isLt
  have h1 : (j 1).val < 8 := (j 1).isLt
  have h2 : (j 2).val < 128 := (j 2).isLt
  refine nx_congr fun a => ?_
  fin_cases a <;> simp [nx] <;> omega
/-- Where an index of a quarter of the gathered keys or values lies in the buffer. -/
theorem emb_full (r g : Fin 4) (h) (j : S256x8x128.Idx) : (rFull r g).emb (Shape.reshapeEquiv (s' := S256x8x128) h j) = nx S4x1024x8x128 (by decide) ![r.val, 256 * g.val + (j 0).val, (j 1).val, (j 2).val] := by
  refine (congrArg (rFull r g).emb (sq_full h j)).trans ?_
  unfold rFull
  rw [emb_unit (by decide)]
  have h0 : (j 0).val < 256 := (j 0).isLt
  have h1 : (j 1).val < 8 := (j 1).isLt
  have h2 : (j 2).val < 128 := (j 2).isLt
  refine nx_congr fun a => ?_
  fin_cases a <;> simp [nx] <;> omega
/-- Where an index of the staged rows lies in the buffer. -/
theorem emb_w  (h) (j : S256x1024.Idx) : rW.emb (Shape.reshapeEquiv (s' := S256x1024) h j) = nx S1x256x1024 (by decide) ![0, (j 0).val, (j 1).val] := by
  refine (congrArg rW.emb (sq_w h j)).trans ?_
  unfold rW
  rw [emb_unit (by decide)]
  have h0 : (j 0).val < 256 := (j 0).isLt
  have h1 : (j 1).val < 1024 := (j 1).isLt
  refine nx_congr fun a => ?_
  fin_cases a <;> simp [nx] <;> omega
/-- Where an index of a half slab lies in the buffer. -/
theorem emb_half3 (g : Fin 3) (f : Fin 2) (h) (j : S256x512.Idx) : (rHalf3 g f).emb (Shape.reshapeEquiv (s' := S256x512) h j) = nx S3x256x1024 (by decide) ![g.val, (j 0).val, 512 * f.val + (j 1).val] := by
  refine (congrArg (rHalf3 g f).emb (sq_half h j)).trans ?_
  unfold rHalf3
  rw [emb_unit (by decide)]
  have h0 : (j 0).val < 256 := (j 0).isLt
  have h1 : (j 1).val < 512 := (j 1).isLt
  refine nx_congr fun a => ?_
  fin_cases a <;> simp [nx] <;> omega
/-- Where an index of a half of a quarter of rows lies in the buffer. -/
theorem emb_half (p : Fin 4) (f : Fin 2) (j : S256x512.Idx) : (Rect.unit (s := S1024x1024) ![256 * p.val, 512 * f.val] S256x512.size (inb_half p f)).emb j = nx S1024x1024 (by decide) ![256 * p.val + (j 0).val, 512 * f.val + (j 1).val] := by
  rw [emb_unit (by decide)]
  have h0 : (j 0).val < 256 := (j 0).isLt
  have h1 : (j 1).val < 512 := (j 1).isLt
  refine nx_congr fun a => ?_
  fin_cases a <;> simp [nx] <;> omega
/-- Where an index of a half of the reduced rows lies in the buffer. -/
theorem emb_own (f : Fin 2) (j : S256x512.Idx) : (rOwn f).emb j = nx S256x1024 (by decide) ![(j 0).val, 512 * f.val + (j 1).val] := by
  unfold rOwn
  rw [emb_unit (by decide)]
  have h0 : (j 0).val < 256 := (j 0).isLt
  have h1 : (j 1).val < 512 := (j 1).isLt
  refine nx_congr fun a => ?_
  fin_cases a <;> simp [nx] <;> omega
/-- Where an index of a quarter of rows lies in the buffer. -/
theorem emb_rows (q : Fin 4) (j : S256x1024.Idx) : (rRows q).emb j = nx S1024x1024 (by decide) ![256 * q.val + (j 0).val, (j 1).val] := by
  unfold rRows
  rw [emb_unit (by decide)]
  have h0 : (j 0).val < 256 := (j 0).isLt
  have h1 : (j 1).val < 1024 := (j 1).isLt
  refine nx_congr fun a => ?_
  fin_cases a <;> simp [nx] <;> omega
/-- Where an index of one head's block of rows lies in the buffer. -/
theorem emb_blk (b : Fin 16) (h : Fin 8) (j : S64x128.Idx) : (rBlk b h).emb j = nx S1024x1024 (by decide) ![64 * b.val + (j 0).val, 128 * h.val + (j 1).val] := by
  unfold rBlk
  rw [emb_unit (by decide)]
  have h0 : (j 0).val < 64 := (j 0).isLt
  have h1 : (j 1).val < 128 := (j 1).isLt
  refine nx_congr fun a => ?_
  fin_cases a <;> simp [nx] <;> omega
/-- Where an index of one block of a class lies in the buffer. -/
theorem emb_kvRow (t : Fin 2) (r n : Fin 4) (j : S1x1x64x32x128.Idx) : (rKvRow t r n).emb j = nx S2x4x256x32x128 (by decide) ![t.val, r.val, 64 * n.val + (j 2).val, (j 3).val, (j 4).val] := by
  unfold rKvRow
  rw [emb_unit (by decide)]
  have h0 : (j 0).val < 1 := (j 0).isLt
  have h1 : (j 1).val < 1 := (j 1).isLt
  have h2 : (j 2).val < 64 := (j 2).isLt
  have h3 : (j 3).val < 32 := (j 3).isLt
  have h4 : (j 4).val < 128 := (j 4).isLt
  refine nx_congr fun a => ?_
  fin_cases a <;> simp [nx] <;> omega
/-- Where an index of an 8-bit part lies in the buffer, axes of one kept. -/
theorem emb_kv8' (t : Fin 2) (r : Fin 4) (j : S1x1x256x8x128.Idx) : (rKv8 t r).emb j = nx S2x4x256x8x128 (by decide) ![t.val, r.val, (j 2).val, (j 3).val, (j 4).val] := by
  unfold rKv8
  rw [emb_unit (by decide)]
  have h0 : (j 0).val < 1 := (j 0).isLt
  have h1 : (j 1).val < 1 := (j 1).isLt
  have h2 : (j 2).val < 256 := (j 2).isLt
  have h3 : (j 3).val < 8 := (j 3).isLt
  have h4 : (j 4).val < 128 := (j 4).isLt
  refine nx_congr fun a => ?_
  fin_cases a <;> simp [nx] <;> omega
/-- Where an index of the keys or values of one device's heads in one class lies in the buffer. -/
theorem emb_mid (t : Fin 2) (r p : Fin 4) (j : S1x1x256x8x128.Idx) : (Rect.unit (s := S2x4x256x32x128) ![t.val, r.val, 0, 8 * p.val, 0] S1x1x256x8x128.size (inb_kvHead t r p)).emb j = nx S2x4x256x32x128 (by decide) ![t.val, r.val, (j 2).val, 8 * p.val + (j 3).val, (j 4).val] := by
  rw [emb_unit (by decide)]
  have h0 : (j 0).val < 1 := (j 0).isLt
  have h1 : (j 1).val < 1 := (j 1).isLt
  have h2 : (j 2).val < 256 := (j 2).isLt
  have h3 : (j 3).val < 8 := (j 3).isLt
  have h4 : (j 4).val < 128 := (j 4).isLt
  refine nx_congr fun a => ?_
  fin_cases a <;> simp [nx] <;> omega
/-- Where an index of a quarter of the gathered keys or values lies in the buffer, axes of one kept. -/
theorem emb_full' (r g : Fin 4) (j : S1x256x8x128.Idx) : (rFull r g).emb j = nx S4x1024x8x128 (by decide) ![r.val, 256 * g.val + (j 1).val, (j 2).val, (j 3).val] := by
  unfold rFull
  rw [emb_unit (by decide)]
  have h0 : (j 0).val < 1 := (j 0).isLt
  have h1 : (j 1).val < 256 := (j 1).isLt
  have h2 : (j 2).val < 8 := (j 2).isLt
  have h3 : (j 3).val < 128 := (j 3).isLt
  refine nx_congr fun a => ?_
  fin_cases a <;> simp [nx] <;> omega
/-- Where an index of a staged block lies in the buffer, axes of one kept. -/
theorem emb_stage' (s : Fin 2) (j : S1x64x32x128.Idx) : (rStage s).emb j = nx S2x64x32x128 (by decide) ![s.val, (j 1).val, (j 2).val, (j 3).val] := by
  unfold rStage
  rw [emb_unit (by decide)]
  have h0 : (j 0).val < 1 := (j 0).isLt
  have h1 : (j 1).val < 64 := (j 1).isLt
  have h2 : (j 2).val < 32 := (j 2).isLt
  have h3 : (j 3).val < 128 := (j 3).isLt
  refine nx_congr fun a => ?_
  fin_cases a <;> simp [nx] <;> omega
/-- Where an index of the staged rows lies in the buffer, axes of one kept. -/
theorem emb_w'  (j : S1x256x1024.Idx) : rW.emb j = nx S1x256x1024 (by decide) ![0, (j 1).val, (j 2).val] := by
  unfold rW
  rw [emb_unit (by decide)]
  have h0 : (j 0).val < 1 := (j 0).isLt
  have h1 : (j 1).val < 256 := (j 1).isLt
  have h2 : (j 2).val < 1024 := (j 2).isLt
  refine nx_congr fun a => ?_
  fin_cases a <;> simp [nx] <;> omega
/-- Where an index of a half slab lies in the buffer, axes of one kept. -/
theorem emb_half3' (g : Fin 3) (f : Fin 2) (j : S1x256x512.Idx) : (rHalf3 g f).emb j = nx S3x256x1024 (by decide) ![g.val, (j 1).val, 512 * f.val + (j 2).val] := by
  unfold rHalf3
  rw [emb_unit (by decide)]
  have h0 : (j 0).val < 1 := (j 0).isLt
  have h1 : (j 1).val < 256 := (j 1).isLt
  have h2 : (j 2).val < 512 := (j 2).isLt
  refine nx_congr fun a => ?_
  fin_cases a <;> simp [nx] <;> omega
/-- Where an index of a slab lies in the buffer. -/
theorem emb_slab (g : Fin 3) (j : S1x256x1024.Idx) : (rSlab g).emb j = nx S3x256x1024 (by decide) ![g.val, (j 1).val, (j 2).val] := by
  unfold rSlab
  rw [emb_unit (by decide)]
  have h0 : (j 0).val < 1 := (j 0).isLt
  have h1 : (j 1).val < 256 := (j 1).isLt
  have h2 : (j 2).val < 1024 := (j 2).isLt
  refine nx_congr fun a => ?_
  fin_cases a <;> simp [nx] <;> omega
/-- Where an index of a quarter of the result lies in the buffer. -/
theorem emb_out (p : Fin 4) (j : S1x256x1024.Idx) : (Rect.unit (s := S1x1024x1024) ![0, 256 * p.val, 0] S1x256x1024.size (inb_out p)).emb j = nx S1x1024x1024 (by decide) ![0, 256 * p.val + (j 1).val, (j 2).val] := by
  rw [emb_unit (by decide)]
  have h0 : (j 0).val < 1 := (j 0).isLt
  have h1 : (j 1).val < 256 := (j 1).isLt
  have h2 : (j 2).val < 1024 := (j 2).isLt
  refine nx_congr fun a => ?_
  fin_cases a <;> simp [nx] <;> omega
/-- Where an index of one head of one class lies in the buffer. -/
theorem emb_fullHead (r : Fin 4) (h : Fin 8) (j : S1x1024x1x128.Idx) : (rFullHead r h).emb j = nx S4x1024x8x128 (by decide) ![r.val, (j 1).val, h.val, (j 3).val] := by
  unfold rFullHead
  rw [emb_unit (by decide)]
  have h0 : (j 0).val < 1 := (j 0).isLt
  have h1 : (j 1).val < 1024 := (j 1).isLt
  have h2 : (j 2).val < 1 := (j 2).isLt
  have h3 : (j 3).val < 128 := (j 3).isLt
  refine nx_congr fun a => ?_
  fin_cases a <;> simp [nx] <;> omega

end Cert.KernelIdeal.Attn

end
-- ==== Proof.Content.lean ====
/- What each transfer carries and each store writes, as parts of what the buffers come to hold. -/
module

public import proofs.«01_k».proof.Proof.Index

@[expose] public section

noncomputable section

namespace Cert.KernelIdeal.Attn

open Idealize.ShloMosaic Idealize.ShloMosaic.TcCoe
open Idealize.SL Idealize.SL.Sem
open Cert.KernelIdeal Cert.KernelIdeal.Gen

variable {F : FTy → Type} [FloatOps F]

/-! ## The casts, elementwise -/

/-- A narrowed block, at an index. -/
theorem castRow_apply (v : Vec F S1x64x32x128 .f32) (j : S1x1x64x32x128.Idx) :
    castRow v j = FloatOps.truncf (F := F) (φ := .f32) .bf16 bitsLt_bf16_f32 (v (nx S1x64x32x128 (by decide) ![0, (j 2).val, (j 3).val, (j 4).val])) := by
  have h0 : (j 0).val < 1 := (j 0).isLt
  have h1 : (j 1).val < 1 := (j 1).isLt
  have h2 : (j 2).val < 64 := (j 2).isLt
  have h3 : (j 3).val < 32 := (j 3).isLt
  have h4 : (j 4).val < 128 := (j 4).isLt
  refine (shapeCast_apply _ _ j (nx S64x32x128 (by decide) ![(j 2).val, (j 3).val, (j 4).val]) ?_).trans
    (congrArg (FloatOps.truncf (F := F) (φ := .f32) .bf16 bitsLt_bf16_f32) (shapeCast_apply _ _ _ (nx S1x64x32x128 (by decide) ![0, (j 2).val, (j 3).val, (j 4).val]) ?_))
  · rw [Shape.rowMajor_val_three, Shape.rowMajor_val_five]
    show ((j 2).val % 64 * 32 + (j 3).val % 32) * 128 + (j 4).val % 128 = ((((j 0).val * 1 + (j 1).val) * 64 + (j 2).val) * 32 + (j 3).val) * 128 + (j 4).val
    omega
  · rw [Shape.rowMajor_val_three, Shape.rowMajor_val_four]
    show ((0 % 1 * 64 + (j 2).val % 64) * 32 + (j 3).val % 32) * 128 + (j 4).val % 128 = ((j 2).val % 64 * 32 + (j 3).val % 32) * 128 + (j 4).val % 128
    omega
/-- An 8-bit part, at an index. -/
theorem cast8_apply (v : Vec F S1x1x256x8x128 .bf16) (j : S1x1x256x8x128.Idx) :
    cast8 v j = FloatOps.truncf (F := F) (φ := .bf16) .fp8e4m3 bitsLt_fp8e4m3_bf16 (v j) := by
  have h0 : (j 0).val < 1 := (j 0).isLt
  have h1 : (j 1).val < 1 := (j 1).isLt
  have h2 : (j 2).val < 256 := (j 2).isLt
  have h3 : (j 3).val < 8 := (j 3).isLt
  have h4 : (j 4).val < 128 := (j 4).isLt
  refine (shapeCast_apply _ _ j (nx S256x8x128 (by decide) ![(j 2).val, (j 3).val, (j 4).val]) ?_).trans
    (congrArg (FloatOps.truncf (F := F) (φ := .bf16) .fp8e4m3 bitsLt_fp8e4m3_bf16) (shapeCast_apply _ _ _ j ?_))
  · rw [Shape.rowMajor_val_three, Shape.rowMajor_val_five]
    show ((j 2).val % 256 * 8 + (j 3).val % 8) * 128 + (j 4).val % 128 = ((((j 0).val * 1 + (j 1).val) * 256 + (j 2).val) * 8 + (j 3).val) * 128 + (j 4).val
    omega
  · rw [Shape.rowMajor_val_three, Shape.rowMajor_val_five]
    show ((((j 0).val * 1 + (j 1).val) * 256 + (j 2).val) * 8 + (j 3).val) * 128 + (j 4).val = ((j 2).val % 256 * 8 + (j 3).val % 8) * 128 + (j 4).val % 128
    omega
/-- A widened 8-bit part, at an index. -/
theorem uncast8_apply (v : Vec F S1x1x256x8x128 .fp8e4m3) (j : S1x256x8x128.Idx) :
    uncast8 v j = FloatOps.extf (F := F) (φ := .fp8e4m3) .bf16 bitsLt_fp8e4m3_bf16 (v (nx S1x1x256x8x128 (by decide) ![0, 0, (j 1).val, (j 2).val, (j 3).val])) := by
  have h0 : (j 0).val < 1 := (j 0).isLt
  have h1 : (j 1).val < 256 := (j 1).isLt
  have h2 : (j 2).val < 8 := (j 2).isLt
  have h3 : (j 3).val < 128 := (j 3).isLt
  refine (shapeCast_apply _ _ j (nx S256x8x128 (by decide) ![(j 1).val, (j 2).val, (j 3).val]) ?_).trans
    (congrArg (FloatOps.extf (F := F) (φ := .fp8e4m3) .bf16 bitsLt_fp8e4m3_bf16) (shapeCast_apply _ _ _ (nx S1x1x256x8x128 (by decide) ![0, 0, (j 1).val, (j 2).val, (j 3).val]) ?_))
  · rw [Shape.rowMajor_val_three, Shape.rowMajor_val_four]
    show ((j 1).val % 256 * 8 + (j 2).val % 8) * 128 + (j 3).val % 128 = (((j 0).val * 256 + (j 1).val) * 8 + (j 2).val) * 128 + (j 3).val
    omega
  · rw [Shape.rowMajor_val_three, Shape.rowMajor_val_five]
    show (((0 % 1 * 1 + 0 % 1) * 256 + (j 1).val % 256) * 8 + (j 2).val % 8) * 128 + (j 3).val % 128 = ((j 1).val % 256 * 8 + (j 2).val % 8) * 128 + (j 3).val % 128
    omega
/-- A narrowed chunk of a matrix, at an index. -/
theorem castW_apply (v : Vec F S1x256x1024 .f32) (j : S256x1024.Idx) :
    castW v j = FloatOps.truncf (F := F) (φ := .f32) .bf16 bitsLt_bf16_f32 (v (nx S1x256x1024 (by decide) ![0, (j 0).val, (j 1).val])) := by
  have h0 : (j 0).val < 256 := (j 0).isLt
  have h1 : (j 1).val < 1024 := (j 1).isLt
  refine (shapeCast_apply _ _ j j rfl).trans
    (congrArg (FloatOps.truncf (F := F) (φ := .f32) .bf16 bitsLt_bf16_f32) (shapeCast_apply _ _ _ (nx S1x256x1024 (by decide) ![0, (j 0).val, (j 1).val]) ?_))
  rw [Shape.rowMajor_val_three, Shape.rowMajor_val_two]
  show (0 % 1 * 256 + (j 0).val % 256) * 1024 + (j 1).val % 1024 = (j 0).val * 1024 + (j 1).val
  omega

variable (m : (ℓ : Loc nD τ sig) → Buf (Elt F) ℓ)

/-! ## The first phase -/

/-- Item `i` in main memory. -/
def hbmPart (c : Dev nD) (t : Fin 2) (b : Fin 16) : S64x32x128.Idx → Elt F .f32 := fun j =>
  KVA m c t (nx S1x1024x32x128 (by decide) ![0, 64 * b.val + (j 0).val, (j 1).val, (j 2).val])
/-- The staged block is the argument's. -/
theorem stg_part (c : Dev nD) (i : Fin 32) (s : Fin 2) (j : S64x32x128.Idx) :
    STG m c i (nx S2x64x32x128 (by decide) ![s.val, (j 0).val, (j 1).val, (j 2).val]) = hbmPart m c (itT i) (itB i) j := by
  have h0 : (j 0).val < 64 := (j 0).isLt
  have h1 : (j 1).val < 32 := (j 1).isLt
  have h2 : (j 2).val < 128 := (j 2).isLt
  unfold STG hbmPart
  refine congrArg _ (nx_congr fun a => ?_)
  fin_cases a <;> simp [nx] <;> omega
/-- A narrowed block is its part of the own keys and values. -/
theorem row_eq (c : Dev nD) (i : Fin 32) (j : S1x1x64x32x128.Idx) :
    castRow (fun j => STG m c i ((rStage (itS i)).emb j)) j = KVS m c ((rKvRow (itT i) (itR i) (itN i)).emb j) := by
  have h0 : (j 0).val < 1 := (j 0).isLt
  have h1 : (j 1).val < 1 := (j 1).isLt
  have h2 : (j 2).val < 64 := (j 2).isLt
  have h3 : (j 3).val < 32 := (j 3).isLt
  have h4 : (j 4).val < 128 := (j 4).isLt
  have hi := i.isLt
  rw [castRow_apply, emb_kvRow]
  refine (congrArg (fun x => FloatOps.truncf (F := F) (φ := .f32) .bf16 bitsLt_bf16_f32 (STG m c i x)) (emb_stage' (itS i) _)).trans ?_
  unfold STG KVS
  refine congrArg _ (congrArg₂ _ (Fin.ext ?_) (nx_congr fun a => ?_))
  · show i.val / 4 % 2 = i.val / 4 % 2 % 2; omega
  · fin_cases a <;> simp [nx, itB, itN, itR] <;> omega
/-- The 8-bit part is made of the own keys and values. -/
theorem mid_eq (c : Dev nD) (t : Fin 2) (r : Fin 4) (j : S1x1x256x8x128.Idx) :
    cast8 (fun j => KVS m c ((Rect.unit (s := S2x4x256x32x128) ![t.val, r.val, 0, 8 * (peer c 1).val, 0] S1x1x256x8x128.size (inb_kvHead t r (peer c 1))).emb j)) j
      = KV8 m c ((rKv8 t r).emb j) := by
  have h0 : (j 0).val < 1 := (j 0).isLt
  have h1 : (j 1).val < 1 := (j 1).isLt
  have h2 : (j 2).val < 256 := (j 2).isLt
  have h3 : (j 3).val < 8 := (j 3).isLt
  have h4 : (j 4).val < 128 := (j 4).isLt
  have hp := (peer c 1).isLt
  rw [cast8_apply, emb_kv8', emb_mid]
  unfold KV8
  refine congrArg _ (congrArg _ (nx_congr fun a => ?_))
  fin_cases a <;> simp [nx] <;> omega
/-- A narrowed chunk is its part of the narrowed matrix. -/
theorem w_eq (c : Dev nD) (mi : Fin 3) (k : Fin 4) (j : S256x1024.Idx) :
    castW (fun j => WST m c mi k (rW.emb j)) j = MAT m c mi ((rRows k).emb j) := by
  have h0 : (j 0).val < 256 := (j 0).isLt
  have h1 : (j 1).val < 1024 := (j 1).isLt
  rw [castW_apply, emb_rows]
  refine (congrArg (fun x => FloatOps.truncf (F := F) (φ := .f32) .bf16 bitsLt_bf16_f32 (WST m c mi k x)) (emb_w' _)).trans ?_
  unfold WST MAT
  refine congrArg _ (congrArg _ (nx_congr fun a => ?_))
  fin_cases a <;> simp [nx] <;> omega
/-- A quarter of a matrix in main memory. -/
def matPart (c : Dev nD) (mi : Fin 3) (k : Fin 4) : S256x1024.Idx → Elt F .f32 := fun j =>
  MATA m c mi (nx S1024x1024 (by decide) ![256 * k.val + (j 0).val, (j 1).val])
/-- The staged rows are the argument's. -/
theorem wst_part (c : Dev nD) (mi : Fin 3) (k : Fin 4) (j : S256x1024.Idx) :
    WST m c mi k (nx S1x256x1024 (by decide) ![0, (j 0).val, (j 1).val]) = matPart m c mi k j := by
  have h0 : (j 0).val < 256 := (j 0).isLt
  have h1 : (j 1).val < 1024 := (j 1).isLt
  unfold WST matPart
  refine congrArg _ (nx_congr fun a => ?_)
  fin_cases a <;> simp [nx] <;> omega

/-! ## The second phase -/

/-- What is given quarter by quarter, at an index of the quarter. -/
theorem rows_eq {α : Type} (G : Fin 4 → S256x1024.Idx → α) (k : Fin 4) (j : S256x1024.Idx) :
    G k j = G (quarter ((rRows k).emb j 0).val) (nx S256x1024 (by decide) ![((rRows k).emb j 0).val % 256, ((rRows k).emb j 1).val]) := by
  have h0 : (j 0).val < 256 := (j 0).isLt
  have h1 : (j 1).val < 1024 := (j 1).isLt
  have hk := k.isLt
  rw [emb_rows]
  refine congrArg₂ _ (Fin.ext ?_) (eq_nx _ _ _ _ fun a => ?_)
  · show k.val = (256 * k.val + (j 0).val) % 1024 / 256 % 4; omega
  · fin_cases a
    · show (j 0).val = (256 * k.val + (j 0).val) % 1024 % 256; omega
    · show (j 1).val = (j 1).val % 1024; omega
/-- A quarter of the projection is its part of the queries. -/
theorem q_eq (c : Dev nD) (k : Fin 4) (j : S256x1024.Idx) :
    qRows (fun j => MAT m c 0 ((rRows k).emb j)) (fun j => MAT m c 1 (rAll.emb j)) j = QB m c ((rRows k).emb j) :=
  rows_eq (fun k => qRows (fun j => MAT m c 0 ((rRows k).emb j)) (fun j => MAT m c 1 (rAll.emb j))) k j
/-- A quarter of the output projection is its part of the partial result. -/
theorem p_eq (c : Dev nD) (k : Fin 4) (j : S256x1024.Idx) :
    pRows (fun j => CTX m c ((rRows k).emb j)) (fun j => MAT m c 2 (rAll.emb j)) j = PS m c ((rRows k).emb j) :=
  rows_eq (fun k => pRows (fun j => CTX m c ((rRows k).emb j)) (fun j => MAT m c 2 (rAll.emb j))) k j

/-- What arrives in a quarter is its part of the gathered keys or values. -/
theorem ful_part (c : Dev nD) (t : Fin 2) (r g : Fin 4) (hg : g ≠ 1) (j : S256x8x128.Idx) :
    FUL m c t (nx S4x1024x8x128 (by decide) ![r.val, 256 * g.val + (j 0).val, (j 1).val, (j 2).val]) = kvPart m (srcDev c g) c t r j := by
  have h0 : (j 0).val < 256 := (j 0).isLt
  have h1 : (j 1).val < 8 := (j 1).isLt
  have h2 : (j 2).val < 128 := (j 2).isLt
  have hk := g.isLt
  have hr := r.isLt
  have e : quarter (nx S4x1024x8x128 (by decide) ![r.val, 256 * g.val + (j 0).val, (j 1).val, (j 2).val] 1).val = g :=
    Fin.ext (by show (256 * g.val + (j 0).val) % 1024 / 256 % 4 = g.val; omega)
  unfold FUL
  rw [e]
  dsimp only
  rw [if_neg hg]
  refine congrArg₂ _ (Fin.ext ?_) (eq_nx _ _ _ _ fun a => ?_).symm
  · show r.val % 4 = r.val; omega
  · fin_cases a <;> simp [nx] <;> omega
/-- What arrives in 8 bits is, widened, its part of the gathered keys or values. -/
theorem wide_eq (c : Dev nD) (t : Fin 2) (r : Fin 4) (j : S1x256x8x128.Idx) :
    uncast8 (fun j => KV8 m (srcDev c 1) ((rKv8 t r).emb j)) j = FUL m c t ((rFull r 1).emb j) := by
  have h0 : (j 0).val < 1 := (j 0).isLt
  have h1 : (j 1).val < 256 := (j 1).isLt
  have h2 : (j 2).val < 8 := (j 2).isLt
  have h3 : (j 3).val < 128 := (j 3).isLt
  have hr := r.isLt
  have ht := t.isLt
  have hc := c.isLt
  rw [uncast8_apply, emb_full']
  refine (congrArg (fun x => FloatOps.extf (F := F) (φ := .fp8e4m3) .bf16 bitsLt_fp8e4m3_bf16 (KV8 m (srcDev c 1) x)) (emb_kv8' t r _)).trans ?_
  have e : quarter (nx S4x1024x8x128 (by decide) ![r.val, 256 * (1 : Fin 4).val + (j 1).val, (j 2).val, (j 3).val] 1).val = 1 :=
    Fin.ext (by show (256 * 1 + (j 1).val) % 1024 / 256 % 4 = 1; omega)
  unfold FUL
  rw [e]
  dsimp only
  rw [if_pos rfl]
  unfold KV8 kvPart
  have hp : peer (srcDev c 1) 1 = c := peer_srcDev c 1
  rw [hp]
  refine congrArg _ (congrArg _ (congrArg _ (nx_congr fun a => ?_)))
  fin_cases a <;> simp [nx] <;> omega

/-- A block of a head's output is its part of the context. -/
theorem ctx_eq (c : Dev nD) (r : Fin 4) (h : Fin 8) (k : Fin 4) (j : S64x128.Idx) :
    blkOf (HEAD m c r h) k j = CTX m c ((rBlk (blk k r) h).emb j) := by
  have h0 : (j 0).val < 64 := (j 0).isLt
  have h1 : (j 1).val < 128 := (j 1).isLt
  have hr := r.isLt
  have hk := k.isLt
  have hh := h.isLt
  refine (shapeCast_apply _ _ j j rfl).trans ?_
  rw [emb_blk]
  unfold CTX extractStridedSlice
  have e1 : (⟨(nx S1024x1024 (by decide) ![64 * (blk k r).val + (j 0).val, 128 * h.val + (j 1).val] 0).val / 64 % 4, Nat.mod_lt _ (by decide)⟩ : Fin 4) = r :=
    Fin.ext (by show (64 * (4 * k.val + r.val) + (j 0).val) % 1024 / 64 % 4 = r.val; omega)
  have e2 : (⟨(nx S1024x1024 (by decide) ![64 * (blk k r).val + (j 0).val, 128 * h.val + (j 1).val] 1).val / 128 % 8, Nat.mod_lt _ (by decide)⟩ : Fin 8) = h :=
    Fin.ext (by show (128 * h.val + (j 1).val) % 1024 / 128 % 8 = h.val; omega)
  rw [e1, e2]
  refine congrArg _ (eq_nx _ _ _ _ fun a => ?_)
  fin_cases a
  · show 64 * k.val + (j 0).val = 64 * ((64 * (4 * k.val + r.val) + (j 0).val) % 1024 / 256) + (64 * (4 * k.val + r.val) + (j 0).val) % 1024 % 64
    omega
  · show 0 + (j 1).val = (128 * h.val + (j 1).val) % 1024 % 128
    omega

/-! ## The third phase -/

/-- What arrives in the reduction is its part of the receive buffer. -/
theorem rsr_part (c : Dev nD) (j : Fin 3) (f : Fin 2) (x : S256x512.Idx) :
    RSR m c (nx S3x256x1024 (by decide) ![j.val, (x 0).val, 512 * f.val + (x 1).val]) = psPart m (srcDev c (slot j)) c f x := by
  have h0 : (x 0).val < 256 := (x 0).isLt
  have h1 : (x 1).val < 512 := (x 1).isLt
  have hj := j.isLt
  have hf := f.isLt
  unfold RSR psPart
  have e : (nx S3x256x1024 (by decide) ![j.val, (x 0).val, 512 * f.val + (x 1).val] 0 : Fin 3) = j := Fin.ext (by show j.val % 3 = j.val; omega)
  rw [e]
  refine congrArg _ (nx_congr fun a => ?_)
  fin_cases a <;> simp [nx] <;> omega
/-- A reduced half is its part of the reduced rows. -/
theorem own_eq (c : Dev nD) (f : Fin 2) (x : S256x512.Idx) : castHalf (ACC m c f) x = AGO m c ((rOwn f).emb x) := by
  have h0 : (x 0).val < 256 := (x 0).isLt
  have h1 : (x 1).val < 512 := (x 1).isLt
  have hf := f.isLt
  rw [emb_own]
  unfold AGO
  have e : (⟨(nx S256x1024 (by decide) ![(x 0).val, 512 * f.val + (x 1).val] 1).val / 512 % 2, Nat.mod_lt _ (by decide)⟩ : Fin 2) = f :=
    Fin.ext (by show (512 * f.val + (x 1).val) % 1024 / 512 % 2 = f.val; omega)
  rw [e]
  refine congrArg _ (eq_nx _ _ _ _ fun a => ?_)
  fin_cases a
  · show (x 0).val = (x 0).val % 256; omega
  · show (x 1).val = (512 * f.val + (x 1).val) % 1024 % 512; omega
/-- What arrives in the gathering is its part of the receive buffer. -/
theorem agr_part (c : Dev nD) (j : Fin 3) (f : Fin 2) (x : S256x512.Idx) :
    AGR m c (nx S3x256x1024 (by decide) ![j.val, (x 0).val, 512 * f.val + (x 1).val]) = agPart m (srcDev c (slot j)) f x := by
  have h0 : (x 0).val < 256 := (x 0).isLt
  have h1 : (x 1).val < 512 := (x 1).isLt
  have hj := j.isLt
  have hf := f.isLt
  unfold AGR agPart
  have e : (nx S3x256x1024 (by decide) ![j.val, (x 0).val, 512 * f.val + (x 1).val] 0 : Fin 3) = j := Fin.ext (by show j.val % 3 = j.val; omega)
  rw [e]
  refine congrArg _ (nx_congr fun a => ?_)
  fin_cases a <;> simp [nx] <;> omega
/-- The device's own rows of the result. -/
theorem out_own (c : Dev nD) (j : S1x256x1024.Idx) :
    ownRows (ACC m c 0) (ACC m c 1) j
      = OUT m c ((Rect.unit (s := S1x1024x1024) ![0, 256 * c.val, 0] S1x256x1024.size (inb_out c)).emb j) := by
  have h0 : (j 0).val < 1 := (j 0).isLt
  have h1 : (j 1).val < 256 := (j 1).isLt
  have h2 : (j 2).val < 1024 := (j 2).isLt
  have hc : c.val < 4 := c.isLt
  rw [emb_out]
  unfold OUT
  rw [if_pos (by show (256 * c.val + (j 1).val) % 1024 / 256 = c.val; omega)]
  refine congrArg _ (eq_nx _ _ _ _ fun a => ?_)
  fin_cases a
  · show (j 0).val = 0; omega
  · show (j 1).val = (256 * c.val + (j 1).val) % 1024 % 256; omega
  · show (j 2).val = (j 2).val % 1024; omega
/-- A peer's rows of the result. -/
theorem out_other (c : Dev nD) (g g' : Fin 3) (hg : g.val + g'.val = 2) (j : S1x256x1024.Idx) :
    otherRows (fun j => AGR m c ((rSlab g).emb j)) j
      = OUT m c ((Rect.unit (s := S1x1024x1024) ![0, 256 * (peer c g').val, 0] S1x256x1024.size (inb_out (peer c g'))).emb j) := by
  have h0 : (j 0).val < 1 := (j 0).isLt
  have h1 : (j 1).val < 256 := (j 1).isLt
  have h2 : (j 2).val < 1024 := (j 2).isLt
  have hc : c.val < 4 := c.isLt
  have hg1 := g.isLt
  have hg2 := g'.isLt
  have hp : (peer c g').val = (c.val + g'.val + 1) % 4 := rfl
  rw [emb_out]
  unfold OUT
  rw [if_neg (by show ¬ (256 * (peer c g').val + (j 1).val) % 1024 / 256 = c.val; omega)]
  have e : (⟨(c.val + 3 - (nx S1x1024x1024 (by decide) ![0, 256 * (peer c g').val + (j 1).val, (j 2).val] 1).val / 256) % 4 % 3, Nat.mod_lt _ (by decide)⟩ : Fin 3) = g :=
    Fin.ext (by show (c.val + 3 - (256 * (peer c g').val + (j 1).val) % 1024 / 256) % 4 % 3 = g.val; omega)
  rw [e]
  refine congrArg _ (eq_nx _ _ _ _ fun a => ?_)
  fin_cases a
  · show (j 0).val = 0; omega
  · show (j 1).val = (256 * (peer c g').val + (j 1).val) % 1024 % 256; omega
  · show (j 2).val = (j 2).val % 1024; omega

end Cert.KernelIdeal.Attn

end
-- ==== Proof.Views.lean ====
/- The views that copies and sends go through, as the parts of the buffers that they are. -/
module

public import proofs.«01_k».proof.Proof.Steps
public import proofs.«01_k».proof.Proof.Content

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-! ## Views as parts of their buffers -/

section Views
variable {s s' : Shape} {e : EltTy} {sp : Space} {mv : Memref sig .tc sp s e} {q : PosShare TreeShare}

/-- The contents of a rectangle, axes of one dropped, are those of its view. -/
theorem At_view (r : Rect s) (hr : ∀ a, r.stride a = 1) (hq : r.shape.Squeezes s') (f : s.Idx → Elt F e) (f' : s'.Idx → Elt F e)
    (h : ∀ j, f (r.emb (Shape.reshapeEquiv hq.numel_eq j)) = f' j) :
    At c mv q r.set f = At c ((mv.slice r hr).squeeze s' hq) q Finset.univ f' := by
  rw [At_slice r hr, At_squeeze s' hq]
  exact congrArg _ (funext h)
/-- Unknown contents of a rectangle, axes of one dropped, are those of its view. -/
theorem Jk_view (r : Rect s) (hr : ∀ a, r.stride a = 1) (hq : r.shape.Squeezes s') :
    (Jk c mv r.set : sProp 𝕄) = Jk c ((mv.slice r hr).squeeze s' hq) Finset.univ := by
  rw [Jk_slice r hr, Jk_squeeze s' hq]
/-- The contents of a rectangle are those of its view. -/
theorem At_part (r : Rect s) (hr : ∀ a, r.stride a = 1) (f : s.Idx → Elt F e) (f' : r.shape.Idx → Elt F e) (h : ∀ j, f (r.emb j) = f' j) :
    At c mv q r.set f = At c (mv.slice r hr) q Finset.univ f' := by
  rw [At_slice r hr]
  exact congrArg _ (funext h)
end Views

abbrev rHbm (b : Fin 16) : Rect S1x1024x32x128 := Rect.unit (s := S1x1024x32x128) ![0, 64 * b.val, 0, 0] S1x64x32x128.size (inb_hbm b)
abbrev rHead (t : Fin 2) (r p : Fin 4) : Rect S2x4x256x32x128 :=
  Rect.unit (s := S2x4x256x32x128) ![t.val, r.val, 0, 8 * p.val, 0] S1x1x256x8x128.size (inb_kvHead t r p)
abbrev rHalf (p : Fin 4) (f : Fin 2) : Rect S1024x1024 := Rect.unit (s := S1024x1024) ![256 * p.val, 512 * f.val] S256x512.size (inb_half p f)
abbrev rOut (p : Fin 4) : Rect S1x1024x1024 := Rect.unit (s := S1x1024x1024) ![0, 256 * p.val, 0] S1x256x1024.size (inb_out p)

variable {q : PosShare TreeShare}

/-- The contents of a staged block, over the buffer and over the view. -/
theorem v_stage (i : Fin 32) (s : Fin 2) : At c stage q (rStage s).set (STG m c i) = At c (stgV s) q Finset.univ (hbmPart m c (itT i) (itB i)) :=
  At_view _ (fun _ => rfl) squeezes_S1x64x32x128_S64x32x128 _ _ fun j => (congrArg _ (emb_stage s _ j)).trans (stg_part m c i s j)
/-- Unknown contents of a staged block, over the buffer and over the view. -/
theorem j_stage (s : Fin 2) : (Jk c stage (rStage s).set : sProp 𝕄) = Jk c (stgV s) Finset.univ := Jk_view _ (fun _ => rfl) squeezes_S1x64x32x128_S64x32x128
/-- The contents of a block of keys or values in an argument, over the buffer and over the view. -/
theorem v_hbm (t : Fin 2) (b : Fin 16) : At c (kvHbm t) q (rHbm b).set (KVA m c t) = At c (hbmV t b) q Finset.univ (hbmPart m c t b) :=
  At_view _ (fun _ => rfl) squeezes_S1x64x32x128_S64x32x128 _ _ fun j => congrArg _ (emb_hbm b _ j)
/-- The contents of the keys or values of one device's heads in one class, over the buffer and over the view. -/
theorem v_head (off : Fin 5 → Nat) (h) (t : Fin 2) (r p : Fin 4) (hoff : off = ![t.val, r.val, 0, 8 * p.val, 0]) (d : Dev nD) :
    At c kvS q (rHead t r p).set (KVS m d) = At c (headV off h) q Finset.univ (kvPart m d p t r) := by
  subst hoff
  exact At_view _ (fun _ => rfl) squeezes_S1x1x256x8x128_S256x8x128 _ _ fun j => congrArg _ (emb_head t r p _ j)
/-- The contents of an 8-bit part to send, over the buffer and over the view. -/
theorem v_kv8S (t : Fin 2) (r : Fin 4) (d : Dev nD) : At c kv8S q (rKv8 t r).set (KV8 m d) = At c (kv8SV t r) q Finset.univ (k8Part m d t r) :=
  At_view _ (fun _ => rfl) squeezes_S1x1x256x8x128_S256x8x128 _ _ fun j => congrArg _ (emb_kv8 t r _ j)
/-- The contents of an 8-bit part received, over the buffer and over the view. -/
theorem v_kv8R (t : Fin 2) (r : Fin 4) (d : Dev nD) : At c kv8R q (rKv8 t r).set (KV8 m d) = At c (kv8RV t r) q Finset.univ (k8Part m d t r) :=
  At_view _ (fun _ => rfl) squeezes_S1x1x256x8x128_S256x8x128 _ _ fun j => congrArg _ (emb_kv8 t r _ j)
/-- Unknown contents of an 8-bit part received, over the buffer and over the view. -/
theorem j_kv8R (t : Fin 2) (r : Fin 4) : (Jk c kv8R (rKv8 t r).set : sProp 𝕄) = Jk c (kv8RV t r) Finset.univ := Jk_view _ (fun _ => rfl) squeezes_S1x1x256x8x128_S256x8x128
/-- The contents of a quarter of the gathered keys or values, over the buffer and over the view. -/
theorem v_full (t : Fin 2) (r g : Fin 4) (hg : g ≠ 1) :
    At c (full t) q (rFull r g).set (FUL m c t) = At c (fullV t r g) q Finset.univ (kvPart m (srcDev c g) c t r) :=
  At_view _ (fun _ => rfl) squeezes_S1x256x8x128_S256x8x128 _ _ fun j => (congrArg _ (emb_full r g _ j)).trans (ful_part m c t r g hg j)
/-- Unknown contents of a quarter of the gathered keys or values, over the buffer and over the view. -/
theorem j_full (t : Fin 2) (r g : Fin 4) : (Jk c (full t) (rFull r g).set : sProp 𝕄) = Jk c (fullV t r g) Finset.univ := Jk_view _ (fun _ => rfl) squeezes_S1x256x8x128_S256x8x128
/-- The contents of the staged rows, over the buffer and over the view. -/
theorem v_wst (mi : Fin 3) (k : Fin 4) : At c wst q rW.set (WST m c mi k) = At c wstV q Finset.univ (matPart m c mi k) :=
  At_view _ (fun _ => rfl) squeezes_S1x256x1024_S256x1024 _ _ fun j => (congrArg _ (emb_w _ j)).trans (wst_part m c mi k j)
/-- Unknown contents of the staged rows, over the buffer and over the view. -/
theorem j_wst : (Jk c wst rW.set : sProp 𝕄) = Jk c wstV Finset.univ := Jk_view _ (fun _ => rfl) squeezes_S1x256x1024_S256x1024
/-- The contents of a quarter of an argument matrix, over the buffer and over the view. -/
theorem v_mat (mi : Fin 3) (k : Fin 4) : At c (matH mi) q (rRows k).set (MATA m c mi) = At c (matV mi k) q Finset.univ (matPart m c mi k) :=
  At_part _ (fun _ => rfl) _ _ fun j => congrArg _ (emb_rows k j)
/-- The contents of a half of a quarter of rows, over the buffer and over the view. -/
theorem v_half (off : Fin 2 → Nat) (h) (p : Fin 4) (f : Fin 2) (hoff : off = ![256 * p.val, 512 * f.val]) (d : Dev nD) :
    At c pS q (rHalf p f).set (PS m d) = At c (halfV off h) q Finset.univ (psPart m d p f) := by
  subst hoff
  exact At_part _ (fun _ => rfl) _ _ fun j => congrArg _ (emb_half p f j)
/-- The contents of a half slab of the reduction, over the buffer and over the view. -/
theorem v_rs (j : Fin 3) (f : Fin 2) : At c rsR q (rHalf3 j f).set (RSR m c) = At c (rsV j f) q Finset.univ (psPart m (srcDev c (slot j)) c f) :=
  At_view _ (fun _ => rfl) squeezes_S1x256x512_S256x512 _ _ fun x => (congrArg _ (emb_half3 j f _ x)).trans (rsr_part m c j f x)
/-- Unknown contents of a half slab of the reduction, over the buffer and over the view. -/
theorem j_rs (j : Fin 3) (f : Fin 2) : (Jk c rsR (rHalf3 j f).set : sProp 𝕄) = Jk c (rsV j f) Finset.univ := Jk_view _ (fun _ => rfl) squeezes_S1x256x512_S256x512
/-- The contents of a half of the reduced rows, over the buffer and over the view. -/
theorem v_own (f : Fin 2) (d : Dev nD) : At c agO q (rOwn f).set (AGO m d) = At c (agOV f) q Finset.univ (agPart m d f) :=
  At_part _ (fun _ => rfl) _ _ fun j => congrArg _ (emb_own f j)
/-- The contents of a half slab of the gathering, over the buffer and over the view. -/
theorem v_ag (j : Fin 3) (f : Fin 2) : At c agR q (rHalf3 j f).set (AGR m c) = At c (agV j f) q Finset.univ (agPart m (srcDev c (slot j)) f) :=
  At_view _ (fun _ => rfl) squeezes_S1x256x512_S256x512 _ _ fun x => (congrArg _ (emb_half3 j f _ x)).trans (agr_part m c j f x)
/-- Unknown contents of a half slab of the gathering, over the buffer and over the view. -/
theorem j_ag (j : Fin 3) (f : Fin 2) : (Jk c agR (rHalf3 j f).set : sProp 𝕄) = Jk c (agV j f) Finset.univ := Jk_view _ (fun _ => rfl) squeezes_S1x256x512_S256x512

end Cert.KernelIdeal.Attn

end
-- ==== Proof.Chans.lean ====
/- The sends and the waits of every channel. -/
module

public import proofs.«01_k».proof.Proof.Views

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-! ## Sends and waits of the channels -/

/-- A staging semaphore is no channel's. -/
theorem csem_stage (s : Fin 2) : ∀ x, csem x ≠ .dma (semStage s) := by revert s; decide +kernel
/-- The semaphore of the matrices' staging is no channel's. -/
theorem csem_w : ∀ x, csem x ≠ .dma semW := by decide +kernel
/-- The semaphore of a copy of own heads is no channel's. -/
theorem csem_own (t : Fin 2) (r : Fin 4) : ∀ x, csem x ≠ .dma (semOwn t r) := by revert t r; decide +kernel

/-- The source of a send of the reduction. -/
theorem srcAt_rs (j : Fin 3) (f : Fin 2) :
    srcAt m c (rsCh j f) = At c (halfV (halfOff j f c) (halfOff_inb j f c)) fullShare Finset.univ (psPart m c (peer c j) f) := by
  revert j; exact Fin.forall_fin_succ.2 ⟨rfl, Fin.forall_fin_two.2 ⟨rfl, rfl⟩⟩
/-- The destination of a send of the reduction, filled. -/
theorem dstAt_rs (j : Fin 3) (f : Fin 2) :
    dstAt m c (rsCh j f) = At c (rsV j f) fullShare Finset.univ (psPart m (srcDev c (slot j)) c f) := by
  revert j; exact Fin.forall_fin_succ.2 ⟨rfl, Fin.forall_fin_two.2 ⟨rfl, rfl⟩⟩
/-- The destination of a send of the reduction, before. -/
theorem dstJk_rs (j : Fin 3) (f : Fin 2) : (dstJk c (rsCh j f) : sProp 𝕄) = Jk c (rsV j f) Finset.univ := by
  revert j; exact Fin.forall_fin_succ.2 ⟨rfl, Fin.forall_fin_two.2 ⟨rfl, rfl⟩⟩
/-- The credit of a send of the reduction. -/
theorem NB_rs (j : Fin 3) (f : Fin 2) : NB (rsCh j f) = (rsV j f).view.dmaCredit := by
  revert j f; exact Fin.forall_fin_succ.2 ⟨fun _ => rfl, Fin.forall_fin_two.2 ⟨fun _ => rfl, fun _ => rfl⟩⟩
/-- The source of a send of the gathering: one of three shares of the reduced half. -/
theorem srcAt_ag (j : Fin 3) (f : Fin 2) : srcAt m c (agCh j f) = At c (agOV f) (shares3 fullShare j) Finset.univ (agPart m c f) := by
  revert j; exact Fin.forall_fin_succ.2 ⟨rfl, Fin.forall_fin_two.2 ⟨rfl, rfl⟩⟩
/-- The destination of a send of the gathering, filled. -/
theorem dstAt_ag (j : Fin 3) (f : Fin 2) :
    dstAt m c (agCh j f) = At c (agV j f) fullShare Finset.univ (agPart m (srcDev c (slot j)) f) := by
  revert j; exact Fin.forall_fin_succ.2 ⟨rfl, Fin.forall_fin_two.2 ⟨rfl, rfl⟩⟩
/-- The destination of a send of the gathering, before. -/
theorem dstJk_ag (j : Fin 3) (f : Fin 2) : (dstJk c (agCh j f) : sProp 𝕄) = Jk c (agV j f) Finset.univ := by
  revert j; exact Fin.forall_fin_succ.2 ⟨rfl, Fin.forall_fin_two.2 ⟨rfl, rfl⟩⟩
/-- The credit of a send of the gathering. -/
theorem NB_ag (j : Fin 3) (f : Fin 2) : NB (agCh j f) = (agV j f).view.dmaCredit := by
  revert j f; exact Fin.forall_fin_succ.2 ⟨fun _ => rfl, Fin.forall_fin_two.2 ⟨fun _ => rfl, fun _ => rfl⟩⟩

/-- A send of keys or values. -/
theorem Tr_kvSend (t : Fin 2) (r : Fin 4) : ∀ j : Fin 3,
    Tr m Kn c iprop(Ow c (ord (kvCh t r j)) ∗ srcAt m c (kvCh t r j) ∗ dstJk (peer c j) (kvCh t r j) ∗ toks c (kvCh t r j))
      (kvSend t r j c) iprop(Ow c (ord (kvCh t r j) + 1) ∗ cred (tallyAt (sendCell c (kvCh t r j)) () (NB (kvCh t r j))))
  | 0 => by
    have hd := kvDev_eq t r 0 c
    have h : Tr m Kn c _ (kvSend t r 0 c) _ := wp_send_to (c := c) (kvDev t r 0 c) (kvCh t r 0) hd
      (ss := kvSendSem t r 0) (rs := kvRecvSem t r 0) rfl rfl rfl (q := fullShare) (f := kvPart m c (peer c 0) t r) (Entails.refl _)
      (by rw [hd]; refine Entails.of_eq (Eq.trans ?_ (show At (peer c 0) (fullV t r (slot 0)) fullShare Finset.univ (kvPart m (srcDev (peer c 0) (slot 0)) (peer c 0) t r) = _ from rfl)); rw [srcDev_peer])
    rw [hd] at h; exact h
  | 1 => by
    have hd := kvDev_eq t r 1 c
    have h : Tr m Kn c _ (kvSend t r 1 c) _ := wp_send_to (c := c) (kvDev t r 1 c) (kvCh t r 1) hd
      (ss := kvSendSem t r 1) (rs := kvRecvSem t r 1) rfl rfl rfl (q := fullShare) (f := k8Part m c t r) (Entails.refl _)
      (by rw [hd]; refine Entails.of_eq (Eq.trans ?_ (show At (peer c 1) (kv8RV t r) fullShare Finset.univ (k8Part m (srcDev (peer c 1) 1) t r) = _ from rfl)); rw [show srcDev (peer c 1) 1 = c from srcDev_peer c 1])
    rw [hd] at h; exact h
  | 2 => by
    have hd := kvDev_eq t r 2 c
    have h : Tr m Kn c _ (kvSend t r 2 c) _ := wp_send_to (c := c) (kvDev t r 2 c) (kvCh t r 2) hd
      (ss := kvSendSem t r 2) (rs := kvRecvSem t r 2) rfl rfl rfl (q := fullShare) (f := kvPart m c (peer c 2) t r) (Entails.refl _)
      (by rw [hd]; refine Entails.of_eq (Eq.trans ?_ (show At (peer c 2) (fullV t r (slot 2)) fullShare Finset.univ (kvPart m (srcDev (peer c 2) (slot 2)) (peer c 2) t r) = _ from rfl)); rw [srcDev_peer])
    rw [hd] at h; exact h
/-- A send of the reduction. -/
theorem Tr_rsSend (j : Fin 3) (f : Fin 2) :
    Tr m Kn c iprop(Ow c (ord (rsCh j f)) ∗ srcAt m c (rsCh j f) ∗ dstJk (peer c j) (rsCh j f) ∗ toks c (rsCh j f))
      (send (halfV (halfOff j f c) (halfOff_inb j f c)) (rsV j f) (rsSendSem j f) (rsRecvSem j f) (rsDev j f c)
        (halfV_exact _ _ (peer c j) f (halfOff_eq j f c)) (rsV_exact j f))
      iprop(Ow c (ord (rsCh j f) + 1) ∗ cred (tallyAt (sendCell c (rsCh j f)) () (NB (rsCh j f)))) := by
  have hd := rsDev_eq j f c
  refine (wp_send_to (m := m) (Kn := Kn) (c := c) (rsDev j f c) (rsCh j f) hd (src := halfV (halfOff j f c) (halfOff_inb j f c)) (dst := rsV j f)
      (ss := rsSendSem j f) (rs := rsRecvSem j f) rfl rfl (NB_rs j f).symm (q := fullShare) (f := psPart m c (peer c j) f) (Entails.of_eq (srcAt_rs j f).symm)
      (by rw [hd, dstAt_rs, srcDev_peer])).pre ?_
  rw [hd, srcAt_rs, dstJk_rs]
/-- A send of the gathering. -/
theorem Tr_agSend (f : Fin 2) (j : Fin 3) :
    Tr m Kn c iprop(Ow c (ord (agCh j f)) ∗ srcAt m c (agCh j f) ∗ dstJk (peer c j) (agCh j f) ∗ toks c (agCh j f))
      (agSend c f j) iprop(Ow c (ord (agCh j f) + 1) ∗ cred (tallyAt (sendCell c (agCh j f)) () (NB (agCh j f)))) := by
  have hd := agDev_eq f j c
  refine (wp_send_to (m := m) (Kn := Kn) (c := c) (agDev f j c) (agCh j f) hd (src := agOV f) (dst := agV j f)
      (ss := agSendSem j f) (rs := agRecvSem j f) rfl rfl (NB_ag j f).symm (q := shares3 fullShare j) (f := agPart m c f) (Entails.of_eq (srcAt_ag j f).symm)
      (by rw [hd, dstAt_ag, srcDev_peer])).pre ?_
  rw [hd, srcAt_ag, dstJk_ag]

/-- Sends from the 24th on lie above the arrivals of keys and values. -/
theorem lt_kv : ∀ ch, 24 ≤ ord ch → 2 < chLv ch := by decide +kernel
/-- Sends from the 30th on lie above the arrivals of the reduction. -/
theorem lt_rs (f : Fin 2) : ∀ ch, 30 + 3 * f.val ≤ ord ch → 3 < chLv ch := fun ch h => (show ∀ ch, 30 ≤ ord ch → 3 < chLv ch by decide +kernel) ch (by omega)
/-- After the last send there is none left. -/
theorem lt_end (k : ℕ) : ∀ ch, 36 ≤ ord ch → k < chLv ch := fun ch h => absurd (ord_lt ch) (by omega)
/-- Every send lies above level zero. -/
theorem lt_any : ∀ ch, 0 < chLv ch := by decide +kernel

/-- The wait for an arrival on a channel. -/
theorem wp_wait_recv {s : Shape} {e : EltTy} (ch : Chan) {src : Memref sig .tc .vmem s e} {dst : Memref sig .tc .vmem s e} {sm : DmaSem sig}
    (hsm : csem (some (true, ch)) = .dma sm) (hN : dst.view.dmaCredit = NB ch) (n : ℕ) (hn : ∀ ch', n ≤ ord ch' → chLv ch < chLv ch')
    {h1 : src.view.WordExact} {h2 : dst.view.WordExact} :
    Tr m Kn c iprop(Ow c n ∗ rcvR c ch) (await src dst sm h1 h2) iprop(Ow c n ∗ dstAt m c ch ∗ semVal (recvCell c ch) 0) := by
  have h := wp_wait_cell (m := m) (Kn := Kn) (c := c) true ch (src := src) (dst := dst) hsm hN n
    (fun ch' h => by rw [show lv (cell c (some (true, ch))) () = _ from lv_recv c _ _]; exact hn ch' h) (h1 := h1) (h2 := h2)
  rw [if_pos rfl] at h
  exact h
/-- The wait for the end of a send on a channel. -/
theorem wp_wait_sent {s : Shape} {e : EltTy} (ch : Chan) {src : Memref sig .tc .vmem s e} {dst : Memref sig .tc .vmem s e} {sm : DmaSem sig}
    (hsm : csem (some (false, ch)) = .dma sm) (hN : dst.view.dmaCredit = NB ch)
    {h1 : src.view.WordExact} {h2 : dst.view.WordExact} :
    Tr m Kn c iprop(Ow c 36 ∗ sndR c ch) (await src dst sm h1 h2) iprop(Ow c 36 ∗ srcAt m c ch ∗ semVal (sendCell c ch) 0) := by
  have h := wp_wait_cell (m := m) (Kn := Kn) (c := c) false ch (src := src) (dst := dst) hsm hN 36 (lt_end _) (h1 := h1) (h2 := h2)
  rw [if_neg (by decide)] at h
  exact h
/-- The credit of a half of rows as a send of the reduction counts it. -/
theorem NB_half (j : Fin 3) (f : Fin 2) (off : Fin 2 → Nat) (h) : (halfV off h).view.dmaCredit = NB (rsCh j f) := by
  revert j f; exact Fin.forall_fin_succ.2 ⟨fun _ => rfl, Fin.forall_fin_two.2 ⟨fun _ => rfl, fun _ => rfl⟩⟩
/-- The credit of a half of the reduced rows as a send of the gathering counts it. -/
theorem NB_own (j : Fin 3) (f : Fin 2) : (agOV f).view.dmaCredit = NB (agCh j f) := by
  revert j f; exact Fin.forall_fin_succ.2 ⟨fun _ => rfl, Fin.forall_fin_two.2 ⟨fun _ => rfl, fun _ => rfl⟩⟩
/-- An arrival of keys or values. -/
theorem Tr_kvRecv (t : Fin 2) (r : Fin 4) (j : Fin 3) :
    Tr m Kn c iprop(Ow c 24 ∗ rcvR c (kvCh t r j)) (kvRecv t r j c) iprop(Ow c 24 ∗ dstAt m c (kvCh t r j) ∗ semVal (recvCell c (kvCh t r j)) 0) := by
  match j with
  | 0 => exact wp_wait_recv (kvCh t r 0) (dst := fullV t r (slot 0)) rfl rfl 24 lt_kv
  | 1 => exact wp_wait_recv (kvCh t r 1) (dst := kv8RV t r) rfl rfl 24 lt_kv
  | 2 => exact wp_wait_recv (kvCh t r 2) (dst := fullV t r (slot 2)) rfl rfl 24 lt_kv
/-- The end of a send of keys or values. -/
theorem Tr_kvDone (t : Fin 2) (r : Fin 4) (j : Fin 3) :
    Tr m Kn c iprop(Ow c 36 ∗ sndR c (kvCh t r j)) (kvDone t r j c) iprop(Ow c 36 ∗ srcAt m c (kvCh t r j) ∗ semVal (sendCell c (kvCh t r j)) 0) := by
  match j with
  | 0 => exact wp_wait_sent (kvCh t r 0) (dst := headV (sendOff t r 0 c) (sendOff_inb t r 0 c)) rfl rfl
  | 1 => exact wp_wait_sent (kvCh t r 1) (dst := kv8SV t r) rfl rfl
  | 2 => exact wp_wait_sent (kvCh t r 2) (dst := headV (sendOff t r 2 c) (sendOff_inb t r 2 c)) rfl rfl
/-- An arrival of the reduction. -/
theorem Tr_rsRecv (f : Fin 2) (j : Fin 3) :
    Tr m Kn c iprop(Ow c (30 + 3 * f.val) ∗ rcvR c (rsCh j f)) (rsRecv c f j)
      iprop(Ow c (30 + 3 * f.val) ∗ dstAt m c (rsCh j f) ∗ semVal (recvCell c (rsCh j f)) 0) := by
  exact wp_wait_recv (rsCh j f) rfl (NB_rs j f).symm _ (lt_rs f)
/-- The end of a send of the reduction. -/
theorem Tr_rsDone (j : Fin 3) (f : Fin 2) :
    Tr m Kn c iprop(Ow c 36 ∗ sndR c (rsCh j f)) (rsDone c j f) iprop(Ow c 36 ∗ srcAt m c (rsCh j f) ∗ semVal (sendCell c (rsCh j f)) 0) :=
  wp_wait_sent (rsCh j f) rfl (NB_half j f _ _)
/-- An arrival of the gathering. -/
theorem Tr_agRecv (f : Fin 2) (j : Fin 3) :
    Tr m Kn c iprop(Ow c 36 ∗ rcvR c (agCh j f)) (agRecv f j) iprop(Ow c 36 ∗ dstAt m c (agCh j f) ∗ semVal (recvCell c (agCh j f)) 0) :=
  wp_wait_recv (agCh j f) rfl (NB_ag j f).symm 36 (lt_end _)
/-- The end of a send of the gathering. -/
theorem Tr_agDone (f : Fin 2) (j : Fin 3) :
    Tr m Kn c iprop(Ow c 36 ∗ sndR c (agCh j f)) (agDone f j) iprop(Ow c 36 ∗ srcAt m c (agCh j f) ∗ semVal (sendCell c (agCh j f)) 0) :=
  wp_wait_sent (agCh j f) rfl (NB_own j f)

end Cert.KernelIdeal.Attn

end
-- ==== Proof.Local.lean ====
/- The steps between the transfers: staging, rounding, the matrices, the queries and the heads. -/
module

public import proofs.«01_k».proof.Proof.Chans

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-- Read, compute, write over anything. -/
theorem Tr_map {s₁ s₂ : Shape} {e₁ e₂ : EltTy} {mv₁ : Memref sig .tc .vmem s₁ e₁} {mv₂ : Memref sig .tc .vmem s₂ e₂} {q : PosShare TreeShare}
    {S₁ T₁ : Finset s₁.Idx} {f₁ : s₁.Idx → Elt F e₁} {S₂ : Finset s₂.Idx} {f₂ : s₂.Idx → Elt F e₂} (r₁ : Rect s₁) (r₂ : Rect s₂)
    (G : Vec F r₁.shape e₁ → Vec F r₂.shape e₂) {h1 : mv₁.view.LoadsAt r₁.toLoadRect} {h2 : mv₂.view.LoadsAt r₂.toLoadRect} {h3 : (mv₂.access r₂).Stores Finset.univ}
    (hS : r₁.set ⊆ S₁) (hT : r₁.set ⊆ T₁) (hS2 : r₂.set = S₂) (hw : ∀ j, G (fun j => f₁ (r₁.emb j)) j = f₂ (r₂.emb j)) :
    Tr m Kn c iprop(Hd c mv₁ q S₁ T₁ f₁ ∗ Jk c mv₂ S₂)
      (fun k => ld mv₁ r₁ h1 fun v => ld mv₂ r₂ h2 fun _ => st mv₂ r₂ (G v) h3 k) iprop(Hd c mv₁ q S₁ T₁ f₁ ∗ At c mv₂ fullShare S₂ f₂) := by
  intro Q k
  iintro #HC ⟨HP, HJ⟩ Hk
  iapply (wp_ld r₁ hS hT) $$ HP
  iintro HP
  iapply (Tr_put r₂ hS2 hw Q k) $$ HC HJ
  iintro HJ
  iapply Hk
  isplitl [HP] <;> iassumption
/-- Read two, compute, write over anything. -/
theorem Tr_map2 {s₀ s₁ s₂ : Shape} {e₀ e₁ e₂ : EltTy} {mv₀ : Memref sig .tc .vmem s₀ e₀} {mv₁ : Memref sig .tc .vmem s₁ e₁} {mv₂ : Memref sig .tc .vmem s₂ e₂}
    {q₀ q : PosShare TreeShare} {S₀ T₀ : Finset s₀.Idx} {f₀ : s₀.Idx → Elt F e₀}
    {S₁ T₁ : Finset s₁.Idx} {f₁ : s₁.Idx → Elt F e₁} {S₂ : Finset s₂.Idx} {f₂ : s₂.Idx → Elt F e₂} (r₀ : Rect s₀) (r₁ : Rect s₁) (r₂ : Rect s₂)
    (G : Vec F r₀.shape e₀ → Vec F r₁.shape e₁ → Vec F r₂.shape e₂) {h0 : mv₀.view.LoadsAt r₀.toLoadRect} {h1 : mv₁.view.LoadsAt r₁.toLoadRect} {h2 : mv₂.view.LoadsAt r₂.toLoadRect} {h3 : (mv₂.access r₂).Stores Finset.univ}
    (hS0 : r₀.set ⊆ S₀) (hT0 : r₀.set ⊆ T₀) (hS : r₁.set ⊆ S₁) (hT : r₁.set ⊆ T₁) (hS2 : r₂.set = S₂)
    (hw : ∀ j, G (fun j => f₀ (r₀.emb j)) (fun j => f₁ (r₁.emb j)) j = f₂ (r₂.emb j)) :
    Tr m Kn c iprop(Hd c mv₀ q₀ S₀ T₀ f₀ ∗ Hd c mv₁ q S₁ T₁ f₁ ∗ Jk c mv₂ S₂)
      (fun k => ld mv₀ r₀ h0 fun u => ld mv₁ r₁ h1 fun v => ld mv₂ r₂ h2 fun _ => st mv₂ r₂ (G u v) h3 k)
      iprop(Hd c mv₀ q₀ S₀ T₀ f₀ ∗ Hd c mv₁ q S₁ T₁ f₁ ∗ At c mv₂ fullShare S₂ f₂) := by
  intro Q k
  iintro #HC ⟨H0, HP, HJ⟩ Hk
  iapply (wp_ld r₀ hS0 hT0) $$ H0
  iintro H0
  iapply (Tr_map r₁ r₂ (G _) hS hT hS2 hw Q k) $$ HC [HP HJ]
  · isplitl [HP] <;> iassumption
  iintro ⟨HP, HJ⟩
  iapply Hk
  isplitl [H0]; · iexact H0
  isplitl [HP] <;> iassumption

/-! ## The staging loop -/

/-- A block of an argument in HBM. -/
abbrev HB (m : (ℓ : Loc nD τ sig) → Buf (Elt F) ℓ) (c : Dev nD) (t : Fin 2) (b : Fin 16) : sProp (MT nD τ sig Unit (Elt F) ℕ UU ℕ) :=
  At c (hbmV t b) fullShare Finset.univ (hbmPart m c t b)
/-- An idle staging slot. -/
abbrev SJ (c : Dev nD) (s : Fin 2) : sProp (MT nD τ sig Unit (Elt F) ℕ UU ℕ) :=
  iprop(Jk c (stgV s) Finset.univ ∗ semVal ((c : Thread nD τ), .dma (semStage s)) 0)
/-- Item `i` on its way. -/
abbrev FlI (m : (ℓ : Loc nD τ sig) → Buf (Elt F) ℓ) (c : Dev nD) (i : Fin 32) : sProp (MT nD τ sig Unit (Elt F) ℕ UU ℕ) :=
  Fl c (hbmV (itT i) (itB i)) (stgV (itS i)) (semStage (itS i)) (hbmPart m c (itT i) (itB i))
def par (n : ℕ) : Fin 2 := ⟨n % 2, Nat.mod_lt _ (by decide)⟩
/-- What the slot of item `n` holds before it. -/
def Inn (m : (ℓ : Loc nD τ sig) → Buf (Elt F) ℓ) (c : Dev nD) (n : ℕ) : sProp (MT nD τ sig Unit (Elt F) ℕ UU ℕ) :=
  if h : n < 32 then FlI m c ⟨n, h⟩ else SJ c (par n)
/-- The block the item after `n` reads. -/
def Nxt (m : (ℓ : Loc nD τ sig) → Buf (Elt F) ℓ) (c : Dev nD) (n : ℕ) : sProp (MT nD τ sig Unit (Elt F) ℕ UU ℕ) :=
  if h : n + 1 < 32 then HB m c (itT ⟨n + 1, h⟩) (itB ⟨n + 1, h⟩) else iprop(emp)
/-- Before item `n`, after `u` sends. -/
abbrev Lp (m : (ℓ : Loc nD τ sig) → Buf (Elt F) ℓ) (c : Dev nD) (u n : ℕ) : sProp (MT nD τ sig Unit (Elt F) ℕ UU ℕ) :=
  iprop(Ow c u ∗ Inn m c n ∗ SJ c (par (n + 1)))

/-- The start of a block's staging. -/
theorem Tr_start (i : Fin 32) :
    Tr m Kn c iprop(HB m c (itT i) (itB i) ∗ SJ c (itS i)) (itemStart i) (FlI m c i) :=
  Tr_copy (hbmPart m c (itT i) (itB i)) (by decide) (h3 := trivial)
/-- The start of the next block's staging, if there is one. -/
theorem Tr_next (i : Fin 32) : Tr m Kn c iprop(SJ c (par (i.val + 1)) ∗ Nxt m c i.val) (nextStart i) (Inn m c (i.val + 1)) := by
  obtain ⟨n, hn⟩ := i
  unfold Nxt Inn
  by_cases h : n + 1 < 32
  · rw [dif_pos h, dif_pos h]
    intro Q k
    iintro #HC ⟨HS, HB⟩ Hk
    have e : nextStart ⟨n, hn⟩ k = itemStart ⟨n + 1, h⟩ k := by
      unfold nextStart; split
      · rename_i h'; have := congrArg Fin.val h'; simp only at this; omega
      · rename_i h'; have := congrArg Fin.val h'; simp only at this; subst this; rw [dif_pos h]
    rw [e]
    iapply (Tr_start ⟨n + 1, h⟩ Q k) $$ HC [HS HB]
    · isplitl [HB]
      · iexact HB
      · iexact HS
    iexact Hk
  · rw [dif_neg h, dif_neg h]
    intro Q k
    iintro #HC ⟨HS, HB⟩ Hk
    have e : nextStart ⟨n, hn⟩ k = k ⟨⟩ := by
      unfold nextStart; split
      · rfl
      · rename_i h'; have := congrArg Fin.val h'; simp only at this; subst this; rw [dif_neg h]
    rw [e]
    iapply Hk
    iexact HS
/-- The store of a staged block, narrowed. -/
theorem Tr_itemStore (i : Fin 32) :
    Tr m Kn c iprop(At c (stgV (itS i)) fullShare Finset.univ (hbmPart m c (itT i) (itB i)) ∗ Jk c kvS (rKvRow (itT i) (itR i) (itN i)).set)
      (itemStore i) iprop(Jk c (stgV (itS i)) Finset.univ ∗ At c kvS fullShare (rKvRow (itT i) (itR i) (itN i)).set (KVS m c)) := by
  rw [← v_stage]
  refine (Tr_map (mv₁ := stage) (mv₂ := kvS) (f₁ := STG m c i) (f₂ := KVS m c) (rStage (itS i)) (rKvRow (itT i) (itR i) (itN i)) castRow (Finset.Subset.refl _) (Finset.Subset.refl _) rfl (row_eq m c i)).post ?_
  rw [← j_stage]
  exact BIClass.sep_mono Hd_junk (Entails.refl _)
/-- One block: the next started, this one awaited and stored. -/
theorem Tr_item (u : ℕ) (i : Fin 32) :
    Tr m Kn c iprop(Lp m c u i.val ∗ Nxt m c i.val ∗ Jk c kvS (rKvRow (itT i) (itR i) (itN i)).set) (item i)
      iprop(Lp m c u (i.val + 1) ∗ HB m c (itT i) (itB i) ∗ At c kvS fullShare (rKvRow (itT i) (itR i) (itN i)).set (KVS m c)) := by
  have e : Inn m c i.val = FlI m c i := by unfold Inn; rw [dif_pos i.isLt]
  have ep : par (i.val + 1 + 1) = itS i := Fin.ext (by show (i.val + 1 + 1) % 2 = i.val % 2; omega)
  unfold Lp
  rw [e, ep]
  intro Q k
  iintro #HC ⟨⟨HO, HF, HS⟩, HN, HJ⟩ Hk
  unfold item
  iapply (Tr_next i Q _) $$ HC [HS HN]
  · isplitl [HS] <;> iassumption
  iintro HI
  unfold itemWait
  iapply (Tr_await (csem_stage (itS i)) u Q _) $$ HC [HO HF]
  · isplitl [HO] <;> iassumption
  iintro ⟨HO, HA, HB, Hs⟩
  iapply (Tr_itemStore i Q k) $$ HC [HA HJ]
  · isplitl [HA] <;> iassumption
  iintro ⟨HA, HJ⟩
  iapply Hk
  isplitl [HO HI HA Hs]
  · isplitl [HO]; · iexact HO
    isplitl [HI]; · iexact HI
    isplitl [HA] <;> iassumption
  isplitl [HB] <;> iassumption

/-- Rectangles at equal offsets are equal. -/
theorem rect_congr {s : Shape} {off off' sz : Fin s.rank → Nat} {h h'} (e : off = off') : Rect.unit (s := s) off sz h = Rect.unit (s := s) off' sz h' := by
  subst e; rfl
/-- The 8-bit part, at the offset that the program computes. -/
theorem mid_eq' (off : Fin 5 → Nat) (h) (t : Fin 2) (r : Fin 4) (hoff : off = ![t.val, r.val, 0, 8 * (peer c 1).val, 0]) (j : S1x1x256x8x128.Idx) :
    cast8 (fun j => KVS m c ((Rect.unit (s := S2x4x256x32x128) off S1x1x256x8x128.size h).emb j)) j = KV8 m c ((rKv8 t r).emb j) := by
  subst hoff; exact mid_eq m c t r j
/-- The rounding to 8 bits. -/
theorem Tr_round8 (t : Fin 2) (r : Fin 4) :
    Tr m Kn c iprop(At c kvS fullShare (rHead t r (peer c 1)).set (KVS m c) ∗ Jk c kv8S (rKv8 t r).set) (round8 t r c)
      iprop(At c kvS fullShare (rHead t r (peer c 1)).set (KVS m c) ∗ srcAt m c (kvCh t r 1)) := by
  have hr : (Rect.unit (s := S2x4x256x32x128) (midOff t r c) S1x1x256x8x128.size (midOff_inb t r c)).set = (rHead t r (peer c 1)).set :=
    congrArg (fun r : Rect S2x4x256x32x128 => r.set) (rect_congr (s := S2x4x256x32x128) (midOff_eq t r c))
  refine (Tr_map (mv₁ := kvS) (mv₂ := kv8S) (f₁ := KVS m c) (f₂ := KV8 m c) (Rect.unit (s := S2x4x256x32x128) (midOff t r c) S1x1x256x8x128.size (midOff_inb t r c)) (rKv8 t r) cast8 (le_of_eq hr) (le_of_eq hr) rfl
    (mid_eq' _ _ t r (midOff_eq t r c))).post ?_
  rw [v_kv8S]
  exact Entails.refl _
/-- The device's own part on its way. -/
abbrev FlO (m : (ℓ : Loc nD τ sig) → Buf (Elt F) ℓ) (c : Dev nD) (r : Fin 4) (t : Fin 2) : sProp (MT nD τ sig Unit (Elt F) ℕ UU ℕ) :=
  Fl c (headV (ownOff t r c) (ownOff_inb t r c)) (fullV t r 3) (semOwn t r) (kvPart m c c t r)
/-- The start of the copy of the device's own heads. -/
theorem Tr_ownStart (t : Fin 2) (r : Fin 4) :
    Tr m Kn c iprop(At c kvS fullShare (rHead t r c).set (KVS m c) ∗ Jk c (full t) (rFull r 3).set ∗ semVal ((c : Thread nD τ), .dma (semOwn t r)) 0)
      (ownStart t r c) (FlO m c r t) := by
  rw [v_head (ownOff t r c) (ownOff_inb t r c) t r c (ownOff_eq t r c), j_full]
  exact Tr_copy _ (by decide) (h3 := trivial)
/-- The wait for the copy of the device's own heads. -/
theorem Tr_ownWait (t : Fin 2) (r : Fin 4) (u : ℕ) :
    Tr m Kn c iprop(Ow c u ∗ FlO m c r t) (ownWait t r c)
      iprop(Ow c u ∗ At c kvS fullShare (rHead t r c).set (KVS m c) ∗ At c (full t) fullShare (rFull r 3).set (FUL m c t) ∗ semVal ((c : Thread nD τ), .dma (semOwn t r)) 0) := by
  rw [v_head (ownOff t r c) (ownOff_inb t r c) t r c (ownOff_eq t r c), v_full t r 3 (by decide), srcDev_three]
  refine (Tr_await (csem_own t r) u).post ?_
  iintro ⟨HO, HA, HB, Hs⟩
  isplitl [HO]; · iexact HO
  isplitl [HB]; · iexact HB
  isplitl [HA] <;> iassumption
/-- The widening of what came in 8 bits. -/
theorem Tr_widen (t : Fin 2) (r : Fin 4) :
    Tr m Kn c iprop(dstAt m c (kvCh t r 1) ∗ Jk c (full t) (rFull r 1).set) (widen t r)
      iprop(Jk c kv8R (rKv8 t r).set ∗ At c (full t) fullShare (rFull r 1).set (FUL m c t)) := by
  have e : dstAt m c (kvCh t r 1) = At c kv8R fullShare (rKv8 t r).set (KV8 m (srcDev c 1)) := (v_kv8R t r _).symm
  rw [e]
  refine (Tr_map (mv₁ := kv8R) (mv₂ := full t) (f₁ := KV8 m (srcDev c 1)) (f₂ := FUL m c t) (rKv8 t r) (rFull r 1) uncast8 (Finset.Subset.refl _) (Finset.Subset.refl _) rfl (wide_eq m c t r)).post ?_
  exact BIClass.sep_mono Hd_junk (Entails.refl _)

/-! ## Matrices and queries -/

abbrev WS (c : Dev nD) : sProp (MT nD τ sig Unit (Elt F) ℕ UU ℕ) := iprop(Jk c wst rW.set ∗ semVal ((c : Thread nD τ), .dma semW) 0)
/-- One chunk of a matrix: staged, awaited and narrowed. -/
theorem Tr_chunk (u : ℕ) (mi : Fin 3) (k : Fin 4) :
    Tr m Kn c iprop((Ow c u ∗ WS c) ∗ At c (matH mi) fullShare (rRows k).set (MATA m c mi) ∗ Jk c (matB mi) (rRows k).set) (chunk mi k)
      iprop((Ow c u ∗ WS c) ∗ At c (matH mi) fullShare (rRows k).set (MATA m c mi) ∗ At c (matB mi) fullShare (rRows k).set (MAT m c mi)) := by
  unfold WS
  rw [v_mat]
  intro Q kk
  iintro #HC ⟨⟨HO, HW, Hs⟩, HA, HB⟩ Hk
  unfold chunk
  have cp : Tr m Kn c _ _ _ := Tr_copy (m := m) (Kn := Kn) (c := c) (src := matV mi k) (dst := wstV) (sm := semW) (matPart m c mi k) (by decide)
    (h1 := matV_exact mi k) (h2 := wstV_exact) (h3 := trivial)
  rw [← j_wst] at cp
  iapply (cp Q _) $$ HC [HW Hs HA]
  · isplitl [HA]; · iexact HA
    isplitl [HW] <;> iassumption
  iintro HF
  iapply (Tr_await csem_w u Q _) $$ HC [HO HF]
  · isplitl [HO] <;> iassumption
  iintro ⟨HO, HW, HA, Hs⟩
  have mp : Tr m Kn c iprop(At c wst fullShare rW.set (WST m c mi k) ∗ Jk c (matB mi) (rRows k).set) _
      iprop(At c wst fullShare rW.set (WST m c mi k) ∗ At c (matB mi) fullShare (rRows k).set (MAT m c mi)) :=
    Tr_map (m := m) (Kn := Kn) (c := c) (mv₁ := wst) (mv₂ := matB mi) (f₁ := WST m c mi k) (f₂ := MAT m c mi) (q := fullShare) rW (rRows k) castW (h1 := View.loadsAt_vmem h_S1x256x1024) (h2 := View.loadsAt_vmem h_S256x1024)
    (h3 := View.stores_vmem h_S256x1024 ((matB_whole mi).storeExact_slice rfl _ (rows_packed k)) (fun _ => rfl)) (Finset.Subset.refl _) (Finset.Subset.refl _) rfl (w_eq m c mi k)
  rw [v_wst] at mp
  iapply (mp Q kk) $$ HC [HW HB]
  · isplitl [HW] <;> iassumption
  iintro ⟨HW, HB⟩
  iapply Hk
  isplitl [HO HW Hs]
  · isplitl [HO]; · iexact HO
    isplitl [HW]
    · ihave HW := Hd_junk $$ HW
      ihave HW := (Entails.of_eq j_wst.symm) $$ HW
      iexact HW
    · iexact Hs
  isplitl [HA] <;> iassumption

/-- Every rectangle lies in the whole. -/
theorem rAll_sub (r : Rect S1024x1024) : r.set ⊆ Finset.univ := Finset.subset_univ _
/-- One quarter of the projection. -/
theorem Tr_qChunk (k : Fin 4) :
    Tr m Kn c iprop((At c (matB 0) fullShare Finset.univ (MAT m c 0) ∗ At c (matB 1) fullShare Finset.univ (MAT m c 1)) ∗ Jk c qB (rRows k).set) (qChunk k)
      iprop((At c (matB 0) fullShare Finset.univ (MAT m c 0) ∗ At c (matB 1) fullShare Finset.univ (MAT m c 1)) ∗ At c qB fullShare (rRows k).set (QB m c)) := by
  refine (Tr_map2 (mv₀ := matB 0) (mv₁ := matB 1) (mv₂ := qB) (q₀ := fullShare) (q := fullShare) (f₀ := MAT m c 0) (f₁ := MAT m c 1) (f₂ := QB m c) (rRows k) rAll (rRows k) qRows (Finset.subset_univ _) (Finset.subset_univ _) (Finset.subset_univ _) (Finset.subset_univ _) rfl (q_eq m c k)).conseq ?_ ?_
  · iintro ⟨⟨HA, HB⟩, HJ⟩
    isplitl [HA]; · iexact HA
    isplitl [HB] <;> iassumption
  · iintro ⟨HA, HB, HJ⟩
    isplitl [HA HB]
    · isplitl [HA] <;> iassumption
    · iexact HJ

/-- The empty assertion may be added on the left. -/
theorem emp_left (P : sProp (MT nD τ sig Unit (Elt F) ℕ UU ℕ)) : P ⊢ iprop(emp ∗ P) := by
  iintro H
  isplitr [H]
  · iempintro
  · iexact H
/-- The store of one block of a head's output. -/
theorem Tr_putBlk (r : Fin 4) (h : Fin 8) (k : Fin 4) :
    Tr m Kn c (Jk c ctxB (rBlk (blk k r) h).set) (putBlk r h (HEAD m c r h) k) (At c ctxB fullShare (rBlk (blk k r) h).set (CTX m c)) :=
  Tr_put (rBlk (blk k r) h) rfl (ctx_eq m c r h k)
/-- One head of one class. -/
theorem Tr_head (r : Fin 4) (h : Fin 8) (S₀ S₁ : Finset S4x1024x8x128.Idx) (h0 : (rFullHead r h).set ⊆ S₀) (h1 : (rFullHead r h).set ⊆ S₁) :
    Tr m Kn c iprop((At c qB fullShare Finset.univ (QB m c) ∗ At c (full 0) fullShare S₀ (FUL m c 0) ∗ At c (full 1) fullShare S₁ (FUL m c 1))
        ∗ bigSep Finset.univ fun k => Jk c ctxB (rBlk (blk k r) h).set)
      (head r h)
      iprop((At c qB fullShare Finset.univ (QB m c) ∗ At c (full 0) fullShare S₀ (FUL m c 0) ∗ At c (full 1) fullShare S₁ (FUL m c 1))
        ∗ bigSep Finset.univ fun k => At c ctxB fullShare (rBlk (blk k r) h).set (CTX m c)) := by
  have ht : Tr m Kn c iprop(emp ∗ bigSep Finset.univ fun k => Jk c ctxB (rBlk (blk k r) h).set) (four (putBlk r h (HEAD m c r h)))
      iprop(emp ∗ bigSep Finset.univ fun k => At c ctxB fullShare (rBlk (blk k r) h).set (CTX m c)) :=
    Tr.four (fun _ => iprop(emp)) _ _ fun k => (Tr_putBlk r h k).conseq (by iintro ⟨-, H⟩; iexact H) (emp_left _)
  intro Q k
  iintro #HC ⟨⟨HQ, HK, HV⟩, HJ⟩ Hk
  unfold head
  iapply (wp_ld (rBlk (blk 0 r) h) (Finset.subset_univ _) (Finset.subset_univ _)) $$ HQ
  iintro HQ
  iapply (wp_ld (rBlk (blk 1 r) h) (Finset.subset_univ _) (Finset.subset_univ _)) $$ HQ
  iintro HQ
  iapply (wp_ld (rBlk (blk 2 r) h) (Finset.subset_univ _) (Finset.subset_univ _)) $$ HQ
  iintro HQ
  iapply (wp_ld (rBlk (blk 3 r) h) (Finset.subset_univ _) (Finset.subset_univ _)) $$ HQ
  iintro HQ
  iapply (wp_ld (rFullHead r h) h0 h0) $$ HK
  iintro HK
  iapply (wp_ld (rFullHead r h) h1 h1) $$ HV
  iintro HV
  iapply (ht Q k) $$ HC [HJ]
  · isplitr [HJ]; · iempintro
    iexact HJ
  iintro ⟨-, HJ⟩
  iapply Hk
  isplitl [HQ HK HV]
  · isplitl [HQ]; · iexact HQ
    isplitl [HK] <;> iassumption
  · iexact HJ

end Cert.KernelIdeal.Attn

end
-- ==== Proof.Parts.lean ====
/- The parts that each buffer is cut into, and which part an index lies in. -/
module

public import proofs.«01_k».proof.Proof.Views

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-! ## Where an index lies -/

/-- What it takes to lie in one block of a class. -/
theorem mem_kvRow (t : Fin 2) (r n : Fin 4) (i : S2x4x256x32x128.Idx) : i ∈ (rKvRow t r n).set ↔ (t.val ≤ (i 0).val ∧ (i 0).val < t.val + 1) ∧ (r.val ≤ (i 1).val ∧ (i 1).val < r.val + 1) ∧ (64 * n.val ≤ (i 2).val ∧ (i 2).val < 64 * n.val + 64) ∧ (0 ≤ (i 3).val ∧ (i 3).val < 0 + 32) ∧ (0 ≤ (i 4).val ∧ (i 4).val < 0 + 128) := by
  unfold rKvRow
  rw [Rect.mem_set_unit]
  exact ⟨fun h => ⟨h 0, h 1, h 2, h 3, h 4⟩, fun h a => by
    fin_cases a
    · exact h.1
    · exact h.2.1
    · exact h.2.2.1
    · exact h.2.2.2.1
    · exact h.2.2.2.2⟩
/-- What it takes to lie in the keys or values of one device's heads in one class. -/
theorem mem_head (t : Fin 2) (r p : Fin 4) (i : S2x4x256x32x128.Idx) : i ∈ (rHead t r p).set ↔ (t.val ≤ (i 0).val ∧ (i 0).val < t.val + 1) ∧ (r.val ≤ (i 1).val ∧ (i 1).val < r.val + 1) ∧ (0 ≤ (i 2).val ∧ (i 2).val < 0 + 256) ∧ (8 * p.val ≤ (i 3).val ∧ (i 3).val < 8 * p.val + 8) ∧ (0 ≤ (i 4).val ∧ (i 4).val < 0 + 128) := by
  rw [Rect.mem_set_unit]
  exact ⟨fun h => ⟨h 0, h 1, h 2, h 3, h 4⟩, fun h a => by
    fin_cases a
    · exact h.1
    · exact h.2.1
    · exact h.2.2.1
    · exact h.2.2.2.1
    · exact h.2.2.2.2⟩
/-- What it takes to lie in an 8-bit part. -/
theorem mem_kv8 (t : Fin 2) (r : Fin 4) (i : S2x4x256x8x128.Idx) : i ∈ (rKv8 t r).set ↔ (t.val ≤ (i 0).val ∧ (i 0).val < t.val + 1) ∧ (r.val ≤ (i 1).val ∧ (i 1).val < r.val + 1) ∧ (0 ≤ (i 2).val ∧ (i 2).val < 0 + 256) ∧ (0 ≤ (i 3).val ∧ (i 3).val < 0 + 8) ∧ (0 ≤ (i 4).val ∧ (i 4).val < 0 + 128) := by
  unfold rKv8
  rw [Rect.mem_set_unit]
  exact ⟨fun h => ⟨h 0, h 1, h 2, h 3, h 4⟩, fun h a => by
    fin_cases a
    · exact h.1
    · exact h.2.1
    · exact h.2.2.1
    · exact h.2.2.2.1
    · exact h.2.2.2.2⟩
/-- What it takes to lie in a quarter of the gathered keys or values. -/
theorem mem_full (r g : Fin 4) (i : S4x1024x8x128.Idx) : i ∈ (rFull r g).set ↔ (r.val ≤ (i 0).val ∧ (i 0).val < r.val + 1) ∧ (256 * g.val ≤ (i 1).val ∧ (i 1).val < 256 * g.val + 256) ∧ (0 ≤ (i 2).val ∧ (i 2).val < 0 + 8) ∧ (0 ≤ (i 3).val ∧ (i 3).val < 0 + 128) := by
  unfold rFull
  rw [Rect.mem_set_unit]
  exact ⟨fun h => ⟨h 0, h 1, h 2, h 3⟩, fun h a => by
    fin_cases a
    · exact h.1
    · exact h.2.1
    · exact h.2.2.1
    · exact h.2.2.2⟩
/-- What it takes to lie in one head of one class. -/
theorem mem_fullHead (r : Fin 4) (h : Fin 8) (i : S4x1024x8x128.Idx) : i ∈ (rFullHead r h).set ↔ (r.val ≤ (i 0).val ∧ (i 0).val < r.val + 1) ∧ (0 ≤ (i 1).val ∧ (i 1).val < 0 + 1024) ∧ (h.val ≤ (i 2).val ∧ (i 2).val < h.val + 1) ∧ (0 ≤ (i 3).val ∧ (i 3).val < 0 + 128) := by
  unfold rFullHead
  rw [Rect.mem_set_unit]
  exact ⟨fun h => ⟨h 0, h 1, h 2, h 3⟩, fun h a => by
    fin_cases a
    · exact h.1
    · exact h.2.1
    · exact h.2.2.1
    · exact h.2.2.2⟩
/-- What it takes to lie in a staged block. -/
theorem mem_stage (s : Fin 2) (i : S2x64x32x128.Idx) : i ∈ (rStage s).set ↔ (s.val ≤ (i 0).val ∧ (i 0).val < s.val + 1) ∧ (0 ≤ (i 1).val ∧ (i 1).val < 0 + 64) ∧ (0 ≤ (i 2).val ∧ (i 2).val < 0 + 32) ∧ (0 ≤ (i 3).val ∧ (i 3).val < 0 + 128) := by
  unfold rStage
  rw [Rect.mem_set_unit]
  exact ⟨fun h => ⟨h 0, h 1, h 2, h 3⟩, fun h a => by
    fin_cases a
    · exact h.1
    · exact h.2.1
    · exact h.2.2.1
    · exact h.2.2.2⟩
/-- What it takes to lie in a quarter of rows. -/
theorem mem_rows (k : Fin 4) (i : S1024x1024.Idx) : i ∈ (rRows k).set ↔ (256 * k.val ≤ (i 0).val ∧ (i 0).val < 256 * k.val + 256) ∧ (0 ≤ (i 1).val ∧ (i 1).val < 0 + 1024) := by
  unfold rRows
  rw [Rect.mem_set_unit]
  exact ⟨fun h => ⟨h 0, h 1⟩, fun h a => by
    fin_cases a
    · exact h.1
    · exact h.2⟩
/-- What it takes to lie in one head's block of rows. -/
theorem mem_blk (b : Fin 16) (h : Fin 8) (i : S1024x1024.Idx) : i ∈ (rBlk b h).set ↔ (64 * b.val ≤ (i 0).val ∧ (i 0).val < 64 * b.val + 64) ∧ (128 * h.val ≤ (i 1).val ∧ (i 1).val < 128 * h.val + 128) := by
  unfold rBlk
  rw [Rect.mem_set_unit]
  exact ⟨fun h => ⟨h 0, h 1⟩, fun h a => by
    fin_cases a
    · exact h.1
    · exact h.2⟩
/-- What it takes to lie in a half of a quarter of rows. -/
theorem mem_half (p : Fin 4) (f : Fin 2) (i : S1024x1024.Idx) : i ∈ (rHalf p f).set ↔ (256 * p.val ≤ (i 0).val ∧ (i 0).val < 256 * p.val + 256) ∧ (512 * f.val ≤ (i 1).val ∧ (i 1).val < 512 * f.val + 512) := by
  rw [Rect.mem_set_unit]
  exact ⟨fun h => ⟨h 0, h 1⟩, fun h a => by
    fin_cases a
    · exact h.1
    · exact h.2⟩
/-- What it takes to lie in a half slab. -/
theorem mem_half3 (j : Fin 3) (f : Fin 2) (i : S3x256x1024.Idx) : i ∈ (rHalf3 j f).set ↔ (j.val ≤ (i 0).val ∧ (i 0).val < j.val + 1) ∧ (0 ≤ (i 1).val ∧ (i 1).val < 0 + 256) ∧ (512 * f.val ≤ (i 2).val ∧ (i 2).val < 512 * f.val + 512) := by
  unfold rHalf3
  rw [Rect.mem_set_unit]
  exact ⟨fun h => ⟨h 0, h 1, h 2⟩, fun h a => by
    fin_cases a
    · exact h.1
    · exact h.2.1
    · exact h.2.2⟩
/-- What it takes to lie in a slab. -/
theorem mem_slab (j : Fin 3) (i : S3x256x1024.Idx) : i ∈ (rSlab j).set ↔ (j.val ≤ (i 0).val ∧ (i 0).val < j.val + 1) ∧ (0 ≤ (i 1).val ∧ (i 1).val < 0 + 256) ∧ (0 ≤ (i 2).val ∧ (i 2).val < 0 + 1024) := by
  unfold rSlab
  rw [Rect.mem_set_unit]
  exact ⟨fun h => ⟨h 0, h 1, h 2⟩, fun h a => by
    fin_cases a
    · exact h.1
    · exact h.2.1
    · exact h.2.2⟩
/-- What it takes to lie in a half of the reduced rows. -/
theorem mem_own (f : Fin 2) (i : S256x1024.Idx) : i ∈ (rOwn f).set ↔ (0 ≤ (i 0).val ∧ (i 0).val < 0 + 256) ∧ (512 * f.val ≤ (i 1).val ∧ (i 1).val < 512 * f.val + 512) := by
  unfold rOwn
  rw [Rect.mem_set_unit]
  exact ⟨fun h => ⟨h 0, h 1⟩, fun h a => by
    fin_cases a
    · exact h.1
    · exact h.2⟩
/-- What it takes to lie in a quarter of the result. -/
theorem mem_out (p : Fin 4) (i : S1x1024x1024.Idx) : i ∈ (rOut p).set ↔ (0 ≤ (i 0).val ∧ (i 0).val < 0 + 1) ∧ (256 * p.val ≤ (i 1).val ∧ (i 1).val < 256 * p.val + 256) ∧ (0 ≤ (i 2).val ∧ (i 2).val < 0 + 1024) := by
  rw [Rect.mem_set_unit]
  exact ⟨fun h => ⟨h 0, h 1, h 2⟩, fun h a => by
    fin_cases a
    · exact h.1
    · exact h.2.1
    · exact h.2.2⟩
/-- What it takes to lie in a block of keys or values in an argument. -/
theorem mem_hbm (b : Fin 16) (i : S1x1024x32x128.Idx) : i ∈ (rHbm b).set ↔ (0 ≤ (i 0).val ∧ (i 0).val < 0 + 1) ∧ (64 * b.val ≤ (i 1).val ∧ (i 1).val < 64 * b.val + 64) ∧ (0 ≤ (i 2).val ∧ (i 2).val < 0 + 32) ∧ (0 ≤ (i 3).val ∧ (i 3).val < 0 + 128) := by
  rw [Rect.mem_set_unit]
  exact ⟨fun h => ⟨h 0, h 1, h 2, h 3⟩, fun h a => by
    fin_cases a
    · exact h.1
    · exact h.2.1
    · exact h.2.2.1
    · exact h.2.2.2⟩
/-- What it takes to lie in the staged rows. -/
theorem mem_w  (i : S1x256x1024.Idx) : i ∈ (rW).set ↔ (0 ≤ (i 0).val ∧ (i 0).val < 0 + 1) ∧ (0 ≤ (i 1).val ∧ (i 1).val < 0 + 256) ∧ (0 ≤ (i 2).val ∧ (i 2).val < 0 + 1024) := by
  unfold rW
  rw [Rect.mem_set_unit]
  exact ⟨fun h => ⟨h 0, h 1, h 2⟩, fun h a => by
    fin_cases a
    · exact h.1
    · exact h.2.1
    · exact h.2.2⟩

/-! ## Classes -/

def kvCls (r : Fin 4) : Finset S2x4x256x32x128.Idx := Finset.univ.filter fun i => (i 1).val = r.val
def fulCls (r : Fin 4) : Finset S4x1024x8x128.Idx := Finset.univ.filter fun i => (i 0).val = r.val
/-- What it takes to lie in a class of the staged keys and values. -/
theorem mem_kvCls (r : Fin 4) (i : S2x4x256x32x128.Idx) : i ∈ kvCls r ↔ (i 1).val = r.val := by
  unfold kvCls; rw [Finset.mem_filter]; exact and_iff_right (Finset.mem_univ i)
/-- What it takes to lie in a class of the gathered keys or values. -/
theorem mem_fulCls (r : Fin 4) (i : S4x1024x8x128.Idx) : i ∈ fulCls r ↔ (i 0).val = r.val := by
  unfold fulCls; rw [Finset.mem_filter]; exact and_iff_right (Finset.mem_univ i)
/-- One head of a class lies in the class. -/
theorem fullHead_sub (r : Fin 4) (h : Fin 8) : (rFullHead r h).set ⊆ fulCls r := by
  intro i hi
  rw [mem_fullHead] at hi
  rw [mem_fulCls]
  omega

/-! ## The parts that a buffer is cut into -/

def κ_kvItems (i : S2x4x256x32x128.Idx) : Fin 32 :=
  ⟨8 * (i 1).val + 4 * (i 0).val + (i 2).val / 64, by
    have h0 : (i 0).val < 2 := (i 0).isLt
    have h1 : (i 1).val < 4 := (i 1).isLt
    have h2 : (i 2).val < 256 := (i 2).isLt
    have h3 : (i 3).val < 32 := (i 3).isLt
    have h4 : (i 4).val < 128 := (i 4).isLt
    omega⟩
/-- The 32 blocks split the buffer of own keys and values. -/
theorem is_kvItems  (a : Fin 32) (i : S2x4x256x32x128.Idx) : i ∈ (fun a => (rKvRow (itT a) (itR a) (itN a)).set) a ↔ i ∈ Finset.univ ∧ κ_kvItems i = a := by
  have h0 : (i 0).val < 2 := (i 0).isLt
  have h1 : (i 1).val < 4 := (i 1).isLt
  have h2 : (i 2).val < 256 := (i 2).isLt
  have h3 : (i 3).val < 32 := (i 3).isLt
  have h4 : (i 4).val < 128 := (i 4).isLt
  show i ∈ (rKvRow (itT a) (itR a) (itN a)).set ↔ _
  rw [and_iff_right (Finset.mem_univ i)]
  have e : κ_kvItems i = a ↔ 8 * (i 1).val + 4 * (i 0).val + (i 2).val / 64 = (a).val :=
    Fin.ext_iff
  have : (a).val < 32 := (a).isLt
  rw [e, mem_kvRow]
  simp only [itT, itR, itN, it, blk]
  omega
def κ_kvRows (i : S2x4x256x32x128.Idx) : Fin 8 :=
  ⟨4 * (i 0).val + (i 2).val / 64, by
    have h0 : (i 0).val < 2 := (i 0).isLt
    have h1 : (i 1).val < 4 := (i 1).isLt
    have h2 : (i 2).val < 256 := (i 2).isLt
    have h3 : (i 3).val < 32 := (i 3).isLt
    have h4 : (i 4).val < 128 := (i 4).isLt
    omega⟩
/-- The eight blocks of a class split the class. -/
theorem is_kvRows (r : Fin 4) (a : Fin 8) (i : S2x4x256x32x128.Idx) : i ∈ (fun a => (rKvRow (itT (it r a)) (itR (it r a)) (itN (it r a))).set) a ↔ i ∈ kvCls r ∧ κ_kvRows i = a := by
  have h0 : (i 0).val < 2 := (i 0).isLt
  have h1 : (i 1).val < 4 := (i 1).isLt
  have h2 : (i 2).val < 256 := (i 2).isLt
  have h3 : (i 3).val < 32 := (i 3).isLt
  have h4 : (i 4).val < 128 := (i 4).isLt
  show i ∈ (rKvRow (itT (it r a)) (itR (it r a)) (itN (it r a))).set ↔ _
  rw [mem_kvCls r i]
  have e : κ_kvRows i = a ↔ 4 * (i 0).val + (i 2).val / 64 = (a).val :=
    Fin.ext_iff
  have : (a).val < 8 := (a).isLt
  have := (r).isLt
  rw [e, mem_kvRow]
  simp only [itT, itR, itN, it, blk]
  omega
def κ_kvHeads (i : S2x4x256x32x128.Idx) : Fin 2 × Fin 4 :=
  (⟨(i 0).val, by
    have h0 : (i 0).val < 2 := (i 0).isLt
    have h1 : (i 1).val < 4 := (i 1).isLt
    have h2 : (i 2).val < 256 := (i 2).isLt
    have h3 : (i 3).val < 32 := (i 3).isLt
    have h4 : (i 4).val < 128 := (i 4).isLt
    omega⟩, ⟨(i 3).val / 8, by
    have h0 : (i 0).val < 2 := (i 0).isLt
    have h1 : (i 1).val < 4 := (i 1).isLt
    have h2 : (i 2).val < 256 := (i 2).isLt
    have h3 : (i 3).val < 32 := (i 3).isLt
    have h4 : (i 4).val < 128 := (i 4).isLt
    omega⟩)
/-- The heads for the four devices split a class, for the keys and for the values. -/
theorem is_kvHeads (r : Fin 4) (a : Fin 2 × Fin 4) (i : S2x4x256x32x128.Idx) : i ∈ (fun a => (rHead a.1 r a.2).set) a ↔ i ∈ kvCls r ∧ κ_kvHeads i = a := by
  have h0 : (i 0).val < 2 := (i 0).isLt
  have h1 : (i 1).val < 4 := (i 1).isLt
  have h2 : (i 2).val < 256 := (i 2).isLt
  have h3 : (i 3).val < 32 := (i 3).isLt
  have h4 : (i 4).val < 128 := (i 4).isLt
  show i ∈ (rHead a.1 r a.2).set ↔ _
  rw [mem_kvCls r i]
  have e : κ_kvHeads i = a ↔ (i 0).val = (a.1).val ∧ (i 3).val / 8 = (a.2).val :=
    Prod.ext_iff.trans (and_congr Fin.ext_iff Fin.ext_iff)
  have : (a.1).val < 2 := (a.1).isLt
  have : (a.2).val < 4 := (a.2).isLt
  have := (r).isLt
  rw [e, mem_head]
  omega
def κ_kvClasses (i : S2x4x256x32x128.Idx) : Fin 4 :=
  ⟨(i 1).val, by
    have h0 : (i 0).val < 2 := (i 0).isLt
    have h1 : (i 1).val < 4 := (i 1).isLt
    have h2 : (i 2).val < 256 := (i 2).isLt
    have h3 : (i 3).val < 32 := (i 3).isLt
    have h4 : (i 4).val < 128 := (i 4).isLt
    omega⟩
/-- The four classes split the buffer of own keys and values. -/
theorem is_kvClasses  (a : Fin 4) (i : S2x4x256x32x128.Idx) : i ∈ (fun a => kvCls a) a ↔ i ∈ Finset.univ ∧ κ_kvClasses i = a := by
  have h0 : (i 0).val < 2 := (i 0).isLt
  have h1 : (i 1).val < 4 := (i 1).isLt
  have h2 : (i 2).val < 256 := (i 2).isLt
  have h3 : (i 3).val < 32 := (i 3).isLt
  have h4 : (i 4).val < 128 := (i 4).isLt
  show i ∈ kvCls a ↔ _
  rw [and_iff_right (Finset.mem_univ i)]
  have e : κ_kvClasses i = a ↔ (i 1).val = (a).val :=
    Fin.ext_iff
  have : (a).val < 4 := (a).isLt
  rw [e, mem_kvCls]
def κ_kv8s (i : S2x4x256x8x128.Idx) : Fin 4 × Fin 2 :=
  (⟨(i 1).val, by
    have h0 : (i 0).val < 2 := (i 0).isLt
    have h1 : (i 1).val < 4 := (i 1).isLt
    have h2 : (i 2).val < 256 := (i 2).isLt
    have h3 : (i 3).val < 8 := (i 3).isLt
    have h4 : (i 4).val < 128 := (i 4).isLt
    omega⟩, ⟨(i 0).val, by
    have h0 : (i 0).val < 2 := (i 0).isLt
    have h1 : (i 1).val < 4 := (i 1).isLt
    have h2 : (i 2).val < 256 := (i 2).isLt
    have h3 : (i 3).val < 8 := (i 3).isLt
    have h4 : (i 4).val < 128 := (i 4).isLt
    omega⟩)
/-- The parts by class, keys and values, split an 8-bit buffer. -/
theorem is_kv8s  (a : Fin 4 × Fin 2) (i : S2x4x256x8x128.Idx) : i ∈ (fun a => (rKv8 a.2 a.1).set) a ↔ i ∈ Finset.univ ∧ κ_kv8s i = a := by
  have h0 : (i 0).val < 2 := (i 0).isLt
  have h1 : (i 1).val < 4 := (i 1).isLt
  have h2 : (i 2).val < 256 := (i 2).isLt
  have h3 : (i 3).val < 8 := (i 3).isLt
  have h4 : (i 4).val < 128 := (i 4).isLt
  show i ∈ (rKv8 a.2 a.1).set ↔ _
  rw [and_iff_right (Finset.mem_univ i)]
  have e : κ_kv8s i = a ↔ (i 1).val = (a.1).val ∧ (i 0).val = (a.2).val :=
    Prod.ext_iff.trans (and_congr Fin.ext_iff Fin.ext_iff)
  have : (a.1).val < 4 := (a.1).isLt
  have : (a.2).val < 2 := (a.2).isLt
  rw [e, mem_kv8]
  omega
def κ_slots (i : S4x1024x8x128.Idx) : Fin 4 :=
  ⟨(i 1).val / 256, by
    have h0 : (i 0).val < 4 := (i 0).isLt
    have h1 : (i 1).val < 1024 := (i 1).isLt
    have h2 : (i 2).val < 8 := (i 2).isLt
    have h3 : (i 3).val < 128 := (i 3).isLt
    omega⟩
/-- The four quarters split a class of the gathered keys or values. -/
theorem is_slots (r : Fin 4) (a : Fin 4) (i : S4x1024x8x128.Idx) : i ∈ (fun a => (rFull r a).set) a ↔ i ∈ fulCls r ∧ κ_slots i = a := by
  have h0 : (i 0).val < 4 := (i 0).isLt
  have h1 : (i 1).val < 1024 := (i 1).isLt
  have h2 : (i 2).val < 8 := (i 2).isLt
  have h3 : (i 3).val < 128 := (i 3).isLt
  show i ∈ (rFull r a).set ↔ _
  rw [mem_fulCls r i]
  have e : κ_slots i = a ↔ (i 1).val / 256 = (a).val :=
    Fin.ext_iff
  have : (a).val < 4 := (a).isLt
  have := (r).isLt
  rw [e, mem_full]
  omega
def κ_fulls (i : S4x1024x8x128.Idx) : Fin 4 :=
  ⟨(i 0).val, by
    have h0 : (i 0).val < 4 := (i 0).isLt
    have h1 : (i 1).val < 1024 := (i 1).isLt
    have h2 : (i 2).val < 8 := (i 2).isLt
    have h3 : (i 3).val < 128 := (i 3).isLt
    omega⟩
/-- The four classes split the gathered keys or values. -/
theorem is_fulls  (a : Fin 4) (i : S4x1024x8x128.Idx) : i ∈ (fun a => fulCls a) a ↔ i ∈ Finset.univ ∧ κ_fulls i = a := by
  have h0 : (i 0).val < 4 := (i 0).isLt
  have h1 : (i 1).val < 1024 := (i 1).isLt
  have h2 : (i 2).val < 8 := (i 2).isLt
  have h3 : (i 3).val < 128 := (i 3).isLt
  show i ∈ fulCls a ↔ _
  rw [and_iff_right (Finset.mem_univ i)]
  have e : κ_fulls i = a ↔ (i 0).val = (a).val :=
    Fin.ext_iff
  have : (a).val < 4 := (a).isLt
  rw [e, mem_fulCls]
def κ_stages (i : S2x64x32x128.Idx) : Fin 2 :=
  ⟨(i 0).val, by
    have h0 : (i 0).val < 2 := (i 0).isLt
    have h1 : (i 1).val < 64 := (i 1).isLt
    have h2 : (i 2).val < 32 := (i 2).isLt
    have h3 : (i 3).val < 128 := (i 3).isLt
    omega⟩
/-- The two slots split the staging buffer. -/
theorem is_stages  (a : Fin 2) (i : S2x64x32x128.Idx) : i ∈ (fun a => (rStage a).set) a ↔ i ∈ Finset.univ ∧ κ_stages i = a := by
  have h0 : (i 0).val < 2 := (i 0).isLt
  have h1 : (i 1).val < 64 := (i 1).isLt
  have h2 : (i 2).val < 32 := (i 2).isLt
  have h3 : (i 3).val < 128 := (i 3).isLt
  show i ∈ (rStage a).set ↔ _
  rw [and_iff_right (Finset.mem_univ i)]
  have e : κ_stages i = a ↔ (i 0).val = (a).val :=
    Fin.ext_iff
  have : (a).val < 2 := (a).isLt
  rw [e, mem_stage]
  omega
def κ_rowses (i : S1024x1024.Idx) : Fin 4 :=
  ⟨(i 0).val / 256, by
    have h0 : (i 0).val < 1024 := (i 0).isLt
    have h1 : (i 1).val < 1024 := (i 1).isLt
    omega⟩
/-- The four quarters of rows split a matrix. -/
theorem is_rowses  (a : Fin 4) (i : S1024x1024.Idx) : i ∈ (fun a => (rRows a).set) a ↔ i ∈ Finset.univ ∧ κ_rowses i = a := by
  have h0 : (i 0).val < 1024 := (i 0).isLt
  have h1 : (i 1).val < 1024 := (i 1).isLt
  show i ∈ (rRows a).set ↔ _
  rw [and_iff_right (Finset.mem_univ i)]
  have e : κ_rowses i = a ↔ (i 0).val / 256 = (a).val :=
    Fin.ext_iff
  have : (a).val < 4 := (a).isLt
  rw [e, mem_rows]
  omega
def κ_blks (i : S1024x1024.Idx) : Fin 4 × Fin 8 × Fin 4 :=
  (⟨(i 0).val / 64 % 4, by
    have h0 : (i 0).val < 1024 := (i 0).isLt
    have h1 : (i 1).val < 1024 := (i 1).isLt
    omega⟩, ⟨(i 1).val / 128, by
    have h0 : (i 0).val < 1024 := (i 0).isLt
    have h1 : (i 1).val < 1024 := (i 1).isLt
    omega⟩, ⟨(i 0).val / 256, by
    have h0 : (i 0).val < 1024 := (i 0).isLt
    have h1 : (i 1).val < 1024 := (i 1).isLt
    omega⟩)
/-- The blocks by class, head and number split the context. -/
theorem is_blks  (a : Fin 4 × Fin 8 × Fin 4) (i : S1024x1024.Idx) : i ∈ (fun a => (rBlk (blk a.2.2 a.1) a.2.1).set) a ↔ i ∈ Finset.univ ∧ κ_blks i = a := by
  have h0 : (i 0).val < 1024 := (i 0).isLt
  have h1 : (i 1).val < 1024 := (i 1).isLt
  show i ∈ (rBlk (blk a.2.2 a.1) a.2.1).set ↔ _
  rw [and_iff_right (Finset.mem_univ i)]
  have e : κ_blks i = a ↔ (i 0).val / 64 % 4 = (a.1).val ∧ (i 1).val / 128 = (a.2.1).val ∧ (i 0).val / 256 = (a.2.2).val :=
    Prod.ext_iff.trans (and_congr Fin.ext_iff (Prod.ext_iff.trans (and_congr Fin.ext_iff Fin.ext_iff)))
  have : (a.1).val < 4 := (a.1).isLt
  have : (a.2.1).val < 8 := (a.2.1).isLt
  have : (a.2.2).val < 4 := (a.2.2).isLt
  rw [e, mem_blk]
  simp only [itT, itR, itN, it, blk]
  omega
def κ_halves (i : S1024x1024.Idx) : Fin 2 :=
  ⟨(i 1).val / 512, by
    have h0 : (i 0).val < 1024 := (i 0).isLt
    have h1 : (i 1).val < 1024 := (i 1).isLt
    omega⟩
/-- The two halves split a quarter of rows. -/
theorem is_halves (p : Fin 4) (a : Fin 2) (i : S1024x1024.Idx) : i ∈ (fun a => (rHalf p a).set) a ↔ i ∈ (rRows p).set ∧ κ_halves i = a := by
  have h0 : (i 0).val < 1024 := (i 0).isLt
  have h1 : (i 1).val < 1024 := (i 1).isLt
  show i ∈ (rHalf p a).set ↔ _
  rw [mem_rows p i]
  have e : κ_halves i = a ↔ (i 1).val / 512 = (a).val :=
    Fin.ext_iff
  have : (a).val < 2 := (a).isLt
  have := (p).isLt
  rw [e, mem_half]
  omega
def κ_half3s (i : S3x256x1024.Idx) : Fin 2 :=
  ⟨(i 2).val / 512, by
    have h0 : (i 0).val < 3 := (i 0).isLt
    have h1 : (i 1).val < 256 := (i 1).isLt
    have h2 : (i 2).val < 1024 := (i 2).isLt
    omega⟩
/-- The two halves split a slab. -/
theorem is_half3s (j : Fin 3) (a : Fin 2) (i : S3x256x1024.Idx) : i ∈ (fun a => (rHalf3 j a).set) a ↔ i ∈ (rSlab j).set ∧ κ_half3s i = a := by
  have h0 : (i 0).val < 3 := (i 0).isLt
  have h1 : (i 1).val < 256 := (i 1).isLt
  have h2 : (i 2).val < 1024 := (i 2).isLt
  show i ∈ (rHalf3 j a).set ↔ _
  rw [mem_slab j i]
  have e : κ_half3s i = a ↔ (i 2).val / 512 = (a).val :=
    Fin.ext_iff
  have : (a).val < 2 := (a).isLt
  have := (j).isLt
  rw [e, mem_half3]
  omega
def κ_slabs (i : S3x256x1024.Idx) : Fin 3 :=
  ⟨(i 0).val, by
    have h0 : (i 0).val < 3 := (i 0).isLt
    have h1 : (i 1).val < 256 := (i 1).isLt
    have h2 : (i 2).val < 1024 := (i 2).isLt
    omega⟩
/-- The three slabs split a receive buffer. -/
theorem is_slabs  (a : Fin 3) (i : S3x256x1024.Idx) : i ∈ (fun a => (rSlab a).set) a ↔ i ∈ Finset.univ ∧ κ_slabs i = a := by
  have h0 : (i 0).val < 3 := (i 0).isLt
  have h1 : (i 1).val < 256 := (i 1).isLt
  have h2 : (i 2).val < 1024 := (i 2).isLt
  show i ∈ (rSlab a).set ↔ _
  rw [and_iff_right (Finset.mem_univ i)]
  have e : κ_slabs i = a ↔ (i 0).val = (a).val :=
    Fin.ext_iff
  have : (a).val < 3 := (a).isLt
  rw [e, mem_slab]
  omega
def κ_owns (i : S256x1024.Idx) : Fin 2 :=
  ⟨(i 1).val / 512, by
    have h0 : (i 0).val < 256 := (i 0).isLt
    have h1 : (i 1).val < 1024 := (i 1).isLt
    omega⟩
/-- The two halves split the reduced rows. -/
theorem is_owns  (a : Fin 2) (i : S256x1024.Idx) : i ∈ (fun a => (rOwn a).set) a ↔ i ∈ Finset.univ ∧ κ_owns i = a := by
  have h0 : (i 0).val < 256 := (i 0).isLt
  have h1 : (i 1).val < 1024 := (i 1).isLt
  show i ∈ (rOwn a).set ↔ _
  rw [and_iff_right (Finset.mem_univ i)]
  have e : κ_owns i = a ↔ (i 1).val / 512 = (a).val :=
    Fin.ext_iff
  have : (a).val < 2 := (a).isLt
  rw [e, mem_own]
  omega
def κ_outs (i : S1x1024x1024.Idx) : Fin 4 :=
  ⟨(i 1).val / 256, by
    have h0 : (i 0).val < 1 := (i 0).isLt
    have h1 : (i 1).val < 1024 := (i 1).isLt
    have h2 : (i 2).val < 1024 := (i 2).isLt
    omega⟩
/-- The four quarters split the result. -/
theorem is_outs  (a : Fin 4) (i : S1x1024x1024.Idx) : i ∈ (fun a => (rOut a).set) a ↔ i ∈ Finset.univ ∧ κ_outs i = a := by
  have h0 : (i 0).val < 1 := (i 0).isLt
  have h1 : (i 1).val < 1024 := (i 1).isLt
  have h2 : (i 2).val < 1024 := (i 2).isLt
  show i ∈ (rOut a).set ↔ _
  rw [and_iff_right (Finset.mem_univ i)]
  have e : κ_outs i = a ↔ (i 1).val / 256 = (a).val :=
    Fin.ext_iff
  have : (a).val < 4 := (a).isLt
  rw [e, mem_out]
  omega
def κ_hbms (i : S1x1024x32x128.Idx) : Fin 16 :=
  ⟨(i 1).val / 64, by
    have h0 : (i 0).val < 1 := (i 0).isLt
    have h1 : (i 1).val < 1024 := (i 1).isLt
    have h2 : (i 2).val < 32 := (i 2).isLt
    have h3 : (i 3).val < 128 := (i 3).isLt
    omega⟩
/-- The sixteen blocks split an argument of keys or values. -/
theorem is_hbms  (a : Fin 16) (i : S1x1024x32x128.Idx) : i ∈ (fun a => (rHbm a).set) a ↔ i ∈ Finset.univ ∧ κ_hbms i = a := by
  have h0 : (i 0).val < 1 := (i 0).isLt
  have h1 : (i 1).val < 1024 := (i 1).isLt
  have h2 : (i 2).val < 32 := (i 2).isLt
  have h3 : (i 3).val < 128 := (i 3).isLt
  show i ∈ (rHbm a).set ↔ _
  rw [and_iff_right (Finset.mem_univ i)]
  have e : κ_hbms i = a ↔ (i 1).val / 64 = (a).val :=
    Fin.ext_iff
  have : (a).val < 16 := (a).isLt
  rw [e, mem_hbm]
  omega

variable {q : PosShare TreeShare}

/-- The staged rows are the whole of their buffer. -/
theorem w_univ : rW.set = Finset.univ := by
  ext i
  have h0 : (i 0).val < 1 := (i 0).isLt
  have h1 : (i 1).val < 256 := (i 1).isLt
  have h2 : (i 2).val < 1024 := (i 2).isLt
  rw [mem_w]
  simp only [Finset.mem_univ, iff_true]
  omega

/-- The four devices: this one and its three peers. -/
theorem sep_dev (c : Dev nD) (A : Fin 4 → sProp (MT nD τ sig Unit (Elt F) ℕ UU ℕ)) :
    bigSep Finset.univ A = iprop(A c ∗ A (peer c 0) ∗ A (peer c 1) ∗ A (peer c 2)) := by
  rw [bigSep_univ_eq_bigSepL [c, peer c 0, peer c 1, peer c 2] (by revert c; decide) (by revert c; decide) A]; rfl

end Cert.KernelIdeal.Attn

end
-- ==== Proof.Third.lean ====
/- The steps of the last phase: the partial results, the sums, and the rows of the result. -/
module

public import proofs.«01_k».proof.Proof.Local
public import proofs.«01_k».proof.Proof.Parts

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-- The rows read for a peer are the peer's quarter. -/
theorem rowOff_set (j : Fin 3) : (Rect.unit (s := S1024x1024) (rowOff j c) S256x1024.size (rowOff_inb j c)).set = (rRows (peer c j)).set :=
  congrArg (fun r : Rect S1024x1024 => r.set) (rect_congr (s := S1024x1024) (rowOff_eq j c))
/-- The partial result over a quarter of rows, at the offset that the program computes. -/
theorem p_eq' (off : Fin 2 → Nat) (h) (k : Fin 4) (hoff : off = ![256 * k.val, 0]) (j : S256x1024.Idx) :
    pRows (fun j => CTX m c ((Rect.unit (s := S1024x1024) off S256x1024.size h).emb j)) (fun j => MAT m c 2 (rAll.emb j)) j
      = PS m c ((Rect.unit (s := S1024x1024) off S256x1024.size h).emb j) := by
  subst hoff; exact p_eq m c k j

/-- What the peers offer for a half's partial result. -/
abbrev rsIn (c : Dev nD) (j : Fin 3) (f : Fin 2) : sProp (MT nD τ sig Unit (Elt F) ℕ UU ℕ) := iprop(dstJk (peer c j) (rsCh j f) ∗ toks c (rsCh j f))
abbrev agIn (c : Dev nD) (f : Fin 2) (j : Fin 3) : sProp (MT nD τ sig Unit (Elt F) ℕ UU ℕ) := iprop(dstJk (peer c j) (agCh j f) ∗ toks c (agCh j f))
/-- The credit that a send leaves. -/
abbrev sndC (c : Dev nD) (ch : Chan) : sProp (MT nD τ sig Unit (Elt F) ℕ UU ℕ) := cred (tallyAt (sendCell c ch) () (NB ch))
/-- The operands of the last product. -/
abbrev CM (m : (ℓ : Loc nD τ sig) → Buf (Elt F) ℓ) (c : Dev nD) : sProp (MT nD τ sig Unit (Elt F) ℕ UU ℕ) :=
  iprop(At c ctxB fullShare Finset.univ (CTX m c) ∗ At c (matB 2) fullShare Finset.univ (MAT m c 2))

/-- One peer's rows projected and sent, in two halves. -/
theorem Tr_rsStep (j : Fin 3) :
    Tr m Kn c iprop((Ow c (24 + 2 * j.val) ∗ CM m c) ∗ Jk c pS (rRows (peer c j)).set ∗ bigSep Finset.univ fun f => rsIn c j f) (rsStep c j)
      iprop((Ow c (24 + 2 * (j.val + 1)) ∗ CM m c) ∗ bigSep Finset.univ fun f => sndC c (rsCh j f)) := by
  have hp := Tr_map2 (m := m) (Kn := Kn) (c := c) (mv₀ := ctxB) (mv₁ := matB 2) (mv₂ := pS) (q₀ := fullShare) (q := fullShare)
    (f₀ := CTX m c) (f₁ := MAT m c 2) (f₂ := PS m c) (T₀ := Finset.univ) (T₁ := Finset.univ)
    (Rect.unit (s := S1024x1024) (rowOff j c) S256x1024.size (rowOff_inb j c)) rAll (Rect.unit (s := S1024x1024) (rowOff j c) S256x1024.size (rowOff_inb j c)) pRows
    (h0 := View.loadsAt_vmem h_S256x1024) (h1 := View.loadsAt_vmem h_S1024x1024) (h2 := View.loadsAt_vmem h_S256x1024)
    (h3 := View.stores_vmem h_S256x1024 ((Memref.isWhole_whole cc0_scratch12).storeExact_slice rfl _ (by
    have h := rows_packed (peer c j); unfold rRows at h; simp only [rowOff_eq]; exact h)) (fun _ => rfl))
    (Finset.subset_univ _) (Finset.subset_univ _) (Finset.subset_univ _) (Finset.subset_univ _) (rowOff_set j) (p_eq' _ _ (peer c j) (rowOff_eq j c))
  have e : ∀ f : Fin 2, At c pS fullShare (rHalf (peer c j) f).set (PS m c) ⊢ srcAt m c (rsCh j f) := fun f => by
    rw [srcAt_rs, v_half (halfOff j f c) (halfOff_inb j f c) (peer c j) f (halfOff_eq j f c)]
  have hs := Tr.two (m := m) (Kn := Kn) (c := c) (fun n => Ow c (24 + 2 * j.val + n)) (fun f => iprop(At c pS fullShare (rHalf (peer c j) f).set (PS m c) ∗ rsIn c j f))
    (fun f => sndC c (rsCh j f)) (fun f => (Tr_rsSend j f).pre (BIClass.sep_mono (Entails.refl _) (BIClass.sep_mono (e f) (Entails.refl _))))
  intro Q k
  iintro #HC ⟨⟨HO, HX, HM⟩, HJ, HI⟩ Hk
  unfold rsStep
  iapply (hp Q _) $$ HC [HX HM HJ]
  · isplitl [HX]; · iexact HX
    isplitl [HM] <;> iassumption
  iintro ⟨HX, HM, HP⟩
  ihave HP := (At_parts κ_halves _ (is_halves (peer c j))).1 $$ HP
  ihave HP := (Entails.of_eq (bigSep_sep' Finset.univ _ (fun f => rsIn c j f)).symm) $$ [HP HI]
  · isplitl [HP] <;> iassumption
  iapply (hs Q k) $$ HC [HO HP]
  · isplitl [HO] <;> iassumption
  iintro ⟨HO, HS⟩
  iapply Hk
  isplitl [HO HX HM]
  · isplitl [HO]; · iexact HO
    isplitl [HX] <;> iassumption
  · iexact HS

/-- One half: received, summed, and sent to the peers. -/
theorem Tr_half (f : Fin 2) (Q : PUnit → sProp 𝕄) (k : FVec F S256x512 .f32 → K F) :
    Ctx m Kn ⊢ iprop(((Ow c (30 + 3 * f.val) ∗ (bigSep Finset.univ fun j => rcvR c (rsCh j f))) ∗ Jk c agO (rOwn f).set ∗ bigSep Finset.univ fun j => agIn c f j)
      -∗ ((Ow c (30 + 3 * (f.val + 1)) ∗ (bigSep Finset.univ fun j => iprop(dstAt m c (rsCh j f) ∗ semVal (recvCell c (rsCh j f)) 0)) ∗ bigSep Finset.univ fun j => sndC c (agCh j f))
        -∗ WP c (k (ACC m c f)) Q)
      -∗ WP c (half c (dotRows (fun j => CTX m c ((rRows c).emb j)) (fun j => MAT m c 2 (rAll.emb j))) f k) Q) := by
  have hr := Tr.three (m := m) (Kn := Kn) (c := c) (fun _ => Ow c (30 + 3 * f.val)) (fun j => rcvR c (rsCh j f))
    (fun j => iprop(dstAt m c (rsCh j f) ∗ semVal (recvCell c (rsCh j f)) 0)) (fun j => Tr_rsRecv f j)
  have e : ∀ j : Fin 3, At c agO (shares3 fullShare j) (rOwn f).set (AGO m c) ⊢ srcAt m c (agCh j f) := fun j => by
    rw [srcAt_ag, v_own]
  have hs := Tr.three (m := m) (Kn := Kn) (c := c) (fun n => Ow c (30 + 3 * f.val + n)) (fun j => iprop(At c agO (shares3 fullShare j) (rOwn f).set (AGO m c) ∗ agIn c f j))
    (fun j => sndC c (agCh j f)) (fun j => (Tr_agSend f j).pre (BIClass.sep_mono (Entails.refl _) (BIClass.sep_mono (e j) (Entails.refl _))))
  have ed : ∀ j : Fin 3, dstAt m c (rsCh j f) = At c rsR fullShare (rHalf3 j f).set (RSR m c) := fun j => by rw [dstAt_rs, v_rs]
  simp only [ed] at hr ⊢
  rw [sep_fin3 (fun j => iprop(At c rsR fullShare (rHalf3 j f).set (RSR m c) ∗ semVal (recvCell c (rsCh j f)) 0))] at hr ⊢
  iintro #HC ⟨HOR, HJ, HI⟩ Hk
  unfold half
  iapply (hr Q _) $$ HC HOR
  iintro ⟨HO, ⟨H0, S0⟩, ⟨H1, S1⟩, ⟨H2, S2⟩⟩
  iapply (wp_ld (rHalf3 0 f) (Finset.Subset.refl _) (Finset.Subset.refl _)) $$ H0
  iintro H0
  iapply (wp_ld (rHalf3 1 f) (Finset.Subset.refl _) (Finset.Subset.refl _)) $$ H1
  iintro H1
  iapply (wp_ld (rHalf3 2 f) (Finset.Subset.refl _) (Finset.Subset.refl _)) $$ H2
  iintro H2
  iapply (Tr_put (m := m) (Kn := Kn) (c := c) (mv := agO) (rOwn f) rfl (own_eq m c f) Q _) $$ HC HJ
  iintro HP
  ihave HP := At_thirds.1 $$ HP
  ihave HP := (Entails.of_eq (bigSep_sep' Finset.univ _ (fun j => agIn c f j)).symm) $$ [HP HI]
  · isplitl [HP] <;> iassumption
  iapply (hs Q _) $$ HC [HO HP]
  · isplitl [HO] <;> iassumption
  iintro ⟨HO, HS⟩
  iapply Hk
  isplitl [HO]; · iexact HO
  isplitr [HS]
  · isplitl [H0 S0]
    · isplitl [H0] <;> iassumption
    isplitl [H1 S1]
    · isplitl [H1] <;> iassumption
    · isplitl [H2] <;> iassumption
  · iexact HS

/-! ## The rows of the result -/

variable (o : Memref sig .tc .vmem S1x1024x1024 .f32)

/-- The device's own rows of the result, at the offset that the program computes. -/
theorem out_own' (off : Fin 3 → Nat) (h) (hoff : off = ![0, 256 * c.val, 0]) (j : S1x256x1024.Idx) :
    ownRows (ACC m c 0) (ACC m c 1) j = OUT m c ((Rect.unit (s := S1x1024x1024) off S1x256x1024.size h).emb j) := by
  subst hoff; exact out_own m c j
/-- The store of the device's own rows. -/
theorem Tr_putOwn : Tr m Kn c (Jk c o (rOut c).set) (putOwn o c (ownRows (ACC m c 0) (ACC m c 1))) (At c o fullShare (rOut c).set (OUT m c)) :=
  Tr_put (Rect.unit (s := S1x1024x1024) (k0_off29 c) S1x256x1024.size (myOut_inb c))
    (congrArg (fun r : Rect S1x1024x1024 => r.set) (rect_congr (s := S1x1024x1024) (myOut_eq c))) (out_own' _ _ (myOut_eq c))
/-- A peer's rows of the result, at the offset that the program computes. -/
theorem out_other' (off : Fin 3 → Nat) (h) (g g' : Fin 3) (hg : g.val + g'.val = 2) (hoff : off = ![0, 256 * (peer c g').val, 0]) (j : S1x256x1024.Idx) :
    otherRows (fun j => AGR m c ((rSlab g).emb j)) j = OUT m c ((Rect.unit (s := S1x1024x1024) off S1x256x1024.size h).emb j) := by
  subst hoff; exact out_other m c g g' hg j
/-- The store of a peer's rows. -/
theorem Tr_putOther (g g' : Fin 3) (hg : g.val + g'.val = 2) :
    Tr m Kn c iprop(At c agR fullShare (rSlab g).set (AGR m c) ∗ Jk c o (rOut (peer c g')).set) (putOther o c g g')
      iprop(At c agR fullShare (rSlab g).set (AGR m c) ∗ At c o fullShare (rOut (peer c g')).set (OUT m c)) :=
  Tr_map (mv₁ := agR) (mv₂ := o) (f₁ := AGR m c) (f₂ := OUT m c) (rSlab g) (Rect.unit (s := S1x1024x1024) (outOff g' c) S1x256x1024.size (outOff_inb g' c)) otherRows
    (Finset.Subset.refl _) (Finset.Subset.refl _)
    (congrArg (fun r : Rect S1x1024x1024 => r.set) (rect_congr (s := S1x1024x1024) (outOff_eq g' c))) (out_other' _ _ g g' hg (outOff_eq g' c))

end Cert.KernelIdeal.Attn

end
-- ==== Proof.Classes.lean ====
/- The two loops over the classes of blocks. -/
module

public import proofs.«01_k».proof.Proof.Third

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-! ## Keys and values out -/

abbrev rowJ (c : Dev nD) (i : Fin 32) : sProp (MT nD τ sig Unit (Elt F) ℕ UU ℕ) := Jk c kvS (rKvRow (itT i) (itR i) (itN i)).set
abbrev rowA (m : (ℓ : Loc nD τ sig) → Buf (Elt F) ℓ) (c : Dev nD) (i : Fin 32) : sProp (MT nD τ sig Unit (Elt F) ℕ UU ℕ) :=
  At c kvS fullShare (rKvRow (itT i) (itR i) (itN i)).set (KVS m c)
abbrev headA (m : (ℓ : Loc nD τ sig) → Buf (Elt F) ℓ) (c : Dev nD) (r : Fin 4) (t : Fin 2) (p : Fin 4) : sProp (MT nD τ sig Unit (Elt F) ℕ UU ℕ) :=
  At c kvS fullShare (rHead t r p).set (KVS m c)
abbrev ownS (c : Dev nD) (r : Fin 4) (t : Fin 2) : sProp (MT nD τ sig Unit (Elt F) ℕ UU ℕ) := semVal ((c : Thread nD τ), .dma (semOwn t r)) 0
abbrev kvIn (c : Dev nD) (r : Fin 4) (j : Fin 3) (t : Fin 2) : sProp (MT nD τ sig Unit (Elt F) ℕ UU ℕ) := iprop(dstJk (peer c j) (kvCh t r j) ∗ toks c (kvCh t r j))
abbrev ownIn (c : Dev nD) (r : Fin 4) (t : Fin 2) : sProp (MT nD τ sig Unit (Elt F) ℕ UU ℕ) :=
  iprop(Jk c (full t) (rFull r 3).set ∗ Jk c kv8S (rKv8 t r).set ∗ ownS c r t)

/-- One class sent: the copies of the own heads started, the 8-bit part rounded, the three sends out. -/
theorem Tr_group (r : Fin 4) :
    Tr m Kn c iprop(Ow c (6 * r.val) ∗ At c kvS fullShare (kvCls r) (KVS m c) ∗ (bigSep Finset.univ fun t => ownIn c r t)
        ∗ bigSep Finset.univ fun j => bigSep Finset.univ fun t => kvIn c r j t)
      (group r c)
      iprop(Ow c (6 * (r.val + 1)) ∗ (bigSep Finset.univ fun t => iprop(FlO m c r t ∗ headA m c r t (peer c 1)))
        ∗ bigSep Finset.univ fun j => bigSep Finset.univ fun t => sndC c (kvCh t r j)) := by
  have e0 : ∀ t : Fin 2, headA m c r t (peer c 0) ⊢ srcAt m c (kvCh t r 0) := fun t =>
    Entails.of_eq (v_head (sendOff t r 0 c) (sendOff_inb t r 0 c) t r (peer c 0) (sendOff_eq t r 0 c) c)
  have e2 : ∀ t : Fin 2, headA m c r t (peer c 2) ⊢ srcAt m c (kvCh t r 2) := fun t =>
    Entails.of_eq (v_head (sendOff t r 2 c) (sendOff_inb t r 2 c) t r (peer c 2) (sendOff_eq t r 2 c) c)
  have hs := Tr.six (m := m) (Kn := Kn) (c := c) (f := fun t j => kvSend t r j c) (fun n => Ow c (6 * r.val + n))
    (fun j t => iprop(srcAt m c (kvCh t r j) ∗ kvIn c r j t)) (fun j t => sndC c (kvCh t r j)) (fun t j => by
      have ho : ord (kvCh t r j) = 6 * r.val + (2 * j.val + t.val) := by show 6 * r.val + 2 * j.val + t.val = _; omega
      have h := Tr_kvSend (m := m) (Kn := Kn) (c := c) t r j
      rw [ho] at h
      exact h)
  intro Q k
  iintro #HC ⟨HO, HS, HW, HI⟩ Hk
  ihave HS := (At_parts κ_kvHeads _ (is_kvHeads r)).1 $$ HS
  ihave HS := (Entails.of_eq (bigSep_univ_prod (fun a : Fin 2 × Fin 4 => headA m c r a.1 a.2))) $$ HS
  ihave HS := (Entails.of_eq (sep_fin2 (fun t => bigSep Finset.univ fun p => headA m c r t p))) $$ HS
  icases HS with ⟨HS0, HS1⟩
  ihave HS0 := (Entails.of_eq (sep_dev c (headA m c r 0))) $$ HS0
  ihave HS1 := (Entails.of_eq (sep_dev c (headA m c r 1))) $$ HS1
  icases HS0 with ⟨A0, B0, C0, D0⟩
  icases HS1 with ⟨A1, B1, C1, D1⟩
  ihave HW := (Entails.of_eq (sep_fin2 (fun t => ownIn c r t))) $$ HW
  icases HW with ⟨⟨F0, E0, S0⟩, ⟨F1, E1, S1⟩⟩
  unfold group
  iapply (Tr_ownStart 0 r Q _) $$ HC [A0 F0 S0]
  · isplitl [A0]; · iexact A0
    isplitl [F0]; · iexact F0
    iexact S0
  iintro L0
  iapply (Tr_ownStart 1 r Q _) $$ HC [A1 F1 S1]
  · isplitl [A1]; · iexact A1
    isplitl [F1]; · iexact F1
    iexact S1
  iintro L1
  iapply (Tr_round8 0 r Q _) $$ HC [C0 E0]
  · isplitl [C0]; · iexact C0
    iexact E0
  iintro ⟨C0, E0⟩
  iapply (Tr_round8 1 r Q _) $$ HC [C1 E1]
  · isplitl [C1]; · iexact C1
    iexact E1
  iintro ⟨C1, E1⟩
  ihave B0 := (e0 0) $$ B0
  ihave B1 := (e0 1) $$ B1
  ihave D0 := (e2 0) $$ D0
  ihave D1 := (e2 1) $$ D1
  ihave HI := (Entails.of_eq (sep_fin3 (fun j => bigSep Finset.univ fun t => kvIn c r j t))) $$ HI
  icases HI with ⟨I0, I1, I2⟩
  ihave I0 := (Entails.of_eq (sep_fin2 (fun t => kvIn c r 0 t))) $$ I0
  ihave I1 := (Entails.of_eq (sep_fin2 (fun t => kvIn c r 1 t))) $$ I1
  ihave I2 := (Entails.of_eq (sep_fin2 (fun t => kvIn c r 2 t))) $$ I2
  icases I0 with ⟨I00, I01⟩
  icases I1 with ⟨I10, I11⟩
  icases I2 with ⟨I20, I21⟩
  iapply (hs Q k) $$ HC [HO B0 B1 E0 E1 D0 D1 I00 I01 I10 I11 I20 I21]
  · isplitl [HO]; · iexact HO
    iapply (Entails.of_eq (sep_fin3 (fun j => bigSep Finset.univ fun t => iprop(srcAt m c (kvCh t r j) ∗ kvIn c r j t))).symm)
    isplitl [B0 B1 I00 I01]
    · iapply (Entails.of_eq (sep_fin2 (fun t => iprop(srcAt m c (kvCh t r 0) ∗ kvIn c r 0 t))).symm)
      isplitl [B0 I00]
      · isplitl [B0]; · iexact B0
        iexact I00
      · isplitl [B1]; · iexact B1
        iexact I01
    isplitl [E0 E1 I10 I11]
    · iapply (Entails.of_eq (sep_fin2 (fun t => iprop(srcAt m c (kvCh t r 1) ∗ kvIn c r 1 t))).symm)
      isplitl [E0 I10]
      · isplitl [E0]; · iexact E0
        iexact I10
      · isplitl [E1]; · iexact E1
        iexact I11
    · iapply (Entails.of_eq (sep_fin2 (fun t => iprop(srcAt m c (kvCh t r 2) ∗ kvIn c r 2 t))).symm)
      isplitl [D0 I20]
      · isplitl [D0]; · iexact D0
        iexact I20
      · isplitl [D1]; · iexact D1
        iexact I21
  iintro ⟨HO, HS⟩
  iapply Hk
  isplitl [HO]; · iexact HO
  isplitr [HS]
  · iapply (Entails.of_eq (sep_fin2 (fun t => iprop(FlO m c r t ∗ headA m c r t (peer c 1)))).symm)
    isplitl [L0 C0]
    · isplitl [L0]; · iexact L0
      iexact C0
    · isplitl [L1]; · iexact L1
      iexact C1
  · iexact HS

/-- What class `r` of the first loop takes and leaves. -/
abbrev C1in (m : (ℓ : Loc nD τ sig) → Buf (Elt F) ℓ) (c : Dev nD) (r : Fin 4) : sProp (MT nD τ sig Unit (Elt F) ℕ UU ℕ) :=
  iprop((bigSep Finset.univ fun j => iprop(Nxt m c (it r j).val ∗ rowJ c (it r j))) ∗ (bigSep Finset.univ fun t => ownIn c r t)
    ∗ bigSep Finset.univ fun j => bigSep Finset.univ fun t => kvIn c r j t)
abbrev C1out (m : (ℓ : Loc nD τ sig) → Buf (Elt F) ℓ) (c : Dev nD) (r : Fin 4) : sProp (MT nD τ sig Unit (Elt F) ℕ UU ℕ) :=
  iprop((bigSep Finset.univ fun j => HB m c (itT (it r j)) (itB (it r j))) ∗ (bigSep Finset.univ fun t => iprop(FlO m c r t ∗ headA m c r t (peer c 1)))
    ∗ bigSep Finset.univ fun j => bigSep Finset.univ fun t => sndC c (kvCh t r j))
/-- One class of the first phase. -/
theorem Tr_class1 (r : Fin 4) :
    Tr m Kn c iprop(Lp m c (6 * r.val) (8 * r.val) ∗ C1in m c r) (class1 c r) iprop(Lp m c (6 * (r.val + 1)) (8 * (r.val + 1)) ∗ C1out m c r) := by
  have h8 := Tr.eight (m := m) (Kn := Kn) (c := c) (f := fun j => item (it r j)) (fun n => Lp m c (6 * r.val) (8 * r.val + n))
    (fun j => iprop(Nxt m c (it r j).val ∗ rowJ c (it r j))) (fun j => iprop(HB m c (itT (it r j)) (itB (it r j)) ∗ rowA m c (it r j)))
    (fun j => Tr_item (6 * r.val) (it r j))
  intro Q k
  iintro #HC ⟨HL, HA, HW, HI⟩ Hk
  unfold class1
  iapply (h8 Q _) $$ HC [HL HA]
  · isplitl [HL]; · iexact HL
    iexact HA
  iintro ⟨⟨HO, HN, HS⟩, HA⟩
  ihave HA := (Entails.of_eq (bigSep_sep' Finset.univ (fun j => HB m c (itT (it r j)) (itB (it r j))) (fun j => rowA m c (it r j)))) $$ HA
  icases HA with ⟨HB, HA⟩
  ihave HA := (At_parts κ_kvRows _ (is_kvRows r)).2 $$ HA
  iapply (Tr_group r Q k) $$ HC [HO HA HW HI]
  · isplitl [HO]; · iexact HO
    isplitl [HA]; · iexact HA
    isplitl [HW]; · iexact HW
    iexact HI
  iintro ⟨HO, HF, HC'⟩
  iapply Hk
  isplitl [HO HN HS]
  · isplitl [HO]; · iexact HO
    isplitl [HN]; · iexact HN
    iexact HS
  isplitl [HB]; · iexact HB
  isplitl [HF]; · iexact HF
  iexact HC'

/-! ## Keys and values in, and the attention -/

abbrev C2in (m : (ℓ : Loc nD τ sig) → Buf (Elt F) ℓ) (c : Dev nD) (r : Fin 4) : sProp (MT nD τ sig Unit (Elt F) ℕ UU ℕ) :=
  iprop((bigSep Finset.univ fun t => FlO m c r t) ∗ (bigSep Finset.univ fun j => bigSep Finset.univ fun t => rcvR c (kvCh t r j))
    ∗ (bigSep Finset.univ fun t => Jk c (full t) (rFull r 1).set) ∗ bigSep Finset.univ fun h => bigSep Finset.univ fun k => Jk c ctxB (rBlk (blk k r) h).set)
abbrev C2out (m : (ℓ : Loc nD τ sig) → Buf (Elt F) ℓ) (c : Dev nD) (r : Fin 4) : sProp (MT nD τ sig Unit (Elt F) ℕ UU ℕ) :=
  iprop((bigSep Finset.univ fun t => iprop(headA m c r t c ∗ ownS c r t)) ∗ (bigSep Finset.univ fun j => bigSep Finset.univ fun t => semVal (recvCell c (kvCh t r j)) 0)
    ∗ (bigSep Finset.univ fun t => Jk c kv8R (rKv8 t r).set) ∗ (bigSep Finset.univ fun t => At c (full t) fullShare (fulCls r) (FUL m c t))
    ∗ bigSep Finset.univ fun h => bigSep Finset.univ fun k => At c ctxB fullShare (rBlk (blk k r) h).set (CTX m c))
/-- The four parts of a class, in their places. -/
theorem join_slots (r : Fin 4) (t : Fin 2) :
    iprop(At c (full t) fullShare (rFull r 0).set (FUL m c t) ∗ At c (full t) fullShare (rFull r 1).set (FUL m c t) ∗ At c (full t) fullShare (rFull r 2).set (FUL m c t)
      ∗ At c (full t) fullShare (rFull r 3).set (FUL m c t)) ⊢ At c (full t) fullShare (fulCls r) (FUL m c t) :=
  (Entails.of_eq (sep_fin4 fun g => At c (full t) fullShare (rFull r g).set (FUL m c t)).symm).trans (At_parts κ_slots _ (is_slots r)).2
/-- One class of the second phase. -/
theorem Tr_class2 (r : Fin 4) :
    Tr m Kn c iprop((Ow c 24 ∗ At c qB fullShare Finset.univ (QB m c)) ∗ C2in m c r) (class2 c r)
      iprop((Ow c 24 ∗ At c qB fullShare Finset.univ (QB m c)) ∗ C2out m c r) := by
  have ho := Tr.two (m := m) (Kn := Kn) (c := c) (f := fun t => ownWait t r c) (fun _ => Ow c 24) (fun t => FlO m c r t)
    (fun t => iprop(headA m c r t c ∗ At c (full t) fullShare (rFull r 3).set (FUL m c t) ∗ ownS c r t)) (fun t => Tr_ownWait t r 24)
  have hr := Tr.six (m := m) (Kn := Kn) (c := c) (f := fun t j => kvRecv t r j c) (fun _ => Ow c 24) (fun j t => rcvR c (kvCh t r j))
    (fun j t => iprop(dstAt m c (kvCh t r j) ∗ semVal (recvCell c (kvCh t r j)) 0)) (fun t j => Tr_kvRecv t r j)
  have hh := Tr.eight (m := m) (Kn := Kn) (c := c) (f := head r)
    (fun _ => iprop(At c qB fullShare Finset.univ (QB m c) ∗ At c (full 0) fullShare (fulCls r) (FUL m c 0) ∗ At c (full 1) fullShare (fulCls r) (FUL m c 1)))
    (fun h => bigSep Finset.univ fun k => Jk c ctxB (rBlk (blk k r) h).set) (fun h => bigSep Finset.univ fun k => At c ctxB fullShare (rBlk (blk k r) h).set (CTX m c))
    (fun h => Tr_head r h (fulCls r) (fulCls r) (fullHead_sub r h) (fullHead_sub r h))
  have d0 : ∀ t : Fin 2, dstAt m c (kvCh t r 0) ⊢ At c (full t) fullShare (rFull r 0).set (FUL m c t) := fun t => Entails.of_eq (v_full t r 0 (by decide)).symm
  have d2 : ∀ t : Fin 2, dstAt m c (kvCh t r 2) ⊢ At c (full t) fullShare (rFull r 2).set (FUL m c t) := fun t => Entails.of_eq (v_full t r 2 (by decide)).symm
  intro Q k
  iintro #HC ⟨⟨HO, HQ⟩, HF, HR, HJ, HX⟩ Hk
  unfold class2
  iapply (ho Q _) $$ HC [HO HF]
  · isplitl [HO]; · iexact HO
    iexact HF
  iintro ⟨HO, HF⟩
  ihave HF := (Entails.of_eq (sep_fin2 _)) $$ HF
  icases HF with ⟨⟨A0, F0, S0⟩, ⟨A1, F1, S1⟩⟩
  iapply (hr Q _) $$ HC [HO HR]
  · isplitl [HO]; · iexact HO
    iexact HR
  iintro ⟨HO, HR⟩
  ihave HR := (Entails.of_eq (sep_fin3 _)) $$ HR
  icases HR with ⟨R0, R1, R2⟩
  ihave R0 := (Entails.of_eq (sep_fin2 _)) $$ R0
  ihave R1 := (Entails.of_eq (sep_fin2 _)) $$ R1
  ihave R2 := (Entails.of_eq (sep_fin2 _)) $$ R2
  icases R0 with ⟨⟨D00, V00⟩, ⟨D01, V01⟩⟩
  icases R1 with ⟨⟨D10, V10⟩, ⟨D11, V11⟩⟩
  icases R2 with ⟨⟨D20, V20⟩, ⟨D21, V21⟩⟩
  ihave HJ := (Entails.of_eq (sep_fin2 _)) $$ HJ
  icases HJ with ⟨J0, J1⟩
  unfold Attn.two
  iapply (Tr_widen 0 r Q _) $$ HC [D10 J0]
  · isplitl [D10]; · iexact D10
    iexact J0
  iintro ⟨E0, G0⟩
  iapply (Tr_widen 1 r Q _) $$ HC [D11 J1]
  · isplitl [D11]; · iexact D11
    iexact J1
  iintro ⟨E1, G1⟩
  ihave D00 := (d0 0) $$ D00
  ihave D01 := (d0 1) $$ D01
  ihave D20 := (d2 0) $$ D20
  ihave D21 := (d2 1) $$ D21
  ihave K0 := (join_slots r 0) $$ [D00 G0 D20 F0]
  · isplitl [D00]; · iexact D00
    isplitl [G0]; · iexact G0
    isplitl [D20]; · iexact D20
    iexact F0
  ihave K1 := (join_slots r 1) $$ [D01 G1 D21 F1]
  · isplitl [D01]; · iexact D01
    isplitl [G1]; · iexact G1
    isplitl [D21]; · iexact D21
    iexact F1
  iapply (hh Q k) $$ HC [HQ K0 K1 HX]
  · isplitr [HX]
    · isplitl [HQ]; · iexact HQ
      isplitl [K0]; · iexact K0
      iexact K1
    · iexact HX
  iintro ⟨⟨HQ, K0, K1⟩, HX⟩
  iapply Hk
  isplitl [HO HQ]
  · isplitl [HO]; · iexact HO
    iexact HQ
  isplitl [A0 A1 S0 S1]
  · iapply (Entails.of_eq (sep_fin2 (fun t => iprop(headA m c r t c ∗ ownS c r t))).symm)
    isplitl [A0 S0]
    · isplitl [A0]; · iexact A0
      iexact S0
    · isplitl [A1]; · iexact A1
      iexact S1
  isplitl [V00 V01 V10 V11 V20 V21]
  · iapply (Entails.of_eq (sep_fin3 (fun j => bigSep Finset.univ fun t => (semVal (recvCell c (kvCh t r j)) 0 : sProp 𝕄))).symm)
    isplitl [V00 V01]
    · iapply (Entails.of_eq (sep_fin2 (fun t => (semVal (recvCell c (kvCh t r 0)) 0 : sProp 𝕄))).symm)
      isplitl [V00]; · iexact V00
      iexact V01
    isplitl [V10 V11]
    · iapply (Entails.of_eq (sep_fin2 (fun t => (semVal (recvCell c (kvCh t r 1)) 0 : sProp 𝕄))).symm)
      isplitl [V10]; · iexact V10
      iexact V11
    · iapply (Entails.of_eq (sep_fin2 (fun t => (semVal (recvCell c (kvCh t r 2)) 0 : sProp 𝕄))).symm)
      isplitl [V20]; · iexact V20
      iexact V21
  isplitl [E0 E1]
  · iapply (Entails.of_eq (sep_fin2 (fun t => (Jk c kv8R (rKv8 t r).set : sProp 𝕄))).symm)
    isplitl [E0]; · iexact E0
    iexact E1
  isplitr [HX]
  · iapply (Entails.of_eq (sep_fin2 (fun t => At c (full t) fullShare (fulCls r) (FUL m c t))).symm)
    isplitl [K0]; · iexact K0
    iexact K1
  · iexact HX

end Cert.KernelIdeal.Attn

end
-- ==== Proof.Phases.lean ====
/- The handshake and the three phases of the body. -/
module

public import proofs.«01_k».proof.Proof.Classes

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-- A conjunction over the channels, by kind. -/
theorem sep_chan (A : Chan → sProp (MT nD τ sig Unit (Elt F) ℕ UU ℕ)) :
    bigSep Finset.univ A = iprop((bigSep Finset.univ fun r : Fin 4 => bigSep Finset.univ fun j : Fin 3 => bigSep Finset.univ fun t : Fin 2 => A (kvCh t r j))
      ∗ (bigSep Finset.univ fun j : Fin 3 => bigSep Finset.univ fun f : Fin 2 => A (rsCh j f))
      ∗ bigSep Finset.univ fun f : Fin 2 => bigSep Finset.univ fun j : Fin 3 => A (agCh j f)) := by
  have h1 : ∀ j : Fin 3, (bigSep Finset.univ fun b : Base => A (j, b))
      = iprop((bigSep Finset.univ fun r : Fin 4 => bigSep Finset.univ fun t : Fin 2 => A (kvCh t r j))
        ∗ (bigSep Finset.univ fun f : Fin 2 => A (rsCh j f)) ∗ bigSep Finset.univ fun f : Fin 2 => A (agCh j f)) := fun j => by
    rw [BI.bigSep_univ_sum, BI.bigSep_univ_sum, bigSep_univ_prod, bigSep_univ_comm]
    rfl
  rw [bigSep_univ_prod, bigSep_congr fun j _ => h1 j, bigSep_sep', bigSep_sep', bigSep_univ_comm]
  congr 2
  rw [bigSep_univ_comm]

/-! ## The handshake -/

/-- A device is the peer of its peers. -/
theorem peer_peer (c : Dev nD) : peer (peer c 0) 2 = c ∧ peer (peer c 1) 1 = c ∧ peer (peer c 2) 0 = c := by revert c; decide
abbrev land (c : Dev nD) (j : Fin 3) : sProp (MT nD τ sig Unit (Elt F) ℕ UU ℕ) := bigSep Finset.univ fun b : Base => dstJk c (j, b)
def HelloIn (c : Dev nD) : sProp (MT nD τ sig Unit (Elt F) ℕ UU ℕ) :=
  iprop((∃ W : Waits sig Unit, owes (c : Thread nD τ) (O₀ c) W) ∗ (dutyTok ER (barCell (peer c 0)) 0 2 ∗ dutyTok ER (barCell (peer c 1)) 0 1 ∗ dutyTok ER (barCell (peer c 2)) 0 0)
    ∗ (bigSep Finset.univ fun ch : Chan => dstJk c ch) ∗ cred (tallyAt (barCell c) () 3) ∗ atPos ER (barCell c) 0 ∅ 0)
def HelloOut (c : Dev nD) : sProp (MT nD τ sig Unit (Elt F) ℕ UU ℕ) :=
  iprop(Ow c 0 ∗ semVal (barCell c) 0 ∗ bigSep Finset.univ fun ch : Chan => dstJk (peer c ch.1) ch)
/-- The greeting: each device signals its peers and receives from them the buffers that they may be sent to. -/
theorem Tr_hello : Tr m Kn c (HelloIn c) (hello c) (HelloOut c) := by
  intro Q k
  unfold HelloIn HelloOut
  rw [bigSep_univ_prod, bigSep_univ_prod, sep_fin3]
  iintro #HC ⟨⟨%W, HO⟩, ⟨T0, T1, T2⟩, ⟨D0, D1, D2⟩, HcB, HaB⟩ Hk
  ihave #H := (Ctx_cell m Kn (c, none)) $$ HC
  ihave #H0 := (Ctx_cell m Kn (peer c 0, none)) $$ HC
  ihave #H1 := (Ctx_cell m Kn (peer c 1, none)) $$ HC
  ihave #H2 := (Ctx_cell m Kn (peer c 2, none)) $$ HC
  ihave #HL := (Ctx_lev m Kn) $$ HC
  icases H with ⟨#I, -⟩
  icases H0 with ⟨#I0, #R0⟩
  icases H1 with ⟨#I1, #R1⟩
  icases H2 with ⟨#I2, #R2⟩
  have e1 : (⟨k0_dev1 c, k0_dev1_lt c⟩ : Dev nD) = peer c 0 := by revert c; decide
  have e2 : (⟨k0_dev2 c, k0_dev2_lt c⟩ : Dev nD) = peer c 1 := by revert c; decide
  have e3 : (⟨k0_dev3 c, k0_dev3_lt c⟩ : Dev nD) = peer c 2 := by revert c; decide
  have p0 : (rd (F := F) m).payload ((peer c 0 : Thread nD τ), SemLoc.reg barS) 0 2 = land c 2 := (payload_bar m (peer c 0) 2).trans (by unfold barPay; rw [(peer_peer c).1])
  have p1 : (rd (F := F) m).payload ((peer c 1 : Thread nD τ), SemLoc.reg barS) 0 1 = land c 1 := (payload_bar m (peer c 1) 1).trans (by unfold barPay; rw [(peer_peer c).2.1])
  have p2 : (rd (F := F) m).payload ((peer c 2 : Thread nD τ), SemLoc.reg barS) 0 0 = land c 0 := (payload_bar m (peer c 2) 0).trans (by unfold barPay; rw [(peer_peer c).2.2])
  unfold hello
  rw [e1, e2, e3]
  unfold O₀
  iapply (Rounds.wp_signal 𝒱₀ ER (rd m) (c : Thread nD τ) none (dst := (peer c 0 : Thread nD τ)) (κ := Kn (peer c 0, none))
      (d := 2) (by rw [show ((peer c 0 : Thread nD τ), SemLoc.reg _) = barCell (peer c 0) from rfl, duties_bar]; exact Finset.mem_univ _) ((amount_bar m (peer c 0) 2).trans (by decide)) ()
      (owed c 0 + tallyAt (barCell (peer c 2)) () 1 + tallyAt (barCell (peer c 1)) () 1) rfl) $$ [HO T0 D2]
  · isplitr; · iexact I0
    isplitl [HO]; · iexact HO
    isplitl [T0]; · iexact T0
    isplitl [D2]; · ihave D2 := (Entails.of_eq p0.symm) $$ D2; iexact D2
    iexact R0
  iintro HO
  iapply (Rounds.wp_signal 𝒱₀ ER (rd m) (c : Thread nD τ) none (dst := (peer c 1 : Thread nD τ)) (κ := Kn (peer c 1, none))
      (d := 1) (by rw [show ((peer c 1 : Thread nD τ), SemLoc.reg _) = barCell (peer c 1) from rfl, duties_bar]; exact Finset.mem_univ _) ((amount_bar m (peer c 1) 1).trans (by decide)) ()
      (owed c 0 + tallyAt (barCell (peer c 2)) () 1) rfl) $$ [HO T1 D1]
  · isplitr; · iexact I1
    isplitl [HO]; · iexact HO
    isplitl [T1]; · iexact T1
    isplitl [D1]; · ihave D1 := (Entails.of_eq p1.symm) $$ D1; iexact D1
    iexact R1
  iintro HO
  iapply (Rounds.wp_signal 𝒱₀ ER (rd m) (c : Thread nD τ) none (dst := (peer c 2 : Thread nD τ)) (κ := Kn (peer c 2, none))
      (d := 0) (by rw [show ((peer c 2 : Thread nD τ), SemLoc.reg _) = barCell (peer c 2) from rfl, duties_bar]; exact Finset.mem_univ _) ((amount_bar m (peer c 2) 0).trans (by decide)) ()
      (owed c 0) rfl) $$ [HO T2 D0]
  · isplitr; · iexact I2
    isplitl [HO]; · iexact HO
    isplitl [T2]; · iexact T2
    isplitl [D0]; · ihave D0 := (Entails.of_eq p2.symm) $$ D0; iexact D0
    iexact R2
  iintro HO
  have hM := mayWait (F := F) c (.reg barS) 0 (fun ch _ => by rw [show lv ((c : Thread nD τ), .reg barS) () = 1 from lv_bar c ()]; unfold chLv; split <;> decide)
  iapply (Rounds.wp_wait_rest_token 𝒱₀ ER (rd m) (c : Thread nD τ) none (κ := Kn (c, none))
      (wpE_semWait_eq 𝒱₀ (c : Thread nD τ) none Set.univ) (Set.mem_univ _) () (O := owed c 0) (W := W) (R := 0) (m := 0) (T := ∅)
      (by rw [show ((c : Thread nD τ), SemLoc.reg _) = barCell c from rfl, expect_bar]; decide)) $$ [HcB HO HaB]
  · isplitr; · iexact I
    isplitl [HcB]; · iexact HcB
    isplitl [HO]; · iexact HO
    isplitr; · iapply hM; iexact HL
    iexact HaB
  iintro ⟨HO, Ha, -, Hpay⟩
  have er : (bigSep ((rd (F := F) m).duties ((c : Thread nD τ), SemLoc.reg ((SemArray.scalar (sig.barrier 0 rfl) : Sems sig S_).sem)) 0 \ ∅) fun d =>
      (rd (F := F) m).payload ((c : Thread nD τ), SemLoc.reg ((SemArray.scalar (sig.barrier 0 rfl) : Sems sig S_).sem)) 0 d)
      ⊢ bigSep Finset.univ fun j => barPay (F := F) c j := Entails.of_eq (rest_bar m c)
  ihave Hpay := er $$ Hpay
  imod (Rounds.cell_close ER (rd m) (Set.mem_univ (Kn (c, none))) (fun h => h) (R := 0 + 1) (duties_later m (barCell c))) $$ [Ha] with Hz
  · isplitr; · iexact I
    iexact Ha
  iapply Hk
  isplitl [HO]
  · unfold Ow; iexists _; iexact HO
  isplitl [Hz]; · iexact Hz
  iexact Hpay

/-! ## The first phase -/

abbrev P1in (m : (ℓ : Loc nD τ sig) → Buf (Elt F) ℓ) (c : Dev nD) : sProp (MT nD τ sig Unit (Elt F) ℕ UU ℕ) :=
  iprop(HB m c (itT 0) (itB 0) ∗ (SJ c 0 ∗ SJ c 1) ∗ bigSep Finset.univ fun r => C1in m c r)
abbrev P1out (m : (ℓ : Loc nD τ sig) → Buf (Elt F) ℓ) (c : Dev nD) : sProp (MT nD τ sig Unit (Elt F) ℕ UU ℕ) :=
  iprop((SJ c 0 ∗ SJ c 1) ∗ bigSep Finset.univ fun r => C1out m c r)
/-- The loop over the four classes of the first phase. -/
theorem Tr_loop1 : Tr m Kn c iprop(Ow c 0 ∗ P1in m c) (fun k => itemStart 0 fun _ => four (class1 c) k) iprop(Ow c 24 ∗ P1out m c) := by
  have h4 := Tr.four (m := m) (Kn := Kn) (c := c) (f := class1 c) (fun n => Lp m c (6 * n) (8 * n)) (C1in m c) (C1out m c) (fun r => Tr_class1 r)
  have e0 : FlI m c 0 ⊢ Inn m c (8 * 0) := by unfold Inn; rw [dif_pos (by decide)]; exact Entails.refl _
  have e4 : Inn m c (8 * 4) ⊢ SJ c 0 := by unfold Inn; rw [dif_neg (by decide)]; exact Entails.refl _
  intro Q k
  iintro #HC ⟨HO, HB, ⟨S0, S1⟩, HR⟩ Hk
  iapply (Tr_start 0 Q _) $$ HC [HB S0]
  · isplitl [HB]; · iexact HB
    iexact S0
  iintro HF
  ihave HF := e0 $$ HF
  iapply (h4 Q k) $$ HC [HO HF S1 HR]
  · isplitr [HR]
    · isplitl [HO]; · iexact HO
      isplitl [HF]; · iexact HF
      iexact S1
    · iexact HR
  iintro ⟨⟨HO, HF, S1⟩, HR⟩
  ihave HF := e4 $$ HF
  iapply Hk
  isplitl [HO]; · iexact HO
  isplitl [HF S1]
  · isplitl [HF]; · iexact HF
    iexact S1
  · iexact HR

/-! ## The second phase -/

abbrev matIn (m : (ℓ : Loc nD τ sig) → Buf (Elt F) ℓ) (c : Dev nD) (mi : Fin 3) : sProp (MT nD τ sig Unit (Elt F) ℕ UU ℕ) :=
  iprop(At c (matH mi) fullShare Finset.univ (MATA m c mi) ∗ Jk c (matB mi) Finset.univ)
abbrev matOut (m : (ℓ : Loc nD τ sig) → Buf (Elt F) ℓ) (c : Dev nD) (mi : Fin 3) : sProp (MT nD τ sig Unit (Elt F) ℕ UU ℕ) :=
  iprop(At c (matH mi) fullShare Finset.univ (MATA m c mi) ∗ At c (matB mi) fullShare Finset.univ (MAT m c mi))
/-- One matrix staged and narrowed, in four chunks. -/
theorem Tr_mat (mi : Fin 3) :
    Tr m Kn c iprop((Ow c 24 ∗ WS c) ∗ matIn m c mi) (four (chunk mi)) iprop((Ow c 24 ∗ WS c) ∗ matOut m c mi) := by
  have h := Tr.four (m := m) (Kn := Kn) (c := c) (f := chunk mi) (fun _ => iprop(Ow c 24 ∗ WS c))
    (fun k => iprop(At c (matH mi) fullShare (rRows k).set (MATA m c mi) ∗ Jk c (matB mi) (rRows k).set))
    (fun k => iprop(At c (matH mi) fullShare (rRows k).set (MATA m c mi) ∗ At c (matB mi) fullShare (rRows k).set (MAT m c mi))) (fun k => Tr_chunk 24 mi k)
  refine h.conseq (BIClass.sep_mono (Entails.refl _) ?_) (BIClass.sep_mono (Entails.refl _) ?_)
  · rw [bigSep_sep']
    exact BIClass.sep_mono (At_parts κ_rowses _ is_rowses).1 (Jk_parts κ_rowses _ is_rowses).1
  · rw [bigSep_sep']
    exact BIClass.sep_mono (At_parts κ_rowses _ is_rowses).2 (At_parts κ_rowses _ is_rowses).2
abbrev P2in (m : (ℓ : Loc nD τ sig) → Buf (Elt F) ℓ) (c : Dev nD) : sProp (MT nD τ sig Unit (Elt F) ℕ UU ℕ) :=
  iprop(WS c ∗ (bigSep Finset.univ fun mi => matIn m c mi) ∗ Jk c qB Finset.univ ∗ bigSep Finset.univ fun r => C2in m c r)
abbrev P2out (m : (ℓ : Loc nD τ sig) → Buf (Elt F) ℓ) (c : Dev nD) : sProp (MT nD τ sig Unit (Elt F) ℕ UU ℕ) :=
  iprop(WS c ∗ (bigSep Finset.univ fun mi => matOut m c mi) ∗ At c qB fullShare Finset.univ (QB m c) ∗ bigSep Finset.univ fun r => C2out m c r)
/-- The second phase: projection and attention. -/
theorem Tr_phase2 : Tr m Kn c iprop(Ow c 24 ∗ P2in m c) (phase2 c) iprop(Ow c 24 ∗ P2out m c) := by
  have h1 := Tr.three (m := m) (Kn := Kn) (c := c) (f := fun mi => four (chunk mi)) (fun _ => iprop(Ow c 24 ∗ WS c)) (matIn m c) (matOut m c) (fun mi => Tr_mat mi)
  have h2 := Tr.four (m := m) (Kn := Kn) (c := c) (f := qChunk) (fun _ => iprop(At c (matB 0) fullShare Finset.univ (MAT m c 0) ∗ At c (matB 1) fullShare Finset.univ (MAT m c 1)))
    (fun k => Jk c qB (rRows k).set) (fun k => At c qB fullShare (rRows k).set (QB m c)) (fun k => Tr_qChunk k)
  have h3 := Tr.four (m := m) (Kn := Kn) (c := c) (f := class2 c) (fun _ => iprop(Ow c 24 ∗ At c qB fullShare Finset.univ (QB m c))) (C2in m c) (C2out m c) (fun r => Tr_class2 r)
  intro Q k
  iintro #HC ⟨HO, HW, HM, HQ, HR⟩ Hk
  unfold phase2
  iapply (h1 Q _) $$ HC [HO HW HM]
  · isplitr [HM]
    · isplitl [HO]; · iexact HO
      iexact HW
    · iexact HM
  iintro ⟨⟨HO, HW⟩, HM⟩
  ihave HM := (Entails.of_eq (sep_fin3 (matOut m c))) $$ HM
  icases HM with ⟨⟨A0, B0⟩, ⟨A1, B1⟩, M2⟩
  ihave HQ := (Jk_parts κ_rowses _ is_rowses).1 $$ HQ
  iapply (h2 Q _) $$ HC [B0 B1 HQ]
  · isplitr [HQ]
    · isplitl [B0]; · iexact B0
      iexact B1
    · iexact HQ
  iintro ⟨⟨B0, B1⟩, HQ⟩
  ihave HQ := (At_parts κ_rowses _ is_rowses).2 $$ HQ
  iapply (h3 Q k) $$ HC [HO HQ HR]
  · isplitr [HR]
    · isplitl [HO]; · iexact HO
      iexact HQ
    · iexact HR
  iintro ⟨⟨HO, HQ⟩, HR⟩
  iapply Hk
  isplitl [HO]; · iexact HO
  isplitl [HW]; · iexact HW
  isplitl [A0 B0 A1 B1 M2]
  · iapply (Entails.of_eq (sep_fin3 (matOut m c)).symm)
    isplitl [A0 B0]
    · isplitl [A0]; · iexact A0
      iexact B0
    isplitl [A1 B1]
    · isplitl [A1]; · iexact A1
      iexact B1
    · iexact M2
  isplitl [HQ]; · iexact HQ
  iexact HR

/-! ## The third phase -/

abbrev doneA (m : (ℓ : Loc nD τ sig) → Buf (Elt F) ℓ) (c : Dev nD) (ch : Chan) : sProp (MT nD τ sig Unit (Elt F) ℕ UU ℕ) :=
  iprop(srcAt m c ch ∗ semVal (sendCell c ch) 0)
/-- The waits for all sends at the end. -/
theorem Tr_finish :
    Tr m Kn c iprop(Ow c 36 ∗ bigSep Finset.univ fun ch : Chan => sndR c ch) (finish c) iprop(Ow c 36 ∗ bigSep Finset.univ fun ch : Chan => doneA m c ch) := by
  have h1 := Tr.four (m := m) (Kn := Kn) (c := c) (f := fun r => six (fun t j => kvDone t r j c)) (fun _ => Ow c 36)
    (fun r => bigSep Finset.univ fun j => bigSep Finset.univ fun t => sndR c (kvCh t r j)) (fun r => bigSep Finset.univ fun j => bigSep Finset.univ fun t => doneA m c (kvCh t r j))
    (fun r => Tr.six (m := m) (Kn := Kn) (c := c) (f := fun t j => kvDone t r j c) (fun _ => Ow c 36) (fun j t => sndR c (kvCh t r j)) (fun j t => doneA m c (kvCh t r j)) (fun t j => Tr_kvDone t r j))
  have h2 := Tr.two (m := m) (Kn := Kn) (c := c) (f := fun f => three (agDone f)) (fun _ => Ow c 36)
    (fun f => bigSep Finset.univ fun j => sndR c (agCh j f)) (fun f => bigSep Finset.univ fun j => doneA m c (agCh j f))
    (fun f => Tr.three (m := m) (Kn := Kn) (c := c) (f := agDone f) (fun _ => Ow c 36) (fun j => sndR c (agCh j f)) (fun j => doneA m c (agCh j f)) (fun j => Tr_agDone f j))
  have h3 := Tr.three (m := m) (Kn := Kn) (c := c) (f := fun j => two (rsDone c j)) (fun _ => Ow c 36)
    (fun j => bigSep Finset.univ fun f => sndR c (rsCh j f)) (fun j => bigSep Finset.univ fun f => doneA m c (rsCh j f))
    (fun j => Tr.two (m := m) (Kn := Kn) (c := c) (f := rsDone c j) (fun _ => Ow c 36) (fun f => sndR c (rsCh j f)) (fun f => doneA m c (rsCh j f)) (fun f => Tr_rsDone j f))
  rw [sep_chan (fun ch => sndR c ch), sep_chan (fun ch => doneA m c ch)]
  intro Q k
  iintro #HC ⟨HO, H1, H3, H2⟩ Hk
  unfold finish
  iapply (h1 Q _) $$ HC [HO H1]
  · isplitl [HO]; · iexact HO
    iexact H1
  iintro ⟨HO, H1⟩
  iapply (h2 Q _) $$ HC [HO H2]
  · isplitl [HO]; · iexact HO
    iexact H2
  iintro ⟨HO, H2⟩
  iapply (h3 Q k) $$ HC [HO H3]
  · isplitl [HO]; · iexact HO
    iexact H3
  iintro ⟨HO, H3⟩
  iapply Hk
  isplitl [HO]; · iexact HO
  isplitl [H1]; · iexact H1
  isplitl [H3]; · iexact H3
  iexact H2

variable (o : Memref sig .tc .vmem S1x1024x1024 .f32)

abbrev landed (m : (ℓ : Loc nD τ sig) → Buf (Elt F) ℓ) (c : Dev nD) (ch : Chan) : sProp (MT nD τ sig Unit (Elt F) ℕ UU ℕ) :=
  iprop(dstAt m c ch ∗ semVal (recvCell c ch) 0)
abbrev P3in (c : Dev nD) : sProp (MT nD τ sig Unit (Elt F) ℕ UU ℕ) :=
  iprop((bigSep Finset.univ fun j => iprop(Jk c pS (rRows (peer c j)).set ∗ bigSep Finset.univ fun f => rsIn c j f))
    ∗ (bigSep Finset.univ fun f => iprop((bigSep Finset.univ fun j => rcvR c (rsCh j f)) ∗ Jk c agO (rOwn f).set ∗ bigSep Finset.univ fun j => agIn c f j))
    ∗ (bigSep Finset.univ fun f => bigSep Finset.univ fun j => rcvR c (agCh j f)) ∗ Jk c o Finset.univ
    ∗ (bigSep Finset.univ fun r => bigSep Finset.univ fun j => bigSep Finset.univ fun t => sndC c (kvCh t r j)) ∗ bigSep Finset.univ fun ch : Chan => atPos ER (sendCell c ch) 0 ∅ 0)
abbrev P3out (m : (ℓ : Loc nD τ sig) → Buf (Elt F) ℓ) (c : Dev nD) : sProp (MT nD τ sig Unit (Elt F) ℕ UU ℕ) :=
  iprop((bigSep Finset.univ fun j => bigSep Finset.univ fun f => landed m c (rsCh j f)) ∗ (bigSep Finset.univ fun f => bigSep Finset.univ fun j => iprop(Jk c (agV j f) Finset.univ ∗ semVal (recvCell c (agCh j f)) 0))
    ∗ At c o fullShare Finset.univ (OUT m c) ∗ bigSep Finset.univ fun ch : Chan => doneA m c ch)

/-- What came in of the finished halves, by peer. -/
theorem ag_slabs : (bigSep Finset.univ fun f : Fin 2 => bigSep Finset.univ fun j : Fin 3 => landed m c (agCh j f))
    ⊢ iprop((bigSep Finset.univ fun j : Fin 3 => At c agR fullShare (rSlab j).set (AGR m c)) ∗ bigSep Finset.univ fun f : Fin 2 => bigSep Finset.univ fun j : Fin 3 => semVal (recvCell c (agCh j f)) 0) := by
  have e : ∀ (f : Fin 2) (j : Fin 3), dstAt m c (agCh j f) = At c agR fullShare (rHalf3 j f).set (AGR m c) := fun f j => by rw [dstAt_ag, v_ag]
  rw [bigSep_congr fun f _ => bigSep_sep' Finset.univ (fun j => dstAt m c (agCh j f)) (fun j => (semVal (recvCell c (agCh j f)) 0 : sProp 𝕄)), bigSep_sep']
  refine BIClass.sep_mono ?_ (Entails.refl _)
  rw [bigSep_univ_comm]
  refine bigSep_mono fun j _ => ?_
  rw [bigSep_congr fun f _ => e f j]
  exact (At_parts κ_half3s _ (is_half3s j)).2
/-- The received slabs are given back as the halves in which they came. -/
theorem ag_back (j : Fin 3) : At c agR fullShare (rSlab j).set (AGR m c) ⊢ bigSep Finset.univ fun f => Jk c (agV j f) Finset.univ := by
  refine (At_parts κ_half3s _ (is_half3s j)).1.trans (bigSep_mono fun f _ => ?_)
  exact Hd_junk.trans (Entails.of_eq (j_ag j f))

/-- One half of the reduction, over the rows as the phase reads them. -/
theorem Tr_half' {v : Vec F S256x1024 .bf16} (hv : v = fun j => CTX m c ((rRows c).emb j)) (f : Fin 2) (Q : PUnit → sProp 𝕄) (k : FVec F S256x512 .f32 → K F) :
    Ctx m Kn ⊢ iprop(((Ow c (30 + 3 * f.val) ∗ (bigSep Finset.univ fun j => rcvR c (rsCh j f))) ∗ Jk c agO (rOwn f).set ∗ bigSep Finset.univ fun j => agIn c f j)
      -∗ ((Ow c (30 + 3 * (f.val + 1)) ∗ (bigSep Finset.univ fun j => iprop(dstAt m c (rsCh j f) ∗ semVal (recvCell c (rsCh j f)) 0)) ∗ bigSep Finset.univ fun j => sndC c (agCh j f))
        -∗ WP c (k (ACC m c f)) Q)
      -∗ WP c (half c (dotRows v (fun j => MAT m c 2 (rAll.emb j))) f k) Q) := by
  subst hv; exact Tr_half f Q k

/-- The third phase: output projection, reduction and gathering. -/
theorem Tr_phase3 : Tr m Kn c iprop(Ow c 24 ∗ CM m c ∗ P3in o c) (phase3 o c) iprop(Ow c 36 ∗ CM m c ∗ P3out o m c) := by
  have h1 := Tr.three (m := m) (Kn := Kn) (c := c) (f := rsStep c) (fun n => iprop(Ow c (24 + 2 * n) ∗ CM m c))
    (fun j => iprop(Jk c pS (rRows (peer c j)).set ∗ bigSep Finset.univ fun f => rsIn c j f)) (fun j => bigSep Finset.univ fun f => sndC c (rsCh j f)) (fun j => Tr_rsStep j)
  have h2 := Tr.two (m := m) (Kn := Kn) (c := c) (f := fun f => three (agRecv f)) (fun _ => Ow c 36)
    (fun f => bigSep Finset.univ fun j => rcvR c (agCh j f)) (fun f => bigSep Finset.univ fun j => landed m c (agCh j f))
    (fun f => Tr.three (m := m) (Kn := Kn) (c := c) (f := agRecv f) (fun _ => Ow c 36) (fun j => rcvR c (agCh j f)) (fun j => landed m c (agCh j f)) (fun j => Tr_agRecv f j))
  have hv : ((fun j => CTX m c ((Rect.unit (s := S1024x1024) (k0_off28 c) S256x1024.size (myRows_inb c)).emb j)) : Vec F S256x1024 .bf16)
      = fun j => CTX m c ((rRows c).emb j) :=
    funext fun j => congrArg (CTX m c) (by
      have : ∀ (a b : Fin 2 → ℕ) (ha hb) , a = b → (Rect.unit (s := S1024x1024) a S256x1024.size ha).emb j = (Rect.unit (s := S1024x1024) b S256x1024.size hb).emb j := by
        intro a b ha hb h; subst h; rfl
      exact this _ _ _ _ (myRows_eq c))
  intro Q k
  iintro #HC ⟨HO, ⟨HX, HM⟩, HP, HH, HG, HY, HK, HS⟩ Hk
  unfold phase3
  iapply (h1 Q _) $$ HC [HO HX HM HP]
  · isplitr [HP]
    · isplitl [HO]; · iexact HO
      isplitl [HX]; · iexact HX
      iexact HM
    · iexact HP
  iintro ⟨⟨HO, HX, HM⟩, HP⟩
  iapply (wp_ld (Rect.unit (s := S1024x1024) (k0_off28 c) S256x1024.size (myRows_inb c)) (Finset.subset_univ _) (Finset.subset_univ _)) $$ HX
  iintro HX
  iapply (wp_ld rAll (Finset.subset_univ _) (Finset.subset_univ _)) $$ HM
  iintro HM
  ihave HH := (Entails.of_eq (sep_fin2 (fun f => iprop((bigSep Finset.univ fun j => rcvR c (rsCh j f)) ∗ Jk c agO (rOwn f).set ∗ bigSep Finset.univ fun j => agIn c f j)))) $$ HH
  icases HH with ⟨⟨R0, J0, I0⟩, ⟨R1, J1, I1⟩⟩
  iapply (Tr_half' hv 0 Q _) $$ HC [HO R0 J0 I0]
  · isplitl [HO R0]
    · isplitl [HO]; · iexact HO
      iexact R0
    isplitl [J0]; · iexact J0
    iexact I0
  iintro ⟨HO, R0, I0⟩
  iapply (Tr_half' hv 1 Q _) $$ HC [HO R1 J1 I1]
  · isplitl [HO R1]
    · isplitl [HO]; · iexact HO
      iexact R1
    isplitl [J1]; · iexact J1
    iexact I1
  iintro ⟨HO, R1, I1⟩
  ihave HY := (Jk_parts κ_outs _ is_outs).1 $$ HY
  ihave HY := (Entails.of_eq (sep_dev c (fun p => (Jk c o (rOut p).set : sProp 𝕄)))) $$ HY
  icases HY with ⟨Y, Y0, Y1, Y2⟩
  iapply (Tr_putOwn o Q _) $$ HC Y
  iintro Y
  iapply (h2 Q _) $$ HC [HO HG]
  · isplitl [HO]; · iexact HO
    iexact HG
  iintro ⟨HO, HG⟩
  ihave HG := ag_slabs $$ HG
  icases HG with ⟨HG, HV⟩
  ihave HG := (Entails.of_eq (sep_fin3 (fun j => At c agR fullShare (rSlab j).set (AGR m c)))) $$ HG
  icases HG with ⟨G0, G1, G2⟩
  iapply (Tr_putOther o 0 2 rfl Q _) $$ HC [G0 Y2]
  · isplitl [G0]; · iexact G0
    iexact Y2
  iintro ⟨G0, Y2⟩
  iapply (Tr_putOther o 1 1 rfl Q _) $$ HC [G1 Y1]
  · isplitl [G1]; · iexact G1
    iexact Y1
  iintro ⟨G1, Y1⟩
  iapply (Tr_putOther o 2 0 rfl Q _) $$ HC [G2 Y0]
  · isplitl [G2]; · iexact G2
    iexact Y0
  iintro ⟨G2, Y0⟩
  have hsep : iprop((bigSep Finset.univ fun ch : Chan => sndC (F := F) c ch) ∗ bigSep Finset.univ fun ch : Chan => atPos ER (sendCell c ch) 0 ∅ 0)
      ⊢ bigSep Finset.univ fun ch : Chan => sndR (F := F) c ch := by
    unfold sndR
    rw [bigSep_sep']
  iapply (Tr_finish Q k) $$ HC [HO HK HP I0 I1 HS]
  · isplitl [HO]; · iexact HO
    iapply hsep
    isplitr [HS]
    · iapply (Entails.of_eq (sep_chan (fun ch => sndC (F := F) c ch)).symm)
      isplitl [HK]; · iexact HK
      isplitl [HP]; · iexact HP
      iapply (Entails.of_eq (sep_fin2 (fun f : Fin 2 => bigSep Finset.univ fun j : Fin 3 => sndC (F := F) c (agCh j f))).symm)
      isplitl [I0]; · iexact I0
      iexact I1
    · iexact HS
  iintro ⟨HO, HD⟩
  iapply Hk
  isplitl [HO]; · iexact HO
  isplitl [HX HM]
  · isplitl [HX]; · iexact HX
    iexact HM
  isplitl [R0 R1]
  · iapply (Entails.of_eq (bigSep_univ_comm (fun (f : Fin 2) (j : Fin 3) => landed m c (rsCh j f))))
    iapply (Entails.of_eq (sep_fin2 (fun f : Fin 2 => bigSep Finset.univ fun j : Fin 3 => landed m c (rsCh j f))).symm)
    isplitl [R0]; · iexact R0
    iexact R1
  isplitl [HV G0 G1 G2]
  · ihave G0 := (ag_back 0) $$ G0
    ihave G1 := (ag_back 1) $$ G1
    ihave G2 := (ag_back 2) $$ G2
    have ej : iprop((bigSep Finset.univ fun j : Fin 3 => bigSep Finset.univ fun f : Fin 2 => (Jk c (agV j f) Finset.univ : sProp 𝕄))
        ∗ bigSep Finset.univ fun f : Fin 2 => bigSep Finset.univ fun j : Fin 3 => (semVal (recvCell c (agCh j f)) 0 : sProp 𝕄))
        ⊢ bigSep Finset.univ fun f : Fin 2 => bigSep Finset.univ fun j : Fin 3 => iprop(Jk c (agV j f) Finset.univ ∗ semVal (recvCell c (agCh j f)) 0) := by
      rw [bigSep_congr fun f _ => bigSep_sep' Finset.univ (fun j => (Jk c (agV j f) Finset.univ : sProp 𝕄)) (fun j => (semVal (recvCell c (agCh j f)) 0 : sProp 𝕄)), bigSep_sep']
      refine BIClass.sep_mono ?_ (Entails.refl _)
      rw [bigSep_univ_comm]
    iapply ej
    isplitr [HV]
    · iapply (Entails.of_eq (sep_fin3 (fun j : Fin 3 => bigSep Finset.univ fun f : Fin 2 => (Jk c (agV j f) Finset.univ : sProp 𝕄))).symm)
      isplitl [G0]; · iexact G0
      isplitl [G1]; · iexact G1
      iexact G2
    · iexact HV
  isplitr [HD]
  · iapply (At_parts κ_outs _ is_outs).2
    iapply (Entails.of_eq (sep_dev c (fun p => At c o fullShare (rOut p).set (OUT m c))).symm)
    isplitl [Y]; · iexact Y
    isplitl [Y0]; · iexact Y0
    isplitl [Y1]; · iexact Y1
    iexact Y2
  · iexact HD

end Cert.KernelIdeal.Attn

end
-- ==== Proof.Assemble.lean ====
/- The whole body: its buffers cut for the phases and joined again after them. -/
module

public import proofs.«01_k».proof.Proof.Phases

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-! ## Cutting -/

/-- The key and value buffers of one class, as landing regions and the two slots that nothing lands in. -/
theorem land_cls (r : Fin 4) :
    iprop((bigSep Finset.univ fun t : Fin 2 => (Jk c (full t) (fulCls r) : sProp (MT nD τ sig Unit (Elt F) ℕ UU ℕ))) ∗ (bigSep Finset.univ fun t : Fin 2 => (Jk c kv8R (rKv8 t r).set : sProp (MT nD τ sig Unit (Elt F) ℕ UU ℕ))))
      ⊢ iprop((bigSep Finset.univ fun j : Fin 3 => (bigSep Finset.univ fun t : Fin 2 => dstJk (F := F) c (kvCh t r j))) ∗ (bigSep Finset.univ fun t : Fin 2 => (Jk c (full t) (rFull r 3).set : sProp (MT nD τ sig Unit (Elt F) ℕ UU ℕ))) ∗ (bigSep Finset.univ fun t : Fin 2 => (Jk c (full t) (rFull r 1).set : sProp (MT nD τ sig Unit (Elt F) ℕ UU ℕ)))) := by
  have h : ∀ t : Fin 2, (Jk c (full t) (fulCls r) : sProp (MT nD τ sig Unit (Elt F) ℕ UU ℕ)) ⊢ iprop((Jk c (full t) (rFull r 0).set : sProp (MT nD τ sig Unit (Elt F) ℕ UU ℕ)) ∗ (Jk c (full t) (rFull r 1).set : sProp (MT nD τ sig Unit (Elt F) ℕ UU ℕ)) ∗ (Jk c (full t) (rFull r 2).set : sProp (MT nD τ sig Unit (Elt F) ℕ UU ℕ)) ∗ (Jk c (full t) (rFull r 3).set : sProp (MT nD τ sig Unit (Elt F) ℕ UU ℕ))) := fun t =>
    (Jk_parts (κ_slots) _ (is_slots r)).1.trans (Entails.of_eq (sep_fin4 _))
  have d0 : ∀ t : Fin 2, (dstJk c (kvCh t r 0) : sProp (MT nD τ sig Unit (Elt F) ℕ UU ℕ)) = (Jk c (full t) (rFull r 0).set : sProp (MT nD τ sig Unit (Elt F) ℕ UU ℕ)) := fun t => (j_full t r 0).symm
  have d1 : ∀ t : Fin 2, (dstJk c (kvCh t r 1) : sProp (MT nD τ sig Unit (Elt F) ℕ UU ℕ)) = Jk c kv8R (rKv8 t r).set := fun t => (j_kv8R t r).symm
  have d2 : ∀ t : Fin 2, (dstJk c (kvCh t r 2) : sProp (MT nD τ sig Unit (Elt F) ℕ UU ℕ)) = (Jk c (full t) (rFull r 2).set : sProp (MT nD τ sig Unit (Elt F) ℕ UU ℕ)) := fun t => (j_full t r 2).symm
  refine (BIClass.sep_mono (bigSep_mono fun t _ => h t) (Entails.refl _)).trans ?_
  rw [sep_fin3, bigSep_sep', bigSep_sep', bigSep_sep', bigSep_congr fun t _ => d0 t, bigSep_congr fun t _ => d1 t, bigSep_congr fun t _ => d2 t]
  iintro ⟨⟨H0, H1, H2, H3⟩, H8⟩
  isplitl [H0 H2 H8]
  · isplitl [H0]; · iexact H0
    isplitl [H8]; · iexact H8
    iexact H2
  isplitl [H3]; · iexact H3
  iexact H1

/-- All the landing regions of a device. -/
theorem land_in : iprop((Jk c (full 0) Finset.univ : sProp (MT nD τ sig Unit (Elt F) ℕ UU ℕ)) ∗ Jk c (full 1) Finset.univ ∗ Jk c kv8R Finset.univ ∗ Jk c rsR Finset.univ ∗ Jk c agR Finset.univ)
    ⊢ iprop((bigSep Finset.univ fun ch : Chan => dstJk (F := F) c ch) ∗ (bigSep Finset.univ fun r : Fin 4 => (bigSep Finset.univ fun t : Fin 2 => (Jk c (full t) (rFull r 3).set : sProp (MT nD τ sig Unit (Elt F) ℕ UU ℕ)))) ∗ (bigSep Finset.univ fun r : Fin 4 => (bigSep Finset.univ fun t : Fin 2 => (Jk c (full t) (rFull r 1).set : sProp (MT nD τ sig Unit (Elt F) ℕ UU ℕ))))) := by
  have hk : iprop((bigSep Finset.univ fun t : Fin 2 => (Jk c (full t) Finset.univ : sProp (MT nD τ sig Unit (Elt F) ℕ UU ℕ))) ∗ Jk c kv8R Finset.univ)
      ⊢ iprop((bigSep Finset.univ fun r : Fin 4 => (bigSep Finset.univ fun j : Fin 3 => (bigSep Finset.univ fun t : Fin 2 => dstJk (F := F) c (kvCh t r j)))) ∗ (bigSep Finset.univ fun r : Fin 4 => (bigSep Finset.univ fun t : Fin 2 => (Jk c (full t) (rFull r 3).set : sProp (MT nD τ sig Unit (Elt F) ℕ UU ℕ)))) ∗ (bigSep Finset.univ fun r : Fin 4 => (bigSep Finset.univ fun t : Fin 2 => (Jk c (full t) (rFull r 1).set : sProp (MT nD τ sig Unit (Elt F) ℕ UU ℕ))))) := by
    refine (BIClass.sep_mono (bigSep_mono fun t _ => (Jk_parts κ_fulls _ is_fulls).1) (Jk_parts κ_kv8s _ is_kv8s).1).trans ?_
    rw [bigSep_univ_prod, bigSep_univ_comm, ← bigSep_sep', ← bigSep_sep', ← bigSep_sep']
    exact bigSep_mono fun r _ => land_cls r
  have hr : (Jk c rsR Finset.univ : sProp (MT nD τ sig Unit (Elt F) ℕ UU ℕ)) ⊢ (bigSep Finset.univ fun j : Fin 3 => (bigSep Finset.univ fun f : Fin 2 => dstJk (F := F) c (rsCh j f))) := by
    refine (Jk_parts κ_slabs _ is_slabs).1.trans (bigSep_mono fun j _ => ?_)
    rw [bigSep_congr fun f _ => (dstJk_rs (F := F) (c := c) j f).trans (j_rs j f).symm]
    exact (Jk_parts κ_half3s _ (is_half3s j)).1
  have ha : (Jk c agR Finset.univ : sProp (MT nD τ sig Unit (Elt F) ℕ UU ℕ)) ⊢ (bigSep Finset.univ fun f : Fin 2 => (bigSep Finset.univ fun j : Fin 3 => dstJk (F := F) c (agCh j f))) := by
    rw [bigSep_univ_comm]
    refine (Jk_parts κ_slabs _ is_slabs).1.trans (bigSep_mono fun j _ => ?_)
    rw [bigSep_congr fun f _ => (dstJk_ag (F := F) (c := c) j f).trans (j_ag j f).symm]
    exact (Jk_parts κ_half3s _ (is_half3s j)).1
  rw [sep_chan (fun ch => dstJk (F := F) c ch)]
  iintro ⟨H0, H1, H8, HR, HA⟩
  ihave HK := hk $$ [H0 H1 H8]
  · isplitr [H8]
    · iapply (Entails.of_eq (sep_fin2 (fun t : Fin 2 => (Jk c (full t) Finset.univ : sProp (MT nD τ sig Unit (Elt F) ℕ UU ℕ)))).symm)
      isplitl [H0]; · iexact H0
      iexact H1
    · iexact H8
  ihave HR := hr $$ HR
  ihave HA := ha $$ HA
  icases HK with ⟨HK, H3, H1⟩
  isplitl [HK HR HA]
  · isplitl [HK]; · iexact HK
    isplitl [HR]; · iexact HR
    iexact HA
  isplitl [H3]; · iexact H3
  iexact H1

/-- The buffer of own keys and values splits into blocks, class by class. -/
theorem kvS_in : (Jk c kvS Finset.univ : sProp (MT nD τ sig Unit (Elt F) ℕ UU ℕ)) ⊢ (bigSep Finset.univ fun r : Fin 4 => (bigSep Finset.univ fun e : Fin 8 => rowJ (F := F) c (it r e))) :=
  (Jk_parts κ_kvClasses _ is_kvClasses).1.trans (bigSep_mono fun r _ => (Jk_parts κ_kvRows _ (is_kvRows r)).1)

/-- The items by class and place in it. -/
def itEquiv : Fin 4 × Fin 8 ≃ Fin 32 := ⟨fun a => it a.1 a.2, fun i => (⟨i.val / 8, by omega⟩, ⟨i.val % 8, by omega⟩), by decide, by decide⟩
/-- The items by argument and block. -/
def blkEquiv : Fin 32 ≃ Fin 2 × Fin 16 :=
  ⟨fun i => (itT i, itB i), fun a => ⟨8 * (a.2.val % 4) + 4 * a.1.val + a.2.val / 4, by omega⟩, by decide, by decide⟩
/-- One place on, round. -/
def upEquiv : Fin 32 ≃ Fin 32 := ⟨fun i => ⟨(i.val + 1) % 32, by omega⟩, fun i => ⟨(i.val + 31) % 32, by omega⟩, by decide, by decide⟩

/-- The arguments of keys and values split into the 32 blocks. -/
theorem hb_items : iprop(At c (kvHbm 0) fullShare Finset.univ (KVA m c 0) ∗ At c (kvHbm 1) fullShare Finset.univ (KVA m c 1))
    ⊣⊢ (bigSep Finset.univ fun i : Fin 32 => HB m c (itT i) (itB i)) := by
  have h : ∀ t : Fin 2, At c (kvHbm t) fullShare Finset.univ (KVA m c t) = (bigSep Finset.univ fun b : Fin 16 => HB m c t b) := fun t => by
    rw [bigSep_congr fun b _ => (v_hbm (m := m) (c := c) (q := fullShare) t b).symm]
    exact Entails.antisymm (At_parts κ_hbms _ is_hbms).1 (At_parts κ_hbms _ is_hbms).2
  have e : iprop(At c (kvHbm 0) fullShare Finset.univ (KVA m c 0) ∗ At c (kvHbm 1) fullShare Finset.univ (KVA m c 1)) = (bigSep Finset.univ fun i : Fin 32 => HB m c (itT i) (itB i)) := by
    rw [← sep_fin2 (fun t => At c (kvHbm t) fullShare Finset.univ (KVA m c t)), bigSep_congr fun t _ => h t,
      ← bigSep_univ_prod (fun a : Fin 2 × Fin 16 => HB m c a.1 a.2), bigSep_univ_equiv blkEquiv]
    rfl
  exact ⟨Entails.of_eq e, Entails.of_eq e.symm⟩
/-- The empty assertion counts for nothing on the left. -/
theorem emp_eq (P : sProp (MT nD τ sig Unit (Elt F) ℕ UU ℕ)) : iprop(emp ∗ P) = P := equiv_iff.mp Idealize.SL.BI.emp_sep
/-- The first block, and by class each block that comes next. -/
theorem hb_in : (bigSep Finset.univ fun i : Fin 32 => HB m c (itT i) (itB i)) = iprop(HB m c (itT 0) (itB 0) ∗ (bigSep Finset.univ fun r : Fin 4 => (bigSep Finset.univ fun e : Fin 8 => Nxt m c (it r e).val))) := by
  have hN : (bigSep Finset.univ fun r : Fin 4 => (bigSep Finset.univ fun e : Fin 8 => Nxt m c (it r e).val)) = (bigSep Finset.univ fun i : Fin 32 => Nxt m c i.val) := by
    rw [← bigSep_univ_prod (fun a : Fin 4 × Fin 8 => Nxt m c (it a.1 a.2).val), bigSep_univ_equiv itEquiv]; rfl
  rw [hN, bigSep_univ_equiv upEquiv, bigSep_univ_at _ (31 : Fin 32), bigSep_univ_at (fun i : Fin 32 => Nxt m c i.val) (31 : Fin 32)]
  have e31 : Nxt m c (31 : Fin 32).val = iprop(emp) := by unfold Nxt; rw [dif_neg (by decide)]
  have er : bigSep (Finset.univ.erase (31 : Fin 32)) (fun i : Fin 32 => HB m c (itT (upEquiv i)) (itB (upEquiv i))) = bigSep (Finset.univ.erase (31 : Fin 32)) (fun i : Fin 32 => Nxt m c i.val) := by
    refine bigSep_congr fun i hi => ?_
    have h31 : i.val ≠ 31 := fun h => (Finset.mem_erase.mp hi).1 (Fin.ext h)
    have hlt : i.val + 1 < 32 := by have := i.isLt; omega
    have eu : upEquiv i = ⟨i.val + 1, hlt⟩ := Fin.ext (Nat.mod_eq_of_lt hlt)
    unfold Nxt
    rw [dif_pos hlt, eu]
  rw [er, e31, emp_eq]
  rfl
/-- The blocks class by class are all of them. -/
theorem hb_out : (bigSep Finset.univ fun r : Fin 4 => (bigSep Finset.univ fun e : Fin 8 => HB m c (itT (it r e)) (itB (it r e)))) = (bigSep Finset.univ fun i : Fin 32 => HB m c (itT i) (itB i)) := by
  rw [← bigSep_univ_prod (fun a : Fin 4 × Fin 8 => HB m c (itT (it a.1 a.2)) (itB (it a.1 a.2))), bigSep_univ_equiv itEquiv]; rfl

/-- The 8-bit buffer to send from, by class. -/
theorem kv8S_eq : (Jk c kv8S Finset.univ : sProp (MT nD τ sig Unit (Elt F) ℕ UU ℕ)) ⊣⊢ (bigSep Finset.univ fun r : Fin 4 => (bigSep Finset.univ fun t : Fin 2 => Jk c kv8S (rKv8 t r).set)) := by
  have h := Jk_parts (F := F) (c := c) (mv := kv8S) κ_kv8s _ is_kv8s
  rw [bigSep_univ_prod] at h
  exact h
/-- The 8-bit buffer to receive in, by class. -/
theorem kv8R_eq : (Jk c kv8R Finset.univ : sProp (MT nD τ sig Unit (Elt F) ℕ UU ℕ)) ⊣⊢ (bigSep Finset.univ fun r : Fin 4 => (bigSep Finset.univ fun t : Fin 2 => Jk c kv8R (rKv8 t r).set)) := by
  have h := Jk_parts (F := F) (c := c) (mv := kv8R) κ_kv8s _ is_kv8s
  rw [bigSep_univ_prod] at h
  exact h
/-- The staging buffer is its two slots. -/
theorem stage_eq : (Jk c stage Finset.univ : sProp (MT nD τ sig Unit (Elt F) ℕ UU ℕ)) ⊣⊢ iprop(Jk c (stgV 0) Finset.univ ∗ Jk c (stgV 1) Finset.univ) := by
  have h := Jk_parts (F := F) (c := c) (mv := stage) κ_stages _ is_stages
  rw [sep_fin2, j_stage, j_stage] at h
  exact h
/-- The parts of the context, class by class and head by head. -/
theorem ctxParts_eq (P : Finset S1024x1024.Idx → sProp (MT nD τ sig Unit (Elt F) ℕ UU ℕ)) :
    (bigSep Finset.univ fun a : Fin 4 × Fin 8 × Fin 4 => P (rBlk (blk a.2.2 a.1) a.2.1).set) = (bigSep Finset.univ fun r : Fin 4 => (bigSep Finset.univ fun h : Fin 8 => (bigSep Finset.univ fun k : Fin 4 => P (rBlk (blk k r) h).set))) := by
  rw [bigSep_univ_prod, bigSep_congr fun r _ => bigSep_univ_prod _]
/-- The partial result is the device's own rows and its peers'. -/
theorem pS_eq : (Jk c pS Finset.univ : sProp (MT nD τ sig Unit (Elt F) ℕ UU ℕ)) ⊣⊢ iprop(Jk c pS (rRows c).set ∗ (bigSep Finset.univ fun j : Fin 3 => Jk c pS (rRows (peer c j)).set)) := by
  have h := Jk_parts (F := F) (c := c) (mv := pS) κ_rowses _ is_rowses
  rw [sep_dev c, ← sep_fin3 (fun j => (Jk c pS (rRows (peer c j)).set : sProp (MT nD τ sig Unit (Elt F) ℕ UU ℕ)))] at h
  exact h

/-! ## Joining -/

/-- The gathered keys and values are put together again. -/
theorem fulls_out : (bigSep Finset.univ fun r : Fin 4 => (bigSep Finset.univ fun t : Fin 2 => At c (full t) fullShare (fulCls r) (FUL m c t))) ⊢ iprop(Jk c (full 0) Finset.univ ∗ Jk c (full 1) Finset.univ) := by
  rw [bigSep_univ_comm, ← sep_fin2 (fun t => (Jk c (full t) Finset.univ : sProp (MT nD τ sig Unit (Elt F) ℕ UU ℕ)))]
  exact bigSep_mono fun t _ => (bigSep_mono fun r _ => Hd_junk).trans (Jk_parts κ_fulls _ is_fulls).2
/-- The receive buffer of the reduction is put together again. -/
theorem rsR_out : (bigSep Finset.univ fun j : Fin 3 => (bigSep Finset.univ fun f : Fin 2 => dstAt m c (rsCh j f))) ⊢ Jk c rsR Finset.univ := by
  refine (bigSep_mono fun j _ => ?_).trans (Jk_parts κ_slabs _ is_slabs).2
  rw [bigSep_congr fun f _ => (dstAt_rs (m := m) (c := c) j f).trans (v_rs j f).symm]
  exact (bigSep_mono fun f _ => Hd_junk).trans (Jk_parts κ_half3s _ (is_half3s j)).2
/-- The receive buffer of the gathering is put together again. -/
theorem agR_out : (bigSep Finset.univ fun f : Fin 2 => (bigSep Finset.univ fun j : Fin 3 => (Jk c (agV j f) Finset.univ : sProp (MT nD τ sig Unit (Elt F) ℕ UU ℕ)))) ⊢ Jk c agR Finset.univ := by
  rw [bigSep_univ_comm]
  refine (bigSep_mono fun j _ => ?_).trans (Jk_parts κ_slabs _ is_slabs).2
  rw [bigSep_congr fun f _ => (j_ag (F := F) (c := c) j f).symm]
  exact (Jk_parts κ_half3s _ (is_half3s j)).2
/-- The reduced rows' shares are put together again. -/
theorem agO_out : (bigSep Finset.univ fun f : Fin 2 => (bigSep Finset.univ fun j : Fin 3 => srcAt m c (agCh j f))) ⊢ Jk c agO Finset.univ := by
  refine (bigSep_mono fun f _ => ?_).trans (Jk_parts κ_owns _ is_owns).2
  rw [bigSep_congr fun j _ => (srcAt_ag (m := m) (c := c) j f).trans (v_own f c).symm]
  exact At_thirds.2.trans Hd_junk
/-- The halves sent in the reduction are the peers' rows again. -/
theorem pS_out : (bigSep Finset.univ fun j : Fin 3 => (bigSep Finset.univ fun f : Fin 2 => srcAt m c (rsCh j f))) ⊢ (bigSep Finset.univ fun j : Fin 3 => (Jk c pS (rRows (peer c j)).set : sProp (MT nD τ sig Unit (Elt F) ℕ UU ℕ))) := by
  refine bigSep_mono fun j _ => ?_
  rw [bigSep_congr fun f _ => (srcAt_rs (m := m) (c := c) j f).trans (v_half (halfOff j f c) (halfOff_inb j f c) (peer c j) f (halfOff_eq j f c) c).symm]
  exact (bigSep_mono fun f _ => Hd_junk).trans (Jk_parts κ_halves _ (is_halves (peer c j))).2
/-- A class of the own keys and values is put together again. -/
theorem kvS_cls (r : Fin 4) : iprop((bigSep Finset.univ fun t : Fin 2 => headA m c r t c) ∗ (bigSep Finset.univ fun t : Fin 2 => headA m c r t (peer c 1)) ∗ (bigSep Finset.univ fun j : Fin 3 => (bigSep Finset.univ fun t : Fin 2 => srcAt m c (kvCh t r j))))
    ⊢ iprop((Jk c kvS (kvCls r) : sProp (MT nD τ sig Unit (Elt F) ℕ UU ℕ)) ∗ (bigSep Finset.univ fun t : Fin 2 => (Jk c kv8S (rKv8 t r).set : sProp (MT nD τ sig Unit (Elt F) ℕ UU ℕ)))) := by
  have d0 : ∀ t : Fin 2, srcAt m c (kvCh t r 0) = headA m c r t (peer c 0) := fun t =>
    (v_head (sendOff t r 0 c) (sendOff_inb t r 0 c) t r (peer c 0) (sendOff_eq t r 0 c) c).symm
  have d1 : ∀ t : Fin 2, srcAt m c (kvCh t r 1) = At c kv8S fullShare (rKv8 t r).set (KV8 m c) := fun t => (v_kv8S t r c).symm
  have d2 : ∀ t : Fin 2, srcAt m c (kvCh t r 2) = headA m c r t (peer c 2) := fun t =>
    (v_head (sendOff t r 2 c) (sendOff_inb t r 2 c) t r (peer c 2) (sendOff_eq t r 2 c) c).symm
  have hj : (Jk c kvS (kvCls r) : sProp (MT nD τ sig Unit (Elt F) ℕ UU ℕ)) ⊣⊢ (bigSep Finset.univ fun t : Fin 2 => (bigSep Finset.univ fun p : Fin 4 => (Jk c kvS (rHead t r p).set : sProp (MT nD τ sig Unit (Elt F) ℕ UU ℕ)))) := by
    have h := Jk_parts (F := F) (c := c) (mv := kvS) κ_kvHeads _ (is_kvHeads r)
    rw [bigSep_univ_prod] at h
    exact h
  have hp : (bigSep Finset.univ fun t : Fin 2 => (bigSep Finset.univ fun p : Fin 4 => (Jk c kvS (rHead t r p).set : sProp (MT nD τ sig Unit (Elt F) ℕ UU ℕ)))) = (bigSep Finset.univ fun t : Fin 2 => iprop((Jk c kvS (rHead t r c).set : sProp (MT nD τ sig Unit (Elt F) ℕ UU ℕ)) ∗ (Jk c kvS (rHead t r (peer c 0)).set : sProp (MT nD τ sig Unit (Elt F) ℕ UU ℕ)) ∗ (Jk c kvS (rHead t r (peer c 1)).set : sProp (MT nD τ sig Unit (Elt F) ℕ UU ℕ)) ∗ (Jk c kvS (rHead t r (peer c 2)).set : sProp (MT nD τ sig Unit (Elt F) ℕ UU ℕ)))) :=
    bigSep_congr fun t _ => sep_dev c _
  have hh : ∀ p : Fin 4, (bigSep Finset.univ fun t : Fin 2 => headA m c r t p) ⊢ (bigSep Finset.univ fun t : Fin 2 => (Jk c kvS (rHead t r p).set : sProp (MT nD τ sig Unit (Elt F) ℕ UU ℕ))) := fun p => bigSep_mono fun t _ => Hd_junk
  refine BIBase.Entails.trans ?_ (BIClass.sep_mono hj.2 (Entails.refl _))
  rw [hp, bigSep_sep', bigSep_sep', bigSep_sep', sep_fin3, bigSep_congr fun t _ => d0 t, bigSep_congr fun t _ => d1 t, bigSep_congr fun t _ => d2 t]
  iintro ⟨Hc, H1, H0, H8, H2⟩
  ihave Hc := (hh c) $$ Hc
  ihave H0 := (hh (peer c 0)) $$ H0
  ihave H1 := (hh (peer c 1)) $$ H1
  ihave H2 := (hh (peer c 2)) $$ H2
  ihave H8 := (show (bigSep Finset.univ fun t : Fin 2 => At c kv8S fullShare (rKv8 t r).set (KV8 m c)) ⊢ (bigSep Finset.univ fun t : Fin 2 => (Jk c kv8S (rKv8 t r).set : sProp (MT nD τ sig Unit (Elt F) ℕ UU ℕ))) from bigSep_mono fun t _ => Hd_junk) $$ H8
  isplitr [H8]
  · isplitl [Hc]; · iexact Hc
    isplitl [H0]; · iexact H0
    isplitl [H1]; · iexact H1
    iexact H2
  · iexact H8
/-- The own keys and values are put together again. -/
theorem kvS_out : iprop((bigSep Finset.univ fun r : Fin 4 => (bigSep Finset.univ fun t : Fin 2 => headA m c r t c)) ∗ (bigSep Finset.univ fun r : Fin 4 => (bigSep Finset.univ fun t : Fin 2 => headA m c r t (peer c 1))) ∗ (bigSep Finset.univ fun r : Fin 4 => (bigSep Finset.univ fun j : Fin 3 => (bigSep Finset.univ fun t : Fin 2 => srcAt m c (kvCh t r j)))))
    ⊢ iprop(Jk c kvS Finset.univ ∗ Jk c kv8S Finset.univ) := by
  refine BIBase.Entails.trans ?_ (BIClass.sep_mono (Jk_parts κ_kvClasses _ is_kvClasses).2 kv8S_eq.2)
  rw [← bigSep_sep', ← bigSep_sep', ← bigSep_sep']
  exact bigSep_mono fun r _ => kvS_cls r

/-! ## The body -/

/-- A device's local semaphores, its arguments and its scratch. -/
def Locs (c : Dev nD) : sProp (MT nD τ sig Unit (Elt F) ℕ UU ℕ) :=
  iprop((semVal ((c : Thread nD τ), .dma (semStage 0)) 0 ∗ semVal ((c : Thread nD τ), .dma (semStage 1)) 0) ∗ semVal ((c : Thread nD τ), .dma semW) 0 ∗ (bigSep Finset.univ fun r : Fin 4 => (bigSep Finset.univ fun t : Fin 2 => ownS c r t)))
def Args (m : (ℓ : Loc nD τ sig) → Buf (Elt F) ℓ) (c : Dev nD) : sProp (MT nD τ sig Unit (Elt F) ℕ UU ℕ) :=
  iprop(At c (matH 0) fullShare Finset.univ (MATA m c 0) ∗ At c (matH 1) fullShare Finset.univ (MATA m c 1)
    ∗ At c (kvHbm 0) fullShare Finset.univ (KVA m c 0) ∗ At c (kvHbm 1) fullShare Finset.univ (KVA m c 1) ∗ At c (matH 2) fullShare Finset.univ (MATA m c 2))
def Scr (c : Dev nD) : sProp (MT nD τ sig Unit (Elt F) ℕ UU ℕ) :=
  iprop(Jk c kvS Finset.univ ∗ Jk c kv8S Finset.univ ∗ Jk c (full 0) Finset.univ ∗ Jk c (full 1) Finset.univ ∗ Jk c kv8R Finset.univ ∗ Jk c stage Finset.univ ∗ Jk c wst Finset.univ ∗ Jk c (matB 0) Finset.univ ∗ Jk c (matB 1) Finset.univ ∗ Jk c (matB 2) Finset.univ ∗ Jk c qB Finset.univ ∗ Jk c ctxB Finset.univ ∗ Jk c pS Finset.univ ∗ Jk c rsR Finset.univ ∗ Jk c agO Finset.univ ∗ Jk c agR Finset.univ)
variable (o : Memref sig .tc .vmem S1x1024x1024 .f32)
/-- What the body starts from, -/
def BodyIn (m : (ℓ : Loc nD τ sig) → Buf (Elt F) ℓ) (c : Dev nD) : sProp (MT nD τ sig Unit (Elt F) ℕ UU ℕ) :=
  iprop((∃ W : Waits sig Unit, owes (c : Thread nD τ) (O₀ c) W) ∗ (dutyTok ER (barCell (peer c 0)) 0 2 ∗ dutyTok ER (barCell (peer c 1)) 0 1 ∗ dutyTok ER (barCell (peer c 2)) 0 0)
    ∗ cred (tallyAt (barCell c) () 3) ∗ atPos ER (barCell c) 0 ∅ 0
    ∗ (bigSep Finset.univ fun ch : Chan => toks c ch) ∗ (bigSep Finset.univ fun ch : Chan => rcvR c ch) ∗ (bigSep Finset.univ fun ch : Chan => atPos ER (sendCell c ch) 0 ∅ 0) ∗ Locs c ∗ Args m c ∗ Scr c ∗ Jk c o Finset.univ)
/-- and what it ends with. -/
def BodyOut (m : (ℓ : Loc nD τ sig) → Buf (Elt F) ℓ) (c : Dev nD) : sProp (MT nD τ sig Unit (Elt F) ℕ UU ℕ) :=
  iprop(Ow c 36 ∗ semVal (barCell c) 0 ∗ (bigSep Finset.univ fun ch : Chan => semVal (sendCell c ch) 0) ∗ (bigSep Finset.univ fun ch : Chan => semVal (recvCell c ch) 0) ∗ Locs c ∗ Args m c ∗ Scr c ∗ At c o fullShare Finset.univ (OUT m c))

/-- What the first phase is given, from the parts. -/
theorem C1_in : (bigSep Finset.univ fun r : Fin 4 => C1in m c r) = iprop(((bigSep Finset.univ fun r : Fin 4 => (bigSep Finset.univ fun e : Fin 8 => Nxt m c (it r e).val)) ∗ (bigSep Finset.univ fun r : Fin 4 => (bigSep Finset.univ fun e : Fin 8 => rowJ c (it r e)))) ∗ ((bigSep Finset.univ fun r : Fin 4 => (bigSep Finset.univ fun t : Fin 2 => (Jk c (full t) (rFull r 3).set : sProp (MT nD τ sig Unit (Elt F) ℕ UU ℕ)))) ∗ (bigSep Finset.univ fun r : Fin 4 => (bigSep Finset.univ fun t : Fin 2 => Jk c kv8S (rKv8 t r).set)) ∗ (bigSep Finset.univ fun r : Fin 4 => (bigSep Finset.univ fun t : Fin 2 => ownS c r t)))
    ∗ (bigSep Finset.univ fun r : Fin 4 => (bigSep Finset.univ fun j : Fin 3 => (bigSep Finset.univ fun t : Fin 2 => kvIn c r j t)))) := by
  simp only [bigSep_sep']
/-- What the first phase leaves, part by part. -/
theorem C1_out : (bigSep Finset.univ fun r : Fin 4 => C1out m c r) = iprop((bigSep Finset.univ fun r : Fin 4 => (bigSep Finset.univ fun e : Fin 8 => HB m c (itT (it r e)) (itB (it r e)))) ∗ ((bigSep Finset.univ fun r : Fin 4 => (bigSep Finset.univ fun t : Fin 2 => FlO m c r t)) ∗ (bigSep Finset.univ fun r : Fin 4 => (bigSep Finset.univ fun t : Fin 2 => headA m c r t (peer c 1))))
    ∗ (bigSep Finset.univ fun r : Fin 4 => (bigSep Finset.univ fun j : Fin 3 => (bigSep Finset.univ fun t : Fin 2 => sndC c (kvCh t r j))))) := by
  simp only [bigSep_sep']
/-- What the second phase takes, part by part. -/
theorem C2_in : (bigSep Finset.univ fun r : Fin 4 => C2in m c r) = iprop((bigSep Finset.univ fun r : Fin 4 => (bigSep Finset.univ fun t : Fin 2 => FlO m c r t)) ∗ (bigSep Finset.univ fun r : Fin 4 => (bigSep Finset.univ fun j : Fin 3 => (bigSep Finset.univ fun t : Fin 2 => rcvR c (kvCh t r j)))) ∗ (bigSep Finset.univ fun r : Fin 4 => (bigSep Finset.univ fun t : Fin 2 => (Jk c (full t) (rFull r 1).set : sProp (MT nD τ sig Unit (Elt F) ℕ UU ℕ)))) ∗ (bigSep Finset.univ fun r : Fin 4 => (bigSep Finset.univ fun h : Fin 8 => (bigSep Finset.univ fun k : Fin 4 => Jk c ctxB (rBlk (blk k r) h).set)))) := by
  simp only [bigSep_sep']
/-- What the second phase leaves, part by part. -/
theorem C2_out : (bigSep Finset.univ fun r : Fin 4 => C2out m c r) = iprop(((bigSep Finset.univ fun r : Fin 4 => (bigSep Finset.univ fun t : Fin 2 => headA m c r t c)) ∗ (bigSep Finset.univ fun r : Fin 4 => (bigSep Finset.univ fun t : Fin 2 => ownS c r t))) ∗ (bigSep Finset.univ fun r : Fin 4 => (bigSep Finset.univ fun j : Fin 3 => (bigSep Finset.univ fun t : Fin 2 => semVal (recvCell c (kvCh t r j)) 0))) ∗ (bigSep Finset.univ fun r : Fin 4 => (bigSep Finset.univ fun t : Fin 2 => Jk c kv8R (rKv8 t r).set))
    ∗ (bigSep Finset.univ fun r : Fin 4 => (bigSep Finset.univ fun t : Fin 2 => At c (full t) fullShare (fulCls r) (FUL m c t))) ∗ (bigSep Finset.univ fun r : Fin 4 => (bigSep Finset.univ fun h : Fin 8 => (bigSep Finset.univ fun k : Fin 4 => At c ctxB fullShare (rBlk (blk k r) h).set (CTX m c))))) := by
  simp only [bigSep_sep']
/-- Landing regions with their tokens, by kind. -/
theorem chan_in : iprop((bigSep Finset.univ fun ch : Chan => dstJk (F := F) (peer c ch.1) ch) ∗ (bigSep Finset.univ fun ch : Chan => toks c ch)) = iprop((bigSep Finset.univ fun r : Fin 4 => (bigSep Finset.univ fun j : Fin 3 => (bigSep Finset.univ fun t : Fin 2 => kvIn (F := F) c r j t))) ∗ (bigSep Finset.univ fun j : Fin 3 => (bigSep Finset.univ fun f : Fin 2 => rsIn c j f)) ∗ (bigSep Finset.univ fun f : Fin 2 => (bigSep Finset.univ fun j : Fin 3 => agIn c f j))) := by
  rw [← bigSep_sep', sep_chan]
/-- What the third phase takes, part by part. -/
theorem P3_in : P3in (F := F) o c = iprop(((bigSep Finset.univ fun j : Fin 3 => Jk c pS (rRows (peer c j)).set) ∗ (bigSep Finset.univ fun j : Fin 3 => (bigSep Finset.univ fun f : Fin 2 => rsIn c j f)))
    ∗ ((bigSep Finset.univ fun f : Fin 2 => (bigSep Finset.univ fun j : Fin 3 => rcvR c (rsCh j f))) ∗ (bigSep Finset.univ fun f : Fin 2 => Jk c agO (rOwn f).set) ∗ (bigSep Finset.univ fun f : Fin 2 => (bigSep Finset.univ fun j : Fin 3 => agIn c f j)))
    ∗ (bigSep Finset.univ fun f : Fin 2 => (bigSep Finset.univ fun j : Fin 3 => rcvR c (agCh j f))) ∗ Jk c o Finset.univ ∗ (bigSep Finset.univ fun r : Fin 4 => (bigSep Finset.univ fun j : Fin 3 => (bigSep Finset.univ fun t : Fin 2 => sndC c (kvCh t r j)))) ∗ (bigSep Finset.univ fun ch : Chan => atPos ER (sendCell c ch) 0 ∅ 0)) := by
  unfold P3in
  simp only [bigSep_sep']
/-- What the third phase leaves, part by part. -/
theorem P3_out : P3out o m c = iprop(((bigSep Finset.univ fun j : Fin 3 => (bigSep Finset.univ fun f : Fin 2 => dstAt m c (rsCh j f))) ∗ (bigSep Finset.univ fun j : Fin 3 => (bigSep Finset.univ fun f : Fin 2 => semVal (recvCell c (rsCh j f)) 0)))
    ∗ ((bigSep Finset.univ fun f : Fin 2 => (bigSep Finset.univ fun j : Fin 3 => Jk c (agV j f) Finset.univ)) ∗ (bigSep Finset.univ fun f : Fin 2 => (bigSep Finset.univ fun j : Fin 3 => semVal (recvCell c (agCh j f)) 0))) ∗ At c o fullShare Finset.univ (OUT m c)
    ∗ (bigSep Finset.univ fun ch : Chan => srcAt m c ch) ∗ (bigSep Finset.univ fun ch : Chan => semVal (sendCell c ch) 0)) := by
  unfold P3out
  simp only [bigSep_sep']

/-- The three phases, from the device's buffers to the result. -/
theorem Tr_body : Tr m Kn c (BodyIn o m c) (fun k => phase1 c fun _ => phase2 c fun _ => phase3 o c k) (BodyOut o m c) := by
  intro Q k
  unfold BodyIn BodyOut Locs Args Scr
  iintro #HC ⟨HO, HT, HcB, HaB, Htok, Hrcv, Hsnd, ⟨⟨Hs0, Hs1⟩, Hw, Hown⟩, ⟨A0, A1, A2, A3, A4⟩, ⟨X0, X1, X2, X3, X4, X5, X6, X7, X8, X9, X10, X11, X12, X13, X14, X15⟩, HY⟩ Hk
  ihave HL := land_in $$ [X2 X3 X4 X13 X15]
  · isplitl [X2]; · iexact X2
    isplitl [X3]; · iexact X3
    isplitl [X4]; · iexact X4
    isplitl [X13]; · iexact X13
    iexact X15
  icases HL with ⟨HL, F3, F1⟩
  ihave X0 := kvS_in $$ X0
  ihave HB := (hb_items (m := m) (c := c)).1 $$ [A2 A3]
  · isplitl [A2]; · iexact A2
    iexact A3
  ihave HB := (Entails.of_eq hb_in) $$ HB
  icases HB with ⟨HB, HN⟩
  ihave X1 := (kv8S_eq (F := F) (c := c)).1 $$ X1
  ihave X5 := (stage_eq (F := F) (c := c)).1 $$ X5
  icases X5 with ⟨X5, X5'⟩
  unfold phase1
  iapply (Tr_hello Q _) $$ HC [HO HT HL HcB HaB]
  · unfold HelloIn
    isplitl [HO]; · iexact HO
    isplitl [HT]; · iexact HT
    isplitl [HL]; · iexact HL
    isplitl [HcB]; · iexact HcB
    iexact HaB
  unfold HelloOut
  iintro ⟨HO, HzB, HD⟩
  ihave HD := (Entails.of_eq (chan_in (F := F) (c := c))) $$ [HD Htok]
  · isplitl [HD]; · iexact HD
    iexact Htok
  icases HD with ⟨DK, DR, DA⟩
  ihave Hrcv := (Entails.of_eq (sep_chan (fun ch => rcvR (F := F) c ch))) $$ Hrcv
  icases Hrcv with ⟨RK, RR, RA⟩
  iapply (Tr_loop1 Q _) $$ HC [HO HB Hs0 Hs1 X5 X5' HN X0 F3 X1 Hown DK]
  · isplitl [HO]; · iexact HO
    isplitl [HB]; · iexact HB
    isplitl [Hs0 Hs1 X5 X5']
    · isplitl [Hs0 X5]
      · isplitl [X5]; · iexact X5
        iexact Hs0
      · isplitl [X5']; · iexact X5'
        iexact Hs1
    iapply (Entails.of_eq (C1_in (m := m) (c := c)).symm)
    isplitl [HN X0]
    · isplitl [HN]; · iexact HN
      iexact X0
    isplitr [DK]
    · isplitl [F3]; · iexact F3
      isplitl [X1]; · iexact X1
      iexact Hown
    · iexact DK
  iintro ⟨HO, ⟨⟨X5, Hs0⟩, ⟨X5', Hs1⟩⟩, HP⟩
  ihave HP := (Entails.of_eq (C1_out (m := m) (c := c))) $$ HP
  icases HP with ⟨HB, ⟨HF, HhP⟩, SK⟩
  ihave X11 := (Jk_parts (F := F) (c := c) (mv := ctxB) κ_blks _ is_blks).1 $$ X11
  ihave X11 := (Entails.of_eq (ctxParts_eq (fun S => (Jk c ctxB S : sProp (MT nD τ sig Unit (Elt F) ℕ UU ℕ))))) $$ X11
  have ew : (Jk c wst rW.set : sProp (MT nD τ sig Unit (Elt F) ℕ UU ℕ)) = Jk c wst Finset.univ := by rw [w_univ]
  ihave X6 := (Entails.of_eq ew.symm) $$ X6
  iapply (Tr_phase2 Q _) $$ HC [HO X6 Hw A0 A1 A4 X7 X8 X9 X10 HF RK F1 X11]
  · isplitl [HO]; · iexact HO
    isplitl [X6 Hw]
    · isplitl [X6]; · iexact X6
      iexact Hw
    isplitl [A0 A1 A4 X7 X8 X9]
    · iapply (Entails.of_eq (sep_fin3 (matIn m c)).symm)
      isplitl [A0 X7]
      · isplitl [A0]; · iexact A0
        iexact X7
      isplitl [A1 X8]
      · isplitl [A1]; · iexact A1
        iexact X8
      · isplitl [A4]; · iexact A4
        iexact X9
    isplitl [X10]; · iexact X10
    iapply (Entails.of_eq (C2_in (m := m) (c := c)).symm)
    isplitl [HF]; · iexact HF
    isplitl [RK]; · iexact RK
    isplitl [F1]; · iexact F1
    iexact X11
  iintro ⟨HO, ⟨X6, Hw⟩, HM, X10, HP⟩
  ihave X6 := (Entails.of_eq ew) $$ X6
  ihave HM := (Entails.of_eq (sep_fin3 (matOut m c))) $$ HM
  icases HM with ⟨⟨A0, X7⟩, ⟨A1, X8⟩, ⟨A4, X9⟩⟩
  ihave HP := (Entails.of_eq (C2_out (m := m) (c := c))) $$ HP
  icases HP with ⟨⟨Hh, Hown⟩, ZK, X4, HF, X11⟩
  ihave X11 := (Entails.of_eq (ctxParts_eq (fun S => At c ctxB fullShare S (CTX m c))).symm) $$ X11
  ihave X11 := (At_parts (c := c) (mv := ctxB) (q := fullShare) (f := CTX m c) κ_blks _ is_blks).2 $$ X11
  ihave X12 := (pS_eq (F := F) (c := c)).1 $$ X12
  icases X12 with ⟨X12, X12'⟩
  ihave X14 := (Jk_parts (F := F) (c := c) (mv := agO) κ_owns _ is_owns).1 $$ X14
  ihave RR := (Entails.of_eq (bigSep_univ_comm (fun (j : Fin 3) (f : Fin 2) => rcvR (F := F) c (rsCh j f)))) $$ RR
  iapply (Tr_phase3 o Q k) $$ HC [HO X11 X9 X12' DR RR X14 DA RA HY SK Hsnd]
  · isplitl [HO]; · iexact HO
    isplitl [X11 X9]
    · isplitl [X11]; · iexact X11
      iexact X9
    iapply (Entails.of_eq (P3_in (F := F) (c := c) o).symm)
    isplitl [X12' DR]
    · isplitl [X12']; · iexact X12'
      iexact DR
    isplitl [RR X14 DA]
    · isplitl [RR]; · iexact RR
      isplitl [X14]; · iexact X14
      iexact DA
    isplitl [RA]; · iexact RA
    isplitl [HY]; · iexact HY
    isplitl [SK]; · iexact SK
    iexact Hsnd
  iintro ⟨HO, ⟨X11, X9⟩, HP⟩
  ihave HP := (Entails.of_eq (P3_out (m := m) (c := c) o)) $$ HP
  icases HP with ⟨⟨X13, ZR⟩, ⟨X15, ZA⟩, HY, HS, HZ⟩
  ihave HS := (Entails.of_eq (sep_chan (fun ch => srcAt m c ch))) $$ HS
  icases HS with ⟨SK, SR, SA⟩
  ihave X13 := rsR_out $$ X13
  ihave X15 := agR_out $$ X15
  ihave X14 := agO_out $$ SA
  ihave X12' := pS_out $$ SR
  ihave X12 := (pS_eq (F := F) (c := c)).2 $$ [X12 X12']
  · isplitl [X12]; · iexact X12
    iexact X12'
  ihave XK := kvS_out $$ [Hh HhP SK]
  · isplitl [Hh]; · iexact Hh
    isplitl [HhP]; · iexact HhP
    iexact SK
  icases XK with ⟨X0, X1⟩
  ihave X2 := fulls_out $$ HF
  icases X2 with ⟨X2, X3⟩
  ihave X4 := (kv8R_eq (F := F) (c := c)).2 $$ X4
  ihave X5 := (stage_eq (F := F) (c := c)).2 $$ [X5 X5']
  · isplitl [X5]; · iexact X5
    iexact X5'
  ihave HB := (Entails.of_eq hb_out) $$ HB
  ihave HB := (hb_items (m := m) (c := c)).2 $$ HB
  icases HB with ⟨A2, A3⟩
  ihave X7 := Hd_junk $$ X7
  ihave X8 := Hd_junk $$ X8
  ihave X9 := Hd_junk $$ X9
  ihave X10 := Hd_junk $$ X10
  ihave X11 := Hd_junk $$ X11
  iapply Hk
  isplitl [HO]; · iexact HO
  isplitl [HzB]; · iexact HzB
  isplitl [HZ]; · iexact HZ
  isplitl [ZK ZR ZA]
  · iapply (Entails.of_eq (sep_chan (fun ch => (semVal (recvCell c ch) 0 : sProp (MT nD τ sig Unit (Elt F) ℕ UU ℕ)))).symm)
    isplitl [ZK]; · iexact ZK
    isplitl [ZR]; · iexact ZR
    iexact ZA
  isplitl [Hs0 Hs1 Hw Hown]
  · isplitl [Hs0 Hs1]
    · isplitl [Hs0]; · iexact Hs0
      iexact Hs1
    isplitl [Hw]; · iexact Hw
    iexact Hown
  isplitl [A0 A1 A2 A3 A4]
  · isplitl [A0]; · iexact A0
    isplitl [A1]; · iexact A1
    isplitl [A2]; · iexact A2
    isplitl [A3]; · iexact A3
    iexact A4
  isplitr [HY]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    iexact X15
  · iexact HY

end Cert.KernelIdeal.Attn

end
-- ==== Proof.StructEq.lean ====
/- The printed body is the structured one. -/
module

public import proofs.«01_k».proof.Proof.Body

@[expose] public section

noncomputable section

namespace Cert.KernelIdeal.Attn

open Idealize.ShloMosaic Idealize.ShloMosaic.TcCoe
open Idealize.SL Idealize.SL.Sem
open Cert.KernelIdeal Cert.KernelIdeal.Gen

variable {F : FTy → Type} [FloatOps F]

set_option maxRecDepth 1000000 in
set_option maxHeartbeats 0 in
/-- The printed body is the structured one. -/
theorem bodyAt_eq (t : Fin cfg0.N) : bodyAt0 (F := F) t = body (win0_0.stage (cfg0.slots t 0)) := rfl

end Cert.KernelIdeal.Attn

end
-- ==== Proof.Launch.lean ====
/- The launch: the four devices' bodies run together from any memory with zero counters. -/
module

public import proofs.«01_k».proof.Proof.Assemble
public import proofs.«01_k».proof.Proof.StructEq
public import proofs.«01_k».proof.Proof.Gen.KernelIdeal.Launch
public import Idealize.ShloMosaic.Lib.Pipeline.CollectiveSegs
public import Idealize.ShloMosaic.Lib.Pipeline.ValueKit

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Ring (shares3)
open Cert.KernelIdeal Cert.KernelIdeal.Gen
open Idealize.ShloMosaic.Pipeline (BodyObligation Dat RDat)

variable {F : FTy → Type} [FloatOps F]

local notation "𝕄" => MT nD τ sig Unit (Elt F) ℕ UU ℕ

variable {m : (ℓ : Loc nD τ sig) → Buf (Elt F) ℓ} {Kn : Dev nD × CellIx → ℕ} {c : Dev nD}

/-! ## Whole buffers -/

/-- A view of all of a buffer holds the buffer. -/
theorem At_full {s : Shape} {e : EltTy} {sp : Space} (M : Memref sig .tc sp s e) (hs : M.view.set = Finset.univ) (q : PosShare TreeShare)
    (g : Buf (Elt F) (M.view.loc (c : Thread nD τ))) :
    At c M q Finset.univ (M.view.read (Elt F) g) ⊣⊢ (M.view.loc (c : Thread nD τ) ↦{q} g : sProp (MT nD τ sig Unit (Elt F) ℕ UU ℕ)) := by
  have e : ∀ g' : Buf (Elt F) (M.view.loc (c : Thread nD τ)), (M.view.loc (c : Thread nD τ) ↦[M.view.setOn Finset.univ]{q} g' : sProp (MT nD τ sig Unit (Elt F) ℕ UU ℕ)) = (M.view.loc (c : Thread nD τ) ↦{q} g') := fun g' => by
    rw [View.setOn_univ, hs]
  constructor
  · unfold At Hd
    iintro ⟨%g', %h, H⟩
    have eg : g' = g := funext fun x => by
      have hx : x ∈ M.view.set := hs ▸ Finset.mem_univ x
      obtain ⟨i, -, rfl⟩ := Finset.mem_map.mp hx
      have := h i (Finset.mem_univ i)
      rw [View.read_apply, View.read_apply] at this
      exact (cast_inj _).mp this
    subst eg
    iapply (Entails.of_eq (e g'))
    iexact H
  · exact (Entails.of_eq (e g).symm).trans (Hd_intro g fun i _ => rfl)
/-- Unknown contents of a whole buffer. -/
theorem Jk_full {s : Shape} {e : EltTy} {sp : Space} (M : Memref sig .tc sp s e) (hs : M.view.set = Finset.univ) :
    (Jk c M Finset.univ : sProp (MT nD τ sig Unit (Elt F) ℕ UU ℕ)) = iprop(∃ g : Buf (Elt F) (M.view.loc (c : Thread nD τ)), (M.view.loc (c : Thread nD τ) ↦{fullShare} g)) := by
  unfold Jk
  rw [View.setOn_univ, hs]

/-- A slice at offset zero of full size is the whole buffer. -/
theorem set_whole2 (b : Ref sig .tc) (off : Fin b.ty.shape.rank → Nat) (inb) (h0 : off = fun _ => 0) :
    (((Memref.whole b).slice (Rect.unit (s := b.ty.shape) off b.ty.shape.size inb) (fun _ => rfl)).view).set = Finset.univ := by
  subst h0
  rw [show ((Memref.whole b).slice (Rect.unit (s := b.ty.shape) (fun _ => 0) b.ty.shape.size inb) (fun _ => rfl)).view.set
    = (Rect.unit (s := b.ty.shape) (fun _ => 0) b.ty.shape.size inb).set from View.set_slice_whole b _]
  refine Finset.eq_univ_iff_forall.mpr fun i => Rect.mem_set_unit.mpr fun a => ?_
  exact ⟨Nat.zero_le _, by rw [Nat.zero_add]; exact (i a).isLt⟩
/-- An argument matrix is taken whole. -/
theorem matH_set (mi : Fin 3) : (matH mi).view.set = Finset.univ := by
  match mi with
  | 0 => exact (View.set_reshape _ _).trans (set_whole2 main_arg0 _ _ (by funext a; fin_cases a <;> rfl))
  | 1 => exact set_whole2 main_arg1 _ _ (by funext a; fin_cases a <;> rfl)
  | 2 => exact set_whole2 main_arg4 _ _ (by funext a; fin_cases a <;> rfl)

/-- A device's arguments as it holds them. -/
abbrev argsPts (m : (ℓ : Loc nD τ sig) → Buf (Elt F) ℓ) (c : Dev nD) : sProp (MT nD τ sig Unit (Elt F) ℕ UU ℕ) :=
  iprop((((c : Thread nD τ).loc main_arg0) ↦{fullShare} m ((c : Thread nD τ).loc main_arg0)) ∗ (((c : Thread nD τ).loc main_arg1) ↦{fullShare} m ((c : Thread nD τ).loc main_arg1)) ∗ (((c : Thread nD τ).loc main_arg2) ↦{fullShare} m ((c : Thread nD τ).loc main_arg2)) ∗ (((c : Thread nD τ).loc main_arg3) ↦{fullShare} m ((c : Thread nD τ).loc main_arg3)) ∗ (((c : Thread nD τ).loc main_arg4) ↦{fullShare} m ((c : Thread nD τ).loc main_arg4)))
/-- The arguments, as views and as buffers. -/
theorem Args_eq : Args m c ⊣⊢ argsPts m c := by
  have a0 := At_full (F := F) (c := c) (matH 0) (matH_set 0) fullShare (m _)
  have a1 := At_full (F := F) (c := c) (matH 1) (matH_set 1) fullShare (m _)
  have a2 := At_full (F := F) (c := c) (kvHbm 0) (View.set_whole main_arg2) fullShare (m _)
  have a3 := At_full (F := F) (c := c) (kvHbm 1) (View.set_whole main_arg3) fullShare (m _)
  have a4 := At_full (F := F) (c := c) (matH 2) (matH_set 2) fullShare (m _)
  exact ⟨BIClass.sep_mono a0.1 (BIClass.sep_mono a1.1 (BIClass.sep_mono a2.1 (BIClass.sep_mono a3.1 a4.1))),
    BIClass.sep_mono a0.2 (BIClass.sep_mono a1.2 (BIClass.sep_mono a2.2 (BIClass.sep_mono a3.2 a4.2)))⟩
/-- The scratch buffers, one by one. -/
theorem Scr_eq : (Pipeline.scopedRest spec0 c : sProp (MT nD τ sig Unit (Elt F) ℕ UU ℕ)) = Scr c := by
  rw [scopedRest0_eq]
  unfold Scr
  rw [Jk_full kvS (View.set_whole _), Jk_full kv8S (View.set_whole _), Jk_full (full 0) (View.set_whole _), Jk_full (full 1) (View.set_whole _), Jk_full kv8R (View.set_whole _), Jk_full stage (View.set_whole _), Jk_full wst (View.set_whole _), Jk_full (matB 0) (View.set_whole _), Jk_full (matB 1) (View.set_whole _), Jk_full (matB 2) (View.set_whole _), Jk_full qB (View.set_whole _), Jk_full ctxB (View.set_whole _), Jk_full pS (View.set_whole _), Jk_full rsR (View.set_whole _), Jk_full agO (View.set_whole _), Jk_full agR (View.set_whole _)]
  rfl

/-! ## The semaphores -/

/-- The kernel's own semaphores: the channels', and the local transfers'. -/
abbrev OwnIx : Type := (Bool × Chan) ⊕ (Fin 2 ⊕ (Fin 1 ⊕ (Fin 4 × Fin 2)))
def osem : OwnIx → SemLoc sig
  | .inl x => csem (some x)
  | .inr (.inl s) => .dma (semStage s)
  | .inr (.inr (.inl _)) => .dma semW
  | .inr (.inr (.inr a)) => .dma (semOwn a.2 a.1)
/-- The local semaphores are distinct, and none is a channel's. -/
theorem osem_inj (a b : OwnIx) (h : osem a = osem b) : a = b := by
  have hc : ∀ (x : Bool × Chan) (z : Fin 2 ⊕ (Fin 1 ⊕ (Fin 4 × Fin 2))), csem (some x) ≠ osem (.inr z) := by decide +kernel
  have hl : ∀ z z' : Fin 2 ⊕ (Fin 1 ⊕ (Fin 4 × Fin 2)), osem (.inr z) = osem (.inr z') → z = z' := by decide +kernel
  match a, b, h with
  | .inl x, .inl y, h => exact congrArg Sum.inl (Option.some.inj (csem_inj _ _ h))
  | .inl x, .inr z, h => exact absurd h (hc x z)
  | .inr z, .inl x, h => exact absurd h.symm (hc x z)
  | .inr z, .inr z', h => exact congrArg Sum.inr (hl z z' h)
set_option maxRecDepth 100000 in
/-- The kernel's own semaphores are distinct and all of them. -/
theorem ownSemFacts : Pipeline.OwnSemFacts cfg0.spec osem := ⟨by decide +kernel, fun a b => osem_inj a b, by decide +kernel⟩

/-- The cells one by one: the barrier, the send and the receive cells. -/
theorem sep_pairs (A : Bool × Chan → sProp (MT nD τ sig Unit (Elt F) ℕ UU ℕ)) :
    bigSep Finset.univ A = iprop((bigSep Finset.univ fun ch : Chan => A (false, ch)) ∗ (bigSep Finset.univ fun ch : Chan => A (true, ch))) := by
  rw [bigSep_univ_prod, bigSep_univ_eq_bigSepL [false, true] (by decide) (by decide)]
  rfl
/-- A separating product over the cells: the barrier and the channels. -/
theorem sep_cells (A : CellIx → sProp (MT nD τ sig Unit (Elt F) ℕ UU ℕ)) :
    bigSep Finset.univ A = iprop(A none ∗ (bigSep Finset.univ fun y : (Bool × Chan) => A (some y))) := by
  rw [bigSep_univ_equiv ((Equiv.sumComm _ _).trans (Equiv.optionEquivSumPUnit.{0} (Bool × Chan)).symm) A, bigSep_univ_sum, bigSep_univ_of_subsingleton PUnit.unit]
  rfl

/-- The kernel's own semaphores at zero, one by one. -/
theorem ownSems0_eq : (Pipeline.ownSems0 (Ix := Unit) (Name := ℕ) (U := UU) (Lvl := ℕ) (Val := Elt F) (τ := τ) osem c : sProp (MT nD τ sig Unit (Elt F) ℕ UU ℕ)) = iprop((bigSep Finset.univ fun y : (Bool × Chan) => semVal (cell c (some y)) 0) ∗ Locs c) := by
  unfold Pipeline.ownSems0 Locs ownS
  rw [bigSep_univ_sum, bigSep_univ_sum, bigSep_univ_sum, sep_fin2, bigSep_univ_of_subsingleton (0 : Fin 1),
    bigSep_univ_prod (fun a : Fin 4 × Fin 2 => (semVal ((c : Thread nD τ), osem (.inr (.inr (.inr a)))) 0 : sProp (MT nD τ sig Unit (Elt F) ℕ UU ℕ)))]
  rfl
/-- The one semaphore from outside is the barrier. -/
theorem unscopedSems0_eq : (unscopedSems0 c : sProp (MT nD τ sig Unit (Elt F) ℕ UU ℕ)) = semVal (barCell c) 0 := by
  unfold unscopedSems0; rw [bigSep_eq_bigSepL_of_eq [SemLoc.reg barS] (by decide +kernel) (by decide)]; rfl

/-! ## The launch's ghost state -/

/-- No two cells are one, over all devices. -/
theorem kcell_inj : Function.Injective (fun x : Dev nD × CellIx => cell x.1 x.2) := by
  rintro ⟨c, k⟩ ⟨c', k'⟩ h
  have h1 : c = c' := by have := congrArg (fun g : GSem nD τ sig => g.1.1) h; exact this
  exact Prod.ext h1 (csem_inj _ _ (congrArg Prod.snd h))
def meshCells : Finset (GSem nD τ sig) := Finset.univ.map ⟨_, kcell_inj⟩

/-- The duties: a barrier cell's three, each other cell's one. -/
abbrev DutyIx : Type := Fin 3 ⊕ (Bool × Chan)
def dutyOf (x : Dev nD × DutyIx) : GSem nD τ sig × ℕ × Fin 3 :=
  match x.2 with
  | .inl d => (barCell x.1, 0, d)
  | .inr y => (cell x.1 (some y), 0, 0)
/-- No two duties are one, over all devices. -/
theorem dutyOf_inj : Function.Injective dutyOf := by
  rintro ⟨c, d | y⟩ ⟨c', d' | y'⟩ h
  · have h1 := kcell_inj (a₁ := (c, none)) (a₂ := (c', none)) (congrArg Prod.fst h)
    have h2 : d = d' := congrArg (fun z : GSem nD τ sig × ℕ × Fin 3 => z.2.2) h
    exact Prod.ext (show c = c' from congrArg Prod.fst h1) (congrArg Sum.inl h2)
  · exact absurd (congrArg Prod.snd (kcell_inj (a₁ := (c, none)) (a₂ := (c', some y')) (congrArg Prod.fst h))) nofun
  · exact absurd (congrArg Prod.snd (kcell_inj (a₁ := (c, some y)) (a₂ := (c', none)) (congrArg Prod.fst h))) nofun
  · have h1 := kcell_inj (a₁ := (c, some y)) (a₂ := (c', some y')) (congrArg Prod.fst h)
    exact Prod.ext (show c = c' from congrArg Prod.fst h1) (congrArg Sum.inr (Option.some.inj (congrArg Prod.snd h1)))
def meshToks : Finset (GSem nD τ sig × ℕ × Fin 3) := Finset.univ.map ⟨_, dutyOf_inj⟩

def u₀ : UU := (initOf (Pipeline.cells cfgs cellOf_inj) (Pipeline.launchToks cfgs cellOf_inj), (initOf meshCells meshToks, 1))
/-- Ownership of the exchange's part of the ghost state. -/
theorem own_pair (a : UB) : (BI.own ((embR : Emb (UB × Counters) (MT nD τ sig Unit (Elt F) ℕ UU ℕ)) (a, 1)) : sProp (MT nD τ sig Unit (Elt F) ℕ UU ℕ)) ⊢ BI.own (ER a) := by
  exact Entails.refl _

/-- What a device is dealt, -/
def G (m : (ℓ : Loc nD τ sig) → Buf (Elt F) ℓ) (c : Dev nD) : sProp (MT nD τ sig Unit (Elt F) ℕ UU ℕ) :=
  iprop((bigSep Finset.univ fun x : CellIx => roundState ER (rd m) (cell c x) 0) ∗ (bigSep Finset.univ fun x : CellIx => atPos ER (cell c x) 0 ∅ 0) ∗ (bigSep Finset.univ fun x : CellIx => reached ER (cell c x) 0)
    ∗ (bigSep Finset.univ fun d : Fin 3 => dutyTok ER (barCell c) 0 d) ∗ (bigSep Finset.univ fun ch : Chan => dutyTok ER (sendCell c ch) 0 0) ∗ (bigSep Finset.univ fun ch : Chan => dutyTok ER (recvCell c ch) 0 0))
/-- and what it goes on with: its positions, the tokens of the duties that it pays, and its local semaphores. -/
def lin (c : Dev nD) : sProp (MT nD τ sig Unit (Elt F) ℕ UU ℕ) :=
  iprop((bigSep Finset.univ fun x : CellIx => atPos ER (cell c x) 0 ∅ 0) ∗ ((dutyTok ER (barCell (peer c 0)) 0 2 ∗ dutyTok ER (barCell (peer c 1)) 0 1 ∗ dutyTok ER (barCell (peer c 2)) 0 0) ∗ (bigSep Finset.univ fun ch : Chan => toks c ch)) ∗ Locs c)
def recs (m : (ℓ : Loc nD τ sig) → Buf (Elt F) ℓ) (Kn : Dev nD × CellIx → ℕ) : sProp (MT nD τ sig Unit (Elt F) ℕ UU ℕ) :=
  bigSep Finset.univ fun x : Dev nD × CellIx => iprop(cellInv ER (rd m) (Kn x) (cell x.1 x.2) ∗ reached ER (cell x.1 x.2) 0)
instance recs_persistent (Kn : Dev nD × CellIx → ℕ) : BI.Persistent (recs m Kn) := by unfold recs; infer_instance
def G' (m : (ℓ : Loc nD τ sig) → Buf (Elt F) ℓ) (c : Dev nD) : sProp (MT nD τ sig Unit (Elt F) ℕ UU ℕ) := iprop(∃ Kn, recs m Kn ∗ lin c)

/-- The cells and their tokens are handed out to the devices. -/
theorem fund_mesh : (BI.own (ER (initOf meshCells meshToks)) : sProp (MT nD τ sig Unit (Elt F) ℕ UU ℕ)) ⊢ iprop(|==> bigSep Finset.univ (G m)) := by
  have hX (Φ : GSem nD τ sig → sProp (MT nD τ sig Unit (Elt F) ℕ UU ℕ)) : bigSep meshCells Φ = (bigSep Finset.univ fun d : Dev nD => (bigSep Finset.univ fun x : CellIx => Φ (cell d x))) := by
    unfold meshCells; rw [bigSep_map, bigSep_univ_prod]; rfl
  have hT : bigSep meshToks (fun x => (dutyTok ER x.1 x.2.1 x.2.2 : sProp (MT nD τ sig Unit (Elt F) ℕ UU ℕ)))
      = bigSep Finset.univ fun c : Dev nD => iprop((bigSep Finset.univ fun d : Fin 3 => dutyTok ER (barCell c) 0 d) ∗ (bigSep Finset.univ fun ch : Chan => dutyTok ER (sendCell c ch) 0 0) ∗ (bigSep Finset.univ fun ch : Chan => dutyTok ER (recvCell c ch) 0 0)) := by
    unfold meshToks; rw [bigSep_map, bigSep_univ_prod]
    exact bigSep_congr fun c _ => by rw [bigSep_univ_sum, sep_pairs]; rfl
  iintro HX
  imod (Rounds.fund ER (rd m) meshCells meshToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  have hG : bigSep Finset.univ (G m) = iprop((bigSep Finset.univ fun d : Dev nD => (bigSep Finset.univ fun x : CellIx => roundState ER (rd m) (cell d x) 0)) ∗ (bigSep Finset.univ fun d : Dev nD => (bigSep Finset.univ fun x : CellIx => atPos ER (cell d x) 0 ∅ 0)) ∗ (bigSep Finset.univ fun d : Dev nD => (bigSep Finset.univ fun x : CellIx => reached ER (cell d x) 0))
    ∗ bigSep Finset.univ fun c : Dev nD => iprop((bigSep Finset.univ fun d : Fin 3 => dutyTok ER (barCell c) 0 d) ∗ (bigSep Finset.univ fun ch : Chan => dutyTok ER (sendCell c ch) 0 0) ∗ (bigSep Finset.univ fun ch : Chan => dutyTok ER (recvCell c ch) 0 0))) := by
    rw [← bigSep_sep', ← bigSep_sep', ← bigSep_sep']; rfl
  iapply (Entails.of_eq hG.symm)
  isplitl [Hst]; · iexact Hst
  isplitl [Hat]; · iexact Hat
  isplitl [Hr]; · iexact Hr
  iexact Htok

/-- Every cell of a device becomes an invariant. -/
theorem core_alloc : iprop((Pipeline.ownSems0 (Ix := Unit) (Name := ℕ) (U := UU) (Lvl := ℕ) (Val := Elt F) (τ := τ) osem c : sProp (MT nD τ sig Unit (Elt F) ℕ UU ℕ)) ∗ unscopedSems0 c ∗ G m c)
    ⊢ |={Set.univ}=> iprop((bigSep Finset.univ fun x : CellIx => iprop(∃ κ : ℕ, cellInv ER (rd m) κ (cell c x))) ∗ (bigSep Finset.univ fun x : CellIx => reached ER (cell c x) 0) ∗ (bigSep Finset.univ fun x : CellIx => atPos ER (cell c x) 0 ∅ 0)
      ∗ ((bigSep Finset.univ fun d : Fin 3 => dutyTok ER (barCell c) 0 d) ∗ (bigSep Finset.univ fun ch : Chan => dutyTok ER (sendCell c ch) 0 0) ∗ (bigSep Finset.univ fun ch : Chan => dutyTok ER (recvCell c ch) 0 0)) ∗ Locs c) := by
  have hv : iprop((Pipeline.ownSems0 (Ix := Unit) (Name := ℕ) (U := UU) (Lvl := ℕ) (Val := Elt F) (τ := τ) osem c : sProp (MT nD τ sig Unit (Elt F) ℕ UU ℕ)) ∗ unscopedSems0 c) ⊢ iprop((bigSep Finset.univ fun x : CellIx => semVal (cell c x) 0) ∗ Locs c) := by
    rw [ownSems0_eq, unscopedSems0_eq, sep_cells (fun x => (semVal (cell c x) 0 : sProp (MT nD τ sig Unit (Elt F) ℕ UU ℕ)))]
    iintro ⟨⟨H1, HL⟩, H0⟩
    isplitr [HL]
    · isplitl [H0]; · iexact H0
      iexact H1
    · iexact HL
  have hi : iprop((bigSep Finset.univ fun x : CellIx => semVal (cell c x) 0) ∗ (bigSep Finset.univ fun x : CellIx => roundState ER (rd m) (cell c x) 0)) ⊢ (|={Set.univ}=> (bigSep Finset.univ fun x : CellIx => iprop(∃ κ : ℕ, cellInv ER (rd m) κ (cell c x))) : sProp (MT nD τ sig Unit (Elt F) ℕ UU ℕ)) := by
    rw [← bigSep_sep']
    exact (bigSep_mono fun x _ => (Rounds.body_intro ER (rd m) (cell c x)).trans inv_alloc).trans (bigSep_fupd _ _)
  unfold G
  iintro ⟨Hos, Hus, Hst, Hat, Hr, Htok⟩
  ihave Hv := hv $$ [Hos Hus]
  · isplitl [Hos]; · iexact Hos
    iexact Hus
  icases Hv with ⟨Hv, HL⟩
  imod hi $$ [Hv Hst] with Hinv
  · isplitl [Hv]; · iexact Hv
    iexact Hst
  imodintro
  isplitl [Hinv]; · iexact Hinv
  isplitl [Hr]; · iexact Hr
  isplitl [Hat]; · iexact Hat
  isplitl [Htok]; · iexact Htok
  iexact HL

/-- The peers at one offset are all the devices. -/
def unpeer (c : Dev nD) (j : Fin 3) : Dev nD := ⟨(c.val + (3 - j.val)) % 4, Nat.mod_lt _ (by decide)⟩
/-- A device is the peer of its predecessor. -/
theorem peer_unpeer : ∀ (j : Fin 3) (c : Dev nD), peer (unpeer c j) j = c := by decide
/-- A device is the predecessor of its peer. -/
theorem unpeer_peer : ∀ (j : Fin 3) (c : Dev nD), unpeer (peer c j) j = c := by decide
def peerEquiv (j : Fin 3) : Dev nD ≃ Dev nD := ⟨fun c => peer c j, fun c => unpeer c j, unpeer_peer j, peer_unpeer j⟩

/-- Each device's tokens go to the devices that pay. -/
theorem toks_around : (bigSep Finset.univ fun c : Dev nD => (iprop((bigSep Finset.univ fun d : Fin 3 => dutyTok ER (barCell c) 0 d) ∗ (bigSep Finset.univ fun ch : Chan => dutyTok ER (sendCell c ch) 0 0) ∗ (bigSep Finset.univ fun ch : Chan => dutyTok ER (recvCell c ch) 0 0)) : sProp (MT nD τ sig Unit (Elt F) ℕ UU ℕ)))
    ⊢ bigSep Finset.univ fun c : Dev nD => iprop((dutyTok ER (barCell (peer c 0)) 0 2 ∗ dutyTok ER (barCell (peer c 1)) 0 1 ∗ dutyTok ER (barCell (peer c 2)) 0 0) ∗ (bigSep Finset.univ fun ch : Chan => toks c ch)) := by
  have hb : ∀ (j d : Fin 3), (bigSep Finset.univ fun c : Dev nD => (dutyTok ER (barCell c) 0 j : sProp (MT nD τ sig Unit (Elt F) ℕ UU ℕ))) = bigSep Finset.univ fun c : Dev nD => dutyTok ER (barCell (peer c d)) 0 j := fun j d => bigSep_univ_equiv (peerEquiv d) _
  have hr : (bigSep Finset.univ fun c : Dev nD => (bigSep Finset.univ fun ch : Chan => (dutyTok ER (recvCell c ch) 0 0 : sProp (MT nD τ sig Unit (Elt F) ℕ UU ℕ)))) = bigSep Finset.univ fun c : Dev nD => (bigSep Finset.univ fun ch : Chan => dutyTok ER (recvCell (peer c ch.1) ch) 0 0) := by
    rw [bigSep_univ_comm, bigSep_univ_comm (fun (c : Dev nD) (ch : Chan) => (dutyTok ER (recvCell (peer c ch.1) ch) 0 0 : sProp (MT nD τ sig Unit (Elt F) ℕ UU ℕ)))]
    exact bigSep_congr fun ch _ => bigSep_univ_equiv (peerEquiv ch.1) _
  unfold toks
  simp only [sep_fin3, bigSep_sep']
  rw [hb 0 2, hb 1 1, hb 2 0, hr]
  iintro ⟨⟨H0, H1, H2⟩, HS, HR⟩
  isplitr [HS HR]
  · isplitl [H2]; · iexact H2
    isplitl [H1]; · iexact H1
    iexact H0
  · isplitl [HS]; · iexact HS
    iexact HR

/-- What persists may be used in each factor. -/
theorem with_persistent {I : Type} [DecidableEq I] {S : Finset I} {R : sProp (MT nD τ sig Unit (Elt F) ℕ UU ℕ)} [BI.Persistent R] {Φ Ψ : I → sProp (MT nD τ sig Unit (Elt F) ℕ UU ℕ)}
    (h : ∀ i ∈ S, iprop(R ∗ Φ i) ⊢ Ψ i) : iprop(R ∗ bigSep S Φ) ⊢ bigSep S Ψ :=
  (BIClass.sep_mono (BI.bigSep_of_persistent S R) (Entails.refl _)).trans (by rw [← bigSep_sep']; exact bigSep_mono h)

/-- What the cells give, device by device. -/
theorem regroup : (bigSep Finset.univ fun c : Dev nD => iprop((bigSep Finset.univ fun x : CellIx => iprop(∃ κ : ℕ, cellInv ER (rd m) κ (cell c x))) ∗ (bigSep Finset.univ fun x : CellIx => reached ER (cell c x) 0) ∗ (bigSep Finset.univ fun x : CellIx => atPos ER (cell c x) 0 ∅ 0)
      ∗ ((bigSep Finset.univ fun d : Fin 3 => dutyTok ER (barCell c) 0 d) ∗ (bigSep Finset.univ fun ch : Chan => dutyTok ER (sendCell c ch) 0 0) ∗ (bigSep Finset.univ fun ch : Chan => dutyTok ER (recvCell c ch) 0 0)) ∗ Locs c))
    ⊢ bigSep Finset.univ (G' m) := by
  rw [bigSep_sep', bigSep_sep', bigSep_sep', bigSep_sep', ← bigSep_univ_prod (fun x : Dev nD × CellIx => iprop(∃ κ : ℕ, cellInv ER (rd m) κ (cell x.1 x.2))),
    ← bigSep_univ_prod (fun x : Dev nD × CellIx => (reached ER (cell x.1 x.2) 0 : sProp (MT nD τ sig Unit (Elt F) ℕ UU ℕ)))]
  iintro ⟨HI, HR, Hat, Htok, HL⟩
  ihave HK := (BI.bigSep_exists_pi Finset.univ (fun (x : Dev nD × CellIx) (κ : ℕ) => (cellInv ER (rd m) κ (cell x.1 x.2) : sProp (MT nD τ sig Unit (Elt F) ℕ UU ℕ)))) $$ HI
  icases HK with ⟨%Kn, HI⟩
  ihave Htk := toks_around $$ Htok
  ihave #HC := (show iprop((bigSep Finset.univ fun x : Dev nD × CellIx => cellInv ER (rd m) (Kn x) (cell x.1 x.2)) ∗ (bigSep Finset.univ fun x : Dev nD × CellIx => reached ER (cell x.1 x.2) 0)) ⊢ recs m Kn from
    Entails.of_eq (bigSep_sep' _ _ _).symm) $$ [HI HR]
  · isplitl [HI]; · iexact HI
    iexact HR
  iapply (with_persistent (R := recs m Kn) (Φ := lin) (Ψ := G' m) fun c _ => by
    unfold G'
    iintro ⟨HC, HL⟩
    iexists Kn
    isplitl [HC]; · iexact HC
    iexact HL)
  isplitr
  · iexact HC
  have hl : bigSep Finset.univ (lin (F := F)) = iprop((bigSep Finset.univ fun d : Dev nD => (bigSep Finset.univ fun x : CellIx => atPos ER (cell d x) 0 ∅ 0))
    ∗ (bigSep Finset.univ fun c : Dev nD => iprop((dutyTok ER (barCell (peer c 0)) 0 2 ∗ dutyTok ER (barCell (peer c 1)) 0 1 ∗ dutyTok ER (barCell (peer c 2)) 0 0) ∗ (bigSep Finset.univ fun ch : Chan => toks c ch))) ∗ bigSep Finset.univ (Locs (F := F))) := by
    rw [← bigSep_sep', ← bigSep_sep']; rfl
  iapply (Entails.of_eq hl.symm)
  isplitl [Hat]; · iexact Hat
  isplitl [Htk]; · iexact Htk
  iexact HL

/-- From the semaphores at zero every device gets what it starts with. -/
theorem glob : (bigSep Finset.univ fun c => iprop((Pipeline.ownSems0 (Ix := Unit) (Name := ℕ) (U := UU) (Lvl := ℕ) (Val := Elt F) (τ := τ) osem c : sProp (MT nD τ sig Unit (Elt F) ℕ UU ℕ)) ∗ unscopedSems0 c ∗ G m c) : sProp (MT nD τ sig Unit (Elt F) ℕ UU ℕ)) ⊢ |={Set.univ}=> bigSep Finset.univ (G' m) :=
  ((bigSep_mono fun c _ => core_alloc).trans (bigSep_fupd _ _)).trans (BI.fupd_mono regroup)

/-- Every unit owed at the start is a unit its cell's device may wait for. -/
theorem creds : (Pipeline.launchCred O₀ c : sProp (MT nD τ sig Unit (Elt F) ℕ UU ℕ)) ⊢ iprop(cred (tallyAt (barCell c) () 3) ∗ (bigSep Finset.univ fun ch : Chan => cred (tallyAt (recvCell c ch) () (NB ch)))) := by
  have e : (Pipeline.launchCred O₀ c : sProp (MT nD τ sig Unit (Elt F) ℕ UU ℕ)) = iprop((((bigSep Finset.univ fun ch : Chan => Pipeline.launchCred (fun d => tallyAt (recvCell (peer d ch.1) ch) () (NB ch)) c)
      ∗ Pipeline.launchCred (fun d => tallyAt (barCell (peer d 2)) () 1) c) ∗ Pipeline.launchCred (fun d => tallyAt (barCell (peer d 1)) () 1) c) ∗ Pipeline.launchCred (fun d => tallyAt (barCell (peer d 0)) () 1) c) := by
    have e0 : O₀ = fun d => (((∑ ch : Chan, tallyAt (recvCell (peer d ch.1) ch) () (NB ch)) + tallyAt (barCell (peer d 2)) () 1) + tallyAt (barCell (peer d 1)) () 1) + tallyAt (barCell (peer d 0)) () 1 := by
      funext d
      unfold O₀ owed
      rw [Finset.filter_true_of_mem fun _ _ => Nat.zero_le _]
    rw [e0, Pipeline.launchCred_add, Pipeline.launchCred_add, Pipeline.launchCred_add, Pipeline.launchCred_sum]
  have hb : ∀ j : Fin 3, (Pipeline.launchCred (fun d => tallyAt (barCell (peer d j)) () 1) c : sProp (MT nD τ sig Unit (Elt F) ℕ UU ℕ)) ⊢ cred (tallyAt (barCell c) () 1) := fun j =>
    Pipeline.launchCred_tallyAt _ (fun d => peer d j) (fun d => unpeer d j) (peer_unpeer j) (unpeer_peer j) () 1 c
  have hr : (bigSep Finset.univ fun ch : Chan => Pipeline.launchCred (fun d => tallyAt (recvCell (peer d ch.1) ch) () (NB ch)) c : sProp (MT nD τ sig Unit (Elt F) ℕ UU ℕ)) ⊢ (bigSep Finset.univ fun ch : Chan => cred (tallyAt (recvCell c ch) () (NB ch))) :=
    bigSep_mono fun ch _ => Pipeline.launchCred_tallyAt _ (fun d => peer d ch.1) (fun d => unpeer d ch.1) (peer_unpeer ch.1) (unpeer_peer ch.1) () (NB ch) c
  have h3 : iprop(cred (tallyAt (barCell c) () 1) ∗ cred (tallyAt (barCell c) () 1) ∗ cred (tallyAt (barCell c) () 1)) ⊢ (cred (tallyAt (barCell c) () 3) : sProp (MT nD τ sig Unit (Elt F) ℕ UU ℕ)) := by
    have e3 : (tallyAt (barCell c) () 3 : CellTallies nD τ sig Unit) = tallyAt (barCell c) () 1 + (tallyAt (barCell c) () 1 + tallyAt (barCell c) () 1) := by
      rw [tallyAt_add, tallyAt_add]
    rw [e3]
    exact (BIClass.sep_mono (Entails.refl _) (cred_add _ _).2).trans (cred_add _ _).2
  rw [e]
  iintro ⟨⟨⟨HR, H2⟩, H1⟩, H0⟩
  ihave H0 := (hb 0) $$ H0
  ihave H1 := (hb 1) $$ H1
  ihave H2 := (hb 2) $$ H2
  ihave HR := hr $$ HR
  isplitr [HR]
  · iapply h3
    isplitl [H0]; · iexact H0
    isplitl [H1]; · iexact H1
    iexact H2
  · iexact HR

/-! ## The body's proof data -/

/-- What a device starts from besides its scratch, -/
def start (m : (ℓ : Loc nD τ sig) → Buf (Elt F) ℓ) (c : Dev nD) : sProp (MT nD τ sig Unit (Elt F) ℕ UU ℕ) :=
  iprop((∃ Kn, Ctx m Kn) ∗ (dutyTok ER (barCell (peer c 0)) 0 2 ∗ dutyTok ER (barCell (peer c 1)) 0 1 ∗ dutyTok ER (barCell (peer c 2)) 0 0)
    ∗ cred (tallyAt (barCell c) () 3) ∗ atPos ER (barCell c) 0 ∅ 0
    ∗ (bigSep Finset.univ fun ch : Chan => toks c ch) ∗ (bigSep Finset.univ fun ch : Chan => rcvR c ch) ∗ (bigSep Finset.univ fun ch : Chan => atPos ER (sendCell c ch) 0 ∅ 0) ∗ Locs c ∗ Args m c)
def Φ₀ (m : (ℓ : Loc nD τ sig) → Buf (Elt F) ℓ) (c : Dev nD) : sProp (MT nD τ sig Unit (Elt F) ℕ UU ℕ) := iprop(start m c ∗ Scr c)
/-- and what it ends with. -/
def Φ₁ (m : (ℓ : Loc nD τ sig) → Buf (Elt F) ℓ) (c : Dev nD) : sProp (MT nD τ sig Unit (Elt F) ℕ UU ℕ) :=
  iprop(semVal (barCell c) 0 ∗ (bigSep Finset.univ fun ch : Chan => semVal (sendCell c ch) 0) ∗ (bigSep Finset.univ fun ch : Chan => semVal (recvCell c ch) 0) ∗ Locs c ∗ Args m c ∗ Scr c)

variable (m) in
def dats (_ : Fin 1) (c : Dev nD) : Dat τ (Elt F) Unit ℕ UU ℕ cfg0 c where
  A w := m ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The output is held whole. -/
theorem share_eq (c : Dev nD) (w : Fin cfg0.W) : (dats m 0 c).share w = fullShare := by unfold Dat.share; split <;> rfl
/-- A whole buffer held is its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = At c (Memref.whole b) fullShare Finset.univ X := by
  unfold owns At Hd
  refine congrArg _ (funext fun g => ?_)
  rw [View.setOn_univ]
  refine congrArg₂ _ (congrArg _ (propext ⟨fun h i _ => congrFun h i, fun h => funext fun i => h i (Finset.mem_univ i)⟩)) rfl

abbrev oW : Memref sig .tc .vmem S1x1024x1024 .f32 := Memref.whole cc0_stg0_0

/-- A device's body, from what it starts with to what it ends with. -/
theorem body_wp : iprop(Φ₀ m c ∗ (∃ W : Waits sig Unit, owes (c : Thread nD τ) (O₀ c) W) ∗ Jk c oW Finset.univ)
    ⊢ WP c (body oW) fun _ => iprop(Φ₁ m c ∗ (∃ W : Waits sig Unit, owes (c : Thread nD τ) 0 W) ∗ At c oW fullShare Finset.univ (OUT m c)) := by
  unfold Φ₀ start body WP
  rw [wp_deviceId]
  iintro ⟨⟨⟨⟨%Kn, #HC⟩, HT, Hc, Ha, Htk, Hrc, Hsn, HL, HA⟩, HX⟩, HO, HY⟩
  iapply (Tr_body oW (fun _ => iprop(Φ₁ m c ∗ (∃ W : Waits sig Unit, owes (c : Thread nD τ) 0 W) ∗ At c oW fullShare Finset.univ (OUT m c))) .ret) $$ HC [HT Hc Ha Htk Hrc Hsn HL HA HX HO HY]
  · unfold BodyIn
    isplitl [HO]; · iexact HO
    isplitl [HT]; · iexact HT
    isplitl [Hc]; · iexact Hc
    isplitl [Ha]; · iexact Ha
    isplitl [Htk]; · iexact Htk
    isplitl [Hrc]; · iexact Hrc
    isplitl [Hsn]; · iexact Hsn
    isplitl [HL]; · iexact HL
    isplitl [HA]; · iexact HA
    isplitl [HX]; · iexact HX
    iexact HY
  unfold BodyOut Ow
  rw [owed_end]
  iintro ⟨HO, Hb, Hs, Hr, HL, HA, HX, HY⟩
  unfold WP
  rw [wp_ret]; imodintro
  unfold Φ₁
  isplitl [Hb Hs Hr HL HA HX]
  · isplitl [Hb]; · iexact Hb
    isplitl [Hs]; · iexact Hs
    isplitl [Hr]; · iexact Hr
    isplitl [HL]; · iexact HL
    isplitl [HA]; · iexact HA
    iexact HX
  isplitl [HO]; · iexact HO
  iexact HY

set_option maxRecDepth 100000 in
/-- The body meets its specification. -/
theorem body_obligation (c : Dev nD) : BodyObligation (dats (F := F) m 0 c) (defs₀ (F := F)) 𝒱₀ () Set.univ := fun t => by
  rw [fin_N0 t, bigSep_W0, bigSep_W0]
  simp only [owns_whole_eq]
  show iprop(Φ₀ m c ∗ (dats m 0 c).owesAt () (Fin.castSucc (n := cfg0.N) t0_0) ∗ (∃ d, At c oW fullShare Finset.univ ((dats m 0 c).before (0 : Fin 1) t0_0 d)))
    ⊢ WP c (bodyAt0 t0_0) fun _ => iprop(Φ₁ m c ∗ (dats m 0 c).owesAt () (Fin.succ (n := cfg0.N) t0_0) ∗ At c oW fullShare Finset.univ (OUT m c))
  rw [bodyAt_eq]
  have h := body_wp (F := F) (m := m) (c := c)
  unfold Dat.owesAt Pipeline.owesWithin
  have hpre : iprop(Φ₀ m c ∗ (∃ W : Waits sig Unit, ⌜(↑W : Set (SemLoc sig × Unit)) ⊆ (dats m 0 c).bound () (Fin.castSucc (n := cfg0.N) t0_0)⌝ ∗ owes (c : Thread nD τ) (O₀ c) W) ∗ (∃ d, At c oW fullShare Finset.univ ((dats m 0 c).before (0 : Fin 1) t0_0 d)))
      ⊢ iprop(Φ₀ m c ∗ (∃ W : Waits sig Unit, owes (c : Thread nD τ) (O₀ c) W) ∗ Jk c oW Finset.univ) := by
    iintro ⟨H, ⟨%W, -, HO⟩, ⟨%d, HX⟩⟩
    isplitl [H]; · iexact H
    isplitl [HO]; · iexists W; iexact HO
    iapply Hd_junk
    iexact HX
  refine hpre.trans (h.trans (wp_mono _ _ _ fun _ => ?_))
  iintro ⟨H, ⟨%W, HO⟩, HX⟩
  isplitl [H]; · iexact H
  isplitl [HO]
  · iexists W
    isplitr; · ipureintro; exact fun _ _ => Or.inl trivial
    iexact HO
  iexact HX

/-! ## The run -/

/-- What a device starts with. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hA : (Pipeline.unscopedRestP Pipeline.Prefetch.none cfg0.spec c (fun b => m ((c : Thread nD τ).loc b)) : sProp (MT nD τ sig Unit (Elt F) ℕ UU ℕ)) ⊢ Args m c := by
    rw [Pipeline.unscopedRestP_none, unscopedRest0_eq]
    exact Args_eq.2
  have hat : (bigSep Finset.univ fun x : CellIx => atPos ER (cell c x) 0 ∅ 0) ⊢ (iprop(atPos ER (barCell c) 0 ∅ 0 ∗ (bigSep Finset.univ fun ch : Chan => atPos ER (sendCell c ch) 0 ∅ 0) ∗ (bigSep Finset.univ fun ch : Chan => atPos ER (recvCell c ch) 0 ∅ 0)) : sProp (MT nD τ sig Unit (Elt F) ℕ UU ℕ)) := by
    rw [sep_cells (fun x => (atPos ER (cell c x) 0 ∅ 0 : sProp (MT nD τ sig Unit (Elt F) ℕ UU ℕ))), sep_pairs]
  have hr : iprop((bigSep Finset.univ fun ch : Chan => cred (tallyAt (recvCell c ch) () (NB ch))) ∗ (bigSep Finset.univ fun ch : Chan => atPos ER (recvCell c ch) 0 ∅ 0)) ⊢ ((bigSep Finset.univ fun ch : Chan => rcvR c ch) : sProp (MT nD τ sig Unit (Elt F) ℕ UU ℕ)) := by
    unfold rcvR; rw [bigSep_sep']
  unfold G' lin
  iintro ⟨Hu, Hlev, Hcr, -, ⟨%Kn, HR, Hat, ⟨Hbt, Htk⟩, HL⟩⟩
  ihave HA := hA $$ Hu
  ihave Hc := creds $$ Hcr
  icases Hc with ⟨H1, HN⟩
  ihave Hat := hat $$ Hat
  icases Hat with ⟨H0, HS, HV⟩
  ihave Hrc := hr $$ [HN HV]
  · isplitl [HN]; · iexact HN
    iexact HV
  imodintro
  unfold start
  isplitl
  · isplitl [HR Hlev]
    · iexists Kn
      unfold Ctx
      isplitl [HR]; · unfold recs; iexact HR
      iexact Hlev
    isplitl [Hbt]; · iexact Hbt
    isplitl [H1]; · iexact H1
    isplitl [H0]; · iexact H0
    isplitl [Htk]; · iexact Htk
    isplitl [Hrc]; · iexact Hrc
    isplitl [HS]; · iexact HS
    isplitl [HL]; · iexact HL
    iexact HA
  · iempintro

/-- What the body takes. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp (MT nD τ sig Unit (Elt F) ℕ UU ℕ)) = Scr c from Scr_eq]
  unfold Φ₀
  iintro ⟨Hs, -, Hr⟩
  isplitl [Hs]; · iexact Hs
  iexact Hr

/-- What the body leaves. -/
theorem phi1_exit (c : Dev nD) :
    (dats m 0 c).Φ (Fin.last cfg0.N) ⊢ iprop((unscopedSems0 c ∗ argsPts m c) ∗ Pipeline.ownSems0 osem c ∗ Pipeline.scopedRest cfg0.spec c) := by
  rw [show (dats m 0 c).Φ (Fin.last cfg0.N) = Φ₁ m c from rfl, show (Pipeline.scopedRest cfg0.spec c : sProp (MT nD τ sig Unit (Elt F) ℕ UU ℕ)) = Scr c from Scr_eq, ownSems0_eq, unscopedSems0_eq,
    sep_pairs (fun y => (semVal (cell c (some y)) 0 : sProp (MT nD τ sig Unit (Elt F) ℕ UU ℕ)))]
  unfold Φ₁
  iintro ⟨Hb, HS, HR, HL, HA, HX⟩
  isplitl [Hb HA]
  · isplitl [Hb]; · iexact Hb
    iapply Args_eq.1
    iexact HA
  isplitr [HX]
  · isplitr [HL]
    · isplitl [HS]; · iexact HS
      iexact HR
    iexact HL
  iexact HX

variable (m) in
/-- The waits for the output's copies may be made. -/
theorem waits (c : Dev nD) : (levAts L lv : sProp (MT nD τ sig Unit (Elt F) ℕ UU ℕ)) ⊢ Pipeline.cellsWaits cfgs (dats m) () 0 c :=
  Pipeline.cellsWaits_intro cfgs (dats m) () 0 c fun w s t =>
    mayWait_stage c (by fin_cases w; fin_cases s; decide +kernel) _ (by
      rcases t with ⟨_ | _, ht⟩
      · exact Or.inl rfl
      · exact Or.inr rfl)

/-- What the arguments hold when the run ends: what they held. -/
def ArgsKept (m : (ℓ : Loc nD τ sig) → Buf (Elt F) ℓ) (c : Dev nD) (m' : (ℓ : Loc nD τ sig) → Buf (Elt F) ℓ) : Prop :=
  m' ((c : Thread nD τ).loc main_arg0) = m ((c : Thread nD τ).loc main_arg0) ∧ m' ((c : Thread nD τ).loc main_arg1) = m ((c : Thread nD τ).loc main_arg1) ∧ m' ((c : Thread nD τ).loc main_arg2) = m ((c : Thread nD τ).loc main_arg2) ∧ m' ((c : Thread nD τ).loc main_arg3) = m ((c : Thread nD τ).loc main_arg3) ∧ m' ((c : Thread nD τ).loc main_arg4) = m ((c : Thread nD τ).loc main_arg4)
/-- The arguments are kept. -/
theorem args_read (c : Dev nD) (s' : Phys nD τ sig (Elt F)) : iprop(argsPts m c ∗ SI s') ⊢ (iprop(⌜ArgsKept m c s'.mem.mem⌝ ∗ SI s') : sProp (MT nD τ sig Unit (Elt F) ℕ UU ℕ)) := by
  iintro ⟨⟨H0, H1, H2, H3, H4⟩, HSI⟩
  icombine HSI H0 gives %h0
  icombine HSI H1 gives %h1
  icombine HSI H2 gives %h2
  icombine HSI H3 gives %h3
  icombine HSI H4 gives %h4
  isplitr
  · ipureintro
    exact ⟨Buf.eq_of_forall_mem_univ h0, Buf.eq_of_forall_mem_univ h1, Buf.eq_of_forall_mem_univ h2, Buf.eq_of_forall_mem_univ h3, Buf.eq_of_forall_mem_univ h4⟩
  iexact HSI

/-- The output is the result. -/
theorem out_eq (c : Dev nD) : (dats m 0 c).arrAt (0 : Fin 1) cfg0.N = OUT m c := by
  refine (dats m 0 c).arrAt_eq_of_covers (0 : Fin 1) _ (by decide +kernel) fun t hf y => ?_
  blk_simp
  refine congrArg (OUT m c) (a₁ := y) (funext fun a => Fin.ext ?_)
  have e : ∀ t : Fin cfg0.N, ∀ a, win0_0.index t a = 0 := (by decide +kernel : ∀ t : Fin grid0.N, ∀ a, win0_0.index t a = 0)
  refine Eq.trans ?_ (Pipeline.Window.rect_emb_val win0_0 t y a rfl).symm
  rw [e t a]
  omega

set_option maxRecDepth 200000 in
/-- From any memory with zero counters every run of the four devices ends, with every device's result at the computed
    contents, its arguments unchanged, and every semaphore counter at zero. -/
theorem run_main (m : (ℓ : Loc nD τ sig) → Buf (Elt F) ℓ) (ρ : Dev nD → PrngReg) : θ_run defs (onTc (τ := τ) (main (F := F))) ⟨m, fun _ => 0, ρ⟩
    (fun r => (∀ c : Dev nD, r.2.mem ((c : Thread nD τ).loc main_v1) = OUT m c ∧ ArgsKept m c r.2.mem) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation c) (hne := fun w => by fin_cases w; exact Nat.succ_pos _) (harr := arr_whole0) (hstage := stage_whole0) (hshare := fun c w => share_eq c w)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair _) $$ HX
      imod (fund_mesh (m := m)) $$ HX with HG
      imodintro
      isplitl [HP] <;> iassumption)
    (hglob := glob)
    (hA := fun _ _ => rfl) (hpf := fun _ k => k.elim0)
    (X := start m) (Y := fun c => iprop(unscopedSems0 c ∗ argsPts m c)) (Z := fun _ => iprop(emp))
    (hX := start_intro ρ) (hin := phi0_intro) (hout := phi1_exit)
    (QY := fun c s => ArgsKept m c s.mem ∧ ∀ sm : SemLoc sig, sm.isScoped .tc = false → s.sem ((c.tc : Thread nD τ), sm) = 0)
    (hY := fun c s' => by
      iintro ⟨⟨Hu, HA⟩, -, HSI⟩
      ihave H := (args_read c s') $$ [HA HSI]
      · isplitl [HA]; · iexact HA
        iexact HSI
      icases H with ⟨%hA, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hA, hs⟩
      iexact HSI)
    (hQ := fun _ h hs => ⟨fun c => ⟨((h c).1 (0 : Fin 1)).trans (out_eq c), (h c).2.2.1⟩, sem_eq_zero hs fun c => (h c).2.2.2⟩)

end Cert.KernelIdeal.Attn

end
-- ==== Proof.SameBody.lean ====
/- The two printed kernels have one text: their definitions are the same. -/
module
public import proofs.«01_k».proof.Defs
public import proofs.«01_k».proof.Proof.Gen.Kernel
public import proofs.«01_k».proof.Proof.Gen.Kernel.Points
public import proofs.«01_k».proof.Proof.StructEq

@[expose] public section

noncomputable section

namespace Cert.Proof

open Idealize.ShloMosaic Idealize.ShloMosaic.TcCoe
open Idealize.SL Idealize.SL.Sem

variable {F : FTy → Type} [FloatOps F]

set_option maxRecDepth 1000000 in
set_option maxHeartbeats 0 in
/-- The body as printed is the structured one. -/
theorem bodyAt_kernel (t : Fin Cert.Kernel.cfg0.N) : Cert.Kernel.Gen.bodyAt0 (F := F) t = Cert.KernelIdeal.Attn.body (F := F) (Cert.KernelIdeal.win0_0.stage (Cert.KernelIdeal.cfg0.slots t 0)) := rfl

end Cert.Proof

end
-- ==== Proof.SameText.lean ====
/- The two printed kernels have one text: their definitions are the same. -/
module
public import proofs.«01_k».proof.Proof.SameBody
public import proofs.«01_k».proof.Proof.Gen.KernelIdeal.Launch
public import proofs.«01_k».proof.Proof.Gen.Kernel.Launch

@[expose] public section

noncomputable section

namespace Cert.Proof

open Idealize.ShloMosaic Idealize.ShloMosaic.TcCoe
open Idealize.SL Idealize.SL.Sem

variable {F : FTy → Type} [FloatOps F]

/-- One table of kernel bodies. -/
theorem defs₀_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    have h := bodyAt_kernel (F := F) Cert.Kernel.Gen.t0_0
    have h' := Cert.KernelIdeal.Attn.bodyAt_eq (F := F) Cert.KernelIdeal.Gen.t0_0
    exact (show _ = _ from rfl).trans ((h.trans h'.symm).trans rfl)

/-- And one table of definitions. -/
theorem defs_eq : Cert.Kernel.defs (F := F) = Cert.KernelIdeal.defs (F := F) :=
  congrArg (Pipeline.defs Cert.KernelIdeal.pcfgs) defs₀_eq

end Cert.Proof

end
-- ==== Proof.Elem.lean ====
/- The kernel's arithmetic over the extended reals, element by element. -/
module

public import proofs.«01_k».proof.Proof.Val
public import Idealize.ShloMosaic.Lib.Pointwise

@[expose] public section

set_option maxRecDepth 16384

noncomputable section

namespace Cert.KernelIdeal.Attn

open Idealize.ShloMosaic Idealize.ShloMosaic.TcCoe
open Cert.KernelIdeal Cert.KernelIdeal.Gen

/-- A product of 256 rows with a square matrix. -/
theorem dotRows_at (a : FVec Ideal S256x1024 .bf16) (b : FVec Ideal S1024x1024 .bf16) (i : Fin 256) (j : Fin 1024) :
    (dotRows (F := Ideal) a b (ix2 i j) : EReal) = ∑ k : Fin 1024, a (ix2 i k) * b (ix2 k j) := by
  pointwise [dotRows]

/-- The projected queries: the product, scaled. -/
theorem qRows_at (a : FVec Ideal S256x1024 .bf16) (b : FVec Ideal S1024x1024 .bf16) (i : Fin 256) (j : Fin 1024) :
    (qRows (F := Ideal) a b (ix2 i j) : EReal) = (∑ k : Fin 1024, a (ix2 i k) * b (ix2 k j)) * Ideal.ofBits .f32 0x3DB504F3#32 := by
  pointwise [qRows, dotRows]

/-- The partial output: the product. -/
theorem pRows_at (a : FVec Ideal S256x1024 .bf16) (b : FVec Ideal S1024x1024 .bf16) (i : Fin 256) (j : Fin 1024) :
    (pRows (F := Ideal) a b (ix2 i j) : EReal) = ∑ k : Fin 1024, a (ix2 i k) * b (ix2 k j) := by
  pointwise [pRows, dotRows]

/-- A score: the product of a query row, of its block of 64, and a key row. -/
theorem scores_at (q : Fin 4 → FVec Ideal S64x128 .bf16) (kk : FVec Ideal S1x1024x1x128 .bf16) (i : Fin 256) (j : Fin 1024) :
    (scores (F := Ideal) (q 0) (q 1) (q 2) (q 3) kk (ix2 i j) : EReal) = ∑ d : Fin 128, q ⟨i.val / 64, by omega⟩ (ix2 ⟨i.val % 64, by omega⟩ d) * kk (ix4 0 j 0 d) := by
  pointwise [scores]
  refine Finset.sum_congr rfl fun d _ => congrArg (· * (kk (ix4 0 j 0 d) : EReal)) ?_
  have e : ∀ (a : Fin 4) (b : Fin 64), 64 * a.val + b.val = i.val → q ⟨i.val / 64, by omega⟩ (ix2 ⟨i.val % 64, by omega⟩ d) = q a (ix2 b d) := fun a b h => by
    have ha : (⟨i.val / 64, by omega⟩ : Fin 4) = a := Fin.ext (by show i.val / 64 = a.val; omega)
    have hb : (⟨i.val % 64, by omega⟩ : Fin 64) = b := Fin.ext (by show i.val % 64 = b.val; omega)
    rw [ha, hb]
  split
  · exact (e 0 ⟨i.val, _⟩ (by show 64 * 0 + i.val = i.val; omega)).symm
  · split
    · exact (e 1 ⟨i.val - 64, _⟩ (by show 64 * 1 + (i.val - 64) = i.val; omega)).symm
    · split
      · exact (e 2 ⟨i.val - 64 - 64, _⟩ (by show 64 * 2 + (i.val - 64 - 64) = i.val; omega)).symm
      · exact (e 3 ⟨i.val - 64 - 64 - 64, _⟩ (by show 64 * 3 + (i.val - 64 - 64 - 64) = i.val; omega)).symm

/-- A weight: the exponential of the score less the row's greatest. -/
theorem weights_at (s : FVec Ideal S256x1024 .f32) (i : Fin 256) (j : Fin 1024) :
    (weights (F := Ideal) s (ix2 i j) : EReal) = Ideal.exp (s (ix2 i j) - Finset.univ.fold max (Ideal.ofBits .f32 0xFF800000#32) fun k : Fin 1024 => s (ix2 i k)) := by
  pointwise [weights]

/-- An attended value: the values weighted, over the row's sum. -/
theorem attend_at (w : FVec Ideal S256x1024 .f32) (vv : FVec Ideal S1x1024x1x128 .bf16) (i : Fin 256) (d : Fin 128) :
    (attend (F := Ideal) w vv (ix2 i d) : EReal) = ∑ j : Fin 1024, (w (ix2 i j) * Ideal.div 1 (∑ k : Fin 1024, w (ix2 i k))) * vv (ix4 0 j 0 d) := by
  pointwise [attend, probs]

/-- Half of the device's rows: its own part and the three that came in. -/
theorem accHalf_at (acc : FVec Ideal S256x1024 .f32) (f : Fin 2) (v0 v1 v2 : FVec Ideal S1x256x512 .bf16) (i : Fin 256) (j : Fin 512) :
    (accHalf (F := Ideal) acc f v0 v1 v2 (ix2 i j) : EReal) = acc (ix2 i ⟨512 * f.val + j.val, by omega⟩) + v0 (ix3 0 i j) + v1 (ix3 0 i j) + v2 (ix3 0 i j) := by
  pointwise [accHalf, addHalf]

/-- Over the ideal values the narrowed half holds the values it was made of. -/
theorem castHalf_at (v : FVec Ideal S256x512 .f32) (i : Fin 256) (j : Fin 512) : (castHalf (F := Ideal) v (ix2 i j) : EReal) = v (ix2 i j) := by
  pointwise [castHalf]

/-- A device's own rows are its two reduced halves side by side. -/
theorem ownRows_at (a b : FVec Ideal S256x512 .f32) (i : Fin 256) (j : Fin 1024) :
    (ownRows (F := Ideal) a b (ix3 0 i j) : EReal) = if h : j.val < 512 then a (ix2 i ⟨j.val, h⟩) else b (ix2 i ⟨j.val - 512, by omega⟩) := by
  pointwise [ownRows]

/-- Over the ideal values the widened rows hold the values they were made of. -/
theorem otherRows_at (v : FVec Ideal S1x256x1024 .bf16) (i : Fin 256) (j : Fin 1024) :
    (otherRows (F := Ideal) v (ix3 0 i j) : EReal) = v (ix3 0 i j) := by
  pointwise [otherRows]

end Cert.KernelIdeal.Attn

end
-- ==== Proof.Spec.lean ====
/- The attention as sums over the extended reals, once over all keys under a mask and once over the keys of a
   class in the order a device holds them, and that the two agree. -/
module

public import Idealize.ShloMosaic.Lib.Pointwise

@[expose] public section

noncomputable section

namespace Cert.Spec

open Idealize.ShloMosaic

/-! ## Numbers of rows, heads and columns -/

/-- Row `b` of device `s`'s part, in the whole. -/
def big (s : Fin 4) (b : Fin 1024) : Fin 4096 := ⟨1024 * s.val + b.val, by omega⟩
/-- Head `h` of device `s`. -/
def hd (s : Fin 4) (h : Fin 8) : Fin 32 := ⟨8 * s.val + h.val, by omega⟩
/-- Column `d` of head `h`, on a device and in the whole. -/
def hcol (h : Fin 8) (d : Fin 128) : Fin 1024 := ⟨128 * h.val + d.val, by omega⟩
def col (h : Fin 32) (d : Fin 128) : Fin 4096 := ⟨h.val * 128 + d.val, by omega⟩
/-- Row `z` of class `r`: block `4 n + r` holds the class's rows from `64 n`. -/
def row (r : Fin 4) (z : Fin 256) : Fin 1024 := ⟨64 * (4 * (z.val / 64) + r.val) + z.val % 64, by omega⟩
/-- The device whose rows stand in quarter `g` of device `s`'s keys. -/
def src (s g : Fin 4) : Fin 4 := ⟨(s.val + 3 - g.val) % 4, by omega⟩
/-- The key that device `s` holds as number `y` of class `r`. -/
def key (s r : Fin 4) (y : Fin 1024) : Fin 4096 := big (src s ⟨y.val / 256, by omega⟩) (row r ⟨y.val % 256, by omega⟩)
/-- Where device `s` holds key `j`. -/
def pos (s : Fin 4) (j : Fin 4096) : Fin 1024 := ⟨256 * ((s.val + 3 - j.val / 1024) % 4) + 64 * (j.val % 1024 / 256) + j.val % 64, by omega⟩
/-- The class of a row. -/
def cls (i : Fin 1024) : Fin 4 := ⟨i.val / 64 % 4, by omega⟩
/-- The number of a row in its class. -/
def num (i : Fin 1024) : Fin 256 := ⟨64 * (i.val / 256) + i.val % 64, by omega⟩

/-- A row is found again from its class and its number in the class. -/
theorem row_num (i : Fin 1024) : row (cls i) (num i) = i := Fin.ext (by simp only [row, cls, num]; omega)
/-- Quarter and source device determine each other in the same way. -/
theorem src_src (s g : Fin 4) : src s (src s g) = g := by revert s g; decide
/-- The key held as number `y` is held at place `y`. -/
theorem pos_key (s r : Fin 4) (y : Fin 1024) : pos s (key s r y) = y := by
  have e : (s.val + 3 - (src s ⟨y.val / 256, by omega⟩).val) % 4 = y.val / 256 := congrArg Fin.val (src_src s ⟨y.val / 256, by omega⟩)
  unfold key
  generalize src s ⟨y.val / 256, by omega⟩ = g at e ⊢
  have e1 : (big g (row r ⟨y.val % 256, by omega⟩)).val / 1024 = g.val := by simp only [big, row]; omega
  have e2 : (big g (row r ⟨y.val % 256, by omega⟩)).val % 1024 / 256 = y.val % 256 / 64 := by simp only [big, row]; omega
  have e3 : (big g (row r ⟨y.val % 256, by omega⟩)).val % 64 = y.val % 64 := by simp only [big, row]; omega
  refine Fin.ext ?_
  simp only [pos]
  rw [e1, e2, e3, e]
  omega
/-- A key of class `r` is found again from its place. -/
theorem key_pos (s r : Fin 4) (j : Fin 4096) (h : j.val / 64 % 4 = r.val) : key s r (pos s j) = j := by
  have hp : (pos s j).val = 256 * (src s ⟨j.val / 1024, by omega⟩).val + (64 * (j.val % 1024 / 256) + j.val % 64) := by simp only [pos, src]; omega
  have e1 : (⟨(pos s j).val / 256, by omega⟩ : Fin 4) = src s ⟨j.val / 1024, by omega⟩ := Fin.ext (by show (pos s j).val / 256 = _; rw [hp]; omega)
  have e2 : (pos s j).val % 256 = 64 * (j.val % 1024 / 256) + j.val % 64 := by rw [hp]; omega
  unfold key
  rw [e1, src_src]
  refine Fin.ext ?_
  simp only [big, row]
  rw [e2]
  omega
/-- The keys held in class `r` are of class `r`. -/
theorem key_cls (s r : Fin 4) (y : Fin 1024) : (key s r y).val / 64 % 4 = r.val := by simp only [key, big, src, row]; omega

/-- The keys of a class, by the device's own numbering: sums, and greatest elements. -/
theorem sum_class (s r : Fin 4) (f : Fin 4096 → EReal) :
    ∑ j : Fin 4096, (if j.val / 64 % 4 = r.val then f j else 0) = ∑ y : Fin 1024, f (key s r y) := by
  rw [← Finset.sum_filter]
  refine Finset.sum_nbij' (pos s) (key s r) (fun _ _ => Finset.mem_univ _) (fun y _ => Finset.mem_filter.mpr ⟨Finset.mem_univ _, key_cls s r y⟩)
    (fun j hj => key_pos s r j (Finset.mem_filter.mp hj).2) (fun y _ => pos_key s r y) fun j hj => ?_
  rw [key_pos s r j (Finset.mem_filter.mp hj).2]
/-- The greatest element over a class, where the rest counts as `⊥`, is the greatest over the device's numbering. -/
theorem max_class (s r : Fin 4) (f : Fin 4096 → EReal) :
    (Finset.univ.fold max (⊥ : EReal) fun j : Fin 4096 => if j.val / 64 % 4 = r.val then f j else ⊥) = Finset.univ.fold max (⊥ : EReal) fun y : Fin 1024 => f (key s r y) := by
  show Finset.univ.sup _ = Finset.univ.sup _
  refine le_antisymm (Finset.sup_le fun j _ => ?_) (Finset.sup_le fun y _ => ?_)
  · by_cases h : j.val / 64 % 4 = r.val
    · rw [if_pos h]
      have e := Finset.le_sup (f := fun y : Fin 1024 => f (key s r y)) (Finset.mem_univ (pos s j))
      rwa [key_pos s r j h] at e
    · rw [if_neg h]; exact bot_le
  · have e := Finset.le_sup (f := fun j : Fin 4096 => if j.val / 64 % 4 = r.val then f j else (⊥ : EReal)) (Finset.mem_univ (key s r y))
    rwa [if_pos (key_cls s r y)] at e

/-- A sum over the whole, device by device. -/
theorem sum_big (f : Fin 4096 → EReal) : ∑ n : Fin 4096, f n = ∑ s : Fin 4, ∑ b : Fin 1024, f (big s b) := by
  rw [← Fintype.sum_prod_type' (f := fun s b => f (big s b))]
  refine Fintype.sum_equiv ⟨fun n => (⟨n.val / 1024, by omega⟩, ⟨n.val % 1024, by omega⟩), fun p => big p.1 p.2, fun n => Fin.ext ?_, fun p => Prod.ext (Fin.ext ?_) (Fin.ext ?_)⟩ _ _ fun n => congrArg f (Fin.ext ?_)
  · simp only [big]; omega
  · have := p.2.isLt; simp only [big]; omega
  · have := p.2.isLt; simp only [big]; omega
  · simp only [big]; show n.val = 1024 * (n.val / 1024) + n.val % 1024; omega
/-- A sum over the devices in the order their parts come in. -/
theorem sum_src (s : Fin 4) (f : Fin 4 → EReal) : f s + f (src s 0) + f (src s 1) + f (src s 2) = ∑ t : Fin 4, f t := by
  rw [Fin.sum_univ_four]
  fin_cases s
  · show f 0 + f 3 + f 2 + f 1 = f 0 + f 1 + f 2 + f 3; ac_rfl
  · show f 1 + f 0 + f 3 + f 2 = f 0 + f 1 + f 2 + f 3; ac_rfl
  · show f 2 + f 1 + f 0 + f 3 = f 0 + f 1 + f 2 + f 3; ac_rfl
  · show f 3 + f 2 + f 1 + f 0 = f 0 + f 1 + f 2 + f 3; ac_rfl

/-! ## Finite numbers -/

/-- A real number. -/
def Fine (x : EReal) : Prop := ∃ r : ℝ, x = (r : EReal)

/-- A value that is neither infinity is a real number. -/
theorem fine_of_ne {x : EReal} (h : x ≠ ⊥) (h' : x ≠ ⊤) : Fine x := ⟨x.toReal, (EReal.coe_toReal h' h).symm⟩
/-- A product of real numbers is one. -/
theorem Fine.mul {x y : EReal} : Fine x → Fine y → Fine (x * y) := fun ⟨a, ha⟩ ⟨b, hb⟩ => ⟨a * b, by rw [ha, hb, EReal.coe_mul]⟩
/-- A sum of real numbers is one. -/
theorem Fine.sum {ι : Type} (s : Finset ι) (f : ι → EReal) (h : ∀ i, Fine (f i)) : Fine (∑ i ∈ s, f i) := by
  classical
  induction s using Finset.induction_on with
  | empty => exact ⟨0, by rw [Finset.sum_empty, EReal.coe_zero]⟩
  | insert a s ha ih =>
    obtain ⟨x, hx⟩ := h a
    obtain ⟨y, hy⟩ := ih
    exact ⟨x + y, by rw [Finset.sum_insert ha, hx, hy, EReal.coe_add]⟩

/-- A scale that is a real number, not negative, goes into a sum. -/
theorem sum_scale {ι : Type} (s : Finset ι) (f : ι → EReal) (c : EReal) (h0 : 0 ≤ c) (h1 : c ≠ ⊤) : ∑ i ∈ s, f i * c = (∑ i ∈ s, f i) * c := by
  classical
  induction s using Finset.induction_on with
  | empty => rw [Finset.sum_empty, Finset.sum_empty, zero_mul]
  | insert a s ha ih => rw [Finset.sum_insert ha, Finset.sum_insert ha, ih, EReal.right_distrib_of_nonneg_of_ne_top h0 h1]

/-- The exponential is not negative. -/
theorem exp_nonneg (x : EReal) : 0 ≤ Ideal.exp x := by
  induction x with
  | bot => exact le_refl _
  | top => exact le_top
  | coe r => exact EReal.coe_nonneg.mpr (Real.exp_pos r).le

/-! ## The attention -/

section
variable (X : Fin 1024 → Fin 1024 → EReal) (WQ : Fin 1024 → Fin 4096 → EReal) (K V : Fin 4096 → Fin 32 → Fin 128 → EReal) (WO : Fin 4096 → Fin 1024 → EReal) (sc : EReal)

/-- A projected query. -/
def Q (i : Fin 1024) (n : Fin 4096) : EReal := ∑ k : Fin 1024, X i k * WQ k n
/-- A score, of the scaled query. -/
def S (h : Fin 32) (i : Fin 1024) (j : Fin 4096) : EReal := ∑ d : Fin 128, (Q X WQ i (col h d) * sc) * K j h d
/-- A score as the reference scales and masks it. -/
def T (h : Fin 32) (i : Fin 1024) (j : Fin 4096) : EReal := if j.val / 64 % 4 = i.val / 64 % 4 then (∑ d : Fin 128, Q X WQ i (col h d) * K j h d) * sc else ⊥
/-- A weight over all keys, and over the class's. -/
def W (h : Fin 32) (i : Fin 1024) (j : Fin 4096) : EReal := Ideal.exp (T X WQ K sc h i j - Finset.univ.fold max (⊥ : EReal) fun k : Fin 4096 => T X WQ K sc h i k)
def w (s : Fin 4) (h : Fin 32) (i : Fin 1024) (y : Fin 1024) : EReal :=
  Ideal.exp (S X WQ K sc h i (key s (cls i) y) - Finset.univ.fold max (⊥ : EReal) fun k : Fin 1024 => S X WQ K sc h i (key s (cls i) k))
/-- The context over all keys, and over the class's. -/
def C (h : Fin 32) (i : Fin 1024) (d : Fin 128) : EReal := ∑ j : Fin 4096, V j h d * Ideal.div (W X WQ K sc h i j) (∑ k : Fin 4096, W X WQ K sc h i k)
def ctx (s : Fin 4) (h : Fin 32) (i : Fin 1024) (d : Fin 128) : EReal :=
  ∑ y : Fin 1024, (w X WQ K sc s h i y * Ideal.div 1 (∑ k : Fin 1024, w X WQ K sc s h i k)) * V (key s (cls i) y) h d
/-- The result over all heads, and device by device. -/
def O (i e : Fin 1024) : EReal := ∑ n : Fin 4096, C X WQ K V sc ⟨n.val / 128, by omega⟩ i ⟨n.val % 128, by omega⟩ * WO n e
def part (s : Fin 4) (i e : Fin 1024) : EReal :=
  ∑ n : Fin 1024, ctx X WQ K V sc s (hd s ⟨n.val / 128, by omega⟩) i ⟨n.val % 128, by omega⟩ * WO (big s n) e

variable {X WQ K V WO sc}

/-- A score of the reference is the kernel's where query and key are of one class, and `⊥` elsewhere. -/
theorem T_eq (h0 : 0 ≤ sc) (h1 : sc ≠ ⊤) (h : Fin 32) (i : Fin 1024) (j : Fin 4096) :
    T X WQ K sc h i j = if j.val / 64 % 4 = (cls i).val then S X WQ K sc h i j else ⊥ := by
  unfold T S
  rw [← sum_scale _ _ _ h0 h1]
  refine if_congr Iff.rfl (Finset.sum_congr rfl fun d _ => ?_) rfl
  ac_rfl
/-- A weight of the reference is the kernel's where query and key are of one class, and zero elsewhere. -/
theorem W_eq (h0 : 0 ≤ sc) (h1 : sc ≠ ⊤) (s : Fin 4) (h : Fin 32) (i : Fin 1024) (j : Fin 4096) :
    W X WQ K sc h i j = if j.val / 64 % 4 = (cls i).val then w X WQ K sc s h i (pos s j) else 0 := by
  have e : (Finset.univ.fold max (⊥ : EReal) fun k : Fin 4096 => T X WQ K sc h i k) = Finset.univ.fold max (⊥ : EReal) fun k : Fin 1024 => S X WQ K sc h i (key s (cls i) k) := by
    rw [← max_class]; exact congrArg (fun f => Finset.univ.fold max (⊥ : EReal) f) (funext fun k => T_eq h0 h1 h i k)
  unfold W w
  rw [e, T_eq h0 h1]
  by_cases hj : j.val / 64 % 4 = (cls i).val
  · rw [if_pos hj, if_pos hj, key_pos s _ j hj]
  · rw [if_neg hj, if_neg hj, EReal.bot_sub]; rfl
/-- The weights' sums agree. -/
theorem sum_W (h0 : 0 ≤ sc) (h1 : sc ≠ ⊤) (s : Fin 4) (h : Fin 32) (i : Fin 1024) :
    ∑ k : Fin 4096, W X WQ K sc h i k = ∑ k : Fin 1024, w X WQ K sc s h i k := by
  rw [Finset.sum_congr rfl fun k _ => W_eq h0 h1 s h i k, sum_class s (cls i) fun j => w X WQ K sc s h i (pos s j)]
  exact Finset.sum_congr rfl fun y _ => by rw [pos_key]

/-- Of finite queries and keys the weights' sum is not zero. -/
theorem sum_w_ne (hS : ∀ h i j, Fine (S X WQ K sc h i j)) (s : Fin 4) (h : Fin 32) (i : Fin 1024) : ∑ k : Fin 1024, w X WQ K sc s h i k ≠ 0 := by
  have hM : Fine (Finset.univ.fold max (⊥ : EReal) fun k : Fin 1024 => S X WQ K sc h i (key s (cls i) k)) := by
    refine fine_of_ne (fun e => ?_) (fun e => ?_)
    · have l := Finset.le_sup (f := fun k : Fin 1024 => S X WQ K sc h i (key s (cls i) k)) (Finset.mem_univ (0 : Fin 1024))
      obtain ⟨r, hr⟩ := hS h i (key s (cls i) 0)
      have l' : S X WQ K sc h i (key s (cls i) 0) ≤ ⊥ := e ▸ l
      rw [hr] at l'
      exact EReal.coe_ne_bot r (le_bot_iff.mp l')
    · have l : Finset.univ.sup (fun k : Fin 1024 => S X WQ K sc h i (key s (cls i) k)) < ⊤ := (Finset.sup_lt_iff bot_lt_top).mpr fun k _ => by
        obtain ⟨r, hr⟩ := hS h i (key s (cls i) k)
        rw [hr]; exact EReal.coe_lt_top r
      exact l.ne e
  have hp : 0 < w X WQ K sc s h i 0 := by
    obtain ⟨a, ha⟩ := hM
    obtain ⟨b, hb⟩ := hS h i (key s (cls i) 0)
    unfold w
    rw [ha, hb, ← EReal.coe_sub]
    exact EReal.coe_pos.mpr (Real.exp_pos _)
  have l := Finset.single_le_sum (f := fun k => w X WQ K sc s h i k) (fun k _ => exp_nonneg _) (Finset.mem_univ (0 : Fin 1024))
  exact (lt_of_lt_of_le hp l).ne'

/-- The two contexts agree. -/
theorem C_eq (h0 : 0 ≤ sc) (h1 : sc ≠ ⊤) (hS : ∀ h i j, Fine (S X WQ K sc h i j)) (s : Fin 4) (h : Fin 32) (i : Fin 1024) (d : Fin 128) :
    C X WQ K V sc h i d = ctx X WQ K V sc s h i d := by
  unfold C ctx
  have hD := sum_w_ne hS s h i
  rw [sum_W h0 h1 s]
  rw [← Finset.sum_congr rfl fun (y : Fin 1024) _ => (by rw [pos_key] : (w X WQ K sc s h i (pos s (key s (cls i) y)) * Ideal.div 1 (∑ k : Fin 1024, w X WQ K sc s h i k)) * V (key s (cls i) y) h d
      = (w X WQ K sc s h i y * Ideal.div 1 (∑ k : Fin 1024, w X WQ K sc s h i k)) * V (key s (cls i) y) h d)]
  rw [← sum_class s (cls i) fun j => (w X WQ K sc s h i (pos s j) * Ideal.div 1 (∑ k : Fin 1024, w X WQ K sc s h i k)) * V j h d]
  refine Finset.sum_congr rfl fun j _ => ?_
  rw [W_eq h0 h1 s]
  unfold Ideal.div
  rw [if_neg hD, if_neg hD, one_mul]
  by_cases hj : j.val / 64 % 4 = (cls i).val
  · rw [if_pos hj, if_pos hj, mul_comm]
  · rw [if_neg hj, if_neg hj, zero_mul, mul_zero]

/-- The result is the sum of the devices' parts. -/
theorem O_eq (h0 : 0 ≤ sc) (h1 : sc ≠ ⊤) (hS : ∀ h i j, Fine (S X WQ K sc h i j)) (i e : Fin 1024) :
    O X WQ K V WO sc i e = ∑ s : Fin 4, part X WQ K V WO sc s i e := by
  unfold O part
  rw [sum_big]
  refine Finset.sum_congr rfl fun s _ => Finset.sum_congr rfl fun n _ => ?_
  have ha : (⟨(big s n).val / 128, by omega⟩ : Fin 32) = hd s ⟨n.val / 128, by omega⟩ := Fin.ext (by simp only [big, hd]; omega)
  have hb : (⟨(big s n).val % 128, by omega⟩ : Fin 128) = ⟨n.val % 128, by omega⟩ := Fin.ext (by simp only [big]; omega)
  rw [ha, hb, C_eq h0 h1 hS s]

/-- Of finite inputs the scores are finite. -/
theorem fine_S (hX : ∀ a b, Fine (X a b)) (hW : ∀ a b, Fine (WQ a b)) (hK : ∀ a b d, Fine (K a b d)) (hs : Fine sc) (h : Fin 32) (i : Fin 1024) (j : Fin 4096) : Fine (S X WQ K sc h i j) :=
  Fine.sum _ _ fun d => ((Fine.sum _ _ fun k => (hX _ _).mul (hW _ _)).mul hs).mul (hK _ _ _)

end

end Cert.Spec

end
-- ==== Proof.KerVal.lean ====
/- The kernel's result over the extended reals, element by element, as a sum of the devices' parts. -/
module

public import proofs.«01_k».proof.Proof.Index
public import proofs.«01_k».proof.Proof.Elem
public import proofs.«01_k».proof.Proof.Spec

@[expose] public section

set_option maxRecDepth 16384

noncomputable section

namespace Cert.KernelIdeal.Attn

open Idealize.ShloMosaic Idealize.ShloMosaic.TcCoe
open Cert.KernelIdeal Cert.KernelIdeal.Gen
open Cert.Spec

variable (m : (ℓ : Loc nD τ sig) → Buf (Elt Ideal) ℓ)

/-- The scale. -/
abbrev sc : EReal := Ideal.ofBits .f32 0x3DB504F3#32

/-- The devices' arguments are parts of the whole arguments. -/
structure Inputs (X : Fin 1024 → Fin 1024 → EReal) (WQ : Fin 1024 → Fin 4096 → EReal) (K V : Fin 4096 → Fin 32 → Fin 128 → EReal) (WO : Fin 4096 → Fin 1024 → EReal) : Prop where
  x : ∀ (c : Fin 4) (a b : Fin 1024), (MATA m c 0 (ix2 a b) : EReal) = X a b
  wq : ∀ (c : Fin 4) (a b : Fin 1024), (MATA m c 1 (ix2 a b) : EReal) = WQ a (big c b)
  wo : ∀ (c : Fin 4) (a b : Fin 1024), (MATA m c 2 (ix2 a b) : EReal) = WO (big c a) b
  k : ∀ (c : Fin 4) (a : Fin 1024) (h : Fin 32) (d : Fin 128), (KVA m c 0 (ix4 0 a h d) : EReal) = K (big c a) h d
  v : ∀ (c : Fin 4) (a : Fin 1024) (h : Fin 32) (d : Fin 128), (KVA m c 1 (ix4 0 a h d) : EReal) = V (big c a) h d

/-- The quarter a row lies in. -/
theorem quarter_eq (n : Fin 1024) : quarter n.val = ⟨n.val / 256, by omega⟩ := Fin.ext (by show n.val / 256 % 4 = n.val / 256; omega)

/-- A row of a class of the rounded keys or values. -/
theorem KVS_at (c : Fin 4) (t : Fin 2) (r : Fin 4) (z : Fin 256) (h : Fin 32) (d : Fin 128) :
    (KVS m c (ix5 t r z h d) : EReal) = KVA m c t (ix4 0 (row r z) h d) :=
  congrArg (KVA m c t) (eq_nx S1x1024x32x128 (by decide) _ (ix4 0 (row r z) h d) fun a => by fin_cases a <;> rfl).symm

/-- A row of one device's part for another. -/
theorem kvPart_at (s p : Fin 4) (t : Fin 2) (r : Fin 4) (z : Fin 256) (h : Fin 8) (d : Fin 128) :
    (kvPart m s p t r (ix3 z h d) : EReal) = KVA m s t (ix4 0 (row r z) (hd p h) d) :=
  (congrArg (KVS m s) (eq_nx S2x4x256x32x128 (by decide) _ (ix5 t r z (hd p h) d) fun a => by fin_cases a <;> rfl).symm).trans (KVS_at m s t r z (hd p h) d)

/-- A row of a device's keys or values, by class. -/
theorem FUL_at (c : Fin 4) (t : Fin 2) (r : Fin 4) (y : Fin 1024) (h : Fin 8) (d : Fin 128) :
    (FUL m c t (ix4 r y h d) : EReal) = KVA m (src c ⟨y.val / 256, by omega⟩) t (ix4 0 (row r ⟨y.val % 256, by omega⟩) (hd c h) d) := by
  have e : (FUL m c t (ix4 r y h d) : EReal) = kvPart m (srcDev c (quarter y.val)) c t r (nx S256x8x128 (by decide) ![y.val % 256, h.val, d.val]) :=
    ite_self _
  rw [e, quarter_eq, ← eq_nx S256x8x128 (by decide) ![y.val % 256, h.val, d.val] (ix3 ⟨y.val % 256, by omega⟩ h d) fun a => by fin_cases a <;> rfl]
  exact kvPart_at m _ c t r _ h d

variable {m} {X : Fin 1024 → Fin 1024 → EReal} {WQ : Fin 1024 → Fin 4096 → EReal} {K V : Fin 4096 → Fin 32 → Fin 128 → EReal} {WO : Fin 4096 → Fin 1024 → EReal}

/-- An index of a quarter of rows, in the whole matrix. -/
theorem emb_rows_ix (q : Fin 4) (i : Fin 256) (k : Fin 1024) : (rRows q).emb (ix2 i k) = ix2 (⟨256 * q.val + i.val, by omega⟩ : Fin 1024) k :=
  (emb_rows q _).trans (eq_nx _ _ _ (ix2 (⟨256 * q.val + i.val, by omega⟩ : Fin 1024) k) fun a => by fin_cases a <;> rfl).symm
/-- An index of the whole matrix, in itself. -/
theorem emb_all_ix (i k : Fin 1024) : rAll.emb (ix2 i k) = ix2 i k :=
  funext fun a => Fin.ext ((Rect.emb_apply _ _ _).trans (by fin_cases a <;> (show 0 + 1 * _ = _; omega)))
/-- An index of one head's block of rows, in the whole context. -/
theorem emb_blk_ix (b : Fin 16) (h : Fin 8) (i : Fin 64) (d : Fin 128) : (rBlk b h).emb (ix2 i d) = ix2 (⟨64 * b.val + i.val, by omega⟩ : Fin 1024) (hcol h d) :=
  (emb_blk b h _).trans (eq_nx _ _ _ (ix2 (⟨64 * b.val + i.val, by omega⟩ : Fin 1024) (hcol h d)) fun a => by fin_cases a <;> rfl).symm
/-- An index of one head of one class, in the buffer of gathered keys or values. -/
theorem emb_fullHead_ix (r : Fin 4) (h : Fin 8) (y : Fin 1024) (d : Fin 128) : (rFullHead r h).emb (ix4 0 y 0 d) = ix4 r y h d :=
  (emb_fullHead r h _).trans (eq_nx _ _ _ (ix4 r y h d) fun a => by fin_cases a <;> rfl).symm
/-- An index of a half slab, in the receive buffer. -/
theorem emb_half3_ix (g : Fin 3) (f : Fin 2) (i : Fin 256) (j : Fin 512) : (rHalf3 g f).emb (ix3 0 i j) = ix3 g i (⟨512 * f.val + j.val, by omega⟩ : Fin 1024) :=
  (emb_half3' g f _).trans (eq_nx _ _ _ (ix3 g i (⟨512 * f.val + j.val, by omega⟩ : Fin 1024)) fun a => by fin_cases a <;> rfl).symm
/-- An index of a slab, in the receive buffer. -/
theorem emb_slab_ix (g : Fin 3) (i : Fin 256) (j : Fin 1024) : (rSlab g).emb (ix3 0 i j) = ix3 g i j :=
  (emb_slab g _).trans (eq_nx _ _ _ (ix3 g i j) fun a => by fin_cases a <;> rfl).symm

/-- A row is put together from its quarter and its number in the quarter. -/
theorem split_row (i : Fin 1024) : (⟨256 * (⟨i.val / 256, by omega⟩ : Fin 4).val + (⟨i.val % 256, by omega⟩ : Fin 256).val, by simp only []; omega⟩ : Fin 1024) = i := Fin.ext (by simp only []; omega)
/-- The index that a row's number in its quarter and a column name. -/
theorem nx_row (i n : Fin 1024) : nx S256x1024 (by decide) ![i.val % 256, n.val] = ix2 (⟨i.val % 256, by omega⟩ : Fin 256) n :=
  (eq_nx _ _ _ (ix2 (⟨i.val % 256, by omega⟩ : Fin 256) n) fun a => by fin_cases a <;> rfl).symm

/-- A scaled query. -/
theorem QB_at (A : Inputs m X WQ K V WO) (c : Fin 4) (i n : Fin 1024) : (QB m c (ix2 i n) : EReal) = Q X WQ i (big c n) * sc := by
  have e : (QB m c (ix2 i n) : EReal) = qRows (F := Ideal) (fun j => MAT m c 0 ((rRows (quarter i.val)).emb j)) (fun j => MAT m c 1 (rAll.emb j))
    (nx S256x1024 (by decide) ![i.val % 256, n.val]) := rfl
  rw [e, nx_row, qRows_at]
  refine congrArg (· * sc) (Finset.sum_congr rfl fun k _ => congrArg₂ (· * ·) ?_ ?_)
  · rw [quarter_eq, emb_rows_ix, split_row]; exact A.x c i k
  · rw [emb_all_ix]; exact A.wq c k n

/-- The gathered keys of device `c` are the whole keys, in the device's own numbering. -/
theorem key_at (A : Inputs m X WQ K V WO) (c r : Fin 4) (y : Fin 1024) (h : Fin 8) (d : Fin 128) : (FUL m c 0 (ix4 r y h d) : EReal) = K (key c r y) (hd c h) d :=
  (FUL_at m c 0 r y h d).trans (A.k _ _ _ _)
/-- The gathered values of device `c` are the whole values, in the device's own numbering. -/
theorem val_at (A : Inputs m X WQ K V WO) (c r : Fin 4) (y : Fin 1024) (h : Fin 8) (d : Fin 128) : (FUL m c 1 (ix4 r y h d) : EReal) = V (key c r y) (hd c h) d :=
  (FUL_at m c 1 r y h d).trans (A.v _ _ _ _)

/-- One head's scores on a class. -/
theorem headScore_at (A : Inputs m X WQ K V WO) (c r : Fin 4) (h : Fin 8) (z : Fin 256) (y : Fin 1024) :
    (scores (F := Ideal) (fun j => QB m c ((rBlk (blk 0 r) h).emb j)) (fun j => QB m c ((rBlk (blk 1 r) h).emb j))
      (fun j => QB m c ((rBlk (blk 2 r) h).emb j)) (fun j => QB m c ((rBlk (blk 3 r) h).emb j)) (fun j => FUL m c 0 ((rFullHead r h).emb j)) (ix2 z y) : EReal)
      = S X WQ K sc (hd c h) (row r z) (key c r y) := by
  refine (scores_at (fun b j => QB m c ((rBlk (blk b r) h).emb j)) _ z y).trans (Finset.sum_congr rfl fun d _ => congrArg₂ (· * ·) ?_ ?_)
  · rw [emb_blk_ix, QB_at A]
    refine congrArg (· * sc) (congrArg₂ (Q X WQ) (Fin.ext ?_) (Fin.ext ?_))
    · show 64 * (4 * (z.val / 64) + r.val) + z.val % 64 = 64 * (4 * (z.val / 64) + r.val) + z.val % 64; rfl
    · show 1024 * c.val + (128 * h.val + d.val) = (8 * c.val + h.val) * 128 + d.val; omega
  · rw [emb_fullHead_ix, key_at A]

/-- Row `z` of class `r` is of class `r`. -/
theorem cls_row (r : Fin 4) (z : Fin 256) : cls (row r z) = r := Fin.ext (by simp only [cls, row]; omega)

/-- One head's weights on a class, of its scores. -/
theorem weights_row (s : FVec Ideal S256x1024 .f32) (c r : Fin 4) (h : Fin 32) (z : Fin 256)
    (hs : ∀ y : Fin 1024, (s (ix2 z y) : EReal) = S X WQ K sc h (row r z) (key c r y)) (y : Fin 1024) :
    (weights (F := Ideal) s (ix2 z y) : EReal) = w X WQ K sc c h (row r z) y := by
  rw [weights_at, show Ideal.ofBits .f32 0xFF800000#32 = (⊥ : EReal) by simp [Ideal.ofBits, Ideal.ieee]]
  unfold w
  rw [cls_row, hs]
  simp only [hs]

/-- One head's attention on a class, of its weights and values. -/
theorem attend_row (s : FVec Ideal S256x1024 .f32) (vv : FVec Ideal S1x1024x1x128 .bf16) (c r : Fin 4) (h : Fin 32) (z : Fin 256) (d : Fin 128)
    (hs : ∀ y : Fin 1024, (s (ix2 z y) : EReal) = S X WQ K sc h (row r z) (key c r y)) (hv : ∀ y : Fin 1024, (vv (ix4 0 y 0 d) : EReal) = V (key c r y) h d) :
    (attend (F := Ideal) (weights s) vv (ix2 z d) : EReal) = ctx X WQ K V sc c h (row r z) d := by
  rw [attend_at]
  unfold ctx
  rw [cls_row]
  simp only [weights_row s c r h z hs, hv]

/-- One head's attention. -/
theorem HEAD_at (A : Inputs m X WQ K V WO) (c r : Fin 4) (h : Fin 8) (z : Fin 256) (d : Fin 128) :
    (HEAD m c r h (ix2 z d) : EReal) = ctx X WQ K V sc c (hd c h) (row r z) d :=
  attend_row _ _ c r (hd c h) z d (fun y => headScore_at A c r h z y) fun y => by rw [emb_fullHead_ix, val_at A]

/-- The context, of a device's heads. -/
theorem CTX_at (A : Inputs m X WQ K V WO) (c : Fin 4) (i n : Fin 1024) :
    (CTX m c (ix2 i n) : EReal) = ctx X WQ K V sc c (hd c ⟨n.val / 128, by omega⟩) i ⟨n.val % 128, by omega⟩ := by
  have e : (CTX m c (ix2 i n) : EReal) = HEAD m c (cls i) ⟨n.val / 128 % 8, Nat.mod_lt _ (by decide)⟩ (nx S256x128 (by decide) ![64 * (i.val / 256) + i.val % 64, n.val % 128]) := rfl
  have e' : (⟨n.val / 128 % 8, Nat.mod_lt _ (by decide)⟩ : Fin 8) = ⟨n.val / 128, by omega⟩ := Fin.ext (by show n.val / 128 % 8 = n.val / 128; omega)
  rw [e, e', ← eq_nx S256x128 (by decide) ![64 * (i.val / 256) + i.val % 64, n.val % 128] (ix2 (num i) (⟨n.val % 128, by omega⟩ : Fin 128)) fun a => by fin_cases a <;> rfl]
  rw [HEAD_at A, row_num]

/-- A device's part of the result. -/
theorem dotRows_part (A : Inputs m X WQ K V WO) (c : Fin 4) (q : Fin 4) (i : Fin 256) (e : Fin 1024) :
    ∑ k : Fin 1024, (CTX m c ((rRows q).emb (ix2 i k)) : EReal) * (MAT m c 2 (rAll.emb (ix2 k e)) : EReal) = part X WQ K V WO sc c ⟨256 * q.val + i.val, by omega⟩ e := by
  unfold part
  refine Finset.sum_congr rfl fun k _ => congrArg₂ (· * ·) ?_ ?_
  · rw [emb_rows_ix]; exact CTX_at A c _ k
  · rw [emb_all_ix]; exact A.wo c k e
/-- A device's partial result is its heads' part of the whole result. -/
theorem PS_at (A : Inputs m X WQ K V WO) (c : Fin 4) (i e : Fin 1024) : (PS m c (ix2 i e) : EReal) = part X WQ K V WO sc c i e := by
  have h : (PS m c (ix2 i e) : EReal) = pRows (F := Ideal) (fun j => CTX m c ((rRows (quarter i.val)).emb j)) (fun j => MAT m c 2 (rAll.emb j))
    (nx S256x1024 (by decide) ![i.val % 256, e.val]) := rfl
  rw [h, nx_row, pRows_at, quarter_eq]
  refine (dotRows_part A c _ _ e).trans ?_
  rw [split_row]
/-- What a device receives in slot `g` of the reduction is the sender's part of its own rows. -/
theorem RSR_at (A : Inputs m X WQ K V WO) (c : Fin 4) (g : Fin 3) (i : Fin 256) (e : Fin 1024) :
    (RSR m c (ix3 g i e) : EReal) = part X WQ K V WO sc (src c (slot g)) ⟨256 * c.val + i.val, by omega⟩ e := by
  have h : (RSR m c (ix3 g i e) : EReal) = PS m (src c (slot g)) (nx S1024x1024 (by decide) ![256 * c.val + i.val, e.val]) := rfl
  rw [h, ← eq_nx S1024x1024 (by decide) ![256 * c.val + i.val, e.val] (ix2 (⟨256 * c.val + i.val, by omega⟩ : Fin 1024) e) fun a => by fin_cases a <;> rfl]
  exact PS_at A _ _ e

/-- The finished rows of a device. -/
theorem ACC_at (A : Inputs m X WQ K V WO) (c : Fin 4) (f : Fin 2) (i : Fin 256) (j : Fin 512) :
    (ACC m c f (ix2 i j) : EReal) = ∑ s : Fin 4, part X WQ K V WO sc s ⟨256 * c.val + i.val, by omega⟩ ⟨512 * f.val + j.val, by omega⟩ := by
  unfold ACC
  rw [accHalf_at, dotRows_at, emb_half3_ix, emb_half3_ix, emb_half3_ix, RSR_at A, RSR_at A, RSR_at A, ← sum_src c]
  refine congrArg₂ (· + ·) (congrArg₂ (· + ·) (congrArg₂ (· + ·) (dotRows_part A c c i _) rfl) rfl) rfl

/-- A device's reduced rows are the sum over the four devices' parts. -/
theorem AGO_at (A : Inputs m X WQ K V WO) (c : Fin 4) (i : Fin 256) (e : Fin 1024) :
    (AGO m c (ix2 i e) : EReal) = ∑ s : Fin 4, part X WQ K V WO sc s ⟨256 * c.val + i.val, by omega⟩ e := by
  have h : (AGO m c (ix2 i e) : EReal) = castHalf (F := Ideal) (ACC m c ⟨e.val / 512 % 2, Nat.mod_lt _ (by decide)⟩) (nx S256x512 (by decide) ![i.val, e.val % 512]) := rfl
  rw [h, ← eq_nx S256x512 (by decide) ![i.val, e.val % 512] (ix2 i (⟨e.val % 512, by omega⟩ : Fin 512)) fun a => by fin_cases a <;> rfl]
  rw [castHalf_at, ACC_at A]
  exact Finset.sum_congr rfl fun s _ => congrArg _ (Fin.ext (by show 512 * (e.val / 512 % 2) + e.val % 512 = e.val; omega))
/-- What a device receives in slot `g` of the gathering is the sender's reduced rows. -/
theorem AGR_at (A : Inputs m X WQ K V WO) (c : Fin 4) (g : Fin 3) (i : Fin 256) (e : Fin 1024) :
    (AGR m c (ix3 g i e) : EReal) = ∑ s : Fin 4, part X WQ K V WO sc s ⟨256 * (src c (slot g)).val + i.val, by omega⟩ e := by
  have h : (AGR m c (ix3 g i e) : EReal) = AGO m (src c (slot g)) (nx S256x1024 (by decide) ![i.val, e.val]) := rfl
  rw [h, ← eq_nx S256x1024 (by decide) ![i.val, e.val] (ix2 i e) fun a => by fin_cases a <;> rfl]
  exact AGO_at A _ i e

/-- The slot from which the rows of another device are read is that device's. -/
theorem slot_back (c q : Fin 4) (h : q ≠ c) : src c (slot ⟨(c.val + 3 - q.val) % 4 % 3, Nat.mod_lt _ (by decide)⟩) = q := by revert c q; decide

/-- The result, on every device the sum of the devices' parts. -/
theorem OUT_at (A : Inputs m X WQ K V WO) (c : Fin 4) (i e : Fin 1024) : (OUT m c (ix3 0 i e) : EReal) = ∑ s : Fin 4, part X WQ K V WO sc s i e := by
  have h : (OUT m c (ix3 0 i e) : EReal) = if i.val / 256 = c.val then ownRows (F := Ideal) (ACC m c 0) (ACC m c 1) (nx S1x256x1024 (by decide) ![0, i.val % 256, e.val])
    else otherRows (F := Ideal) (fun j => AGR m c ((rSlab ⟨(c.val + 3 - i.val / 256) % 4 % 3, Nat.mod_lt _ (by decide)⟩).emb j)) (nx S1x256x1024 (by decide) ![0, i.val % 256, e.val]) := rfl
  rw [h, ← eq_nx S1x256x1024 (by decide) ![0, i.val % 256, e.val] (ix3 0 (⟨i.val % 256, by omega⟩ : Fin 256) e) fun a => by fin_cases a <;> rfl]
  by_cases hc : i.val / 256 = c.val
  · have hi : (⟨256 * c.val + (⟨i.val % 256, by omega⟩ : Fin 256).val, by simp only []; omega⟩ : Fin 1024) = i := Fin.ext (by simp only []; omega)
    rw [if_pos hc, ownRows_at]
    by_cases hj : e.val < 512
    · rw [dif_pos hj, ACC_at A, hi]
      exact Finset.sum_congr rfl fun s _ => congrArg _ (Fin.ext (by show 512 * 0 + e.val = e.val; omega))
    · rw [dif_neg hj, ACC_at A, hi]
      exact Finset.sum_congr rfl fun s _ => congrArg _ (Fin.ext (by show 512 * 1 + (e.val - 512) = e.val; omega))
  · rw [if_neg hc, otherRows_at, emb_slab_ix, AGR_at A]
    have hq := slot_back c ⟨i.val / 256, by omega⟩ fun h => hc (congrArg Fin.val h)
    refine Finset.sum_congr rfl fun s _ => congrArg (fun r => part X WQ K V WO sc s r e) (Fin.ext ?_)
    show 256 * (src c (slot ⟨(c.val + 3 - i.val / 256) % 4 % 3, _⟩)).val + i.val % 256 = i.val
    rw [show (src c (slot ⟨(c.val + 3 - i.val / 256) % 4 % 3, Nat.mod_lt _ (by decide)⟩)) = ⟨i.val / 256, by omega⟩ from hq]
    show 256 * (i.val / 256) + i.val % 256 = i.val
    omega

end Cert.KernelIdeal.Attn

end
-- ==== Proof.RefTerm.lean ====
/- The reference's result as a composition of named steps: the mask, the scores, the weights, the context. -/
module

public import proofs.«01_k».proof.Proof.Gen.ReferenceIdeal.Run
public import Idealize.ShloMosaic.Lib.Pointwise

@[expose] public section

noncomputable section

namespace Cert.ReferenceIdeal.Attn

open Cert.ReferenceIdeal Cert.ReferenceIdeal.Gen Idealize.ShloMosaic Idealize.ShloMosaic.TcCoe Idealize.SL.Sem

/-! ## The mask -/

/-- The floor of each element over 64. -/
def blockNo {s : Shape} (hb : S_.BroadcastsInDim s (![] : Fin 0 → Fin s.rank)) (x : IVec s 32) : IVec s 32 :=
  select (andi (cmpi .ne (signi x) (broadcastInDim s ![] hb (signi (id (constantI S_ 32 64#32)))))
      (cmpi .ne (Host.remsi x (broadcastInDim s ![] hb (id (constantI S_ 32 64#32)))) (broadcastInDim s ![] hb (constantI S_ 32 0#32))))
    (subi (Host.divsi x (broadcastInDim s ![] hb (id (constantI S_ 32 64#32)))) (broadcastInDim s ![] hb (constantI S_ 32 1#32)))
    (Host.divsi x (broadcastInDim s ![] hb (id (constantI S_ 32 64#32))))
/-- The divisor four, as the remainder takes it. -/
def four : IVec S_ 32 := select (cmpi .eq (id (constantI S_ 32 4#32)) (constantI S_ 32 0#32)) (constantI S_ 32 1#32) (id (constantI S_ 32 4#32))
/-- Each element modulo four. -/
def classNo {s : Shape} (hb : S_.BroadcastsInDim s (![] : Fin 0 → Fin s.rank)) (x : IVec s 32) : IVec s 32 :=
  have r : IVec s 32 := Host.remsi x (broadcastInDim s ![] hb four)
  select (andi (cmpi .ne (cmpi .slt r (broadcastInDim s ![] hb (constantI S_ 32 0#32))) (broadcastInDim s ![] hb (cmpi .slt four (constantI S_ 32 0#32))))
      (cmpi .ne r (broadcastInDim s ![] hb (constantI S_ 32 0#32))))
    (addi r (broadcastInDim s ![] hb four)) r
/-- The block of each query, and of each key. -/
def qBlock : IVec S1024 32 := blockNo bcast_S_S1024 (iotaInDim S1024 32 0)
def kBlock : IVec S4096 32 := blockNo bcast_S_S4096 (iotaInDim S4096 32 0)
/-- Which query sees which key. -/
def mask : IVec S1024x4096 1 :=
  have q : IVec S1024x1 32 := broadcastInDim S1024x1 ![0] bcast_S1024_S1024x1_0 qBlock
  have k : IVec S1x4096 32 := broadcastInDim S1x4096 ![1] bcast_S4096_S1x4096_1 kBlock
  ori (cmpi .eq (broadcastInDim S1024x4096 ![0, 1] bcast_S1024x1_S1024x4096_0_1 q) (broadcastInDim S1024x4096 ![0, 1] bcast_S1x4096_S1024x4096_0_1 k))
    (cmpi .eq (broadcastInDim S1024x4096 ![0, 1] bcast_S1x4096_S1024x4096_0_1 (classNo bcast_S_S1x4096 k))
      (broadcastInDim S1024x4096 ![0, 1] bcast_S1024x1_S1024x4096_0_1 (classNo bcast_S_S1024x1 q)))
/-- Which query sees any key. -/
def keep (mask : IVec S1024x4096 1) : IVec S1x1x1024x1 1 :=
  broadcastInDim S1x1x1024x1 ![2] bcast_S1024_S1x1x1024x1_2 (Host.reduce IntOp.ori mask (constantI S_ 1 0#1) reducesTo_S1024x4096_S1024_d1 h_S_)

/-! ## The attention -/

variable {F : FTy → Type} [FloatOps F]

/-- The scores: products of queries and keys, scaled, the masked ones at minus infinity. -/
def scores (mask : IVec S1024x4096 1) (x : FVec F S1x1024x1024 .f32) (wq : FVec F S1024x4096 .f32) (k : FVec F S1x4096x32x128 .f32) : FVec F S1x32x1024x4096 .f32 :=
  select (broadcastInDim S1x32x1024x4096 ![0, 1, 2, 3] bcast_S1x1x1024x4096_S1x32x1024x4096_0_1_2_3 (broadcastInDim S1x1x1024x4096 ![2, 3] bcast_S1024x4096_S1x1x1024x4096_2_3 mask))
    (mulf (Host.dotGeneral dot_S1x1024x32x128_S1x4096x32x128_S1x32x1024x4096_3_3_1_1_02_02 none
        (shapeCast S1x1024x32x128 (Host.dotGeneral dot_S1x1024x1024_S1024x4096_S1x1024x4096_2_0_01_1_n_n none x wq : FVec F S1x1024x4096 .f32) shapeCasts_S1x1024x4096_S1x1024x32x128) k)
      (broadcastInDim S1x32x1024x4096 ![] bcast_S_S1x32x1024x4096 (constant S_ .f32 0x3DB504F3#32)))
    (broadcastInDim S1x32x1024x4096 ![] bcast_S_S1x32x1024x4096 (id (constant S_ .f32 0xFF800000#32)))
/-- The weights before they are divided by their sums. -/
def weights (s : FVec F S1x32x1024x4096 .f32) : FVec F S1x32x1024x4096 .f32 :=
  Host.exp (subf s (broadcastInDim S1x32x1024x4096 ![0, 1, 2, 3] bcast_S1x32x1024x1_S1x32x1024x4096_0_1_2_3
    (broadcastInDim S1x32x1024x1 ![0, 1, 2] bcast_S1x32x1024_S1x32x1024x1_0_1_2
      (Host.reduce FloatOps.maximumf s (constant S_ .f32 0xFF800000#32) reducesTo_S1x32x1024x4096_S1x32x1024_d3 h_S_))))
/-- The weights over their sums. -/
def probs (keep : IVec S1x1x1024x1 1) (w : FVec F S1x32x1024x4096 .f32) : FVec F S1x32x1024x4096 .f32 :=
  select (broadcastInDim S1x32x1024x4096 ![0, 1, 2, 3] bcast_S1x1x1024x1_S1x32x1024x4096_0_1_2_3 keep)
    (Host.divf w (broadcastInDim S1x32x1024x4096 ![0, 1, 2, 3] bcast_S1x32x1024x1_S1x32x1024x4096_0_1_2_3
      (select (broadcastInDim S1x32x1024x1 ![0, 1, 2, 3] bcast_S1x1x1024x1_S1x32x1024x1_0_1_2_3 keep)
        (broadcastInDim S1x32x1024x1 ![0, 1, 2] bcast_S1x32x1024_S1x32x1024x1_0_1_2
          (Host.reduceAdd w (constant S_ .f32 0x00000000#32) reducesTo_S1x32x1024x4096_S1x32x1024_d3 h_S_))
        (broadcastInDim S1x32x1024x1 ![] bcast_S_S1x32x1024x1 (id (constant S_ .f32 0x3F800000#32))))))
    (broadcastInDim S1x32x1024x4096 ![] bcast_S_S1x32x1024x4096 (id (constant S_ .f32 0x00000000#32)))
/-- The context: the values weighted, heads side by side. -/
def context (p : FVec F S1x32x1024x4096 .f32) (v : FVec F S1x4096x32x128 .f32) : FVec F S1x1024x4096 .f32 :=
  shapeCast S1x1024x4096 (transpose S1x1024x32x128 [0, 3, 1, 2]
    (Host.dotGeneral dot_S1x4096x32x128_S1x32x1024x4096_S1x32x128x1024_1_3_3_2_02_01 none v p : FVec F S1x32x128x1024 .f32)
    transposes_S1x32x128x1024_S1x1024x32x128_0_3_1_2) shapeCasts_S1x1024x32x128_S1x1024x4096
/-- The result. -/
def result (mask : IVec S1024x4096 1) (x : FVec F S1x1024x1024 .f32) (wq : FVec F S1024x4096 .f32) (k v : FVec F S1x4096x32x128 .f32) (wo : FVec F S4096x1024 .f32) : FVec F S1x1024x1024 .f32 :=
  Host.dotGeneral dot_S1x1024x4096_S4096x1024_S1x1024x1024_2_0_01_1_n_n none (context (probs (keep mask) (weights (scores mask x wq k))) v) wo

set_option maxRecDepth 65536 in
/-- The run's term is that composition. -/
theorem res_eq (m : (ℓ : Loc nD τ sig) → Buf (Elt F) ℓ) (c : Dev nD) :
    Value.res_main_v39 m c = result mask (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v39
  rfl

end Cert.ReferenceIdeal.Attn

end
-- ==== Proof.RefVal.lean ====
/- The reference's result, element by element over the extended reals. -/
module

public import proofs.«01_k».proof.Proof.RefTerm

@[expose] public section

set_option maxRecDepth 16384

noncomputable section

namespace Cert.ReferenceIdeal.Attn

open Cert.ReferenceIdeal Cert.ReferenceIdeal.Gen Idealize.ShloMosaic Idealize.ShloMosaic.TcCoe

/-! ## The mask -/

/-- The block number of one word. -/
def blockWord (w : BitVec 32) : BitVec 32 :=
  Scalar.select
      (IntOp.andi
        (IntOp.cmpi CmpIPredicate.ne (if w = 0 then 0 else if w.msb = true then -1 else 1 : BitVec 32)
          (if (64#32 : BitVec 32) = 0 then 0 else if (64#32 : BitVec 32).msb = true then -1 else 1 : BitVec 32))
        (IntOp.cmpi CmpIPredicate.ne (IntOp.remsi ArithUnit.host w 64#32) 0#32))
      (IntOp.subi (IntOp.divsi ArithUnit.host w 64#32) 1#32)
      (IntOp.divsi ArithUnit.host w 64#32)
/-- The divisor four as one word. -/
def fourWord : BitVec 32 := Scalar.select (IntOp.cmpi CmpIPredicate.eq (4#32) 0#32) (1#32) (4#32)
/-- The class of one word. -/
def classWord (w : BitVec 32) : BitVec 32 :=
  Scalar.select
      (IntOp.andi
        (IntOp.cmpi CmpIPredicate.ne (IntOp.cmpi CmpIPredicate.slt (IntOp.remsi ArithUnit.host w fourWord) 0#32) (IntOp.cmpi CmpIPredicate.slt fourWord 0#32))
        (IntOp.cmpi CmpIPredicate.ne (IntOp.remsi ArithUnit.host w fourWord) 0#32))
      (IntOp.addi (IntOp.remsi ArithUnit.host w fourWord) fourWord)
      (IntOp.remsi ArithUnit.host w fourWord)
/-- On the word of a row's number the block computation gives the number of its block. -/
theorem blockWord_ofNat (n : Fin 4096) : blockWord (BitVec.ofNat 32 n.val) = BitVec.ofNat 32 (n.val / 64) := by
  revert n; decide +kernel
/-- On the word of a block's number the class computation gives the number modulo four. -/
theorem classWord_ofNat (n : Fin 64) : classWord (BitVec.ofNat 32 n.val) = BitVec.ofNat 32 (n.val % 4) := by
  revert n; decide +kernel

/-- The block of a query. -/
theorem qBlock_at (i : Fin 1024) : qBlock (ix1 i) = BitVec.ofNat 32 (i.val / 64) :=
  (show qBlock (ix1 i) = blockWord (BitVec.ofNat 32 i.val) from rfl).trans (blockWord_ofNat ⟨i.val, by omega⟩)
/-- The block of a key. -/
theorem kBlock_at (i : Fin 4096) : kBlock (ix1 i) = BitVec.ofNat 32 (i.val / 64) :=
  (show kBlock (ix1 i) = blockWord (BitVec.ofNat 32 i.val) from rfl).trans (blockWord_ofNat i)
/-- The class of a block, elementwise. -/
theorem classNo_at {s : Shape} (hb : S_.BroadcastsInDim s (![] : Fin 0 → Fin s.rank)) (x : IVec s 32) (i : s.Idx) (n : Fin 64) (h : x i = BitVec.ofNat 32 n.val) :
    classNo hb x i = BitVec.ofNat 32 (n.val % 4) :=
  (show classNo hb x i = classWord (x i) from rfl).trans (by rw [h, classWord_ofNat])

/-- A query sees a key when their blocks agree modulo four. -/
theorem mask_at (i : Fin 1024) (j : Fin 4096) : mask (ix2 i j) = BitVec.ofBool (decide (j.val / 64 % 4 = i.val / 64 % 4)) := by
  pointwise [mask]
  rw [classNo_at _ _ _ ⟨j.val / 64, by omega⟩ (by pointwise; exact kBlock_at j), classNo_at _ _ _ ⟨i.val / 64, by omega⟩ (by pointwise; exact qBlock_at i), qBlock_at, kBlock_at]
  have key : ∀ (a : Fin 16) (b : Fin 64), IntOp.ori (IntOp.cmpi CmpIPredicate.eq (BitVec.ofNat 32 a.val) (BitVec.ofNat 32 b.val))
      (IntOp.cmpi CmpIPredicate.eq (BitVec.ofNat 32 (b.val % 4)) (BitVec.ofNat 32 (a.val % 4))) = BitVec.ofBool (decide (b.val % 4 = a.val % 4)) := by decide +kernel
  exact key ⟨i.val / 64, by omega⟩ ⟨j.val / 64, by omega⟩

/-- A query that sees some key is kept. -/
theorem keep_at (mk : IVec S1024x4096 1) (i : Fin 1024) (j : Fin 4096) (h : mk (ix2 i j) = 1#1) : keep mk (ix4 0 0 i 0) = 1#1 := by
  pointwise [keep]
  rw [← Finset.insert_erase (Finset.mem_univ j), Finset.fold_insert (Finset.notMem_erase _ _), h]
  generalize Finset.fold IntOp.ori (0#1) (fun x => mk (ix2 i x)) (Finset.univ.erase j) = b
  revert b; decide

/-! ## The attention -/

/-- A score of the reference: the product of query and key, scaled, where the mask allows it. -/
theorem scores_at (mk : IVec S1024x4096 1) (x : FVec Ideal S1x1024x1024 .f32) (wq : FVec Ideal S1024x4096 .f32) (k : FVec Ideal S1x4096x32x128 .f32) (h : Fin 32) (i : Fin 1024) (j : Fin 4096) :
    (scores mk x wq k (ix4 0 h i j) : EReal) = Scalar.select (mk (ix2 i j))
      ((∑ d : Fin 128, (∑ n : Fin 1024, x (ix3 0 i n) * wq (ix2 n ⟨h.val * 128 + d.val, by omega⟩)) * k (ix4 0 j h d)) * Ideal.ofBits .f32 0x3DB504F3#32)
      (Ideal.ofBits .f32 0xFF800000#32) := by
  pointwise [scores]
  rfl

/-- A weight of the reference: the exponential of a score less the greatest of its row. -/
theorem weights_at (s : FVec Ideal S1x32x1024x4096 .f32) (h : Fin 32) (i : Fin 1024) (j : Fin 4096) :
    (weights s (ix4 0 h i j) : EReal) = Ideal.exp (s (ix4 0 h i j) - Finset.univ.fold max (Ideal.ofBits .f32 0xFF800000#32) fun k : Fin 4096 => s (ix4 0 h i k)) := by
  pointwise [weights]

/-- A probability of the reference: a weight over the sum of its row, for a query that is kept. -/
theorem probs_at (kp : IVec S1x1x1024x1 1) (s : FVec Ideal S1x32x1024x4096 .f32) (h : Fin 32) (i : Fin 1024) (j : Fin 4096) (hk : kp (ix4 0 0 i 0) = 1#1) :
    (probs kp s (ix4 0 h i j) : EReal) = Ideal.div (s (ix4 0 h i j)) (∑ k : Fin 4096, s (ix4 0 h i k)) := by
  pointwise [probs]
  rw [hk]
  rfl

/-- The context of the reference: the values weighted by the probabilities of the column's head. -/
theorem context_at (p : FVec Ideal S1x32x1024x4096 .f32) (v : FVec Ideal S1x4096x32x128 .f32) (i : Fin 1024) (n : Fin 4096) :
    (context p v (ix3 0 i n) : EReal) = ∑ j : Fin 4096, v (ix4 0 j ⟨n.val / 128, by omega⟩ ⟨n.val % 128, by omega⟩) * p (ix4 0 ⟨n.val / 128, by omega⟩ i j) := by
  pointwise [context]

/-- The result of the reference: the context times the output matrix. -/
theorem result_at (mk : IVec S1024x4096 1) (x : FVec Ideal S1x1024x1024 .f32) (wq : FVec Ideal S1024x4096 .f32) (k v : FVec Ideal S1x4096x32x128 .f32) (wo : FVec Ideal S4096x1024 .f32) (i : Fin 1024) (e : Fin 1024) :
    (result mk x wq k v wo (ix3 0 i e) : EReal) = ∑ n : Fin 4096, context (probs (keep mk) (weights (scores mk x wq k))) v (ix3 0 i n) * wo (ix2 n e) := by
  pointwise [result]

end Cert.ReferenceIdeal.Attn

end
-- ==== Proof.Value.lean ====
/- The value claim: of finite inputs the kernel's result over the extended reals is the reference's. -/
module

public import proofs.«01_k».proof.Defs
public import proofs.«01_k».proof.Proof.KerVal
public import proofs.«01_k».proof.Proof.RefVal
public import Idealize.ShloMosaic.Lib.ReduceAll
public import Idealize.ShloMosaic.Lib.Layout

@[expose] public section

set_option maxRecDepth 16384

noncomputable section

namespace Cert.Proof.Value

open Idealize.ShloMosaic
open Cert.Spec

/-! ## The precondition -/

/-- The side conditions of the precondition, on one device's arrays and on the whole ones. -/
theorem factsKernel : Cert.Pre_finite_KernelIdeal.Facts := by constructor <;> decide
/-- The same side conditions, on the reference's arrays. -/
theorem factsReference : Cert.Pre_finite_ReferenceIdeal.Facts := by constructor <;> decide

/-- A number whose size is less than infinity is real. -/
theorem fine_of_lt {x : EReal} (h : Ideal.cmp .olt (max x (-x)) (Ideal.ofBits .f32 0x7F800000#32) = 1#1) : Fine x := by
  have ht : Ideal.ofBits .f32 0x7F800000#32 = (⊤ : EReal) := by simp [Ideal.ofBits, Ideal.ieee]
  rw [ht] at h
  induction x with
  | bot => simp [Ideal.cmp] at h
  | top => simp [Ideal.cmp] at h
  | coe r => exact ⟨r, rfl⟩

/-- The scale is a real number, not negative. -/
theorem sc_fine : ∃ r : ℝ, 0 ≤ r ∧ (Cert.KernelIdeal.Attn.sc : EReal) = (r : EReal) := by
  refine ⟨11863283 * (2 : ℝ) ^ (-27 : ℤ), by positivity, ?_⟩
  have h1 : (1035273459 >>> 23 % 256 : Nat) = 123 := by decide
  have h2 : BitVec.extractLsb' 31 1 1035273459#32 ≠ 1#1 := by decide
  simp [Ideal.ofBits, Ideal.ieee, h1, h2]

section
attribute [local instance] factsKernel

instance : Subsingleton Cert.Pre_finite_KernelIdeal.S_.Idx := ⟨fun a b => funext fun i => i.elim0⟩

/-- The precondition, read: every element of `x`, `Wq` and `K` is real. -/
theorem pre_fine (x wq k v wo)
    (h : Cert.Pre_finite_KernelIdeal.fn (F := Ideal) x wq k v wo = fun _ => 1#1) :
    (∀ i, Fine (x i)) ∧ (∀ i, Fine (wq i)) ∧ (∀ i, Fine (k i)) := by
  have h0 := congrFun h ix0
  simp only [Cert.Pre_finite_KernelIdeal.fn] at h0
  obtain ⟨h1, h2⟩ := IntOp.andi_eq_one.mp h0
  obtain ⟨h3, h4⟩ := IntOp.andi_eq_one.mp h1
  refine ⟨fun i => fine_of_lt ?_, fun i => fine_of_lt ?_, fun i => fine_of_lt ?_⟩
  · exact Host.reduce_andi_all _ _ _ _ _ h3 i
  · exact Host.reduce_andi_all _ _ _ _ _ h4 i
  · exact Host.reduce_andi_all _ _ _ _ _ h2 i
end

/-! ## The reference -/

section
open Cert.ReferenceIdeal Cert.ReferenceIdeal.Attn
open Cert.KernelIdeal.Attn (sc)

variable (x : FVec Ideal Cert.ReferenceIdeal.S1x1024x1024 .f32) (wq : FVec Ideal Cert.ReferenceIdeal.S1024x4096 .f32)
  (k v : FVec Ideal Cert.ReferenceIdeal.S1x4096x32x128 .f32) (wo : FVec Ideal Cert.ReferenceIdeal.S4096x1024 .f32)

/-- The whole arguments, by their indices. -/
def aX (i j : Fin 1024) : EReal := x (ix3 0 i j)
def aQ (i : Fin 1024) (j : Fin 4096) : EReal := wq (ix2 i j)
def aK (j : Fin 4096) (h : Fin 32) (d : Fin 128) : EReal := k (ix4 0 j h d)
def aO (i : Fin 4096) (j : Fin 1024) : EReal := wo (ix2 i j)

/-- A masked score of the reference. -/
theorem ref_score (h : Fin 32) (i : Fin 1024) (j : Fin 4096) :
    (Cert.ReferenceIdeal.Attn.scores (F := Ideal) mask x wq k (ix4 0 h i j) : EReal) = Spec.T (aX x) (aQ wq) (aK k) sc h i j := by
  rw [Cert.ReferenceIdeal.Attn.scores_at, mask_at, show Ideal.ofBits .f32 0xFF800000#32 = (⊥ : EReal) by simp [Ideal.ofBits, Ideal.ieee]]
  unfold Spec.T
  by_cases hj : j.val / 64 % 4 = i.val / 64 % 4
  · rw [if_pos hj, decide_eq_true hj]; rfl
  · rw [if_neg hj, decide_eq_false hj]; rfl

/-- Every row keeps a key: its own. -/
theorem ref_keep (i : Fin 1024) : keep mask (ix4 0 0 i 0) = 1#1 :=
  keep_at mask i ⟨i.val, by omega⟩ (by rw [mask_at, decide_eq_true rfl]; rfl)

/-- A weight of the reference. -/
theorem ref_weight (s : FVec Ideal Cert.ReferenceIdeal.S1x32x1024x4096 .f32)
    (hs : ∀ h i j, (s (ix4 0 h i j) : EReal) = Spec.T (aX x) (aQ wq) (aK k) sc h i j) (h : Fin 32) (i : Fin 1024) (j : Fin 4096) :
    (Cert.ReferenceIdeal.Attn.weights (F := Ideal) s (ix4 0 h i j) : EReal) = W (aX x) (aQ wq) (aK k) sc h i j := by
  rw [Cert.ReferenceIdeal.Attn.weights_at, show Ideal.ofBits .f32 0xFF800000#32 = (⊥ : EReal) by simp [Ideal.ofBits, Ideal.ieee]]
  unfold W
  simp only [hs]

/-- The reference's context. -/
theorem ref_context (w : FVec Ideal Cert.ReferenceIdeal.S1x32x1024x4096 .f32) (kp)
    (hk : ∀ i : Fin 1024, kp (ix4 0 0 i 0) = 1#1)
    (hw : ∀ h i j, (w (ix4 0 h i j) : EReal) = W (aX x) (aQ wq) (aK k) sc h i j) (i : Fin 1024) (n : Fin 4096) :
    (context (F := Ideal) (probs kp w) v (ix3 0 i n) : EReal) = C (aX x) (aQ wq) (aK k) (aK v) sc ⟨n.val / 128, by omega⟩ i ⟨n.val % 128, by omega⟩ := by
  rw [context_at]
  unfold C
  refine Finset.sum_congr rfl fun j _ => congrArg (aK v j _ _ * ·) ?_
  rw [probs_at kp w _ i j (hk i)]
  simp only [hw]

/-- The reference's result. -/
theorem ref_result (i e : Fin 1024) :
    (result (F := Ideal) mask x wq k v wo (ix3 0 i e) : EReal) = O (aX x) (aQ wq) (aK k) (aK v) (aO wo) sc i e := by
  rw [result_at]
  unfold O
  exact Finset.sum_congr rfl fun n _ => congrArg (· * aO wo n e)
    (ref_context x wq k v _ _ ref_keep (ref_weight x wq k _ (ref_score x wq k)) i n)
end

/-! ## The kernel's arguments -/

section
open Cert.KernelIdeal Cert.KernelIdeal.Gen Cert.KernelIdeal.Attn Idealize.ShloMosaic.TcCoe

variable (m : (ℓ : Loc Cert.KernelIdeal.nD Cert.KernelIdeal.τ Cert.KernelIdeal.sig) → Buf (Elt Ideal) ℓ)

/-- Dropping the leading axis of one keeps the other two coordinates. -/
theorem sq_x (h) (a b : Fin 1024) : Shape.reshapeEquiv (s := Cert.KernelIdeal.S1x1024x1024) (s' := Cert.KernelIdeal.S1024x1024) h (ix2 a b) = ix3 0 a b := by
  refine Shape.reshapeEquiv_eq_of_rowMajor h ?_
  rw [Shape.rowMajor_val_three, Shape.rowMajor_val_two]
  show (0 * 1024 + a.val) * 1024 + b.val = a.val * 1024 + b.val
  omega
/-- An index of the whole array, in itself. -/
theorem emb_x (j : Cert.KernelIdeal.S1x1024x1024.Idx) :
    (Rect.unit (s := Cert.KernelIdeal.S1x1024x1024) ![0, 0, 0] Cert.KernelIdeal.S1x1024x1024.size inb_S1x1024x1024_S1x1024x1024_0_0_0).emb j = j :=
  funext fun a => Fin.ext ((Rect.emb_apply _ _ _).trans (by fin_cases a <;> (show 0 + 1 * _ = _; omega)))
/-- The buffers the kernel reads are its arguments. -/
theorem mat_x (c : Dev nD) (a b : Fin 1024) : (MATA m c 0 (ix2 a b) : EReal) = m ((c.tc : Thread nD τ).loc main_arg0) (ix3 0 a b) :=
  congrArg (m ((c.tc : Thread nD τ).loc main_arg0)) ((emb_x _).trans (sq_x _ a b))
/-- The second matrix the kernel reads is its query weights. -/
theorem mat_q (c : Dev nD) (a b : Fin 1024) : (MATA m c 1 (ix2 a b) : EReal) = m ((c.tc : Thread nD τ).loc main_arg1) (ix2 a b) :=
  congrArg (m ((c.tc : Thread nD τ).loc main_arg1)) (emb_all_ix a b)
/-- The third matrix the kernel reads is its output weights. -/
theorem mat_o (c : Dev nD) (a b : Fin 1024) : (MATA m c 2 (ix2 a b) : EReal) = m ((c.tc : Thread nD τ).loc main_arg4) (ix2 a b) :=
  congrArg (m ((c.tc : Thread nD τ).loc main_arg4)) (emb_all_ix a b)
/-- The keys the kernel reads are its third argument. -/
theorem kva_k (c : Dev nD) (j) : (KVA m c 0 j : EReal) = m ((c.tc : Thread nD τ).loc main_arg2) j := rfl
/-- The values the kernel reads are its fourth argument. -/
theorem kva_v (c : Dev nD) (j) : (KVA m c 1 j : EReal) = m ((c.tc : Thread nD τ).loc main_arg3) j := rfl
end

/-- A block of columns, of rows, and of keys, at an index. -/
theorem block_cols (u : (⟨2, ![1024, 4096]⟩ : Shape).Idx → EReal) (c : Fin 4) (a b : Fin 1024) :
    Layout.block ⟨2, ![1024, 1024]⟩ ⟨2, ![1024, 4096]⟩ 1 4 c u (by decide) (ix2 a b) = u (ix2 a (big c b)) :=
  congrArg u (funext fun t => Fin.ext (by
    fin_cases t
    · rfl
    · show c.val * 1024 + b.val = 1024 * c.val + b.val; omega))
/-- A device's block of rows, at an index, is the whole matrix at the row in the whole. -/
theorem block_rows (u : (⟨2, ![4096, 1024]⟩ : Shape).Idx → EReal) (c : Fin 4) (a b : Fin 1024) :
    Layout.block ⟨2, ![1024, 1024]⟩ ⟨2, ![4096, 1024]⟩ 0 4 c u (by decide) (ix2 a b) = u (ix2 (big c a) b) :=
  congrArg u (funext fun t => Fin.ext (by
    fin_cases t
    · show c.val * 1024 + a.val = 1024 * c.val + a.val; omega
    · rfl))
/-- A device's block of keys, at an index, is the whole array at the key in the whole. -/
theorem block_keys (u : (⟨4, ![1, 4096, 32, 128]⟩ : Shape).Idx → EReal) (c : Fin 4) (a : Fin 1024) (h : Fin 32) (d : Fin 128) :
    Layout.block ⟨4, ![1, 1024, 32, 128]⟩ ⟨4, ![1, 4096, 32, 128]⟩ 1 4 c u (by decide) (ix4 0 a h d) = u (ix4 0 (big c a) h d) :=
  congrArg u (funext fun t => Fin.ext (by
    fin_cases t
    · rfl
    · show c.val * 1024 + a.val = 1024 * c.val + a.val; omega
    · rfl
    · rfl))

/-! ## The claim -/

section
open Cert.KernelIdeal.Attn (sc Inputs OUT MATA KVA)

variable (m : (ℓ : Loc Cert.KernelIdeal.nD Cert.KernelIdeal.τ Cert.KernelIdeal.sig) → Buf (Elt Ideal) ℓ)
  (x : FVec Ideal Cert.ReferenceIdeal.S1x1024x1024 .f32) (wq : FVec Ideal Cert.ReferenceIdeal.S1024x4096 .f32)
  (k v : FVec Ideal Cert.ReferenceIdeal.S1x4096x32x128 .f32) (wo : FVec Ideal Cert.ReferenceIdeal.S4096x1024 .f32)

/-- Devices that hold their blocks of the whole arguments. -/
structure Held : Prop where
  x : ∀ c : Dev Cert.KernelIdeal.nD, m ((c.tc : Thread Cert.KernelIdeal.nD Cert.KernelIdeal.τ).loc Cert.KernelIdeal.main_arg0) = x
  wq : ∀ c : Dev Cert.KernelIdeal.nD, m ((c.tc : Thread Cert.KernelIdeal.nD Cert.KernelIdeal.τ).loc Cert.KernelIdeal.main_arg1) = Layout.block ⟨2, ![1024, 1024]⟩ ⟨2, ![1024, 4096]⟩ 1 4 c wq
  k : ∀ c : Dev Cert.KernelIdeal.nD, m ((c.tc : Thread Cert.KernelIdeal.nD Cert.KernelIdeal.τ).loc Cert.KernelIdeal.main_arg2) = Layout.block ⟨4, ![1, 1024, 32, 128]⟩ ⟨4, ![1, 4096, 32, 128]⟩ 1 4 c k
  v : ∀ c : Dev Cert.KernelIdeal.nD, m ((c.tc : Thread Cert.KernelIdeal.nD Cert.KernelIdeal.τ).loc Cert.KernelIdeal.main_arg3) = Layout.block ⟨4, ![1, 1024, 32, 128]⟩ ⟨4, ![1, 4096, 32, 128]⟩ 1 4 c v
  wo : ∀ c : Dev Cert.KernelIdeal.nD, m ((c.tc : Thread Cert.KernelIdeal.nD Cert.KernelIdeal.τ).loc Cert.KernelIdeal.main_arg4) = Layout.block ⟨2, ![1024, 1024]⟩ ⟨2, ![4096, 1024]⟩ 0 4 c wo

variable {m x wq k v wo}

/-- A device that holds its blocks of the whole arguments has what the computation of the kernel's values supposes. -/
theorem Held.args (H : Held m x wq k v wo) : Inputs m (aX x) (aQ wq) (aK k) (aK v) (aO wo) where
  x c a b := (mat_x m c a b).trans (congrFun (H.x c) (ix3 0 a b))
  wq c a b := ((mat_q m c a b).trans (congrFun (H.wq c) (ix2 a b))).trans (block_cols wq c a b)
  wo c a b := ((mat_o m c a b).trans (congrFun (H.wo c) (ix2 a b))).trans (block_rows wo c a b)
  k c a h d := ((kva_k m c _).trans (congrFun (H.k c) (ix4 0 a h d))).trans (block_keys k c a h d)
  v c a h d := ((kva_v m c _).trans (congrFun (H.v c) (ix4 0 a h d))).trans (block_keys v c a h d)

/-- Of finite parts the whole arguments are finite. -/
theorem Held.fine (H : Held m x wq k v wo) (hpre : Cert.Pre_KernelIdeal_finite_KernelIdeal (hPre_finite_KernelIdeal := factsKernel) m) :
    (∀ a b, Fine (aX x a b)) ∧ (∀ a b, Fine (aQ wq a b)) ∧ (∀ a h d, Fine (aK k a h d)) := by
  have hf := fun c => pre_fine _ _ _ _ _ (hpre c)
  refine ⟨fun a b => ?_, fun a b => ?_, fun a h d => ?_⟩
  · have e := (hf 0).1 (ix3 0 a b)
    rw [H.x 0] at e
    exact e
  · have e := (hf ⟨b.val / 1024, by show b.val / 1024 < 4; omega⟩).2.1 (ix2 a (⟨b.val % 1024, by omega⟩ : Fin 1024))
    rw [H.wq] at e
    have e' := (block_cols wq ⟨b.val / 1024, by omega⟩ a ⟨b.val % 1024, by omega⟩) ▸ e
    rwa [show big ⟨b.val / 1024, by omega⟩ ⟨b.val % 1024, by omega⟩ = b from Fin.ext (by show 1024 * (b.val / 1024) + b.val % 1024 = b.val; omega)] at e'
  · have e := (hf ⟨a.val / 1024, by show a.val / 1024 < 4; omega⟩).2.2 (ix4 0 (⟨a.val % 1024, by omega⟩ : Fin 1024) h d)
    rw [H.k] at e
    have e' := (block_keys k ⟨a.val / 1024, by omega⟩ ⟨a.val % 1024, by omega⟩ h d) ▸ e
    rwa [show big ⟨a.val / 1024, by omega⟩ ⟨a.val % 1024, by omega⟩ = a from Fin.ext (by show 1024 * (a.val / 1024) + a.val % 1024 = a.val; omega)] at e'

/-- The kernel's result is the reference's, on every device. -/
theorem Held.result (H : Held m x wq k v wo) (hpre : Cert.Pre_KernelIdeal_finite_KernelIdeal (hPre_finite_KernelIdeal := factsKernel) m) (c : Dev Cert.KernelIdeal.nD) :
    OUT m c = Cert.ReferenceIdeal.Attn.result (F := Ideal) Cert.ReferenceIdeal.Attn.mask x wq k v wo := by
  obtain ⟨hx, hq, hk⟩ := H.fine hpre
  obtain ⟨r, hr, hs⟩ := sc_fine
  have h0 : (0 : EReal) ≤ sc := by rw [hs]; exact EReal.coe_nonneg.mpr hr
  have h1 : (sc : EReal) ≠ ⊤ := by rw [hs]; exact EReal.coe_ne_top r
  have key : ∀ i e : Fin 1024, (OUT m c (ix3 0 i e) : EReal) = Cert.ReferenceIdeal.Attn.result (F := Ideal) Cert.ReferenceIdeal.Attn.mask x wq k v wo (ix3 0 i e) := fun i e => by
    rw [Cert.KernelIdeal.Attn.OUT_at H.args, ref_result, O_eq h0 h1 (fine_S hx hq hk ⟨r, hs⟩)]
  refine funext fun j => ?_
  have hj : j = ix3 (0 : Fin 1) (j 1) (j 2) := by
    refine funext fun a => ?_
    fin_cases a
    · exact Fin.ext (by have h : (j 0).val < 1 := (j 0).isLt; show (j 0).val = 0; omega)
    · rfl
    · rfl
  rw [hj]
  exact key (j 1) (j 2)
end

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.SameText
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed runs to the end, with its arguments unchanged and its semaphores at zero. -/
theorem frame_kernel : Cert.quiescent_Kernel := fun m ρ _ => by
  rw [defs_eq]
  exact (θ_run (Cert.KernelIdeal.defs (F := Bits)) _ _).mono (fun _ h => ⟨fun c => (h.1 c).2, h.2⟩) (Cert.KernelIdeal.Attn.run_main (F := Bits) m ρ)

/-- So does the kernel over the extended reals. -/
theorem frame_kernelIdeal : Cert.quiescent_KernelIdeal := fun m ρ _ => by
  have h := Cert.KernelIdeal.Attn.run_main (F := Ideal) m ρ
  exact (θ_run (Cert.KernelIdeal.defs (F := Ideal)) _ _).mono (fun _ h => ⟨fun c => (h.1 c).2, h.2⟩) h

/-- The reference runs to the end, with its arguments unchanged. -/
theorem frame_referenceIdeal : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- Of finite inputs the kernel over the extended reals ends with the reference's result on every device. -/
theorem algebraic : Cert.algebraic_KernelIdeal_ReferenceIdeal_pre_finite_KernelIdeal (hPre_finite_KernelIdeal := Value.factsKernel) := fun m g m' g' hpre hagree => by
  have H : Value.Held m _ _ _ _ _ := ⟨fun c => (hagree c).1, fun c => (hagree c).2.1, fun c => (hagree c).2.2.1, fun c => (hagree c).2.2.2.1, fun c => (hagree c).2.2.2.2⟩
  refine ⟨Cert.ReferenceIdeal.Value.res_main_v39 (F := Ideal) m' 0, ?_, ?_⟩
  · refine (θ_run (Cert.KernelIdeal.defs (F := Ideal)) _ _).mono (fun r h c => ⟨?_, (h.1 c).2⟩) (Cert.KernelIdeal.Attn.run_main (F := Ideal) m g)
    rw [(h.1 c).1, Cert.ReferenceIdeal.Attn.res_eq]
    exact H.result hpre c
  · exact (θ_run (Cert.ReferenceIdeal.defs (F := Ideal)) _ _).mono (fun r h => h 0) (Cert.ReferenceIdeal.Value.run (F := Ideal) m' g')

theorem claim : Cert.Claim := ⟨Cert.Kernel.Gen.facts, Cert.KernelIdeal.Gen.facts, Cert.ReferenceIdeal.Gen.facts, Value.factsKernel, Value.factsReference,
  frame_kernel, frame_kernelIdeal, fun m ρ _ => frame_kernelIdeal m ρ trivial, frame_referenceIdeal, fun m ρ _ => frame_referenceIdeal m ρ trivial, trivial, algebraic⟩

end Cert.Proof

end
